-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v60) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v262) = v0 c
          ∧ r.2.mem ((c.tc : Thread Cert.Reference10Ideal.nD Cert.Reference10Ideal.τ).loc Cert.Reference10Ideal.main_v263) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v31) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v266) = v0 c
          ∧ r.2.mem ((c.tc : Thread Cert.Reference14Ideal.nD Cert.Reference14Ideal.τ).loc Cert.Reference14Ideal.main_v269) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v63) = v0 c
          ∧ r.2.mem ((c.tc : Thread Cert.Reference16Ideal.nD Cert.Reference16Ideal.τ).loc Cert.Reference16Ideal.main_v65) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel2.lean ====
abbrev S8192x2048 : Shape := ⟨2, ![8192, 2048]⟩
abbrev S2x6x2048 : Shape := ⟨3, ![2, 6, 2048]⟩
abbrev S2x2048x512 : Shape := ⟨3, ![2, 2048, 512]⟩
abbrev S2x512x2048 : Shape := ⟨3, ![2, 512, 2048]⟩
abbrev S256x512 : Shape := ⟨2, ![256, 512]⟩
abbrev S512x2048 : Shape := ⟨2, ![512, 2048]⟩
abbrev S1x6x2048 : Shape := ⟨3, ![1, 6, 2048]⟩
abbrev S1x2048x512 : Shape := ⟨3, ![1, 2048, 512]⟩
abbrev S1x512x2048 : Shape := ⟨3, ![1, 512, 2048]⟩
abbrev S2048x512 : Shape := ⟨2, ![2048, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2x2048x512, .f32⟩
  | .hbm, ⟨3, _⟩ => ⟨S2x512x2048, .f32⟩
  | .hbm, ⟨4, _⟩ => ⟨S256x512, .f32⟩
  | .hbm, ⟨5, _⟩ => ⟨S256x512, .f32⟩
  | .hbm, ⟨6, _⟩ => ⟨S2x2048x512, .bf16⟩
  | .hbm, ⟨7, _⟩ => ⟨S2x512x2048, .bf16⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x2048x512, .bf16⟩
  | .local _ .vmem, ⟨4, _⟩ => ⟨S256x512, .f32⟩
  | .local _ .vmem, ⟨5, _⟩ => ⟨S256x512, .f32⟩
  | .local _ .vmem, ⟨6, _⟩ => ⟨S1x512x2048, .bf16⟩
  | .local _ .vmem, ⟨7, _⟩ => ⟨S512x2048, .f32⟩
  | .local _ .vmem, ⟨8, _⟩ => ⟨S512x2048, .f32⟩
  | .local _ .vmem, ⟨9, _⟩ => ⟨S2048x512, .bf16⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x2048 : Shape := ⟨2, ![8192, 2048]⟩
abbrev S2x6x2048 : Shape := ⟨3, ![2, 6, 2048]⟩
abbrev S2x2048x512 : Shape := ⟨3, ![2, 2048, 512]⟩
abbrev S2x512x2048 : Shape := ⟨3, ![2, 512, 2048]⟩
abbrev S256x512 : Shape := ⟨2, ![256, 512]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S256x4x128 : Shape := ⟨3, ![256, 4, 128]⟩
abbrev S8192x512 : Shape := ⟨2, ![8192, 512]⟩
abbrev S8192x4x128 : Shape := ⟨3, ![8192, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2x2048x512, .f32⟩
  | .hbm, ⟨3, _⟩ => ⟨S2x512x2048, .f32⟩
  | .hbm, ⟨4, _⟩ => ⟨S256x512, .f32⟩
  | .hbm, ⟨5, _⟩ => ⟨S256x512, .f32⟩
  | .hbm, ⟨6, _⟩ => ⟨S1x6x2048, .f32⟩
  | .hbm, ⟨7, _⟩ => ⟨S6x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S1x2048x512, .f32⟩
  | .hbm, ⟨27, _⟩ => ⟨S2048x512, .f32⟩
  | .hbm, ⟨28, _⟩ => ⟨S1x512x2048, .f32⟩
  | .hbm, ⟨29, _⟩ => ⟨S512x2048, .f32⟩
  | .hbm, ⟨30, _⟩ => ⟨S256x4x128, .f32⟩
  | .hbm, ⟨31, _⟩ => ⟨S256x4x128, .f32⟩
  | .hbm, ⟨32, _⟩ => ⟨S8192x512, .f32⟩
  | .hbm, ⟨33, _⟩ => ⟨S8192x4x128, .f32⟩
  | .hbm, ⟨34, _⟩ => ⟨S4x8192x256, .f32⟩
  | .hbm, ⟨35, _⟩ => ⟨S_, .f32⟩
  | .hbm, ⟨36, _⟩ => ⟨S4x8192x256, .f32⟩
  | .hbm, ⟨37, _⟩ => ⟨S4x8192x256, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x256, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x256, .f32⟩
  | .hbm, ⟨51, _⟩ => ⟨S4x8192x256, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel3.lean ====
abbrev S1x256x2048 : Shape := ⟨3, ![1, 256, 2048]⟩
abbrev S2x2048 : Shape := ⟨2, ![2, 2048]⟩
abbrev S2x2048x512 : Shape := ⟨3, ![2, 2048, 512]⟩
abbrev S256x2048 : Shape := ⟨2, ![256, 2048]⟩
abbrev S2x1x2048 : Shape := ⟨3, ![2, 1, 2048]⟩
abbrev S256x512 : Shape := ⟨2, ![256, 512]⟩
abbrev S1x1x2048 : Shape := ⟨3, ![1, 1, 2048]⟩
abbrev S1x2048x512 : Shape := ⟨3, ![1, 2048, 512]⟩
abbrev S1x2048 : Shape := ⟨2, ![1, 2048]⟩
abbrev S256 : Shape := ⟨1, ![256]⟩
abbrev S256x1 : Shape := ⟨2, ![256, 1]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2x2048x512, .f32⟩
  | .hbm, ⟨3, _⟩ => ⟨S256x2048, .f32⟩
  | .hbm, ⟨4, _⟩ => ⟨S2x1x2048, .f32⟩
  | .hbm, ⟨5, _⟩ => ⟨S256x512, .f32⟩
  | .local _ .vmem, ⟨0, _⟩ => ⟨S256x2048, .f32⟩
  | .local _ .vmem, ⟨1, _⟩ => ⟨S1x1x2048, .f32⟩
  | .local _ .vmem, ⟨2, _⟩ => ⟨S1x2048x512, .f32⟩
  | .local _ .vmem, ⟨3, _⟩ => ⟨S256x512, .f32⟩
  | .local _ .vmem, ⟨4, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference3Ideal.lean ====
abbrev S1x256x2048 : Shape := ⟨3, ![1, 256, 2048]⟩
abbrev S2x2048 : Shape := ⟨2, ![2, 2048]⟩
abbrev S2x2048x512 : Shape := ⟨3, ![2, 2048, 512]⟩
abbrev S1x2048 : Shape := ⟨2, ![1, 2048]⟩
abbrev S2048 : Shape := ⟨1, ![2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 25
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2x2048x512, .f32⟩
  | .hbm, ⟨3, _⟩ => ⟨S1x2048, .f32⟩
  | .hbm, ⟨4, _⟩ => ⟨S2048, .f32⟩
  | .hbm, ⟨5, _⟩ => ⟨S1x256x2048, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x2048, .f32⟩
  | .hbm, ⟨17, _⟩ => ⟨S1x256x2048, .f32⟩
  | .hbm, ⟨18, _⟩ => ⟨S1x1x2048, .f32⟩
  | .hbm, ⟨19, _⟩ => ⟨S1x256x2048, .f32⟩
  | .hbm, ⟨20, _⟩ => ⟨S1x256x2048, .f32⟩
  | .hbm, ⟨21, _⟩ => ⟨S1x2048x512, .f32⟩
  | .hbm, ⟨22, _⟩ => ⟨S2048x512, .f32⟩
  | .hbm, ⟨23, _⟩ => ⟨S1x256x512, .f32⟩
  | .hbm, ⟨24, _⟩ => ⟨S256x512, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S8192x5632 : Shape := ⟨2, ![8192, 5632]⟩
abbrev S2x5504x2048 : Shape := ⟨3, ![2, 5504, 2048]⟩
abbrev S2x6x2048 : Shape := ⟨3, ![2, 6, 2048]⟩
abbrev S8192x2048 : Shape := ⟨2, ![8192, 2048]⟩
abbrev S512x5504 : Shape := ⟨2, ![512, 5504]⟩
abbrev S1x5504x512 : Shape := ⟨3, ![1, 5504, 512]⟩
abbrev S1x6x2048 : Shape := ⟨3, ![1, 6, 2048]⟩
abbrev S512x2048 : Shape := ⟨2, ![512, 2048]⟩
abbrev S5504x512 : Shape := ⟨2, ![5504, 512]⟩
abbrev S512x512 : Shape := ⟨2, ![512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2x5504x2048, .f32⟩
  | .hbm, ⟨2, _⟩ => ⟨S2x6x2048, .f32⟩
  | .hbm, ⟨3, _⟩ => ⟨S8192x2048, .f32⟩
  | .hbm, ⟨4, _⟩ => ⟨S2x5504x2048, .bf16⟩
  | .hbm, ⟨5, _⟩ => ⟨S8192x2048, .f32⟩
  | .local _ .vmem, ⟨0, _⟩ => ⟨S512x5504, .bf16⟩
  | .local _ .vmem, ⟨1, _⟩ => ⟨S512x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1x6x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x5504, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0_5 : Index := 0#32
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  ![0, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x5632 : Shape := ⟨2, ![8192, 5632]⟩
abbrev S2x5504x2048 : Shape := ⟨3, ![2, 5504, 2048]⟩
abbrev S2x6x2048 : Shape := ⟨3, ![2, 6, 2048]⟩
abbrev S8192x2048 : Shape := ⟨2, ![8192, 2048]⟩
abbrev S8192x5504 : Shape := ⟨2, ![8192, 5504]⟩
abbrev S1x5504x2048 : Shape := ⟨3, ![1, 5504, 2048]⟩
abbrev S5504x2048 : Shape := ⟨2, ![5504, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5504x2048, .f32⟩
  | .hbm, ⟨2, _⟩ => ⟨S2x6x2048, .f32⟩
  | .hbm, ⟨3, _⟩ => ⟨S8192x2048, .f32⟩
  | .hbm, ⟨4, _⟩ => ⟨S8192x5504, .bf16⟩
  | .hbm, ⟨5, _⟩ => ⟨S8192x5504, .f32⟩
  | .hbm, ⟨6, _⟩ => ⟨S1x5504x2048, .f32⟩
  | .hbm, ⟨7, _⟩ => ⟨S5504x2048, .f32⟩
  | .hbm, ⟨8, _⟩ => ⟨S8192x2048, .f32⟩
  | .hbm, ⟨9, _⟩ => ⟨S1x6x2048, .f32⟩
  | .hbm, ⟨10, _⟩ => ⟨S6x2048, .f32⟩
  | .hbm, ⟨11, _⟩ => ⟨S1x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S8192x2048 : Shape := ⟨2, ![8192, 2048]⟩
abbrev S2x6x2048 : Shape := ⟨3, ![2, 6, 2048]⟩
abbrev S2x2048x11008 : Shape := ⟨3, ![2, 2048, 11008]⟩
abbrev S2x3x5504 : Shape := ⟨3, ![2, 3, 5504]⟩
abbrev S1x3x5504 : Shape := ⟨3, ![1, 3, 5504]⟩
abbrev S3x5504 : Shape := ⟨2, ![3, 5504]⟩
abbrev S_ : Shape := ⟨0, ![]⟩
abbrev S8x5504 : Shape := ⟨2, ![8, 5504]⟩
abbrev S3x5632 : Shape := ⟨2, ![3, 5632]⟩
abbrev S8x5632 : Shape := ⟨2, ![8, 5632]⟩
abbrev S8192x5632 : Shape := ⟨2, ![8192, 5632]⟩
abbrev S64x5632 : Shape := ⟨2, ![64, 5632]⟩
abbrev S1024x2048 : Shape := ⟨2, ![1024, 2048]⟩
abbrev S1x6x2048 : Shape := ⟨3, ![1, 6, 2048]⟩
abbrev S1x2048x128 : Shape := ⟨3, ![1, 2048, 128]⟩
abbrev S3x512 : Shape := ⟨2, ![3, 512]⟩
abbrev S8x512 : Shape := ⟨2, ![8, 512]⟩
abbrev S1024x512 : Shape := ⟨2, ![1024, 512]⟩
abbrev S4x2048x256 : Shape := ⟨3, ![4, 2048, 256]⟩
abbrev S11x8x512 : Shape := ⟨3, ![11, 8, 512]⟩
abbrev S1032x512 : Shape := ⟨2, ![1032, 512]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩
abbrev S1x8x512 : Shape := ⟨3, ![1, 8, 512]⟩
abbrev S2048x128 : Shape := ⟨2, ![2048, 128]⟩
abbrev S1x2048x256 : Shape := ⟨3, ![1, 2048, 256]⟩
abbrev S2048x256 : Shape := ⟨2, ![2048, 256]⟩
abbrev S1024x256 : Shape := ⟨2, ![1024, 256]⟩
abbrev S1024x128 : Shape := ⟨2, ![1024, 128]⟩
abbrev S1x128 : Shape := ⟨2, ![1, 128]⟩

abbrev nBuf : Space → Nat
  | .hbm => 16
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2x2048x11008, .f32⟩
  | .hbm, ⟨3, _⟩ => ⟨S2x3x5504, .f32⟩
  | .hbm, ⟨4, _⟩ => ⟨S1x3x5504, .f32⟩
  | .hbm, ⟨5, _⟩ => ⟨S3x5504, .f32⟩
  | .hbm, ⟨6, _⟩ => ⟨S_, .f32⟩
  | .hbm, ⟨7, _⟩ => ⟨S8x5504, .f32⟩
  | .hbm, ⟨8, _⟩ => ⟨S_, .i32⟩
  | .hbm, ⟨9, _⟩ => ⟨S_, .f32⟩
  | .hbm, ⟨10, _⟩ => ⟨S3x5632, .f32⟩
  | .hbm, ⟨11, _⟩ => ⟨S_, .i32⟩
  | .hbm, ⟨12, _⟩ => ⟨S_, .f32⟩
  | .hbm, ⟨13, _⟩ => ⟨S8x5632, .f32⟩
  | .hbm, ⟨14, _⟩ => ⟨S8192x5632, .bf16⟩
  | .hbm, ⟨15, _⟩ => ⟨S64x5632, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S3x512, .f32⟩
  | .local _ .vmem, ⟨20, _⟩ => ⟨S3x512, .f32⟩
  | .local _ .vmem, ⟨21, _⟩ => ⟨S8x512, .f32⟩
  | .local _ .vmem, ⟨22, _⟩ => ⟨S8x512, .f32⟩
  | .local _ .vmem, ⟨23, _⟩ => ⟨S1024x512, .bf16⟩
  | .local _ .vmem, ⟨24, _⟩ => ⟨S1024x512, .bf16⟩
  | .local _ .vmem, ⟨25, _⟩ => ⟨S8x512, .f32⟩
  | .local _ .vmem, ⟨26, _⟩ => ⟨S8x512, .f32⟩
  | .local _ .vmem, ⟨27, _⟩ => ⟨S1024x2048, .bf16⟩
  | .local _ .vmem, ⟨28, _⟩ => ⟨S4x2048x256, .bf16⟩
  | .local _ .vmem, ⟨29, _⟩ => ⟨S11x8x512, .f32⟩
  | .local _ .vmem, ⟨30, _⟩ => ⟨S1032x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let v7 : BitVec 32 := Scalar.extui v6
  let c0_i32_4 : BitVec 32 := 0#32
  let v8 : BitVec 1 := Scalar.cmpi .ne v7 c0_i32_4
  v8

def k0_off1 (i : grid0.Coords) : Fin 3 → Nat :=
  let arg1 : BitVec 32 := BitVec.ofNat 32 (i 1).val
  let v187 : Index := Scalar.indexCast arg1
  let c0_135 : Index := 0#32
  let c0_136 : Index := 0#32
  ![v187.toNat, 0, 0]
def k0_off2 (i : grid0.Coords) : Fin 3 → Nat :=
  let arg1 : BitVec 32 := BitVec.ofNat 32 (i 1).val
  let v182 : Index := Scalar.indexCast arg1
  let c0_131 : Index := 0#32
  let c0_132 : Index := 0#32
  ![v182.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let v3 : BitVec 32 := Scalar.addi c0_i32_0 v2
  let c1_i32 : BitVec 32 := 1#32
  let c0_i32_1 : BitVec 32 := 0#32
  let c0_i32_2 : BitVec 32 := 0#32
  ![c1_i32.toNat, c0_i32_1.toNat, v3.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let v3 : BitVec 32 := Scalar.addi c0_i32 v2
  let c1_i32_0 : BitVec 32 := 1#32
  let c0_i32_1 : BitVec 32 := 0#32
  let c0_i32_2 : BitVec 32 := 0#32
  ![c1_i32_0.toNat, c0_i32_1.toNat, v3.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c42_i32 : BitVec 32 := 42#32
  let v2 : BitVec 32 := Scalar.minsi v1 c42_i32
  let c0_i32 : BitVec 32 := 0#32
  let v3 : BitVec 32 := Scalar.addi c0_i32 v2
  let c1_i32 : BitVec 32 := 1#32
  let c0_i32_0 : BitVec 32 := 0#32
  let c0_i32_1 : BitVec 32 := 0#32
  ![c1_i32.toNat, c0_i32_0.toNat, v3.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c42_i32 : BitVec 32 := 42#32
  let v2 : BitVec 32 := Scalar.minsi v1 c42_i32
  let c0_i32 : BitVec 32 := 0#32
  let v3 : BitVec 32 := Scalar.addi c0_i32 v2
  let c1_i32 : BitVec 32 := 1#32
  let c0_i32_0 : BitVec 32 := 0#32
  let c0_i32_1 : BitVec 32 := 0#32
  ![c1_i32.toNat, c0_i32_0.toNat, v3.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32_0 : BitVec 32 := 0#32
  let c0_i32_1 : BitVec 32 := 0#32
  ![c1_i32.toNat, c0_i32_0.toNat, v3.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c42_i32 : BitVec 32 := 42#32
  let v2 : BitVec 32 := Scalar.minsi v1 c42_i32
  let c43_i32 : BitVec 32 := 43#32
  let v3 : BitVec 32 := Scalar.addi c43_i32 v2
  let c1_i32_0 : BitVec 32 := 1#32
  let c0_i32 : BitVec 32 := 0#32
  let c0_i32_1 : BitVec 32 := 0#32
  ![c1_i32_0.toNat, c0_i32.toNat, v3.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32 : BitVec 32 := 0#32
  let c0_i32_0 : BitVec 32 := 0#32
  ![c1_i32.toNat, c0_i32.toNat, v3.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32 : BitVec 32 := 0#32
  let c0_i32_0 : BitVec 32 := 0#32
  ![c1_i32.toNat, c0_i32.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8192x2048 : Shape := ⟨2, ![8192, 2048]⟩
abbrev S2x6x2048 : Shape := ⟨3, ![2, 6, 2048]⟩
abbrev S2x2048x11008 : Shape := ⟨3, ![2, 2048, 11008]⟩
abbrev S2x3x5504 : Shape := ⟨3, ![2, 3, 5504]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x11008 : Shape := ⟨3, ![1, 2048, 11008]⟩
abbrev S2048x11008 : Shape := ⟨2, ![2048, 11008]⟩
abbrev S8192x11008 : Shape := ⟨2, ![8192, 11008]⟩
abbrev S8192x5504 : Shape := ⟨2, ![8192, 5504]⟩
abbrev S1x3x5504 : Shape := ⟨3, ![1, 3, 5504]⟩
abbrev S3x5504 : Shape := ⟨2, ![3, 5504]⟩
abbrev S2x5504 : Shape := ⟨2, ![2, 5504]⟩
abbrev S8194x5504 : Shape := ⟨2, ![8194, 5504]⟩
abbrev S1x5504 : Shape := ⟨2, ![1, 5504]⟩
abbrev S5504 : Shape := ⟨1, ![5504]⟩
abbrev S8x1024x5504 : Shape := ⟨3, ![8, 1024, 5504]⟩
abbrev S8x8x5504 : Shape := ⟨3, ![8, 8, 5504]⟩
abbrev S64x5504 : Shape := ⟨2, ![64, 5504]⟩
abbrev S8192x5632 : Shape := ⟨2, ![8192, 5632]⟩
abbrev S64x128 : Shape := ⟨2, ![64, 128]⟩
abbrev S64x5632 : Shape := ⟨2, ![64, 5632]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2x2048x11008, .f32⟩
  | .hbm, ⟨3, _⟩ => ⟨S2x3x5504, .f32⟩
  | .hbm, ⟨4, _⟩ => ⟨S1x6x2048, .f32⟩
  | .hbm, ⟨5, _⟩ => ⟨S6x2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x11008, .f32⟩
  | .hbm, ⟨25, _⟩ => ⟨S2048x11008, .f32⟩
  | .hbm, ⟨26, _⟩ => ⟨S8192x11008, .f32⟩
  | .hbm, ⟨27, _⟩ => ⟨S8192x5504, .f32⟩
  | .hbm, ⟨28, _⟩ => ⟨S8192x5504, .f32⟩
  | .hbm, ⟨29, _⟩ => ⟨S1x3x5504, .f32⟩
  | .hbm, ⟨30, _⟩ => ⟨S3x5504, .f32⟩
  | .hbm, ⟨31, _⟩ => ⟨S_, .f32⟩
  | .hbm, ⟨32, _⟩ => ⟨S2x5504, .f32⟩
  | .hbm, ⟨33, _⟩ => ⟨S8194x5504, .f32⟩
  | .hbm, ⟨34, _⟩ => ⟨S1x5504, .f32⟩
  | .hbm, ⟨35, _⟩ => ⟨S5504, .f32⟩
  | .hbm, ⟨36, _⟩ => ⟨S8192x5504, .f32⟩
  | .hbm, ⟨37, _⟩ => ⟨S1x5504, .f32⟩
  | .hbm, ⟨38, _⟩ => ⟨S8192x5504, .f32⟩
  | .hbm, ⟨39, _⟩ => ⟨S8192x5504, .f32⟩
  | .hbm, ⟨40, _⟩ => ⟨S1x5504, .f32⟩
  | .hbm, ⟨41, _⟩ => ⟨S5504, .f32⟩
  | .hbm, ⟨42, _⟩ => ⟨S8192x5504, .f32⟩
  | .hbm, ⟨43, _⟩ => ⟨S1x5504, .f32⟩
  | .hbm, ⟨44, _⟩ => ⟨S8192x5504, .f32⟩
  | .hbm, ⟨45, _⟩ => ⟨S8192x5504, .f32⟩
  | .hbm, ⟨46, _⟩ => ⟨S8192x5504, .f32⟩
  | .hbm, ⟨47, _⟩ => ⟨S1x5504, .f32⟩
  | .hbm, ⟨48, _⟩ => ⟨S5504, .f32⟩
  | .hbm, ⟨49, _⟩ => ⟨S8192x5504, .f32⟩
  | .hbm, ⟨50, _⟩ => ⟨S1x5504, .f32⟩
  | .hbm, ⟨51, _⟩ => ⟨S8192x5504, .f32⟩
  | .hbm, ⟨52, _⟩ => ⟨S8192x5504, .f32⟩
  | .hbm, ⟨53, _⟩ => ⟨S8192x5504, .f32⟩
  | .hbm, ⟨54, _⟩ => ⟨S8192x5504, .f32⟩
  | .hbm, ⟨55, _⟩ => ⟨S8192x5504, .f32⟩
  | .hbm, ⟨56, _⟩ => ⟨S_, .f32⟩
  | .hbm, ⟨57, _⟩ => ⟨S8192x5504, .f32⟩
  | .hbm, ⟨58, _⟩ => ⟨S8192x5504, .f32⟩
  | .hbm, ⟨59, _⟩ => ⟨S_, .f32⟩
  | .hbm, ⟨60, _⟩ => ⟨S8192x5504, .f32⟩
  | .hbm, ⟨61, _⟩ => ⟨S8192x5504, .f32⟩
  | .hbm, ⟨62, _⟩ => ⟨S8192x5504, .f32⟩
  | .hbm, ⟨63, _⟩ => ⟨S8192x5504, .f32⟩
  | .hbm, ⟨64, _⟩ => ⟨S8192x5504, .bf16⟩
  | .hbm, ⟨65, _⟩ => ⟨S8x1024x5504, .f32⟩
  | .hbm, ⟨66, _⟩ => ⟨S8x8x5504, .f32⟩
  | .hbm, ⟨67, _⟩ => ⟨S64x5504, .f32⟩
  | .hbm, ⟨68, _⟩ => ⟨S_, .i32⟩
  | .hbm, ⟨69, _⟩ => ⟨S_, .bf16⟩
  | .hbm, ⟨70, _⟩ => ⟨S8192x5632, .bf16⟩
  | .hbm, ⟨71, _⟩ => ⟨S64x128, .f32⟩
  | .hbm, ⟨72, _⟩ => ⟨S64x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_c : Ref sig .tc := ⟨.hbm, 68, rfl⟩
abbrev main_call0_v0 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel6.lean ====
abbrev S1x8192x2048 : Shape := ⟨3, ![1, 8192, 2048]⟩
abbrev S2x6x2048 : Shape := ⟨3, ![2, 6, 2048]⟩
abbrev S1x2048x5712 : Shape := ⟨3, ![1, 2048, 5712]⟩
abbrev S8192x2048 : Shape := ⟨2, ![8192, 2048]⟩
abbrev S8192x5712 : Shape := ⟨2, ![8192, 5712]⟩
abbrev S1024x2048 : Shape := ⟨2, ![1024, 2048]⟩
abbrev S1x6x2048 : Shape := ⟨3, ![1, 6, 2048]⟩
abbrev S1x2048x1024 : Shape := ⟨3, ![1, 2048, 1024]⟩
abbrev S1024x1024 : Shape := ⟨2, ![1024, 1024]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S2x6x2048, .f32⟩
  | .hbm, ⟨2, _⟩ => ⟨S1x2048x5712, .f32⟩
  | .hbm, ⟨3, _⟩ => ⟨S8192x2048, .f32⟩
  | .hbm, ⟨4, _⟩ => ⟨S1x2048x5712, .bf16⟩
  | .hbm, ⟨5, _⟩ => ⟨S8192x5712, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x8192x2048 : Shape := ⟨3, ![1, 8192, 2048]⟩
abbrev S2x6x2048 : Shape := ⟨3, ![2, 6, 2048]⟩
abbrev S1x2048x5712 : Shape := ⟨3, ![1, 2048, 5712]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x5712 : Shape := ⟨2, ![2048, 5712]⟩
abbrev S1x8192x5712 : Shape := ⟨3, ![1, 8192, 5712]⟩
abbrev S8192x5712 : Shape := ⟨2, ![8192, 5712]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2x6x2048, .f32⟩
  | .hbm, ⟨2, _⟩ => ⟨S1x2048x5712, .f32⟩
  | .hbm, ⟨3, _⟩ => ⟨S1x6x2048, .f32⟩
  | .hbm, ⟨4, _⟩ => ⟨S6x2048, .f32⟩
  | .hbm, ⟨5, _⟩ => ⟨S1x2048, .f32⟩
  | .hbm, ⟨6, _⟩ => ⟨S2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S2048x5712, .f32⟩
  | .hbm, ⟨24, _⟩ => ⟨S1x8192x5712, .f32⟩
  | .hbm, ⟨25, _⟩ => ⟨S8192x5712, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S8192x2048 : Shape := ⟨2, ![8192, 2048]⟩
abbrev S2x6x2048 : Shape := ⟨3, ![2, 6, 2048]⟩
abbrev S1x2048x4632 : Shape := ⟨3, ![1, 2048, 4632]⟩
abbrev S1x2048x2560 : Shape := ⟨3, ![1, 2048, 2560]⟩
abbrev S1x2048x2048 : Shape := ⟨3, ![1, 2048, 2048]⟩
abbrev S1x2048x24 : Shape := ⟨3, ![1, 2048, 24]⟩
abbrev S8192x4632 : Shape := ⟨2, ![8192, 4632]⟩
abbrev S1024x2048 : Shape := ⟨2, ![1024, 2048]⟩
abbrev S1x6x2048 : Shape := ⟨3, ![1, 6, 2048]⟩
abbrev S1x2048x1024 : Shape := ⟨3, ![1, 2048, 1024]⟩
abbrev S1024x1024 : Shape := ⟨2, ![1024, 1024]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S1x2048x4632, .f32⟩
  | .hbm, ⟨3, _⟩ => ⟨S1x2048x2560, .f32⟩
  | .hbm, ⟨4, _⟩ => ⟨S1x2048x2048, .f32⟩
  | .hbm, ⟨5, _⟩ => ⟨S1x2048x24, .f32⟩
  | .hbm, ⟨6, _⟩ => ⟨S1x2048x4632, .f32⟩
  | .hbm, ⟨7, _⟩ => ⟨S1x2048x4632, .bf16⟩
  | .hbm, ⟨8, _⟩ => ⟨S8192x4632, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2048 : Shape := ⟨2, ![8192, 2048]⟩
abbrev S2x6x2048 : Shape := ⟨3, ![2, 6, 2048]⟩
abbrev S1x2048x4632 : Shape := ⟨3, ![1, 2048, 4632]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x4632 : Shape := ⟨2, ![2048, 4632]⟩
abbrev S8192x4632 : Shape := ⟨2, ![8192, 4632]⟩
abbrev S8192x2560 : Shape := ⟨2, ![8192, 2560]⟩
abbrev S8192x24 : Shape := ⟨2, ![8192, 24]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S1x2048x4632, .f32⟩
  | .hbm, ⟨3, _⟩ => ⟨S1x6x2048, .f32⟩
  | .hbm, ⟨4, _⟩ => ⟨S6x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x4632, .f32⟩
  | .hbm, ⟨24, _⟩ => ⟨S8192x4632, .f32⟩
  | .hbm, ⟨25, _⟩ => ⟨S8192x2560, .f32⟩
  | .hbm, ⟨26, _⟩ => ⟨S8192x24, .f32⟩
  | .hbm, ⟨27, _⟩ => ⟨S8192x2048, .f32⟩
  | .hbm, ⟨28, _⟩ => ⟨S8192x4632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel8.lean ====
abbrev S8192x5712 : Shape := ⟨2, ![8192, 5712]⟩
abbrev S1x3x1024 : Shape := ⟨3, ![1, 3, 1024]⟩
abbrev S3x1024 : Shape := ⟨2, ![3, 1024]⟩
abbrev S_ : Shape := ⟨0, ![]⟩
abbrev S8x1024 : Shape := ⟨2, ![8, 1024]⟩
abbrev S8192x1024 : Shape := ⟨2, ![8192, 1024]⟩
abbrev S512x1024 : Shape := ⟨2, ![512, 1024]⟩
abbrev S520x1024 : Shape := ⟨2, ![520, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x5712, .f32⟩
  | .hbm, ⟨1, _⟩ => ⟨S1x3x1024, .f32⟩
  | .hbm, ⟨2, _⟩ => ⟨S3x1024, .f32⟩
  | .hbm, ⟨3, _⟩ => ⟨S_, .f32⟩
  | .hbm, ⟨4, _⟩ => ⟨S8x1024, .f32⟩
  | .hbm, ⟨5, _⟩ => ⟨S8192x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S3x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S520x1024, .f32⟩
  | _, _ => ⟨S8192x5712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x5712 : Shape := ⟨2, ![8192, 5712]⟩
abbrev S1x3x1024 : Shape := ⟨3, ![1, 3, 1024]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x5712, .f32⟩
  | .hbm, ⟨1, _⟩ => ⟨S1x3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S3x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S1x1024, .f32⟩
  | .hbm, ⟨11, _⟩ => ⟨S1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8x1024, .f32⟩
  | _, _ => ⟨S8192x5712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel9.lean ====
abbrev S8192x1024 : Shape := ⟨2, ![8192, 1024]⟩
abbrev S1x2048x2048 : Shape := ⟨3, ![1, 2048, 2048]⟩
abbrev S2x6x2048 : Shape := ⟨3, ![2, 6, 2048]⟩
abbrev S8192x2048 : Shape := ⟨2, ![8192, 2048]⟩
abbrev S512x1024 : Shape := ⟨2, ![512, 1024]⟩
abbrev S1x2048x512 : Shape := ⟨3, ![1, 2048, 512]⟩
abbrev S1x6x2048 : Shape := ⟨3, ![1, 6, 2048]⟩
abbrev S512x2048 : Shape := ⟨2, ![512, 2048]⟩
abbrev S2048x512 : Shape := ⟨2, ![2048, 512]⟩
abbrev S512x512 : Shape := ⟨2, ![512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x2048x2048, .f32⟩
  | .hbm, ⟨3, _⟩ => ⟨S2x6x2048, .f32⟩
  | .hbm, ⟨4, _⟩ => ⟨S8192x2048, .f32⟩
  | .hbm, ⟨5, _⟩ => ⟨S1x2048x2048, .bf16⟩
  | .hbm, ⟨6, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x2048x512, .bf16⟩
  | .local _ .vmem, ⟨5, _⟩ => ⟨S1x2048x512, .bf16⟩
  | .local _ .vmem, ⟨6, _⟩ => ⟨S1x6x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0_5 : Index := 0#32
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  ![0, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S8192x1024 : Shape := ⟨2, ![8192, 1024]⟩
abbrev S1x2048x2048 : Shape := ⟨3, ![1, 2048, 2048]⟩
abbrev S2x6x2048 : Shape := ⟨3, ![2, 6, 2048]⟩
abbrev S8192x2048 : Shape := ⟨2, ![8192, 2048]⟩
abbrev S2048x2048 : Shape := ⟨2, ![2048, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x2048x2048, .f32⟩
  | .hbm, ⟨3, _⟩ => ⟨S2x6x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S1x6x2048, .f32⟩
  | .hbm, ⟨9, _⟩ => ⟨S6x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel10.lean ====
abbrev S8192x4632 : Shape := ⟨2, ![8192, 4632]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S_ : Shape := ⟨0, ![]⟩
abbrev S30x1024 : Shape := ⟨2, ![30, 1024]⟩
abbrev S8192x1024 : Shape := ⟨2, ![8192, 1024]⟩
abbrev S512x512 : Shape := ⟨2, ![512, 512]⟩
abbrev S512x1024 : Shape := ⟨2, ![512, 1024]⟩
abbrev S550x1024 : Shape := ⟨2, ![550, 1024]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S8192x4632, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S30x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S30x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S30x1024, .f32⟩
  | .local _ .vmem, ⟨13, _⟩ => ⟨S512x1024, .f32⟩
  | .local _ .vmem, ⟨14, _⟩ => ⟨S512x1024, .f32⟩
  | .local _ .vmem, ⟨15, _⟩ => ⟨S30x1024, .f32⟩
  | .local _ .vmem, ⟨16, _⟩ => ⟨S550x1024, .f32⟩
  | .local _ .vmem, ⟨17, _⟩ => ⟨S520x1024, .f32⟩
  | _, _ => ⟨S8192x4632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S30x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S8192x4632 : Shape := ⟨2, ![8192, 4632]⟩
abbrev S1x31x1024 : Shape := ⟨3, ![1, 31, 1024]⟩
abbrev S1x1024 : Shape := ⟨2, ![1, 1024]⟩
abbrev S8192x1024 : Shape := ⟨2, ![8192, 1024]⟩
abbrev S_ : Shape := ⟨0, ![]⟩
abbrev S31x1024 : Shape := ⟨2, ![31, 1024]⟩
abbrev S30x1024 : Shape := ⟨2, ![30, 1024]⟩
abbrev S8222x1024 : Shape := ⟨2, ![8222, 1024]⟩
abbrev S1024 : Shape := ⟨1, ![1024]⟩
abbrev S8192 : Shape := ⟨1, ![8192]⟩
abbrev S8192x1 : Shape := ⟨2, ![8192, 1]⟩

abbrev nBuf : Space → Nat
  | .hbm => 279
  | .vmem => 0
  | .smem => 0
  | _ => 0

abbrev hbmTy0_0 (i : Nat) : BufTy := match i % 128 with
  | 0 => ⟨S8192x4632, .f32⟩
  | 1 => ⟨S1x31x1024, .f32⟩
  | 2 => ⟨S1x1024, .f32⟩
  | 3 => ⟨S1x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S31x1024, .f32⟩
  | 17 => ⟨S_, .f32⟩
  | 18 => ⟨S30x1024, .f32⟩
  | 19 => ⟨S8222x1024, .f32⟩
  | 20 => ⟨S1x1024, .f32⟩
  | 21 => ⟨S1024, .f32⟩
  | 22 => ⟨S8192x1024, .f32⟩
  | 23 => ⟨S1x1024, .f32⟩
  | 24 => ⟨S8192x1024, .f32⟩
  | 25 => ⟨S8192x1024, .f32⟩
  | 26 => ⟨S1x1024, .f32⟩
  | 27 => ⟨S1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S1x1024, .f32⟩
  | 34 => ⟨S1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S1x1024, .f32⟩
  | 41 => ⟨S1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S1x1024, .f32⟩
  | 48 => ⟨S1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S1x1024, .f32⟩
  | 69 => ⟨S1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S8192x1024, .f32⟩
  | 106 => ⟨S1x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S1x1024, .f32⟩
  | 118 => ⟨S1024, .f32⟩
  | 119 => ⟨S8192x1024, .f32⟩
  | 120 => ⟨S1x1024, .f32⟩
  | 121 => ⟨S8192x1024, .f32⟩
  | 122 => ⟨S8192x1024, .f32⟩
  | 123 => ⟨S8192x1024, .f32⟩
  | 124 => ⟨S1x1024, .f32⟩
  | 125 => ⟨S1024, .f32⟩
  | 126 => ⟨S8192x1024, .f32⟩
  | 127 => ⟨S1x1024, .f32⟩
  | _ => ⟨S8192x4632, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024, .f32⟩
  | 5 => ⟨S8192x1024, .f32⟩
  | 6 => ⟨S1x1024, .f32⟩
  | 7 => ⟨S8192x1024, .f32⟩
  | 8 => ⟨S8192x1024, .f32⟩
  | 9 => ⟨S8192x1024, .f32⟩
  | 10 => ⟨S1x1024, .f32⟩
  | 11 => ⟨S1024, .f32⟩
  | 12 => ⟨S8192x1024, .f32⟩
  | 13 => ⟨S1x1024, .f32⟩
  | 14 => ⟨S8192x1024, .f32⟩
  | 15 => ⟨S8192x1024, .f32⟩
  | 16 => ⟨S8192x1024, .f32⟩
  | 17 => ⟨S1x1024, .f32⟩
  | 18 => ⟨S1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S1x1024, .f32⟩
  | 25 => ⟨S1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S1x1024, .f32⟩
  | 46 => ⟨S1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S1x1024, .f32⟩
  | 53 => ⟨S1024, .f32⟩
  | 54 => ⟨S8192x1024, .f32⟩
  | 55 => ⟨S1x1024, .f32⟩
  | 56 => ⟨S8192x1024, .f32⟩
  | 57 => ⟨S8192x1024, .f32⟩
  | 58 => ⟨S8192x1024, .f32⟩
  | 59 => ⟨S1x1024, .f32⟩
  | 60 => ⟨S1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S1x1024, .f32⟩
  | 102 => ⟨S1024, .f32⟩
  | 103 => ⟨S8192x1024, .f32⟩
  | 104 => ⟨S1x1024, .f32⟩
  | 105 => ⟨S8192x1024, .f32⟩
  | 106 => ⟨S8192x1024, .f32⟩
  | 107 => ⟨S8192x1024, .f32⟩
  | 108 => ⟨S1024, .f32⟩
  | 109 => ⟨S1x1024, .f32⟩
  | 110 => ⟨S8192x1024, .f32⟩
  | 111 => ⟨S8192x1024, .f32⟩
  | 112 => ⟨S1024, .f32⟩
  | 113 => ⟨S1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x4632, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S30x1024, .f32⟩
  | _ => ⟨S8192x4632, .f32⟩

abbrev hbmTy (i : Nat) : BufTy := match i / 128 with
  | 0 => hbmTy0_0 i
  | 1 => hbmTy0_1 i
  | 2 => hbmTy0_2 i
  | _ => ⟨S8192x4632, .f32⟩

abbrev bufTy : (tb : Table) → Fin (tcTables nBuf tb) → BufTy
  | .hbm, ⟨i, _⟩ => hbmTy i
  | _, _ => ⟨S8192x4632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_2 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_4 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_cst_7 : Ref sig .tc := ⟨.hbm, 271, rfl⟩
abbrev main_v258 : Ref sig .tc := ⟨.hbm, 272, rfl⟩
abbrev main_v259 : Ref sig .tc := ⟨.hbm, 273, rfl⟩
abbrev main_cst_8 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩

abbrev nD : Nat := 1
abbrev τ : Topo := Topo.v7x

variable {F : FTy → Type} [FloatOps F]
-- ==== Kernel11.lean ====
abbrev S32x4x2048 : Shape := ⟨3, ![32, 4, 2048]⟩
abbrev S2x6x2048 : Shape := ⟨3, ![2, 6, 2048]⟩
abbrev S1x2048x5712 : Shape := ⟨3, ![1, 2048, 5712]⟩
abbrev S4x32x2048 : Shape := ⟨3, ![4, 32, 2048]⟩
abbrev S128x2048 : Shape := ⟨2, ![128, 2048]⟩
abbrev S128x5712 : Shape := ⟨2, ![128, 5712]⟩
abbrev S1x6x2048 : Shape := ⟨3, ![1, 6, 2048]⟩
abbrev S1x2048x512 : Shape := ⟨3, ![1, 2048, 512]⟩
abbrev S128x512 : Shape := ⟨2, ![128, 512]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S32x4x2048, .f32⟩
  | .hbm, ⟨1, _⟩ => ⟨S2x6x2048, .f32⟩
  | .hbm, ⟨2, _⟩ => ⟨S1x2048x5712, .f32⟩
  | .hbm, ⟨3, _⟩ => ⟨S4x32x2048, .f32⟩
  | .hbm, ⟨4, _⟩ => ⟨S128x2048, .f32⟩
  | .hbm, ⟨5, _⟩ => ⟨S1x2048x5712, .bf16⟩
  | .hbm, ⟨6, _⟩ => ⟨S128x5712, .f32⟩
  | .local _ .vmem, ⟨0, _⟩ => ⟨S128x2048, .f32⟩
  | .local _ .vmem, ⟨1, _⟩ => ⟨S1x6x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S128x512, .f32⟩
  | .local _ .vmem, ⟨5, _⟩ => ⟨S128x512, .f32⟩
  | .local _ .vmem, ⟨6, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S32x4x2048 : Shape := ⟨3, ![32, 4, 2048]⟩
abbrev S2x6x2048 : Shape := ⟨3, ![2, 6, 2048]⟩
abbrev S1x2048x5712 : Shape := ⟨3, ![1, 2048, 5712]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x5712 : Shape := ⟨2, ![2048, 5712]⟩
abbrev S32x4x5712 : Shape := ⟨3, ![32, 4, 5712]⟩
abbrev S4x32x5712 : Shape := ⟨3, ![4, 32, 5712]⟩
abbrev S128x5712 : Shape := ⟨2, ![128, 5712]⟩

abbrev nBuf : Space → Nat
  | .hbm => 27
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2x6x2048, .f32⟩
  | .hbm, ⟨2, _⟩ => ⟨S1x2048x5712, .f32⟩
  | .hbm, ⟨3, _⟩ => ⟨S1x6x2048, .f32⟩
  | .hbm, ⟨4, _⟩ => ⟨S6x2048, .f32⟩
  | .hbm, ⟨5, _⟩ => ⟨S1x2048, .f32⟩
  | .hbm, ⟨6, _⟩ => ⟨S2048, .f32⟩
  | .hbm, ⟨7, _⟩ => ⟨S32x4x2048, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x2048, .f32⟩
  | .hbm, ⟨19, _⟩ => ⟨S32x4x2048, .f32⟩
  | .hbm, ⟨20, _⟩ => ⟨S1x1x2048, .f32⟩
  | .hbm, ⟨21, _⟩ => ⟨S32x4x2048, .f32⟩
  | .hbm, ⟨22, _⟩ => ⟨S32x4x2048, .f32⟩
  | .hbm, ⟨23, _⟩ => ⟨S2048x5712, .f32⟩
  | .hbm, ⟨24, _⟩ => ⟨S32x4x5712, .f32⟩
  | .hbm, ⟨25, _⟩ => ⟨S4x32x5712, .f32⟩
  | .hbm, ⟨26, _⟩ => ⟨S128x5712, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel12.lean ====
abbrev S128x2048 : Shape := ⟨2, ![128, 2048]⟩
abbrev S2x6x2048 : Shape := ⟨3, ![2, 6, 2048]⟩
abbrev S1x2048x4632 : Shape := ⟨3, ![1, 2048, 4632]⟩
abbrev S1x2048x2560 : Shape := ⟨3, ![1, 2048, 2560]⟩
abbrev S1x2048x2048 : Shape := ⟨3, ![1, 2048, 2048]⟩
abbrev S1x2048x24 : Shape := ⟨3, ![1, 2048, 24]⟩
abbrev S128x4632 : Shape := ⟨2, ![128, 4632]⟩
abbrev S1x6x2048 : Shape := ⟨3, ![1, 6, 2048]⟩
abbrev S1x2048x512 : Shape := ⟨3, ![1, 2048, 512]⟩
abbrev S128x512 : Shape := ⟨2, ![128, 512]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2x6x2048, .f32⟩
  | .hbm, ⟨2, _⟩ => ⟨S1x2048x4632, .f32⟩
  | .hbm, ⟨3, _⟩ => ⟨S1x2048x2560, .f32⟩
  | .hbm, ⟨4, _⟩ => ⟨S1x2048x2048, .f32⟩
  | .hbm, ⟨5, _⟩ => ⟨S1x2048x24, .f32⟩
  | .hbm, ⟨6, _⟩ => ⟨S1x2048x4632, .f32⟩
  | .hbm, ⟨7, _⟩ => ⟨S1x2048x4632, .bf16⟩
  | .hbm, ⟨8, _⟩ => ⟨S128x4632, .f32⟩
  | .local _ .vmem, ⟨0, _⟩ => ⟨S128x2048, .f32⟩
  | .local _ .vmem, ⟨1, _⟩ => ⟨S1x6x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S128x512, .f32⟩
  | .local _ .vmem, ⟨5, _⟩ => ⟨S128x512, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S128x2048 : Shape := ⟨2, ![128, 2048]⟩
abbrev S2x6x2048 : Shape := ⟨3, ![2, 6, 2048]⟩
abbrev S1x2048x4632 : Shape := ⟨3, ![1, 2048, 4632]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S2048x4632 : Shape := ⟨2, ![2048, 4632]⟩
abbrev S128x4632 : Shape := ⟨2, ![128, 4632]⟩
abbrev S128x2560 : Shape := ⟨2, ![128, 2560]⟩
abbrev S128x24 : Shape := ⟨2, ![128, 24]⟩

abbrev nBuf : Space → Nat
  | .hbm => 29
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x6x2048, .f32⟩
  | .hbm, ⟨2, _⟩ => ⟨S1x2048x4632, .f32⟩
  | .hbm, ⟨3, _⟩ => ⟨S1x6x2048, .f32⟩
  | .hbm, ⟨4, _⟩ => ⟨S6x2048, .f32⟩
  | .hbm, ⟨5, _⟩ => ⟨S1x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S2048x4632, .f32⟩
  | .hbm, ⟨24, _⟩ => ⟨S128x4632, .f32⟩
  | .hbm, ⟨25, _⟩ => ⟨S128x2560, .f32⟩
  | .hbm, ⟨26, _⟩ => ⟨S128x24, .f32⟩
  | .hbm, ⟨27, _⟩ => ⟨S128x2048, .f32⟩
  | .hbm, ⟨28, _⟩ => ⟨S128x4632, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel13.lean ====
abbrev S128x5712 : Shape := ⟨2, ![128, 5712]⟩
abbrev S1x3x1024 : Shape := ⟨3, ![1, 3, 1024]⟩
abbrev S1x32x2x1024 : Shape := ⟨4, ![1, 32, 2, 1024]⟩
abbrev S3x1024 : Shape := ⟨2, ![3, 1024]⟩
abbrev S32x2x1024 : Shape := ⟨3, ![32, 2, 1024]⟩
abbrev S2x32x1024 : Shape := ⟨3, ![2, 32, 1024]⟩
abbrev S64x1024 : Shape := ⟨2, ![64, 1024]⟩
abbrev S128x1024 : Shape := ⟨2, ![128, 1024]⟩
abbrev S192x1024 : Shape := ⟨2, ![192, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S128x5712, .f32⟩
  | .hbm, ⟨1, _⟩ => ⟨S1x3x1024, .f32⟩
  | .hbm, ⟨2, _⟩ => ⟨S1x32x2x1024, .f32⟩
  | .hbm, ⟨3, _⟩ => ⟨S3x1024, .f32⟩
  | .hbm, ⟨4, _⟩ => ⟨S32x2x1024, .f32⟩
  | .hbm, ⟨5, _⟩ => ⟨S2x32x1024, .f32⟩
  | .hbm, ⟨6, _⟩ => ⟨S64x1024, .f32⟩
  | .hbm, ⟨7, _⟩ => ⟨S128x1024, .f32⟩
  | .hbm, ⟨8, _⟩ => ⟨S64x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S3x1024, .f32⟩
  | .local _ .vmem, ⟨4, _⟩ => ⟨S64x1024, .f32⟩
  | .local _ .vmem, ⟨5, _⟩ => ⟨S128x1024, .f32⟩
  | .local _ .vmem, ⟨6, _⟩ => ⟨S64x1024, .f32⟩
  | .local _ .vmem, ⟨7, _⟩ => ⟨S192x1024, .f32⟩
  | _, _ => ⟨S128x5712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S128x5712 : Shape := ⟨2, ![128, 5712]⟩
abbrev S1x3x1024 : Shape := ⟨3, ![1, 3, 1024]⟩
abbrev S1x32x2x1024 : Shape := ⟨4, ![1, 32, 2, 1024]⟩
abbrev S4x32x5712 : Shape := ⟨3, ![4, 32, 5712]⟩
abbrev S32x4x5712 : Shape := ⟨3, ![32, 4, 5712]⟩
abbrev S32x4x1024 : Shape := ⟨3, ![32, 4, 1024]⟩
abbrev S3x1024 : Shape := ⟨2, ![3, 1024]⟩
abbrev S32x2x1024 : Shape := ⟨3, ![32, 2, 1024]⟩
abbrev S32x6x1024 : Shape := ⟨3, ![32, 6, 1024]⟩
abbrev S1x1024 : Shape := ⟨2, ![1, 1024]⟩
abbrev S1024 : Shape := ⟨1, ![1024]⟩
abbrev S1x1x1024 : Shape := ⟨3, ![1, 1, 1024]⟩
abbrev S4x32x1024 : Shape := ⟨3, ![4, 32, 1024]⟩
abbrev S128x1024 : Shape := ⟨2, ![128, 1024]⟩
abbrev S2x32x1024 : Shape := ⟨3, ![2, 32, 1024]⟩
abbrev S64x1024 : Shape := ⟨2, ![64, 1024]⟩

abbrev nBuf : Space → Nat
  | .hbm => 38
  | .vmem => 0
  | .smem => 0
  | _ => 0

abbrev bufTy : (tb : Table) → Fin (tcTables nBuf tb) → BufTy
  | .hbm, ⟨0, _⟩ => ⟨S128x5712, .f32⟩
  | .hbm, ⟨1, _⟩ => ⟨S1x3x1024, .f32⟩
  | .hbm, ⟨2, _⟩ => ⟨S1x32x2x1024, .f32⟩
  | .hbm, ⟨3, _⟩ => ⟨S4x32x5712, .f32⟩
  | .hbm, ⟨4, _⟩ => ⟨S32x4x5712, .f32⟩
  | .hbm, ⟨5, _⟩ => ⟨S32x4x1024, .f32⟩
  | .hbm, ⟨6, _⟩ => ⟨S32x4x1024, .f32⟩
  | .hbm, ⟨7, _⟩ => ⟨S32x4x1024, .f32⟩
  | .hbm, ⟨8, _⟩ => ⟨S3x1024, .f32⟩
  | .hbm, ⟨9, _⟩ => ⟨S32x2x1024, .f32⟩
  | .hbm, ⟨10, _⟩ => ⟨S32x4x1024, .f32⟩
  | .hbm, ⟨11, _⟩ => ⟨S32x6x1024, .f32⟩
  | .hbm, ⟨12, _⟩ => ⟨S1x1024, .f32⟩
  | .hbm, ⟨13, _⟩ => ⟨S1024, .f32⟩
  | .hbm, ⟨14, _⟩ => ⟨S32x4x1024, .f32⟩
  | .hbm, ⟨15, _⟩ => ⟨S1x1x1024, .f32⟩
  | .hbm, ⟨16, _⟩ => ⟨S32x4x1024, .f32⟩
  | .hbm, ⟨17, _⟩ => ⟨S32x4x1024, .f32⟩
  | .hbm, ⟨18, _⟩ => ⟨S1x1024, .f32⟩
  | .hbm, ⟨19, _⟩ => ⟨S1024, .f32⟩
  | .hbm, ⟨20, _⟩ => ⟨S32x4x1024, .f32⟩
  | .hbm, ⟨21, _⟩ => ⟨S1x1x1024, .f32⟩
  | .hbm, ⟨22, _⟩ => ⟨S32x4x1024, .f32⟩
  | .hbm, ⟨23, _⟩ => ⟨S32x4x1024, .f32⟩
  | .hbm, ⟨24, _⟩ => ⟨S32x4x1024, .f32⟩
  | .hbm, ⟨25, _⟩ => ⟨S1x1024, .f32⟩
  | .hbm, ⟨26, _⟩ => ⟨S1024, .f32⟩
  | .hbm, ⟨27, _⟩ => ⟨S32x4x1024, .f32⟩
  | .hbm, ⟨28, _⟩ => ⟨S1x1x1024, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S4x32x1024, .f32⟩
  | .hbm, ⟨34, _⟩ => ⟨S128x1024, .f32⟩
  | .hbm, ⟨35, _⟩ => ⟨S32x2x1024, .f32⟩
  | .hbm, ⟨36, _⟩ => ⟨S2x32x1024, .f32⟩
  | .hbm, ⟨37, _⟩ => ⟨S64x1024, .f32⟩
  | _, _ => ⟨S128x5712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩

abbrev nD : Nat := 1
abbrev τ : Topo := Topo.v7x

variable {F : FTy → Type} [FloatOps F]
-- ==== Kernel14.lean ====
abbrev S128x4632 : Shape := ⟨2, ![128, 4632]⟩
abbrev S1x31x1024 : Shape := ⟨3, ![1, 31, 1024]⟩
abbrev S1x1024 : Shape := ⟨2, ![1, 1024]⟩
abbrev S1x32x30x1024 : Shape := ⟨4, ![1, 32, 30, 1024]⟩
abbrev S31x1024 : Shape := ⟨2, ![31, 1024]⟩
abbrev S1024 : Shape := ⟨1, ![1024]⟩
abbrev S32x30x1024 : Shape := ⟨3, ![32, 30, 1024]⟩
abbrev S30x32x1024 : Shape := ⟨3, ![30, 32, 1024]⟩
abbrev S960x1024 : Shape := ⟨2, ![960, 1024]⟩
abbrev S128x1024 : Shape := ⟨2, ![128, 1024]⟩
abbrev S128x512 : Shape := ⟨2, ![128, 512]⟩
abbrev S1088x1024 : Shape := ⟨2, ![1088, 1024]⟩
abbrev S128 : Shape := ⟨1, ![128]⟩
abbrev S128x1 : Shape := ⟨2, ![128, 1]⟩

abbrev nBuf : Space → Nat
  | .hbm => 18
  | .vmem => 12
  | .smem => 0
  | _ => 0

abbrev bufTy : (tb : Table) → Fin (tcTables nBuf tb) → BufTy
  | .hbm, ⟨0, _⟩ => ⟨S128x4632, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x32x30x1024, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32x30x1024, .f32⟩
  | .hbm, ⟨11, _⟩ => ⟨S30x32x1024, .f32⟩
  | .hbm, ⟨12, _⟩ => ⟨S960x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S128x1024, .f32⟩
  | .hbm, ⟨17, _⟩ => ⟨S960x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S960x1024, .f32⟩
  | .local _ .vmem, ⟨9, _⟩ => ⟨S128x1024, .f32⟩
  | .local _ .vmem, ⟨10, _⟩ => ⟨S960x1024, .f32⟩
  | .local _ .vmem, ⟨11, _⟩ => ⟨S1088x1024, .f32⟩
  | _, _ => ⟨S128x4632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S960x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S960x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference14Ideal.lean ====
abbrev S128x4632 : Shape := ⟨2, ![128, 4632]⟩
abbrev S1x31x1024 : Shape := ⟨3, ![1, 31, 1024]⟩
abbrev S1x1024 : Shape := ⟨2, ![1, 1024]⟩
abbrev S1x32x30x1024 : Shape := ⟨4, ![1, 32, 30, 1024]⟩
abbrev S4x32x4632 : Shape := ⟨3, ![4, 32, 4632]⟩
abbrev S32x4x4632 : Shape := ⟨3, ![32, 4, 4632]⟩
abbrev S32x4x1024 : Shape := ⟨3, ![32, 4, 1024]⟩
abbrev S31x1024 : Shape := ⟨2, ![31, 1024]⟩
abbrev S32x30x1024 : Shape := ⟨3, ![32, 30, 1024]⟩
abbrev S_ : Shape := ⟨0, ![]⟩
abbrev S32x34x1024 : Shape := ⟨3, ![32, 34, 1024]⟩
abbrev S1024 : Shape := ⟨1, ![1024]⟩
abbrev S1x1x1024 : Shape := ⟨3, ![1, 1, 1024]⟩
abbrev S32x4 : Shape := ⟨2, ![32, 4]⟩
abbrev S32x4x1 : Shape := ⟨3, ![32, 4, 1]⟩
abbrev S4x32x1024 : Shape := ⟨3, ![4, 32, 1024]⟩
abbrev S128x1024 : Shape := ⟨2, ![128, 1024]⟩
abbrev S30x32x1024 : Shape := ⟨3, ![30, 32, 1024]⟩
abbrev S960x1024 : Shape := ⟨2, ![960, 1024]⟩

abbrev nBuf : Space → Nat
  | .hbm => 285
  | .vmem => 0
  | .smem => 0
  | _ => 0

abbrev hbmTy0_0 (i : Nat) : BufTy := match i % 128 with
  | 0 => ⟨S128x4632, .f32⟩
  | 1 => ⟨S1x31x1024, .f32⟩
  | 2 => ⟨S1x1024, .f32⟩
  | 3 => ⟨S1x1024, .f32⟩
  | 4 => ⟨S1x1024, .f32⟩
  | 5 => ⟨S1x32x30x1024, .f32⟩
  | 6 => ⟨S4x32x4632, .f32⟩
  | 7 => ⟨S32x4x4632, .f32⟩
  | 8 => ⟨S32x4x1024, .f32⟩
  | 9 => ⟨S32x4x1024, .f32⟩
  | 10 => ⟨S31x1024, .f32⟩
  | 11 => ⟨S32x30x1024, .f32⟩
  | 12 => ⟨S32x4x1024, .f32⟩
  | 13 => ⟨S32x4x1024, .f32⟩
  | 14 => ⟨S_, .f32⟩
  | 15 => ⟨S32x4x1024, .f32⟩
  | 16 => ⟨S32x4x1024, .f32⟩
  | 17 => ⟨S_, .f32⟩
  | 18 => ⟨S32x4x1024, .f32⟩
  | 19 => ⟨S32x4x1024, .f32⟩
  | 20 => ⟨S32x4x1024, .f32⟩
  | 21 => ⟨S32x34x1024, .f32⟩
  | 22 => ⟨S1x1024, .f32⟩
  | 23 => ⟨S1024, .f32⟩
  | 24 => ⟨S32x4x1024, .f32⟩
  | 25 => ⟨S1x1x1024, .f32⟩
  | 26 => ⟨S32x4x1024, .f32⟩
  | 27 => ⟨S32x4x1024, .f32⟩
  | 28 => ⟨S1x1024, .f32⟩
  | 29 => ⟨S1024, .f32⟩
  | 30 => ⟨S32x4x1024, .f32⟩
  | 31 => ⟨S1x1x1024, .f32⟩
  | 32 => ⟨S32x4x1024, .f32⟩
  | 33 => ⟨S32x4x1024, .f32⟩
  | 34 => ⟨S32x4x1024, .f32⟩
  | 35 => ⟨S1x1024, .f32⟩
  | 36 => ⟨S1024, .f32⟩
  | 37 => ⟨S32x4x1024, .f32⟩
  | 38 => ⟨S1x1x1024, .f32⟩
  | 39 => ⟨S32x4x1024, .f32⟩
  | 40 => ⟨S32x4x1024, .f32⟩
  | 41 => ⟨S32x4x1024, .f32⟩
  | 42 => ⟨S1x1024, .f32⟩
  | 43 => ⟨S1024, .f32⟩
  | 44 => ⟨S32x4x1024, .f32⟩
  | 45 => ⟨S1x1x1024, .f32⟩
  | 46 => ⟨S32x4x1024, .f32⟩
  | 47 => ⟨S32x4x1024, .f32⟩
  | 48 => ⟨S32x4x1024, .f32⟩
  | 49 => ⟨S1x1024, .f32⟩
  | 50 => ⟨S1024, .f32⟩
  | 51 => ⟨S32x4x1024, .f32⟩
  | 52 => ⟨S1x1x1024, .f32⟩
  | 53 => ⟨S32x4x1024, .f32⟩
  | 54 => ⟨S32x4x1024, .f32⟩
  | 55 => ⟨S32x4x1024, .f32⟩
  | 56 => ⟨S1x1024, .f32⟩
  | 57 => ⟨S1024, .f32⟩
  | 58 => ⟨S32x4x1024, .f32⟩
  | 59 => ⟨S1x1x1024, .f32⟩
  | 60 => ⟨S32x4x1024, .f32⟩
  | 61 => ⟨S32x4x1024, .f32⟩
  | 62 => ⟨S32x4x1024, .f32⟩
  | 63 => ⟨S1x1024, .f32⟩
  | 64 => ⟨S1024, .f32⟩
  | 65 => ⟨S32x4x1024, .f32⟩
  | 66 => ⟨S1x1x1024, .f32⟩
  | 67 => ⟨S32x4x1024, .f32⟩
  | 68 => ⟨S32x4x1024, .f32⟩
  | 69 => ⟨S32x4x1024, .f32⟩
  | 70 => ⟨S1x1024, .f32⟩
  | 71 => ⟨S1024, .f32⟩
  | 72 => ⟨S32x4x1024, .f32⟩
  | 73 => ⟨S1x1x1024, .f32⟩
  | 74 => ⟨S32x4x1024, .f32⟩
  | 75 => ⟨S32x4x1024, .f32⟩
  | 76 => ⟨S32x4x1024, .f32⟩
  | 77 => ⟨S1x1024, .f32⟩
  | 78 => ⟨S1024, .f32⟩
  | 79 => ⟨S32x4x1024, .f32⟩
  | 80 => ⟨S1x1x1024, .f32⟩
  | 81 => ⟨S32x4x1024, .f32⟩
  | 82 => ⟨S32x4x1024, .f32⟩
  | 83 => ⟨S32x4x1024, .f32⟩
  | 84 => ⟨S1x1024, .f32⟩
  | 85 => ⟨S1024, .f32⟩
  | 86 => ⟨S32x4x1024, .f32⟩
  | 87 => ⟨S1x1x1024, .f32⟩
  | 88 => ⟨S32x4x1024, .f32⟩
  | 89 => ⟨S32x4x1024, .f32⟩
  | 90 => ⟨S32x4x1024, .f32⟩
  | 91 => ⟨S1x1024, .f32⟩
  | 92 => ⟨S1024, .f32⟩
  | 93 => ⟨S32x4x1024, .f32⟩
  | 94 => ⟨S1x1x1024, .f32⟩
  | 95 => ⟨S32x4x1024, .f32⟩
  | 96 => ⟨S32x4x1024, .f32⟩
  | 97 => ⟨S32x4x1024, .f32⟩
  | 98 => ⟨S1x1024, .f32⟩
  | 99 => ⟨S1024, .f32⟩
  | 100 => ⟨S32x4x1024, .f32⟩
  | 101 => ⟨S1x1x1024, .f32⟩
  | 102 => ⟨S32x4x1024, .f32⟩
  | 103 => ⟨S32x4x1024, .f32⟩
  | 104 => ⟨S32x4x1024, .f32⟩
  | 105 => ⟨S1x1024, .f32⟩
  | 106 => ⟨S1024, .f32⟩
  | 107 => ⟨S32x4x1024, .f32⟩
  | 108 => ⟨S1x1x1024, .f32⟩
  | 109 => ⟨S32x4x1024, .f32⟩
  | 110 => ⟨S32x4x1024, .f32⟩
  | 111 => ⟨S32x4x1024, .f32⟩
  | 112 => ⟨S1x1024, .f32⟩
  | 113 => ⟨S1024, .f32⟩
  | 114 => ⟨S32x4x1024, .f32⟩
  | 115 => ⟨S1x1x1024, .f32⟩
  | 116 => ⟨S32x4x1024, .f32⟩
  | 117 => ⟨S32x4x1024, .f32⟩
  | 118 => ⟨S32x4x1024, .f32⟩
  | 119 => ⟨S1x1024, .f32⟩
  | 120 => ⟨S1024, .f32⟩
  | 121 => ⟨S32x4x1024, .f32⟩
  | 122 => ⟨S1x1x1024, .f32⟩
  | 123 => ⟨S32x4x1024, .f32⟩
  | 124 => ⟨S32x4x1024, .f32⟩
  | 125 => ⟨S32x4x1024, .f32⟩
  | 126 => ⟨S1x1024, .f32⟩
  | 127 => ⟨S1024, .f32⟩
  | _ => ⟨S128x4632, .f32⟩

abbrev hbmTy0_1 (i : Nat) : BufTy := match i % 128 with
  | 0 => ⟨S32x4x1024, .f32⟩
  | 1 => ⟨S1x1x1024, .f32⟩
  | 2 => ⟨S32x4x1024, .f32⟩
  | 3 => ⟨S32x4x1024, .f32⟩
  | 4 => ⟨S32x4x1024, .f32⟩
  | 5 => ⟨S1x1024, .f32⟩
  | 6 => ⟨S1024, .f32⟩
  | 7 => ⟨S32x4x1024, .f32⟩
  | 8 => ⟨S1x1x1024, .f32⟩
  | 9 => ⟨S32x4x1024, .f32⟩
  | 10 => ⟨S32x4x1024, .f32⟩
  | 11 => ⟨S32x4x1024, .f32⟩
  | 12 => ⟨S1x1024, .f32⟩
  | 13 => ⟨S1024, .f32⟩
  | 14 => ⟨S32x4x1024, .f32⟩
  | 15 => ⟨S1x1x1024, .f32⟩
  | 16 => ⟨S32x4x1024, .f32⟩
  | 17 => ⟨S32x4x1024, .f32⟩
  | 18 => ⟨S32x4x1024, .f32⟩
  | 19 => ⟨S1x1024, .f32⟩
  | 20 => ⟨S1024, .f32⟩
  | 21 => ⟨S32x4x1024, .f32⟩
  | 22 => ⟨S1x1x1024, .f32⟩
  | 23 => ⟨S32x4x1024, .f32⟩
  | 24 => ⟨S32x4x1024, .f32⟩
  | 25 => ⟨S32x4x1024, .f32⟩
  | 26 => ⟨S1x1024, .f32⟩
  | 27 => ⟨S1024, .f32⟩
  | 28 => ⟨S32x4x1024, .f32⟩
  | 29 => ⟨S1x1x1024, .f32⟩
  | 30 => ⟨S32x4x1024, .f32⟩
  | 31 => ⟨S32x4x1024, .f32⟩
  | 32 => ⟨S32x4x1024, .f32⟩
  | 33 => ⟨S1x1024, .f32⟩
  | 34 => ⟨S1024, .f32⟩
  | 35 => ⟨S32x4x1024, .f32⟩
  | 36 => ⟨S1x1x1024, .f32⟩
  | 37 => ⟨S32x4x1024, .f32⟩
  | 38 => ⟨S32x4x1024, .f32⟩
  | 39 => ⟨S32x4x1024, .f32⟩
  | 40 => ⟨S1x1024, .f32⟩
  | 41 => ⟨S1024, .f32⟩
  | 42 => ⟨S32x4x1024, .f32⟩
  | 43 => ⟨S1x1x1024, .f32⟩
  | 44 => ⟨S32x4x1024, .f32⟩
  | 45 => ⟨S32x4x1024, .f32⟩
  | 46 => ⟨S32x4x1024, .f32⟩
  | 47 => ⟨S1x1024, .f32⟩
  | 48 => ⟨S1024, .f32⟩
  | 49 => ⟨S32x4x1024, .f32⟩
  | 50 => ⟨S1x1x1024, .f32⟩
  | 51 => ⟨S32x4x1024, .f32⟩
  | 52 => ⟨S32x4x1024, .f32⟩
  | 53 => ⟨S32x4x1024, .f32⟩
  | 54 => ⟨S1x1024, .f32⟩
  | 55 => ⟨S1024, .f32⟩
  | 56 => ⟨S32x4x1024, .f32⟩
  | 57 => ⟨S1x1x1024, .f32⟩
  | 58 => ⟨S32x4x1024, .f32⟩
  | 59 => ⟨S32x4x1024, .f32⟩
  | 60 => ⟨S32x4x1024, .f32⟩
  | 61 => ⟨S1x1024, .f32⟩
  | 62 => ⟨S1024, .f32⟩
  | 63 => ⟨S32x4x1024, .f32⟩
  | 64 => ⟨S1x1x1024, .f32⟩
  | 65 => ⟨S32x4x1024, .f32⟩
  | 66 => ⟨S32x4x1024, .f32⟩
  | 67 => ⟨S32x4x1024, .f32⟩
  | 68 => ⟨S1x1024, .f32⟩
  | 69 => ⟨S1024, .f32⟩
  | 70 => ⟨S32x4x1024, .f32⟩
  | 71 => ⟨S1x1x1024, .f32⟩
  | 72 => ⟨S32x4x1024, .f32⟩
  | 73 => ⟨S32x4x1024, .f32⟩
  | 74 => ⟨S32x4x1024, .f32⟩
  | 75 => ⟨S1x1024, .f32⟩
  | 76 => ⟨S1024, .f32⟩
  | 77 => ⟨S32x4x1024, .f32⟩
  | 78 => ⟨S1x1x1024, .f32⟩
  | 79 => ⟨S32x4x1024, .f32⟩
  | 80 => ⟨S32x4x1024, .f32⟩
  | 81 => ⟨S32x4x1024, .f32⟩
  | 82 => ⟨S1x1024, .f32⟩
  | 83 => ⟨S1024, .f32⟩
  | 84 => ⟨S32x4x1024, .f32⟩
  | 85 => ⟨S1x1x1024, .f32⟩
  | 86 => ⟨S32x4x1024, .f32⟩
  | 87 => ⟨S32x4x1024, .f32⟩
  | 88 => ⟨S32x4x1024, .f32⟩
  | 89 => ⟨S1x1024, .f32⟩
  | 90 => ⟨S1024, .f32⟩
  | 91 => ⟨S32x4x1024, .f32⟩
  | 92 => ⟨S1x1x1024, .f32⟩
  | 93 => ⟨S32x4x1024, .f32⟩
  | 94 => ⟨S32x4x1024, .f32⟩
  | 95 => ⟨S32x4x1024, .f32⟩
  | 96 => ⟨S1x1024, .f32⟩
  | 97 => ⟨S1024, .f32⟩
  | 98 => ⟨S32x4x1024, .f32⟩
  | 99 => ⟨S1x1x1024, .f32⟩
  | 100 => ⟨S32x4x1024, .f32⟩
  | 101 => ⟨S32x4x1024, .f32⟩
  | 102 => ⟨S32x4x1024, .f32⟩
  | 103 => ⟨S1x1024, .f32⟩
  | 104 => ⟨S1024, .f32⟩
  | 105 => ⟨S32x4x1024, .f32⟩
  | 106 => ⟨S1x1x1024, .f32⟩
  | 107 => ⟨S32x4x1024, .f32⟩
  | 108 => ⟨S32x4x1024, .f32⟩
  | 109 => ⟨S32x4x1024, .f32⟩
  | 110 => ⟨S1024, .f32⟩
  | 111 => ⟨S1x1x1024, .f32⟩
  | 112 => ⟨S32x4x1024, .f32⟩
  | 113 => ⟨S32x4x1024, .f32⟩
  | 114 => ⟨S1024, .f32⟩
  | 115 => ⟨S1024, .f32⟩
  | 116 => ⟨S_, .f32⟩
  | 117 => ⟨S32x4, .f32⟩
  | 118 => ⟨S32x4x1, .f32⟩
  | 119 => ⟨S_, .f32⟩
  | 120 => ⟨S32x4x1, .f32⟩
  | 121 => ⟨S32x4x1, .f32⟩
  | 122 => ⟨S32x4x1024, .f32⟩
  | 123 => ⟨S32x4x1024, .f32⟩
  | 124 => ⟨S32x4x1024, .f32⟩
  | 125 => ⟨S_, .f32⟩
  | 126 => ⟨S32x4, .f32⟩
  | 127 => ⟨S32x4x1, .f32⟩
  | _ => ⟨S128x4632, .f32⟩

abbrev hbmTy0_2 (i : Nat) : BufTy := match i % 128 with
  | 0 => ⟨S_, .f32⟩
  | 1 => ⟨S32x4x1, .f32⟩
  | 2 => ⟨S32x4x1, .f32⟩
  | 3 => ⟨S_, .f32⟩
  | 4 => ⟨S32x4x1, .f32⟩
  | 5 => ⟨S32x4x1, .f32⟩
  | 6 => ⟨S32x4x1, .f32⟩
  | 7 => ⟨S32x4x1024, .f32⟩
  | 8 => ⟨S32x4x1024, .f32⟩
  | 9 => ⟨S1x1x1024, .f32⟩
  | 10 => ⟨S32x4x1024, .f32⟩
  | 11 => ⟨S32x4x1024, .f32⟩
  | 12 => ⟨S1x1x1024, .f32⟩
  | 13 => ⟨S32x4x1024, .f32⟩
  | 14 => ⟨S32x4x1024, .f32⟩
  | 15 => ⟨S32x4x1024, .f32⟩
  | 16 => ⟨S32x4x1024, .f32⟩
  | 17 => ⟨S_, .f32⟩
  | 18 => ⟨S32x4x1024, .f32⟩
  | 19 => ⟨S32x4x1024, .f32⟩
  | 20 => ⟨S_, .f32⟩
  | 21 => ⟨S32x4x1024, .f32⟩
  | 22 => ⟨S32x4x1024, .f32⟩
  | 23 => ⟨S32x4x1024, .f32⟩
  | 24 => ⟨S4x32x1024, .f32⟩
  | 25 => ⟨S128x1024, .f32⟩
  | 26 => ⟨S32x30x1024, .f32⟩
  | 27 => ⟨S30x32x1024, .f32⟩
  | 28 => ⟨S960x1024, .f32⟩
  | _ => ⟨S128x4632, .f32⟩

abbrev hbmTy (i : Nat) : BufTy := match i / 128 with
  | 0 => hbmTy0_0 i
  | 1 => hbmTy0_1 i
  | 2 => hbmTy0_2 i
  | _ => ⟨S128x4632, .f32⟩

abbrev bufTy : (tb : Table) → Fin (tcTables nBuf tb) → BufTy
  | .hbm, ⟨i, _⟩ => hbmTy i
  | _, _ => ⟨S128x4632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_cst_1 : Ref sig .tc := ⟨.hbm, 244, rfl⟩
abbrev main_v236 : Ref sig .tc := ⟨.hbm, 245, rfl⟩
abbrev main_v237 : Ref sig .tc := ⟨.hbm, 246, rfl⟩
abbrev main_cst_2 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_cst_3 : Ref sig .tc := ⟨.hbm, 253, rfl⟩
abbrev main_v243 : Ref sig .tc := ⟨.hbm, 254, rfl⟩
abbrev main_v244 : Ref sig .tc := ⟨.hbm, 255, rfl⟩
abbrev main_cst_4 : Ref sig .tc := ⟨.hbm, 256, rfl⟩
abbrev main_v245 : Ref sig .tc := ⟨.hbm, 257, rfl⟩
abbrev main_v246 : Ref sig .tc := ⟨.hbm, 258, rfl⟩
abbrev main_cst_5 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_cst_6 : Ref sig .tc := ⟨.hbm, 273, rfl⟩
abbrev main_v260 : Ref sig .tc := ⟨.hbm, 274, rfl⟩
abbrev main_v261 : Ref sig .tc := ⟨.hbm, 275, rfl⟩
abbrev main_cst_7 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩

abbrev nD : Nat := 1
abbrev τ : Topo := Topo.v7x

variable {F : FTy → Type} [FloatOps F]
-- ==== Kernel15.lean ====
abbrev S128x5632 : Shape := ⟨2, ![128, 5632]⟩
abbrev S2x5504x2048 : Shape := ⟨3, ![2, 5504, 2048]⟩
abbrev S2x6x2048 : Shape := ⟨3, ![2, 6, 2048]⟩
abbrev S128x2048 : Shape := ⟨2, ![128, 2048]⟩
abbrev S128x5504 : Shape := ⟨2, ![128, 5504]⟩
abbrev S1x5504x512 : Shape := ⟨3, ![1, 5504, 512]⟩
abbrev S1x6x2048 : Shape := ⟨3, ![1, 6, 2048]⟩
abbrev S5504x512 : Shape := ⟨2, ![5504, 512]⟩
abbrev S128x512 : Shape := ⟨2, ![128, 512]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S128x5632, .bf16⟩
  | .hbm, ⟨1, _⟩ => ⟨S2x5504x2048, .f32⟩
  | .hbm, ⟨2, _⟩ => ⟨S2x6x2048, .f32⟩
  | .hbm, ⟨3, _⟩ => ⟨S128x2048, .f32⟩
  | .hbm, ⟨4, _⟩ => ⟨S2x5504x2048, .bf16⟩
  | .hbm, ⟨5, _⟩ => ⟨S128x2048, .f32⟩
  | .local _ .vmem, ⟨0, _⟩ => ⟨S128x5504, .bf16⟩
  | .local _ .vmem, ⟨1, _⟩ => ⟨S1x5504x512, .bf16⟩
  | .local _ .vmem, ⟨2, _⟩ => ⟨S1x5504x512, .bf16⟩
  | .local _ .vmem, ⟨3, _⟩ => ⟨S1x6x2048, .f32⟩
  | .local _ .vmem, ⟨4, _⟩ => ⟨S128x2048, .f32⟩
  | .local _ .vmem, ⟨5, _⟩ => ⟨S128x2048, .f32⟩
  | .local _ .vmem, ⟨6, _⟩ => ⟨S128x5504, .bf16⟩
  | _, _ => ⟨S128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![1, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0_5 : Index := 0#32
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  ![0, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x5504 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference15Ideal.lean ====
abbrev S128x5632 : Shape := ⟨2, ![128, 5632]⟩
abbrev S2x5504x2048 : Shape := ⟨3, ![2, 5504, 2048]⟩
abbrev S2x6x2048 : Shape := ⟨3, ![2, 6, 2048]⟩
abbrev S128x2048 : Shape := ⟨2, ![128, 2048]⟩
abbrev S128x5504 : Shape := ⟨2, ![128, 5504]⟩
abbrev S1x5504x2048 : Shape := ⟨3, ![1, 5504, 2048]⟩
abbrev S5504x2048 : Shape := ⟨2, ![5504, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩

abbrev nBuf : Space → Nat
  | .hbm => 30
  | .vmem => 0
  | .smem => 0
  | _ => 0

abbrev bufTy : (tb : Table) → Fin (tcTables nBuf tb) → BufTy
  | .hbm, ⟨0, _⟩ => ⟨S128x5632, .bf16⟩
  | .hbm, ⟨1, _⟩ => ⟨S2x5504x2048, .f32⟩
  | .hbm, ⟨2, _⟩ => ⟨S2x6x2048, .f32⟩
  | .hbm, ⟨3, _⟩ => ⟨S128x2048, .f32⟩
  | .hbm, ⟨4, _⟩ => ⟨S128x5504, .bf16⟩
  | .hbm, ⟨5, _⟩ => ⟨S128x5504, .f32⟩
  | .hbm, ⟨6, _⟩ => ⟨S1x5504x2048, .f32⟩
  | .hbm, ⟨7, _⟩ => ⟨S5504x2048, .f32⟩
  | .hbm, ⟨8, _⟩ => ⟨S128x2048, .f32⟩
  | .hbm, ⟨9, _⟩ => ⟨S1x6x2048, .f32⟩
  | .hbm, ⟨10, _⟩ => ⟨S6x2048, .f32⟩
  | .hbm, ⟨11, _⟩ => ⟨S1x2048, .f32⟩
  | .hbm, ⟨12, _⟩ => ⟨S2048, .f32⟩
  | .hbm, ⟨13, _⟩ => ⟨S128x2048, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x2048, .f32⟩
  | .hbm, ⟨25, _⟩ => ⟨S128x2048, .f32⟩
  | .hbm, ⟨26, _⟩ => ⟨S1x2048, .f32⟩
  | .hbm, ⟨27, _⟩ => ⟨S128x2048, .f32⟩
  | .hbm, ⟨28, _⟩ => ⟨S128x2048, .f32⟩
  | .hbm, ⟨29, _⟩ => ⟨S128x2048, .f32⟩
  | _, _ => ⟨S128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel16.lean ====
abbrev S128x2048 : Shape := ⟨2, ![128, 2048]⟩
abbrev S2x6x2048 : Shape := ⟨3, ![2, 6, 2048]⟩
abbrev S2x2048x11008 : Shape := ⟨3, ![2, 2048, 11008]⟩
abbrev S2x3x5504 : Shape := ⟨3, ![2, 3, 5504]⟩
abbrev S2x32x2x5504 : Shape := ⟨4, ![2, 32, 2, 5504]⟩
abbrev S1x3x5504 : Shape := ⟨3, ![1, 3, 5504]⟩
abbrev S3x5504 : Shape := ⟨2, ![3, 5504]⟩
abbrev S1x32x2x5504 : Shape := ⟨4, ![1, 32, 2, 5504]⟩
abbrev S32x2x5504 : Shape := ⟨3, ![32, 2, 5504]⟩
abbrev S2x32x5504 : Shape := ⟨3, ![2, 32, 5504]⟩
abbrev S64x5504 : Shape := ⟨2, ![64, 5504]⟩
abbrev S_ : Shape := ⟨0, ![]⟩
abbrev S3x5632 : Shape := ⟨2, ![3, 5632]⟩
abbrev S64x5632 : Shape := ⟨2, ![64, 5632]⟩
abbrev S128x5632 : Shape := ⟨2, ![128, 5632]⟩
abbrev S1x6x2048 : Shape := ⟨3, ![1, 6, 2048]⟩
abbrev S1x2048x128 : Shape := ⟨3, ![1, 2048, 128]⟩
abbrev S3x512 : Shape := ⟨2, ![3, 512]⟩
abbrev S64x512 : Shape := ⟨2, ![64, 512]⟩
abbrev S128x512 : Shape := ⟨2, ![128, 512]⟩
abbrev S4x2048x256 : Shape := ⟨3, ![4, 2048, 256]⟩
abbrev S11x64x512 : Shape := ⟨3, ![11, 64, 512]⟩
abbrev S192x512 : Shape := ⟨2, ![192, 512]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩
abbrev S1x64x512 : Shape := ⟨3, ![1, 64, 512]⟩
abbrev S2048x128 : Shape := ⟨2, ![2048, 128]⟩
abbrev S1x2048x256 : Shape := ⟨3, ![1, 2048, 256]⟩
abbrev S2048x256 : Shape := ⟨2, ![2048, 256]⟩
abbrev S128x256 : Shape := ⟨2, ![128, 256]⟩
abbrev S128x128 : Shape := ⟨2, ![128, 128]⟩
abbrev S1x128 : Shape := ⟨2, ![1, 128]⟩

abbrev nBuf : Space → Nat
  | .hbm => 19
  | .vmem => 30
  | .smem => 0
  | _ => 0

abbrev bufTy : (tb : Table) → Fin (tcTables nBuf tb) → BufTy
  | .hbm, ⟨0, _⟩ => ⟨S128x2048, .f32⟩
  | .hbm, ⟨1, _⟩ => ⟨S2x6x2048, .f32⟩
  | .hbm, ⟨2, _⟩ => ⟨S2x2048x11008, .f32⟩
  | .hbm, ⟨3, _⟩ => ⟨S2x3x5504, .f32⟩
  | .hbm, ⟨4, _⟩ => ⟨S2x32x2x5504, .f32⟩
  | .hbm, ⟨5, _⟩ => ⟨S1x3x5504, .f32⟩
  | .hbm, ⟨6, _⟩ => ⟨S3x5504, .f32⟩
  | .hbm, ⟨7, _⟩ => ⟨S1x32x2x5504, .f32⟩
  | .hbm, ⟨8, _⟩ => ⟨S32x2x5504, .f32⟩
  | .hbm, ⟨9, _⟩ => ⟨S2x32x5504, .f32⟩
  | .hbm, ⟨10, _⟩ => ⟨S64x5504, .f32⟩
  | .hbm, ⟨11, _⟩ => ⟨S_, .i32⟩
  | .hbm, ⟨12, _⟩ => ⟨S_, .f32⟩
  | .hbm, ⟨13, _⟩ => ⟨S3x5632, .f32⟩
  | .hbm, ⟨14, _⟩ => ⟨S_, .i32⟩
  | .hbm, ⟨15, _⟩ => ⟨S_, .f32⟩
  | .hbm, ⟨16, _⟩ => ⟨S64x5632, .f32⟩
  | .hbm, ⟨17, _⟩ => ⟨S128x5632, .bf16⟩
  | .hbm, ⟨18, _⟩ => ⟨S64x5632, .f32⟩
  | .local _ .vmem, ⟨0, _⟩ => ⟨S128x2048, .f32⟩
  | .local _ .vmem, ⟨1, _⟩ => ⟨S1x6x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S3x512, .f32⟩
  | .local _ .vmem, ⟨19, _⟩ => ⟨S3x512, .f32⟩
  | .local _ .vmem, ⟨20, _⟩ => ⟨S64x512, .f32⟩
  | .local _ .vmem, ⟨21, _⟩ => ⟨S64x512, .f32⟩
  | .local _ .vmem, ⟨22, _⟩ => ⟨S128x512, .bf16⟩
  | .local _ .vmem, ⟨23, _⟩ => ⟨S128x512, .bf16⟩
  | .local _ .vmem, ⟨24, _⟩ => ⟨S64x512, .f32⟩
  | .local _ .vmem, ⟨25, _⟩ => ⟨S64x512, .f32⟩
  | .local _ .vmem, ⟨26, _⟩ => ⟨S128x2048, .bf16⟩
  | .local _ .vmem, ⟨27, _⟩ => ⟨S4x2048x256, .bf16⟩
  | .local _ .vmem, ⟨28, _⟩ => ⟨S11x64x512, .f32⟩
  | .local _ .vmem, ⟨29, _⟩ => ⟨S192x512, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let v7 : BitVec 32 := Scalar.extui v6
  let c0_i32_4 : BitVec 32 := 0#32
  let v8 : BitVec 1 := Scalar.cmpi .ne v7 c0_i32_4
  v8

def k0_off1 (i : grid0.Coords) : Fin 3 → Nat :=
  let arg1 : BitVec 32 := BitVec.ofNat 32 (i 1).val
  let v187 : Index := Scalar.indexCast arg1
  let c0_137 : Index := 0#32
  let c0_138 : Index := 0#32
  ![v187.toNat, 0, 0]
def k0_off2 (i : grid0.Coords) : Fin 3 → Nat :=
  let arg1 : BitVec 32 := BitVec.ofNat 32 (i 1).val
  let v182 : Index := Scalar.indexCast arg1
  let c0_133 : Index := 0#32
  let c0_134 : Index := 0#32
  ![v182.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let v3 : BitVec 32 := Scalar.addi c0_i32_0 v2
  let c1_i32 : BitVec 32 := 1#32
  let c0_i32_1 : BitVec 32 := 0#32
  let c0_i32_2 : BitVec 32 := 0#32
  ![c1_i32.toNat, c0_i32_1.toNat, v3.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let v3 : BitVec 32 := Scalar.addi c0_i32 v2
  let c1_i32_0 : BitVec 32 := 1#32
  let c0_i32_1 : BitVec 32 := 0#32
  let c0_i32_2 : BitVec 32 := 0#32
  ![c1_i32_0.toNat, c0_i32_1.toNat, v3.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c42_i32 : BitVec 32 := 42#32
  let v2 : BitVec 32 := Scalar.minsi v1 c42_i32
  let c0_i32 : BitVec 32 := 0#32
  let v3 : BitVec 32 := Scalar.addi c0_i32 v2
  let c1_i32 : BitVec 32 := 1#32
  let c0_i32_0 : BitVec 32 := 0#32
  let c0_i32_1 : BitVec 32 := 0#32
  ![c1_i32.toNat, c0_i32_0.toNat, v3.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c42_i32 : BitVec 32 := 42#32
  let v2 : BitVec 32 := Scalar.minsi v1 c42_i32
  let c0_i32 : BitVec 32 := 0#32
  let v3 : BitVec 32 := Scalar.addi c0_i32 v2
  let c1_i32 : BitVec 32 := 1#32
  let c0_i32_0 : BitVec 32 := 0#32
  let c0_i32_1 : BitVec 32 := 0#32
  ![c1_i32.toNat, c0_i32_0.toNat, v3.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32_0 : BitVec 32 := 0#32
  let c0_i32_1 : BitVec 32 := 0#32
  ![c1_i32.toNat, c0_i32_0.toNat, v3.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c42_i32 : BitVec 32 := 42#32
  let v2 : BitVec 32 := Scalar.minsi v1 c42_i32
  let c43_i32 : BitVec 32 := 43#32
  let v3 : BitVec 32 := Scalar.addi c43_i32 v2
  let c1_i32_0 : BitVec 32 := 1#32
  let c0_i32 : BitVec 32 := 0#32
  let c0_i32_1 : BitVec 32 := 0#32
  ![c1_i32_0.toNat, c0_i32.toNat, v3.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32 : BitVec 32 := 0#32
  let c0_i32_0 : BitVec 32 := 0#32
  ![c1_i32.toNat, c0_i32.toNat, v3.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c42_i32 : BitVec 32 := 42#32
  let v2 : BitVec 32 := Scalar.minsi v1 c42_i32
  let c43_i32 : BitVec 32 := 43#32
  let v3 : BitVec 32 := Scalar.addi c43_i32 v2
  let c1_i32 : BitVec 32 := 1#32
  let c0_i32 : BitVec 32 := 0#32
  let c0_i32_0 : BitVec 32 := 0#32
  ![c1_i32.toNat, c0_i32.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference16Ideal.lean ====
abbrev S128x2048 : Shape := ⟨2, ![128, 2048]⟩
abbrev S2x6x2048 : Shape := ⟨3, ![2, 6, 2048]⟩
abbrev S2x2048x11008 : Shape := ⟨3, ![2, 2048, 11008]⟩
abbrev S2x3x5504 : Shape := ⟨3, ![2, 3, 5504]⟩
abbrev S2x32x2x5504 : Shape := ⟨4, ![2, 32, 2, 5504]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x11008 : Shape := ⟨3, ![1, 2048, 11008]⟩
abbrev S2048x11008 : Shape := ⟨2, ![2048, 11008]⟩
abbrev S128x11008 : Shape := ⟨2, ![128, 11008]⟩
abbrev S4x32x11008 : Shape := ⟨3, ![4, 32, 11008]⟩
abbrev S32x4x11008 : Shape := ⟨3, ![32, 4, 11008]⟩
abbrev S32x4x5504 : Shape := ⟨3, ![32, 4, 5504]⟩
abbrev S1x3x5504 : Shape := ⟨3, ![1, 3, 5504]⟩
abbrev S3x5504 : Shape := ⟨2, ![3, 5504]⟩
abbrev S1x32x2x5504 : Shape := ⟨4, ![1, 32, 2, 5504]⟩
abbrev S32x2x5504 : Shape := ⟨3, ![32, 2, 5504]⟩
abbrev S32x6x5504 : Shape := ⟨3, ![32, 6, 5504]⟩
abbrev S1x5504 : Shape := ⟨2, ![1, 5504]⟩
abbrev S5504 : Shape := ⟨1, ![5504]⟩
abbrev S1x1x5504 : Shape := ⟨3, ![1, 1, 5504]⟩
abbrev S4x32x5504 : Shape := ⟨3, ![4, 32, 5504]⟩
abbrev S128x5504 : Shape := ⟨2, ![128, 5504]⟩
abbrev S2x32x5504 : Shape := ⟨3, ![2, 32, 5504]⟩
abbrev S64x5504 : Shape := ⟨2, ![64, 5504]⟩
abbrev S128x5632 : Shape := ⟨2, ![128, 5632]⟩
abbrev S64x128 : Shape := ⟨2, ![64, 128]⟩
abbrev S64x5632 : Shape := ⟨2, ![64, 5632]⟩

abbrev nBuf : Space → Nat
  | .hbm => 78
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x6x2048, .f32⟩
  | .hbm, ⟨2, _⟩ => ⟨S2x2048x11008, .f32⟩
  | .hbm, ⟨3, _⟩ => ⟨S2x3x5504, .f32⟩
  | .hbm, ⟨4, _⟩ => ⟨S2x32x2x5504, .f32⟩
  | .hbm, ⟨5, _⟩ => ⟨S1x6x2048, .f32⟩
  | .hbm, ⟨6, _⟩ => ⟨S6x2048, .f32⟩
  | .hbm, ⟨7, _⟩ => ⟨S1x2048, .f32⟩
  | .hbm, ⟨8, _⟩ => ⟨S2048, .f32⟩
  | .hbm, ⟨9, _⟩ => ⟨S128x2048, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x2048, .f32⟩
  | .hbm, ⟨21, _⟩ => ⟨S128x2048, .f32⟩
  | .hbm, ⟨22, _⟩ => ⟨S1x2048, .f32⟩
  | .hbm, ⟨23, _⟩ => ⟨S128x2048, .f32⟩
  | .hbm, ⟨24, _⟩ => ⟨S128x2048, .f32⟩
  | .hbm, ⟨25, _⟩ => ⟨S1x2048x11008, .f32⟩
  | .hbm, ⟨26, _⟩ => ⟨S2048x11008, .f32⟩
  | .hbm, ⟨27, _⟩ => ⟨S128x11008, .f32⟩
  | .hbm, ⟨28, _⟩ => ⟨S4x32x11008, .f32⟩
  | .hbm, ⟨29, _⟩ => ⟨S32x4x11008, .f32⟩
  | .hbm, ⟨30, _⟩ => ⟨S32x4x5504, .f32⟩
  | .hbm, ⟨31, _⟩ => ⟨S32x4x5504, .f32⟩
  | .hbm, ⟨32, _⟩ => ⟨S1x3x5504, .f32⟩
  | .hbm, ⟨33, _⟩ => ⟨S3x5504, .f32⟩
  | .hbm, ⟨34, _⟩ => ⟨S1x32x2x5504, .f32⟩
  | .hbm, ⟨35, _⟩ => ⟨S32x2x5504, .f32⟩
  | .hbm, ⟨36, _⟩ => ⟨S32x6x5504, .f32⟩
  | .hbm, ⟨37, _⟩ => ⟨S1x5504, .f32⟩
  | .hbm, ⟨38, _⟩ => ⟨S5504, .f32⟩
  | .hbm, ⟨39, _⟩ => ⟨S32x4x5504, .f32⟩
  | .hbm, ⟨40, _⟩ => ⟨S1x1x5504, .f32⟩
  | .hbm, ⟨41, _⟩ => ⟨S32x4x5504, .f32⟩
  | .hbm, ⟨42, _⟩ => ⟨S32x4x5504, .f32⟩
  | .hbm, ⟨43, _⟩ => ⟨S1x5504, .f32⟩
  | .hbm, ⟨44, _⟩ => ⟨S5504, .f32⟩
  | .hbm, ⟨45, _⟩ => ⟨S32x4x5504, .f32⟩
  | .hbm, ⟨46, _⟩ => ⟨S1x1x5504, .f32⟩
  | .hbm, ⟨47, _⟩ => ⟨S32x4x5504, .f32⟩
  | .hbm, ⟨48, _⟩ => ⟨S32x4x5504, .f32⟩
  | .hbm, ⟨49, _⟩ => ⟨S32x4x5504, .f32⟩
  | .hbm, ⟨50, _⟩ => ⟨S1x5504, .f32⟩
  | .hbm, ⟨51, _⟩ => ⟨S5504, .f32⟩
  | .hbm, ⟨52, _⟩ => ⟨S32x4x5504, .f32⟩
  | .hbm, ⟨53, _⟩ => ⟨S1x1x5504, .f32⟩
  | .hbm, ⟨54, _⟩ => ⟨S32x4x5504, .f32⟩
  | .hbm, ⟨55, _⟩ => ⟨S32x4x5504, .f32⟩
  | .hbm, ⟨56, _⟩ => ⟨S32x4x5504, .f32⟩
  | .hbm, ⟨57, _⟩ => ⟨S32x4x5504, .f32⟩
  | .hbm, ⟨58, _⟩ => ⟨S32x4x5504, .f32⟩
  | .hbm, ⟨59, _⟩ => ⟨S_, .f32⟩
  | .hbm, ⟨60, _⟩ => ⟨S32x4x5504, .f32⟩
  | .hbm, ⟨61, _⟩ => ⟨S32x4x5504, .f32⟩
  | .hbm, ⟨62, _⟩ => ⟨S_, .f32⟩
  | .hbm, ⟨63, _⟩ => ⟨S32x4x5504, .f32⟩
  | .hbm, ⟨64, _⟩ => ⟨S32x4x5504, .f32⟩
  | .hbm, ⟨65, _⟩ => ⟨S32x4x5504, .f32⟩
  | .hbm, ⟨66, _⟩ => ⟨S32x4x5504, .f32⟩
  | .hbm, ⟨67, _⟩ => ⟨S4x32x5504, .f32⟩
  | .hbm, ⟨68, _⟩ => ⟨S128x5504, .f32⟩
  | .hbm, ⟨69, _⟩ => ⟨S128x5504, .bf16⟩
  | .hbm, ⟨70, _⟩ => ⟨S32x2x5504, .f32⟩
  | .hbm, ⟨71, _⟩ => ⟨S2x32x5504, .f32⟩
  | .hbm, ⟨72, _⟩ => ⟨S64x5504, .f32⟩
  | .hbm, ⟨73, _⟩ => ⟨S_, .i32⟩
  | .hbm, ⟨74, _⟩ => ⟨S_, .bf16⟩
  | .hbm, ⟨75, _⟩ => ⟨S128x5632, .bf16⟩
  | .hbm, ⟨76, _⟩ => ⟨S64x128, .f32⟩
  | .hbm, ⟨77, _⟩ => ⟨S64x5632, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c : Ref sig .tc := ⟨.hbm, 73, rfl⟩
abbrev main_call0_v0 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== Proof.CrossRef.lean ====
/- The cross attention: what the reference computes, row by row and head by head. -/
module
public import proofs.«01_k».proof.Defs
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Cross
open Idealize.ShloMosaic Idealize.ShloMosaic.TcCoe

/-- One row normed: each element times the inverse root of the row's mean square, times its gain. -/
def rmsAt (x g : Fin 2048 → EReal) (k : Fin 2048) : EReal :=
  x k * Ideal.rsqrt (Ideal.div (∑ j : Fin 2048, x j * x j) (Ideal.ofBits .f32 1157627904#32) + Ideal.ofBits .f32 897988541#32) * g k

/-- One row against the columns of a matrix. -/
def rowMul {a b : ℕ} (x : Fin a → EReal) (w : Fin a → Fin b → EReal) (k : Fin b) : EReal := ∑ j : Fin a, x j * w j k

/-- One score: a query row of a head against a key, scaled. -/
def scoreAt (q k : Fin 128 → EReal) : EReal := (∑ d : Fin 128, q d * k d) * Ideal.ofBits .f32 1035273459#32

/-- The greatest of a row's scores. -/
def maxAt (s : Fin 256 → EReal) : EReal := Finset.fold max (Ideal.ofBits .f32 4286578688#32) s Finset.univ

/-- One weight of the softmax of a row of scores. -/
def probAt (s : Fin 256 → EReal) (k : Fin 256) : EReal :=
  Ideal.div (Ideal.exp (s k - maxAt s)) (∑ j : Fin 256, Ideal.exp (s j - maxAt s))

/-- Lane `d` of head `h` among the 512 columns. -/
def lane (h : Fin 4) (d : Fin 128) : Fin 512 := ⟨h.val * 128 + d.val, by omega⟩

/-- The head of column `k`. -/
def headOf (k : Fin 512) : Fin 4 := ⟨k.val / 128, by omega⟩

open Cert.Reference2Ideal Cert.Reference2Ideal.Gen Cert.Reference2Ideal.Read

variable (x0 : (⟨S8192x2048, .f32⟩ : BufTy).Contents (Elt Ideal)) (x1 : (⟨S2x6x2048, .f32⟩ : BufTy).Contents (Elt Ideal))
  (x2 : (⟨S2x2048x512, .f32⟩ : BufTy).Contents (Elt Ideal)) (x3 : (⟨S2x512x2048, .f32⟩ : BufTy).Contents (Elt Ideal))
  (x4 x5 : (⟨S256x512, .f32⟩ : BufTy).Contents (Elt Ideal))

/-- The queries. -/
theorem q_apply (r : Fin 8192) (k : Fin 512) :
    val_main_v23 (F := Ideal) x0 x1 x2 (ix2 r k) = rowMul (rmsAt (fun j => x0 (ix2 r j)) (fun j => x1 (ix3 0 2 j))) (fun j k => x2 (ix3 0 j k)) k := by
  unfold rowMul rmsAt
  pointwise [val_main_v23, val_main_v18, val_main_v17, val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1]

/-- The scores, of the queries and the keys. -/
theorem score_apply (h : Fin 4) (r : Fin 8192) (k : Fin 256) :
    val_main_v27 (F := Ideal) x0 x1 x2 x4 (ix3 h r k) = scoreAt (fun d => val_main_v23 (F := Ideal) x0 x1 x2 (ix2 r (lane h d))) (fun d => x4 (ix2 k (lane h d))) := by
  unfold val_main_v27 val_main_v25 val_main_v24 scoreAt lane
  generalize val_main_v23 (F := Ideal) x0 x1 x2 = q
  pointwise [val_main_v26, val_main_v21, val_main_cst_2]

/-- A bound below a maximum that starts from it changes nothing. -/
theorem max_maxAt (s : Fin 256 → EReal) : max (Ideal.ofBits .f32 4286578688#32) (maxAt s) = maxAt s :=
  max_eq_right ((Finset.le_fold_max _).mpr (Or.inl le_rfl))

/-- The greatest score of a row. -/
theorem fold_apply (h : Fin 4) (r : Fin 8192) :
    val_main_v28 (F := Ideal) x0 x1 x2 x4 (ix2 h r) = maxAt (fun k => val_main_v27 (F := Ideal) x0 x1 x2 x4 (ix3 h r k)) := by
  unfold val_main_v28 maxAt
  generalize val_main_v27 (F := Ideal) x0 x1 x2 x4 = q
  pointwise [val_main_cst_3]

/-- The lower bound `-∞` that the host takes in again changes nothing. -/
theorem max_apply (h : Fin 4) (r : Fin 8192) :
    val_main_v30 (F := Ideal) x0 x1 x2 x4 (ix2 h r) = maxAt (fun k => val_main_v27 (F := Ideal) x0 x1 x2 x4 (ix3 h r k)) := by
  rw [val_main_v30_apply, val_main_v29_apply, val_main_cst_4_apply, fold_apply]
  exact max_maxAt _

/-- The exponentials of the scores less the row's greatest. -/
theorem exp_apply (h : Fin 4) (r : Fin 8192) (k : Fin 256) :
    val_main_v34 (F := Ideal) x0 x1 x2 x4 (ix3 h r k) = Ideal.exp (val_main_v27 (F := Ideal) x0 x1 x2 x4 (ix3 h r k) - val_main_v30 (F := Ideal) x0 x1 x2 x4 (ix2 h r)) := by
  unfold val_main_v34 val_main_v33 val_main_v32 val_main_v31
  generalize val_main_v27 (F := Ideal) x0 x1 x2 x4 = q
  generalize val_main_v30 (F := Ideal) x0 x1 x2 x4 = z
  pointwise

/-- The weights of the softmax, over the exponentials. -/
theorem quot_apply (h : Fin 4) (r : Fin 8192) (k : Fin 256) :
    val_main_v38 (F := Ideal) x0 x1 x2 x4 (ix3 h r k) = Ideal.div (val_main_v34 (F := Ideal) x0 x1 x2 x4 (ix3 h r k)) (∑ j : Fin 256, val_main_v34 (F := Ideal) x0 x1 x2 x4 (ix3 h r j)) := by
  unfold val_main_v38 val_main_v37 val_main_v36 val_main_v35
  generalize val_main_v34 (F := Ideal) x0 x1 x2 x4 = e
  pointwise [val_main_cst_5]

/-- The weights of the softmax. -/
theorem prob_apply (h : Fin 4) (r : Fin 8192) (k : Fin 256) :
    val_main_v38 (F := Ideal) x0 x1 x2 x4 (ix3 h r k) = probAt (fun k => val_main_v27 (F := Ideal) x0 x1 x2 x4 (ix3 h r k)) k := by
  simp only [quot_apply, exp_apply, max_apply, probAt]

/-- The heads' outputs, side by side. -/
theorem o_apply (r : Fin 8192) (k : Fin 512) :
    val_main_v41 (F := Ideal) x0 x1 x2 x4 x5 (ix2 r k) = ∑ j : Fin 256, val_main_v38 (F := Ideal) x0 x1 x2 x4 (ix3 (headOf k) r j) * x5 (ix2 j k) := by
  unfold val_main_v41 val_main_v40 val_main_v39 headOf
  generalize val_main_v38 (F := Ideal) x0 x1 x2 x4 = q
  pointwise! [val_main_v22]

/-- The output projection. -/
theorem f_apply (r : Fin 8192) (k : Fin 2048) :
    val_main_v42 (F := Ideal) x0 x1 x2 x3 x4 x5 (ix2 r k) = rowMul (fun j => val_main_v41 (F := Ideal) x0 x1 x2 x4 x5 (ix2 r j)) (fun j k => x3 (ix3 0 j k)) k := by
  unfold val_main_v42 rowMul
  generalize val_main_v41 (F := Ideal) x0 x1 x2 x4 x5 = q
  pointwise [val_main_v20, val_main_v19]

/-- The result: the residual plus the normed projection. -/
theorem out_apply (r : Fin 8192) (k : Fin 2048) :
    val_main_v58 (F := Ideal) x0 x1 x2 x3 x4 x5 (ix2 r k) = x0 (ix2 r k) + rmsAt (fun j => val_main_v42 (F := Ideal) x0 x1 x2 x3 x4 x5 (ix2 r j)) (fun j => x1 (ix3 0 3 j)) k := by
  unfold val_main_v58 val_main_v57 val_main_v54 val_main_v53 val_main_v52 val_main_v51 val_main_v49 val_main_v47 val_main_v46 val_main_v45 rmsAt
  generalize val_main_v42 (F := Ideal) x0 x1 x2 x3 x4 x5 = q
  pointwise [val_main_v56, val_main_v55, val_main_v50, val_main_v48, val_main_v44, val_main_v43, val_main_v1, val_main_v0, val_main_cst_6, val_main_cst_7, val_main_cst_8]

/-- Row `r` of the queries. -/
def qRow (y g : Fin 2048 → EReal) (wq : Fin 2048 → Fin 512 → EReal) : Fin 512 → EReal := rowMul (rmsAt y g) wq

/-- The heads' outputs of one row of queries, side by side. -/
def headsRow (q : Fin 512 → EReal) (mk mv : Fin 256 → Fin 512 → EReal) (k : Fin 512) : EReal :=
  ∑ j : Fin 256, probAt (fun i => scoreAt (fun d => q (lane (headOf k) d)) (fun d => mk i (lane (headOf k) d))) j * mv j k

/-- One row of the layer. -/
def layerRow (y g2 g3 : Fin 2048 → EReal) (wq : Fin 2048 → Fin 512 → EReal) (wo : Fin 512 → Fin 2048 → EReal)
    (mk mv : Fin 256 → Fin 512 → EReal) (k : Fin 2048) : EReal :=
  y k + rmsAt (rowMul (headsRow (qRow y g2 wq) mk mv) wo) g3 k

/-- The reference at row `r` and column `k`. -/
theorem ref_apply (r : Fin 8192) (k : Fin 2048) :
    val_main_v58 (F := Ideal) x0 x1 x2 x3 x4 x5 (ix2 r k) =
      layerRow (fun j => x0 (ix2 r j)) (fun j => x1 (ix3 0 2 j)) (fun j => x1 (ix3 0 3 j)) (fun j k => x2 (ix3 0 j k))
        (fun j k => x3 (ix3 0 j k)) (fun j k => x4 (ix2 j k)) (fun j k => x5 (ix2 j k)) k := by
  simp only [out_apply, f_apply, o_apply, prob_apply, score_apply, q_apply, layerRow]
  rfl

end Cert.Cross
end
-- ==== Proof.CrossKernel.lean ====
/- The cross attention: what one grid point of the kernel writes, row by row and head by head. -/
module
public import proofs.«01_k».proof.Defs
public import proofs.«01_k».proof.Proof.CrossRef
public import proofs.«01_k».proof.Proof.Gen.Kernel2Ideal.Value
@[expose] public section
set_option maxRecDepth 16384
noncomputable section
namespace Cert.Cross
open Idealize.ShloMosaic Idealize.ShloMosaic.TcCoe Cert.Kernel2Ideal Cert.Kernel2Ideal.Gen

/-- The queries of a block of rows. -/
theorem pay3_apply (v3 : Vec Ideal S512x2048 .f32) (v4 : Vec Ideal S1x1x2048 .f32) (v19 : Vec Ideal S2048x512 .bf16) (r k : Fin 512) :
    k0_pay3 v3 v4 v19 (ix2 r k) = qRow (fun j => v3 (ix2 r j)) (fun j => v4 (ix3 0 0 j)) (fun j k => v19 (ix2 j k)) k := by
  unfold qRow rowMul rmsAt
  pointwise [k0_pay3]

theorem pay5_apply (v36 : FVec Ideal S512x256 .f32) (v37 : Vec Ideal S256x128 .f32) (r : Fin 512) (d : Fin 128) :
    k0_pay5 v36 v37 (ix2 r d) = ∑ j : Fin 256, v36 (ix2 r j) * v37 (ix2 j d) := by
  pointwise [k0_pay5]

theorem pay4_apply (v3 : Vec Ideal S512x2048 .f32) (v4 : Vec Ideal S1x1x2048 .f32) (v19 : Vec Ideal S2048x512 .bf16) (v22 : Vec Ideal S256x128 .f32) (r : Fin 512) (j : Fin 256) :
    k0_pay4 v3 v4 v19 v22 (ix2 r j) = probAt (fun i => scoreAt (fun d => k0_pay3 v3 v4 v19 (ix2 r (lane 0 d))) (fun d => v22 (ix2 i d))) j := by
  unfold k0_pay4 probAt maxAt scoreAt lane
  generalize k0_pay3 v3 v4 v19 = q
  pointwise

theorem pay6_apply (v20 : FVec Ideal S512x512 .f32) (v42 v57 : Vec Ideal S256x128 .f32) (r : Fin 512) (d : Fin 128) :
    k0_pay6 v20 v42 v57 (ix2 r d) = ∑ j : Fin 256, probAt (fun i => scoreAt (fun d => v20 (ix2 r (lane 1 d))) (fun d => v42 (ix2 i d))) j * v57 (ix2 j d) := by
  unfold k0_pay6 probAt maxAt scoreAt lane
  pointwise

theorem pay7_apply (v20 : FVec Ideal S512x512 .f32) (v62 : Vec Ideal S256x128 .f32) (r : Fin 512) (j : Fin 256) :
    k0_pay7 v20 v62 (ix2 r j) = probAt (fun i => scoreAt (fun d => v20 (ix2 r (lane 2 d))) (fun d => v62 (ix2 i d))) j := by
  unfold k0_pay7 probAt maxAt scoreAt lane
  pointwise

/-- The third head's output, from its weights. -/
def head2 (v77 : Vec Ideal S256x128 .f32) (v78 : FVec Ideal S512x256 .bf16) : FVec Ideal S512x128 .f32 :=
  matmul dot_S512x256_S256x128_S512x128_1_0_0_1_n_n none v78 (truncf .bf16 v77 bitsLt_bf16_f32) (constant S512x128 .f32 0x00000000#32)

/-- The fourth head's scores. -/
def score3 (v20 : FVec Ideal S512x512 .f32) (v82 : Vec Ideal S256x128 .f32) : FVec Ideal S512x256 .f32 :=
  mulf (matmul dot_S512x128_S256x128_S512x256_1_1_0_0_n_n none (truncf .bf16 (extractStridedSlice S512x128 ![0, 384] v20 slices_S512x512_o0_384_S512x128) bitsLt_bf16_f32)
    (truncf .bf16 v82 bitsLt_bf16_f32) (constant S512x256 .f32 0x00000000#32)) (broadcast S512x256 (Scalar.ofBits (F := Ideal) .f32 0x3DB504F3#32))

/-- The exponentials of a block of scores less each row's greatest. -/
def expOf (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- A block of exponentials over each row's sum. -/
def quotOf (e : FVec Ideal S512x256 .f32) : FVec Ideal S512x256 .f32 :=
  divf e (broadcastTo S512x256 (shapeCast S512x1 (multiReduction .add [1] S512 e 0x00000000#32 reduces_S512x256_S512 (.inl rfl) rfl) shapeCasts_S512_S512x1) broadcasts_S512x1_S512x256)

/-- The four heads' outputs side by side. -/
def cat (h0 h1 h2 h3 : FVec Ideal S512x128 .f32) : FVec Ideal S512x512 .f32 :=
  concatenate S512x512 1 [⟨S512x128, h0⟩, ⟨S512x128, h1⟩, ⟨S512x128, h2⟩, ⟨S512x128, h3⟩] concatenates_S512x128_S512x128_S512x128_S512x128_S512x512_d1

/-- The output projection of a block of rows. -/
def proj (o : FVec Ideal S512x512 .f32) (w : FVec Ideal S512x2048 .bf16) : FVec Ideal S512x2048 .f32 :=
  matmul dot_S512x512_S512x2048_S512x2048_1_0_0_1_n_n none (truncf .bf16 o bitsLt_bf16_f32) w (constant S512x2048 .f32 0x00000000#32)

/-- The block of rows plus its projection normed. -/
def post (y f : FVec Ideal S512x2048 .f32) (g : Vec Ideal S1x1x2048 .f32) : FVec Ideal S512x2048 .f32 :=
  addf y (mulf (mulf f (broadcastTo S512x2048 (rsqrt (addf (divf (shapeCast S512x1 (multiReduction .add [1] S512 (mulf f f) 0x00000000#32 reduces_S512x2048_S512 (.inl rfl) rfl) shapeCasts_S512_S512x1)
    (broadcast S512x1 (Scalar.ofBits (F := Ideal) .f32 0x45000000#32))) (broadcast S512x1 (Scalar.ofBits (F := Ideal) .f32 0x358637BD#32)))) broadcasts_S512x1_S512x2048))
    (broadcastTo S512x2048 (shapeCast S1x2048 g shapeCasts_S1x1x2048_S1x2048) broadcasts_S1x2048_S512x2048))

theorem pay8_eq (v3 : Vec Ideal S512x2048 .f32) (v20 : FVec Ideal S512x512 .f32) (v40 v60 : FVec Ideal S512x128 .f32) (v77 : Vec Ideal S256x128 .f32) (v78 : FVec Ideal S512x256 .bf16)
    (v82 v97 : Vec Ideal S256x128 .f32) (v103 : Vec Ideal S512x2048 .bf16) (v105 : Vec Ideal S1x1x2048 .f32) :
    k0_pay8 v3 v20 v40 v60 v77 v78 v82 v97 v103 v105 =
      post v3 (proj (cat v40 v60 (head2 v77 v78) (k0_pay5 (quotOf (expOf (score3 v20 v82))) v97)) v103) v105 := rfl

theorem head2_apply (v77 : Vec Ideal S256x128 .f32) (v78 : FVec Ideal S512x256 .bf16) (r : Fin 512) (d : Fin 128) :
    head2 v77 v78 (ix2 r d) = ∑ j : Fin 256, v78 (ix2 r j) * v77 (ix2 j d) := by
  pointwise [head2]

theorem score3_apply (v20 : FVec Ideal S512x512 .f32) (v82 : Vec Ideal S256x128 .f32) (r : Fin 512) (j : Fin 256) :
    score3 v20 v82 (ix2 r j) = scoreAt (fun d => v20 (ix2 r (lane 3 d))) (fun d => v82 (ix2 j d)) := by
  unfold scoreAt lane
  pointwise [score3]

theorem quot3_apply (s : FVec Ideal S512x256 .f32) (r : Fin 512) (j : Fin 256) :
    quotOf (expOf s) (ix2 r j) = probAt (fun i => s (ix2 r i)) j := by
  unfold probAt maxAt
  pointwise [quotOf, expOf]

theorem proj_apply (o : FVec Ideal S512x512 .f32) (w : FVec Ideal S512x2048 .bf16) (r : Fin 512) (k : Fin 2048) :
    proj o w (ix2 r k) = rowMul (fun j => o (ix2 r j)) (fun j k => w (ix2 j k)) k := by
  unfold rowMul
  pointwise [proj]

theorem post_apply (y f : FVec Ideal S512x2048 .f32) (g : Vec Ideal S1x1x2048 .f32) (r : Fin 512) (k : Fin 2048) :
    post y f g (ix2 r k) = y (ix2 r k) + rmsAt (fun j => f (ix2 r j)) (fun j => g (ix3 0 0 j)) k := by
  unfold rmsAt
  pointwise [post]

theorem cat_apply (h : Fin 4 → FVec Ideal S512x128 .f32) (r : Fin 512) (k : Fin 512) :
    cat (h 0) (h 1) (h 2) (h 3) (ix2 r k) = h (headOf k) (ix2 r ⟨k.val % 128, by omega⟩) := by
  have key : ∀ (a : Fin 4) (b : Fin 128), a.val * 128 + b.val = k.val → h a (ix2 r b) = h (headOf k) (ix2 r ⟨k.val % 128, by omega⟩) := by
    intro a b e
    have ha : a = headOf k := Fin.ext (by show a.val = k.val / 128; omega)
    have hb : b = ⟨k.val % 128, by omega⟩ := Fin.ext (by show b.val = k.val % 128; omega)
    rw [ha, hb]
  have hk := k.isLt
  unfold cat
  pointwise
  by_cases c0 : k.val < 128
  · rw [dif_pos c0]; exact key 0 _ (by show 0 * 128 + k.val = k.val; omega)
  rw [dif_neg c0]
  by_cases c1 : k.val - 128 < 128
  · rw [dif_pos c1]; exact key 1 _ (by show 1 * 128 + (k.val - 128) = k.val; omega)
  rw [dif_neg c1]
  by_cases c2 : k.val - 128 - 128 < 128
  · rw [dif_pos c2]; exact key 2 _ (by show 2 * 128 + (k.val - 128 - 128) = k.val; omega)
  rw [dif_neg c2]; exact key 3 _ (by show 3 * 128 + (k.val - 128 - 128 - 128) = k.val; omega)

/-- A block of the kernel's result at row `r` and column `k`: the layer's row, of the block's row, the gains, the weights
    and the keys and values, which each head takes from its own 128 columns. -/
theorem block_apply (y : Vec Ideal S512x2048 .f32) (g2 g3 : Vec Ideal S1x1x2048 .f32) (wq : Vec Ideal S2048x512 .bf16) (wo : Vec Ideal S512x2048 .bf16)
    (k0 k1 k2 k3 u0 u1 u2 u3 : Vec Ideal S256x128 .f32) (mk mv : Fin 256 → Fin 512 → EReal)
    (hk0 : ∀ j d, k0 (ix2 j d) = mk j (lane 0 d)) (hk1 : ∀ j d, k1 (ix2 j d) = mk j (lane 1 d)) (hk2 : ∀ j d, k2 (ix2 j d) = mk j (lane 2 d)) (hk3 : ∀ j d, k3 (ix2 j d) = mk j (lane 3 d))
    (hu0 : ∀ j d, u0 (ix2 j d) = mv j (lane 0 d)) (hu1 : ∀ j d, u1 (ix2 j d) = mv j (lane 1 d)) (hu2 : ∀ j d, u2 (ix2 j d) = mv j (lane 2 d)) (hu3 : ∀ j d, u3 (ix2 j d) = mv j (lane 3 d))
    (r : Fin 512) (k : Fin 2048) :
    k0_pay8 y (k0_pay3 y g2 wq) (k0_pay5 (k0_pay4 y g2 wq k0) u0) (k0_pay6 (k0_pay3 y g2 wq) k1 u1) u2 (k0_pay7 (k0_pay3 y g2 wq) k2) k3 u3 wo g3 (ix2 r k) =
      layerRow (fun j => y (ix2 r j)) (fun j => g2 (ix3 0 0 j)) (fun j => g3 (ix3 0 0 j)) (fun j k => wq (ix2 j k)) (fun j k => wo (ix2 j k)) mk mv k := by
  rw [pay8_eq, post_apply]
  unfold layerRow
  congr 2
  funext j
  rw [proj_apply]
  congr 1
  funext c
  let hs : Fin 4 → FVec Ideal S512x128 .f32 := ![k0_pay5 (k0_pay4 y g2 wq k0) u0, k0_pay6 (k0_pay3 y g2 wq) k1 u1, head2 u2 (k0_pay7 (k0_pay3 y g2 wq) k2), k0_pay5 (quotOf (expOf (score3 (k0_pay3 y g2 wq) k3))) u3]
  have all : ∀ (h : Fin 4) (d : Fin 128), hs h (ix2 r d) =
      ∑ j : Fin 256, probAt (fun i => scoreAt (fun d => qRow (fun j => y (ix2 r j)) (fun j => g2 (ix3 0 0 j)) (fun j k => wq (ix2 j k)) (lane h d)) (fun d => mk i (lane h d))) j * mv j (lane h d) := by
    intro h d
    fin_cases h
    · show k0_pay5 (k0_pay4 y g2 wq k0) u0 (ix2 r d) = _
      simp only [pay5_apply, pay4_apply, pay3_apply, hk0, hu0]; rfl
    · show k0_pay6 (k0_pay3 y g2 wq) k1 u1 (ix2 r d) = _
      simp only [pay6_apply, pay3_apply, hk1, hu1]; rfl
    · show head2 u2 (k0_pay7 (k0_pay3 y g2 wq) k2) (ix2 r d) = _
      simp only [head2_apply, pay7_apply, pay3_apply, hk2, hu2]; rfl
    · show k0_pay5 (quotOf (expOf (score3 (k0_pay3 y g2 wq) k3))) u3 (ix2 r d) = _
      simp only [pay5_apply, quot3_apply, score3_apply, pay3_apply, hk3, hu3]; rfl
  refine (cat_apply hs r c).trans ((all _ _).trans ?_)
  have hl : lane (headOf c) ⟨c.val % 128, by omega⟩ = c := Fin.ext (by show c.val / 128 * 128 + c.val % 128 = c.val; omega)
  unfold headsRow
  rw [hl]

end Cert.Cross
end
-- ==== Proof.Cross.lean ====
/- The cross attention: the kernel's array is the reference's. -/
module
public import proofs.«01_k».proof.Defs
public import proofs.«01_k».proof.Proof.CrossKernel
@[expose] public section
set_option maxRecDepth 16384
noncomputable section
namespace Cert.Cross
open Idealize.ShloMosaic Idealize.ShloMosaic.TcCoe Cert.Kernel2Ideal Cert.Kernel2Ideal.Gen

/-- The blocks of the windows at a grid point: the rows move with the point, the rest stays. -/
theorem idx : ∀ t : Fin cfg0.N, win0_0.index t = ![t.val, 0] ∧ win0_1.index t = ![0, 0, 0] ∧ win0_2.index t = ![0, 0, 0] ∧ win0_3.index t = ![0, 0]
    ∧ win0_4.index t = ![0, 0] ∧ win0_5.index t = ![0, 0, 0] ∧ win0_6.index t = ![t.val, 0] := by
  decide +kernel

variable (m : (ℓ : Loc nD τ sig) → Buf (Elt Ideal) ℓ) (c : Dev nD)

/-- The gains' row `2`, read off its block. -/
theorem read_g2 (t : Fin cfg0.N) (j : Fin 2048) :
    View.ld (iblk m c 1 t) (Rect.unit ![0, 2, 0] ![1, 1, 2048] inb_S1x6x2048_S1x1x2048_0_2_0) (ix3 0 0 j) = m ((c : Thread nD τ).loc main_arg1) (ix3 0 2 j) := by
  rw [View.ld_apply]; blk_ext [iblk, V, idx t] <;> (rw [Rect.idx_unit_val]; simp)

/-- The gains' row `3`, read off its block. -/
theorem read_g3 (t : Fin cfg0.N) (j : Fin 2048) :
    View.ld (iblk m c 1 t) (Rect.unit ![0, 3, 0] ![1, 1, 2048] inb_S1x6x2048_S1x1x2048_0_3_0) (ix3 0 0 j) = m ((c : Thread nD τ).loc main_arg1) (ix3 0 3 j) := by
  rw [View.ld_apply]; blk_ext [iblk, V, idx t] <;> (rw [Rect.idx_unit_val]; simp)

/-- The weights of the queries, as their block holds them. -/
theorem read_wq (t : Fin cfg0.N) (j : Fin 2048) (k : Fin 512) : k0_pay1 (iblk m c 2 t) (ix2 j k) = m ((c : Thread nD τ).loc main_arg2) (ix3 0 j k) := by
  pointwise [k0_pay1]
  blk_point [iblk, V, idx t]

/-- The weights of the output, as their block holds them. -/
theorem read_wo (t : Fin cfg0.N) (j : Fin 512) (k : Fin 2048) : k0_pay2 (iblk m c 5 t) (ix2 j k) = m ((c : Thread nD τ).loc main_arg3) (ix3 0 j k) := by
  pointwise [k0_pay2]
  blk_point [iblk, V, idx t]

/-- A head's 128 columns of the keys, read off their block. -/
theorem read_k (t : Fin cfg0.N) (h : Fin 4) (o : ℕ) (ho : o = h.val * 128) (hb : ∀ a, (![0, o] : Fin 2 → ℕ) a + (![256, 128] : Fin 2 → ℕ) a ≤ S256x512.size a) (j : Fin 256) (d : Fin 128) :
    View.ld (iblk m c 3 t) (Rect.unit ![0, o] ![256, 128] hb) (ix2 j d) = m ((c : Thread nD τ).loc main_arg4) (ix2 j (lane h d)) := by
  rw [View.ld_apply]; unfold lane; blk_ext [iblk, V, idx t] <;> (rw [Rect.idx_unit_val]; simp [ho])

/-- A head's 128 columns of the values, read off their block. -/
theorem read_v (t : Fin cfg0.N) (h : Fin 4) (o : ℕ) (ho : o = h.val * 128) (hb : ∀ a, (![0, o] : Fin 2 → ℕ) a + (![256, 128] : Fin 2 → ℕ) a ≤ S256x512.size a) (j : Fin 256) (d : Fin 128) :
    View.ld (iblk m c 4 t) (Rect.unit ![0, o] ![256, 128] hb) (ix2 j d) = m ((c : Thread nD τ).loc main_arg5) (ix2 j (lane h d)) := by
  rw [View.ld_apply]; unfold lane; blk_ext [iblk, V, idx t] <;> (rw [Rect.idx_unit_val]; simp [ho])

/-- The scratch of the queries' weights, filled at the first point, holds them at every point. -/
theorem held_q : ∀ (n : ℕ) (hn : n < cfg0.N) (j : Fin 2048) (k : Fin 512), (outsAt0 m c n hn).2.1 (ix2 j k) = m ((c : Thread nD τ).loc main_arg2) (ix3 0 j k) := by
  intro n
  induction n with
  | zero =>
    intro hn j k
    rw [outsAt0_A m c ⟨0, hn⟩ (Nat.zero_mod _)]
    frame_out
    exact read_wq m c _ j k
  | succ n ih =>
    intro hn j k
    by_cases h0 : (n + 1) % 16 = 0
    · rw [outsAt0_A m c ⟨n + 1, hn⟩ h0]
      frame_out
      exact read_wq m c _ j k
    · have e := ih (Nat.lt_of_succ_lt hn) j k
      rw [Value.outsAt0_succ]
      generalize outsAt0 m c n (Nat.lt_of_succ_lt hn) = acc at e ⊢
      rw [Value.stAt0_B m c ⟨n + 1, hn⟩ acc h0]
      exact e

/-- The scratch of the output's weights likewise. -/
theorem held_o : ∀ (n : ℕ) (hn : n < cfg0.N) (j : Fin 512) (k : Fin 2048), (outsAt0 m c n hn).2.2 (ix2 j k) = m ((c : Thread nD τ).loc main_arg3) (ix3 0 j k) := by
  intro n
  induction n with
  | zero =>
    intro hn j k
    rw [outsAt0_A m c ⟨0, hn⟩ (Nat.zero_mod _)]
    frame_out
    exact read_wo m c _ j k
  | succ n ih =>
    intro hn j k
    by_cases h0 : (n + 1) % 16 = 0
    · rw [outsAt0_A m c ⟨n + 1, hn⟩ h0]
      frame_out
      exact read_wo m c _ j k
    · have e := ih (Nat.lt_of_succ_lt hn) j k
      rw [Value.outsAt0_succ]
      generalize outsAt0 m c n (Nat.lt_of_succ_lt hn) = acc at e ⊢
      rw [Value.stAt0_B m c ⟨n + 1, hn⟩ acc h0]
      exact e

/-- The kernel's array after the run is the reference's. -/
theorem out_eq :
    (dats (F := Ideal) m 0 c).arrAt 6 cfg0.N = Cert.Reference2Ideal.Read.val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  have hN : t.val < 16 := t.isLt
  have hi : ((View.whole main_v2).slice (win0_6.rect t)).emb (ix2 y0 y1) = ix2 (⟨t.val * 512 + y0.val, by omega⟩ : Fin 8192) y1 := by
    blk_ext [idx t]
  rw [hi, ref_apply]
  by_cases h0 : t.val % 16 = 0
  · rw [outsAt0_A m c t h0]
    frame_open
    simp (disch := decide) only [↓ View.readCov_skip, ↓ View.readCov_cons_toLoadRect, ↓ View.readCov_fill]
    frame_out
    refine (block_apply _ _ _ _ _ _ _ _ _ _ _ _ _ (fun j k => m ((c : Thread nD τ).loc main_arg4) (ix2 j k)) (fun j k => m ((c : Thread nD τ).loc main_arg5) (ix2 j k))
      (read_k m c t 0 _ rfl _) (read_k m c t 1 _ rfl _) (read_k m c t 2 _ rfl _) (read_k m c t 3 _ rfl _)
      (read_v m c t 0 _ rfl _) (read_v m c t 1 _ rfl _) (read_v m c t 2 _ rfl _) (read_v m c t 3 _ rfl _) y0 y1).trans ?_
    simp only [read_g2, read_g3, read_wq, read_wo]
    congr 1
    funext j
    blk_ext [iblk, V, idx t]
  · rw [outsAt0_B m c t h0]
    frame_out
    simp only [read_unread_whole]
    refine (block_apply _ _ _ _ _ _ _ _ _ _ _ _ _ (fun j k => m ((c : Thread nD τ).loc main_arg4) (ix2 j k)) (fun j k => m ((c : Thread nD τ).loc main_arg5) (ix2 j k))
      (read_k m c t 0 _ rfl _) (read_k m c t 1 _ rfl _) (read_k m c t 2 _ rfl _) (read_k m c t 3 _ rfl _)
      (read_v m c t 0 _ rfl _) (read_v m c t 1 _ rfl _) (read_v m c t 2 _ rfl _) (read_v m c t 3 _ rfl _) y0 y1).trans ?_
    simp only [read_g2, read_g3, held_q, held_o]
    congr 1
    funext j
    blk_ext [iblk, V, idx t]

/-- Kernel and reference compute the same array over the extended reals. -/
theorem algebraic [hK : Cert.Kernel2Ideal.Facts] [hR : Cert.Reference2Ideal.Facts] : Cert.algebraic_Kernel2Ideal_Reference2Ideal := by
  intro m g m' g' _ hagree
  refine ⟨fun c => Cert.Reference2Ideal.Read.val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)), ?_, ?_⟩
  · exact (θ_run _ _ _).mono (fun r h c => ⟨(h c).1.trans (out_eq m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨h0, h1, h2, h3, h4, h5⟩ := hagree c
    refine (Cert.Reference2Ideal.Read.val_main_v58_eq m' c).trans ?_
    rw [h0, h1, h2, h3, h4, h5]

/-- The reference ends without fault, its arguments unchanged, every counter at zero. -/
theorem frame_ref : Cert.quiescent_Reference2Ideal := fun m g _ =>
  (θ_run _ _ _).mono (fun r h => ⟨fun c => (h c).2, sem_eq_zero_of_no_sems (by decide) r.2⟩)
    (Cert.Reference2Ideal.Value.run (F := Ideal) m g)

end Cert.Cross
end
-- ==== Proof.MemKeys.lean ====
/- The keys of the memory (a norm, then one product): the kernel's result is the reference's, element by element. -/
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Kernel3Ideal.MemKeys
open Idealize.ShloMosaic Idealize.ShloMosaic.TcCoe Cert.Kernel3Ideal Cert.Kernel3Ideal.Gen

open Cert.Reference3Ideal.Read in
/-- The reference's array, of its three arguments. -/
abbrev ref (x0 : (⟨S1x256x2048, .f32⟩ : BufTy).Contents (Elt Ideal)) (x1 : (⟨S2x2048, .f32⟩ : BufTy).Contents (Elt Ideal)) (x2 : (⟨S2x2048x512, .f32⟩ : BufTy).Contents (Elt Ideal)) :
   (⟨S256x512, .f32⟩ : BufTy).Contents (Elt Ideal) := val_main_v18 (F := Ideal) x0 x1 x2

open Cert.Reference3Ideal.Read in
/-- The reference at row `r` and column `k`: the normed row against column `k` of the weights. -/
theorem ref_apply (x0 : (⟨S1x256x2048, .f32⟩ : BufTy).Contents (Elt Ideal)) (x1) (x2)  (r : Fin 256) (k : Fin 512) :
    ref x0 x1 x2 (ix2 r k) = ∑ x : Fin 2048, x0 (ix3 0 r x) * Ideal.rsqrt (Ideal.div (∑ j : Fin 2048, x0 (ix3 0 r j) * x0 (ix3 0 r j)) (Ideal.ofBits .f32 1157627904#32) + Ideal.ofBits .f32 897988541#32) * x1 (ix2 0 x) * x2 (ix3 0 x k) := by
  pointwise [ref, val_main_v18, val_main_v17, val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1]

/-- The one grid point's blocks are the arrays' first. -/
theorem idx3 : ∀ t : Fin cfg0.N, win0_0.index t = ![0, 0] ∧ win0_1.index t = ![0, 0, 0] ∧ win0_2.index t = ![0, 0, 0] ∧ win0_3.index t = ![0, 0] := by
  decide +kernel

/-- The kernel's array after the run is the reference's. -/
theorem out_eq (m : (ℓ : Loc nD τ sig) → Buf (Elt Ideal) ℓ) (c : Dev nD) :
    (dats (F := Ideal) m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  idx_vars y
  have hi : ((View.whole main_v2).slice (win0_3.rect t)).emb (ix2 y0 y1) = ix2 y0 y1 := by
    blk_ext [idx3 t]
  rw [hi, ref_apply]
  pointwise [k0_pay1, k0_pay2]
  blk_point [iblk, V, idx3 t]
/-- Kernel and reference compute the same array over the extended reals. -/
theorem algebraic [hK : Cert.Kernel3Ideal.Facts] [hR : Cert.Reference3Ideal.Facts] :
    Cert.algebraic_Kernel3Ideal_Reference3Ideal := by
  intro m g m' g' _ hagree
  refine ⟨fun c => ref (m ((c : Thread nD τ).loc main_arg0)) (m ((c : Thread nD τ).loc main_arg1)) (m ((c : Thread nD τ).loc main_arg2)), ?_, ?_⟩
  · exact (θ_run _ _ _).mono (fun r h c => ⟨(h c).1.trans (out_eq m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    have h0 := (hagree c).1; have h1 := (hagree c).2.1; have h2 := (hagree c).2.2
    rw [h0, h1, h2]; rfl

/-- The reference ends without fault, its arguments unchanged, every counter at zero. -/
theorem frame_ref : Cert.quiescent_Reference3Ideal := fun m g _ =>
  (θ_run _ _ _).mono (fun r h => ⟨fun c => (h c).2, sem_eq_zero_of_no_sems (by decide) r.2⟩)
    (Cert.Reference3Ideal.Value.run (F := Ideal) m g)

end Cert.Kernel3Ideal.MemKeys
end
-- ==== Proof.DownRun.lean ====
/- The down-projection: the body of the kernel, run at one grid point. -/
module
public import proofs.«01_k».proof.Defs
public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.Down
open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The row of gains the last point loads: row 5. -/
abbrev gainRow (x2 : Vec F S1x6x2048 .f32) : Vec F S1x1x2048 .f32 :=
  View.ld x2 (Rect.unit (s := S1x6x2048) ![0, 5, 0] S1x1x2048.size inb_S1x6x2048_S1x1x2048_0_5_0)

/-- The output's buffer after a product is stored at column `o`: the product there, `d` elsewhere. -/
abbrev upd (d : Vec F S512x2048 .f32) (o : ℕ) (p : Vec F S512x512 .f32) : Vec F S512x2048 .f32 :=
  VecWindow.put (s := S512x2048) d ![0, o] S512x512.size p

local notation "𝕄" => MT nD τ sig Unit (Elt F) ℕ (UR sig nD τ) ℕ

/-- The body's first branch: the point is the first of its rows. -/
abbrev isFirst (i : grid0.Coords) : Prop := (Scalar.cmpi .ne (Scalar.extui (Scalar.cmpi .eq (BitVec.ofNat 32 (i 1).val) 0#32)) 0#32) = 1#1
/-- The body's second branch: the point is the last of its rows. -/
abbrev isLast (i : grid0.Coords) : Prop := (Scalar.cmpi .ne (Scalar.extui (Scalar.cmpi .eq (BitVec.ofNat 32 (i 1).val) 3#32)) 0#32) = 1#1

theorem isFirst_iff : ∀ t : Fin cfg0.N, isFirst (grid0.coords t) ↔ t.val % 4 = 0 := by decide +kernel
theorem isLast_iff : ∀ t : Fin cfg0.N, isLast (grid0.coords t) ↔ t.val % 4 = 3 := by decide +kernel
theorem off_eq : ∀ t : Fin cfg0.N, k0_off1 (grid0.coords t) = ![0, 512 * (t.val % 4)] := by decide +kernel

set_option maxHeartbeats 1000000 in
/-- At the first point of a stretch of rows the body copies the rows to the scratch and stores their product with the first slab of weights. -/
theorem run_first (c : Dev nD) (i : grid0.Coords) (arg2 : Memref sig .tc .vmem S512x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x5504 .bf16) (harg7 : arg7.IsWhole)
    (hc0 : isFirst i) (hc1 : ¬isLast i) (o : ℕ) (ho : k0_off1 i = ![0, o])
    (x0 : Vec F S512x5504 .bf16) (x1 : Vec F S1x5504x512 .bf16) (x2 : Vec F S1x6x2048 .f32) (x3 d : Vec F S512x2048 .f32) (s : Vec F S512x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (upd d o (k0_pay2 (k0_pay1 x0) x1)) ∗ owns (c : Thread nD τ) arg7 fullShare (k0_pay1 x0)) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_cons_put _ _ _ _ _ ho, View.writes_nil, harg6.read_unread]
    unfold run_first.sl.v5 run_first.sl.HS0_1
    rw [View.readCov_full, View.readAt_full, View.readAt_full, harg2.read_unread, harg3.read_unread]
  iexists _; isplitr; swap; · iexact HS0
  ipureintro
  unfold run_first.sl.HS0_1
  rw [View.read_writes_full, View.readAt_full, harg2.read_unread]

set_option maxHeartbeats 1000000 in
/-- At a point between the body stores the product of the scratch with its slab of weights. -/
theorem run_mid (c : Dev nD) (i : grid0.Coords) (arg2 : Memref sig .tc .vmem S512x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x5504 .bf16) (harg7 : arg7.IsWhole)
    (hc0 : ¬isFirst i) (hc1 : ¬isLast i) (o : ℕ) (ho : k0_off1 i = ![0, o])
    (x0 : Vec F S512x5504 .bf16) (x1 : Vec F S1x5504x512 .bf16) (x2 : Vec F S1x6x2048 .f32) (x3 d : Vec F S512x2048 .f32) (s : Vec F S512x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (upd d o (k0_pay2 s x1)) ∗ owns (c : Thread nD τ) arg7 fullShare s) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_cons_put _ _ _ _ _ ho, View.writes_nil, harg6.read_unread, View.readAt_full, View.readAt_full, harg7.read_unread, harg3.read_unread]
  iexists _; isplitr; swap; · iexact HS0
  ipureintro
  exact harg7.read_unread _

set_option maxHeartbeats 1000000 in
/-- At the last point of a stretch of rows the body stores the last product, then replaces the buffer by the normed and added rows. -/
theorem run_last (c : Dev nD) (i : grid0.Coords) (arg2 : Memref sig .tc .vmem S512x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x5504 .bf16) (harg7 : arg7.IsWhole)
    (hc0 : ¬isFirst i) (hc1 : isLast i) (o : ℕ) (ho : k0_off1 i = ![0, o])
    (x0 : Vec F S512x5504 .bf16) (x1 : Vec F S1x5504x512 .bf16) (x2 : Vec F S1x6x2048 .f32) (x3 d : Vec F S512x2048 .f32) (s : Vec F S512x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 (upd d o (k0_pay2 s x1)) (gainRow x2)) ∗ owns (c : Thread nD τ) arg7 fullShare s) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold run_last.sl.H4_1
    rw [View.read_writes_full, View.readAt_full, View.readAt_full, View.read_writes_cons_put _ _ _ _ _ ho, View.writes_nil, harg6.read_unread, View.readAt_full, View.readAt_full, harg7.read_unread, harg3.read_unread, harg5.read_unread, View.readAt_eq_ld, harg4.read_unread]
  iexists _; isplitr; swap; · iexact HS0
  ipureintro
  exact harg7.read_unread _

end Cert.Down
end
-- ==== Proof.DownData.lean ====
/- The down-projection: what the kernel keeps from point to point, its launch and both frames. -/
module
public import proofs.«01_k».proof.Proof.DownRun
@[expose] public section
set_option maxRecDepth 16384
noncomputable section
namespace Cert.Down
open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ
variable (m : (ℓ : Loc nD τ sig) → Buf (Elt F) ℓ) (ρ : Dev nD → PrngReg)

theorem N_eq : cfg0.N = 64 := N_0
theorem lt64 (t : Fin cfg0.N) : t.val < 64 := lt_of_lt_of_eq t.isLt N_eq

/-- The first point of the stretch of four that point `n` lies in: the four share their rows. -/
def rowOf (n : ℕ) : Fin cfg0.N := ⟨n / 4 * 4 % 64, by rw [N_eq]; omega⟩
/-- The point of that stretch which computes column `k`. -/
def colOf (n k : ℕ) : Fin cfg0.N := ⟨(n / 4 * 4 + k / 512) % 64, by rw [N_eq]; omega⟩

/-- The product of the rows of point `n`'s stretch with all the weights. -/
def G (c : Dev nD) (n : ℕ) : Vec F S512x2048 .f32 := fun y =>
  k0_pay2 (k0_pay1 (X0_0 m c (rowOf n))) (iblk m c 1 (colOf n (y 1).val)) (ix2 (y 0) ⟨(y 1).val % 512, Nat.mod_lt _ (by decide)⟩)

/-- The columns stored up to point `n` of its stretch hold the product. -/
def Part (c : Dev nD) (n : ℕ) (X : Vec F S512x2048 .f32) : Prop := ∀ y, (y 1).val < 512 * (n % 4 + 1) → X y = G m c n y

theorem rowOf_first (t : Fin cfg0.N) (h : t.val % 4 = 0) : rowOf t.val = t := Fin.ext (by
  have := lt64 t; show t.val / 4 * 4 % 64 = t.val; omega)

theorem rowOf_succ (n : ℕ) (h : n % 4 ≠ 3) : rowOf (n + 1) = rowOf n := Fin.ext (by
  show (n + 1) / 4 * 4 % 64 = n / 4 * 4 % 64; omega)

theorem G_pred (c : Dev nD) (n : ℕ) (h : n % 4 ≠ 0) : G m c (n - 1) = G m c n := by
  have hr : rowOf (n - 1) = rowOf n := Fin.ext (by show (n - 1) / 4 * 4 % 64 = n / 4 * 4 % 64; omega)
  have hc : ∀ k, colOf (n - 1) k = colOf n k := fun k => Fin.ext (by
    show ((n - 1) / 4 * 4 + k / 512) % 64 = (n / 4 * 4 + k / 512) % 64
    rw [show (n - 1) / 4 = n / 4 by omega])
  funext y; unfold G; rw [hr, hc]

/-- One more slab of columns. -/
theorem part_upd (c : Dev nD) (t : Fin cfg0.N) (d : Vec F S512x2048 .f32) (hd : ∀ y, (y 1).val < 512 * (t.val % 4) → d y = G m c t.val y) :
    Part m c t.val (upd d (512 * (t.val % 4)) (k0_pay2 (k0_pay1 (X0_0 m c (rowOf t.val))) (iblk m c 1 t))) := fun y hy => by
  have hN := lt64 t
  have hy0 : (y 0).val < 512 := (y 0).isLt
  unfold upd VecWindow.put
  by_cases hk : 512 * (t.val % 4) ≤ (y 1).val
  · have hm : ∀ a : Fin S512x2048.rank, (![0, 512 * (t.val % 4)] : Fin 2 → ℕ) a ≤ (y a).val ∧ (y a).val < (![0, 512 * (t.val % 4)] : Fin 2 → ℕ) a + S512x512.size a := by
      intro a; match a with
      | 0 => exact ⟨Nat.zero_le _, by show (y 0).val < 0 + 512; omega⟩
      | 1 => exact ⟨hk, by show (y 1).val < 512 * (t.val % 4) + 512; omega⟩
    rw [dif_pos hm]
    unfold G
    have hc : colOf t.val (y 1).val = t := Fin.ext (by show (t.val / 4 * 4 + (y 1).val / 512) % 64 = t.val; omega)
    rw [hc]
    congr 1
    funext a; match a with
    | 0 => exact Fin.ext (by show (y 0).val - 0 = (y 0).val; omega)
    | 1 => exact Fin.ext (by show (y 1).val - 512 * (t.val % 4) = (y 1).val % 512; omega)
  · rw [dif_neg (fun h => hk (h 1).1)]
    exact hd y (by omega)

theorem part_first (c : Dev nD) (t : Fin cfg0.N) (h : t.val % 4 = 0) (d : Vec F S512x2048 .f32) :
    Part m c t.val (upd d (512 * (t.val % 4)) (k0_pay2 (k0_pay1 (X0_0 m c (rowOf t.val))) (iblk m c 1 t))) :=
  part_upd m c t d fun y hy => absurd hy (by omega)

theorem part_next (c : Dev nD) (t : Fin cfg0.N) (h : t.val % 4 ≠ 0) (d : Vec F S512x2048 .f32) (hd : Part m c (t.val - 1) d) :
    Part m c t.val (upd d (512 * (t.val % 4)) (k0_pay2 (k0_pay1 (X0_0 m c (rowOf t.val))) (iblk m c 1 t))) :=
  part_upd m c t d fun y hy => by rw [hd y (by omega), G_pred m c t.val h]

theorem part_last (c : Dev nD) (n : ℕ) (h : n % 4 = 3) (X : Vec F S512x2048 .f32) (hX : Part m c n X) : X = G m c n :=
  funext fun y => hX y (by have : (y 1).val < 2048 := (y 1).isLt; omega)

/-- What the body leaves in the output's buffer: at the last point of a stretch the finished rows, before it the columns so far. -/
def left (c : Dev nD) (t : Fin cfg0.N) (X : Vec F S512x2048 .f32) : Prop :=
  if t.val % 4 = 3 then X = k0_pay3 (iblk m c 3 t) (G m c t.val) (gainRow (iblk m c 2 t)) else Part m c t.val X

/-- The output window alone is held to a predicate. -/
def marked : Fin cfg0.W → Bool := ![false, false, false, false, true]

def Rl (c : Dev nD) : (w : Fin cfg0.W) → Fin cfg0.N → ((cfg0.win w).block.Idx → Elt F (cfg0.win w).elt) → Prop
  | ⟨4, _⟩ => fun t X => left m c t X
  | _ => fun _ _ => True

/-- The scratch buffer that keeps the rows. -/
abbrev scM0_0 : Memref sig .tc .vmem S512x5504 .bf16 := Memref.whole cc0_scratch0

/-- Between points: inside a stretch the scratch holds the stretch's rows. -/
def Phi (c : Dev nD) (n : ℕ) : sProp 𝕄 :=
  iprop((∃ d, ⌜n % 4 ≠ 0 → d = k0_pay1 (X0_0 m c (rowOf n))⌝ ∗ owns (c : Thread nD τ) scM0_0 fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem before0 (c : Dev nD) (t : Fin cfg0.N) (d) : (dats m 0 c).before 0 t d = X0_0 m c t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The relational proof data: the exact data, the output held to `left`. -/
abbrev rdat (c : Dev nD) := (dats m 0 c).toRRel marked (Rl m c)

/-- What the output's buffer may hold at a point inside a stretch: what the point before left. -/
theorem found (c : Dev nD) (t : Fin cfg0.N) (h : t.val % 4 ≠ 0) (Y : Vec F S512x2048 .f32) (hY : (rdat m c).Finds 4 t Y) : Part m c (t.val - 1) Y := by
  have hp : t.val - 1 < cfg0.N := Nat.lt_of_le_of_lt (Nat.sub_le _ _) t.isLt
  rcases ((rdat m c).finds_of_pos (w := 4) (t := t) rfl (by omega) Y).mp hY with hf | hl
  · have := (flush0_4 ⟨t.val - 1, hp⟩).mp hf
    exact absurd this (by show ¬ (t.val - 1) % 4 = 3; omega)
  · have := (dats m 0 c).toRRel_leaves (fgt := marked) (Rl := Rl m c) (w := 4) rfl hl
    have h2 : left m c ⟨t.val - 1, hp⟩ Y := this
    unfold left at h2
    rwa [if_neg (by show ¬ (t.val - 1) % 4 = 3; omega)] at h2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X))

theorem Rl_last (c : Dev nD) (t : Fin cfg0.N) (h : t.val % 4 = 3) (d : Vec F S512x2048 .f32) (hd : Part m c (t.val - 1) d) :
    Rl m c 4 t (k0_pay3 (iblk m c 3 t) (upd d (512 * (t.val % 4)) (k0_pay2 (k0_pay1 (X0_0 m c (rowOf t.val))) (iblk m c 1 t))) (gainRow (iblk m c 2 t))) := by
  show left m c t _
  unfold left; rw [if_pos h, part_last m c t.val h _ (part_next m c t (by omega) d hd)]

theorem Rl_part (c : Dev nD) (t : Fin cfg0.N) (h : t.val % 4 ≠ 3) (X : Vec F S512x2048 .f32) (hX : Part m c t.val X) : Rl m c 4 t X := by
  show left m c t _
  unfold left; rwa [if_neg h]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.castSucc = Phi m c t.val from rfl, show (dats m 0 c).Φ t.succ = Phi m c (t.val + 1) from rfl]
  unfold Phi
  by_cases h0 : t.val % 4 = 0
  · iintro ⟨⟨⟨%s, %hs, HS0⟩, Hg⟩, Ho, ⟨%d0, H0⟩, ⟨%d1, H1⟩, ⟨%d2, H2⟩, ⟨%d3, H3⟩, ⟨%d, %hd, H4⟩⟩
    iapply (run_first c (grid0.coords t) _ _ _ _ _ _ _ _ _ _ _ _ ((isFirst_iff t).mpr h0) (fun h => absurd ((isLast_iff t).mp h) (by omega)) _ (off_eq t)
      (X0_0 m c t) (iblk m c 1 t) (iblk m c 2 t) (iblk m c 3 t) d s _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexists _; isplitr; swap; · iexact HS0
        ipureintro; intro _; rw [rowOf_succ t.val (by omega), rowOf_first t h0]
      iexact Hg
    isplitl [Ho]; · iexact Ho
    isplitl [H0]; · iexists X0_0 m c t; rw [Window.fill_cut]; iexact H0
    isplitl [H1]; · iexact H1
    isplitl [H2]; · iexact H2
    isplitl [H3]; · iexact H3
    iexists _; isplitr; swap; · iexact H4
    ipureintro
    have := part_first m c t h0 d
    rw [rowOf_first t h0] at this
    exact Rl_part m c t (by omega) _ this
  · by_cases h1 : t.val % 4 = 3
    · iintro ⟨⟨⟨%s, %hs, HS0⟩, Hg⟩, Ho, ⟨%d0, H0⟩, ⟨%d1, H1⟩, ⟨%d2, H2⟩, ⟨%d3, H3⟩, ⟨%d, %hd, H4⟩⟩
      iapply (run_last c (grid0.coords t) _ _ _ _ _ _ _ _ _ _ _ _ (fun h => h0 ((isFirst_iff t).mp h)) ((isLast_iff t).mpr h1) _ (off_eq t)
        (X0_0 m c t) (iblk m c 1 t) (iblk m c 2 t) (iblk m c 3 t) d s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitr; swap; · iexact HS0
          ipureintro; intro h; exact absurd h (by omega)
        iexact Hg
      isplitl [Ho]; · iexact Ho
      isplitl [H0]; · iexists X0_0 m c t; rw [Window.fill_cut]; iexact H0
      isplitl [H1]; · iexact H1
      isplitl [H2]; · iexact H2
      isplitl [H3]; · iexact H3
      iexists _; isplitr; swap; · iexact H4
      ipureintro
      rw [hs h0]
      exact Rl_last m c t h1 d (found m c t h0 d hd)
    · iintro ⟨⟨⟨%s, %hs, HS0⟩, Hg⟩, Ho, ⟨%d0, H0⟩, ⟨%d1, H1⟩, ⟨%d2, H2⟩, ⟨%d3, H3⟩, ⟨%d, %hd, H4⟩⟩
      iapply (run_mid c (grid0.coords t) _ _ _ _ _ _ _ _ _ _ _ _ (fun h => h0 ((isFirst_iff t).mp h)) (fun h => h1 ((isLast_iff t).mp h)) _ (off_eq t)
        (X0_0 m c t) (iblk m c 1 t) (iblk m c 2 t) (iblk m c 3 t) d s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitr; swap; · iexact HS0
          ipureintro; intro _; rw [rowOf_succ t.val h1]; exact hs h0
        iexact Hg
      isplitl [Ho]; · iexact Ho
      isplitl [H0]; · iexists X0_0 m c t; rw [Window.fill_cut]; iexact H0
      isplitl [H1]; · iexact H1
      isplitl [H2]; · iexact H2
      isplitl [H3]; · iexact H3
      iexists _; isplitr; swap; · iexact H4
      ipureintro
      rw [hs h0]
      exact Rl_part m c t h1 _ (part_next m c t h0 d (found m c t h0 d hd))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scM0_0 fullShare d) ∗ ∃ r, prngReg c r) := by
  unfold ΦA; rw [scopedRest0_eq]; simp only [scM0_0, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)
end Cert.Down
end
-- ==== Proof.Down.lean ====
/- The down-projection of a feed-forward layer, its norm and the residual sum: kernel and reference compute the same array. -/
module
public import proofs.«01_k».proof.Proof.DownData
public import proofs.«01_k».proof.Proof.CrossRef
public import proofs.«01_k».proof.Proof.Gen.Reference4Ideal.Run
public import proofs.«01_k».proof.Proof.Gen.Reference4Ideal.Read
public import proofs.«01_k».proof.Proof.Gen.Kernel4
@[expose] public section
set_option maxRecDepth 16384
noncomputable section
namespace Cert.Down
open Idealize.ShloMosaic Idealize.ShloMosaic.TcCoe Idealize.SL.Sem
open Cert.Cross (rmsAt rowMul)

/-- One row of the layer's output: the residual plus the normed product. -/
def downRow (f : Fin 5504 → EReal) (w : Fin 5504 → Fin 2048 → EReal) (g y : Fin 2048 → EReal) (k : Fin 2048) : EReal :=
  y k + rmsAt (rowMul f w) g k

section Ref
open Cert.Reference4Ideal Cert.Reference4Ideal.Gen Cert.Reference4Ideal.Read

variable (x0 : (⟨S8192x5632, .bf16⟩ : BufTy).Contents (Elt Ideal)) (x1 : (⟨S2x5504x2048, .f32⟩ : BufTy).Contents (Elt Ideal))
  (x2 : (⟨S2x6x2048, .f32⟩ : BufTy).Contents (Elt Ideal)) (x3 : (⟨S8192x2048, .f32⟩ : BufTy).Contents (Elt Ideal))

/-- The reference's product. -/
theorem f_apply (r : Fin 8192) (k : Fin 2048) :
    val_main_v4 (F := Ideal) x0 x1 (ix2 r k) = rowMul (fun j => x0 (ix2 r ⟨j.val, by omega⟩)) (fun j k => x1 (ix3 1 j k)) k := by
  unfold rowMul
  pointwise [val_main_v4, val_main_v3, val_main_v2, val_main_v1, val_main_v0]

/-- The reference's array. -/
theorem ref_apply (r : Fin 8192) (k : Fin 2048) :
    val_main_v22 (F := Ideal) x0 x1 x2 x3 (ix2 r k)
      = downRow (fun j => x0 (ix2 r ⟨j.val, by omega⟩)) (fun j k => x1 (ix3 1 j k)) (fun j => x2 (ix3 1 5 j)) (fun j => x3 (ix2 r j)) k := by
  have hf := f_apply x0 x1 r
  unfold downRow rmsAt
  simp only [← hf]
  unfold val_main_v22 val_main_v21 val_main_v20 val_main_v19 val_main_v18 val_main_v17 val_main_v16 val_main_v15 val_main_v13 val_main_v11 val_main_v10 val_main_v9
  generalize val_main_v4 (F := Ideal) x0 x1 = q
  pointwise [val_main_v14, val_main_v12, val_main_v8, val_main_v7, val_main_v6, val_main_v5, val_main_cst, val_main_cst_0, val_main_cst_1]

end Ref

open Cert.Kernel4Ideal Cert.Kernel4Ideal.Gen

/-- The blocks of the windows at a grid point. -/
theorem idx : ∀ t : Fin cfg0.N, win0_0.index t = ![t.val / 4, 0] ∧ win0_1.index t = ![1, 0, t.val % 4] ∧ win0_2.index t = ![1, 0, 0]
    ∧ win0_3.index t = ![t.val / 4, 0] ∧ win0_4.index t = ![t.val / 4, 0] := by
  decide +kernel

/-- One product of the kernel. -/
theorem pay2_apply (x : Vec Ideal S512x5504 .bf16) (w : Vec Ideal S1x5504x512 .bf16) (r k : Fin 512) :
    k0_pay2 x w (ix2 r k) = ∑ j : Fin 5504, x (ix2 r j) * w (ix3 0 j k) := by
  pointwise [k0_pay2]

/-- The scratch's copy is the copied rows. -/
theorem pay1_apply (x : Vec Ideal S512x5504 .bf16) (r : Fin 512) (j : Fin 5504) : k0_pay1 x (ix2 r j) = x (ix2 r j) := by
  pointwise [k0_pay1]

/-- The last step of the kernel: the norm of the rows, times the gains, added to the residual. -/
theorem pay3_apply (y f : Vec Ideal S512x2048 .f32) (g : Vec Ideal S1x1x2048 .f32) (r : Fin 512) (k : Fin 2048) :
    k0_pay3 y f g (ix2 r k) = y (ix2 r k) + rmsAt (fun j => f (ix2 r j)) (fun j => g (ix3 0 0 j)) k := by
  unfold rmsAt
  pointwise [k0_pay3]

variable (m : (ℓ : Loc nD τ sig) → Buf (Elt Ideal) ℓ) (c : Dev nD)

/-- The rows, read off their block. -/
theorem read_x (t : Fin cfg0.N) (r : Fin 512) (j : Fin 5504) (R : Fin 8192) (hR : R.val = t.val / 4 * 512 + r.val) :
    X0_0 m c t (ix2 r j) = m ((c : Thread nD τ).loc main_arg0) (ix2 R ⟨j.val, by omega⟩) := by
  unfold X0_0 Pipeline.Window.fill
  rw [dif_pos (moved0_0 t _)]
  blk_ext [iblk, V, idx t]

/-- The weights, read off their block. -/
theorem read_w (t : Fin cfg0.N) (j : Fin 5504) (k : Fin 512) (K : Fin 2048) (hK : K.val = t.val % 4 * 512 + k.val) :
    iblk m c 1 t (ix3 0 j k) = m ((c : Thread nD τ).loc main_arg1) (ix3 1 j K) := by
  blk_ext [iblk, V, idx t]

/-- The gains, read off their block. -/
theorem read_g (t : Fin cfg0.N) (j : Fin 2048) : gainRow (iblk m c 2 t) (ix3 0 0 j) = m ((c : Thread nD τ).loc main_arg2) (ix3 1 5 j) := by
  unfold gainRow
  rw [View.ld_apply]; blk_ext [iblk, V, idx t] <;> (rw [Rect.idx_unit_val]; simp)

/-- The residual, read off its block. -/
theorem read_y (t : Fin cfg0.N) (r : Fin 512) (k : Fin 2048) (R : Fin 8192) (hR : R.val = t.val / 4 * 512 + r.val) :
    iblk m c 3 t (ix2 r k) = m ((c : Thread nD τ).loc main_arg3) (ix2 R k) := by
  blk_ext [iblk, V, idx t]

/-- The product of a stretch, row by row. -/
theorem G_apply (t : Fin cfg0.N) (r : Fin 512) (k : Fin 2048) (R : Fin 8192) (hR : R.val = t.val / 4 * 512 + r.val) :
    G m c t.val (ix2 r k) = rowMul (fun j => m ((c : Thread nD τ).loc main_arg0) (ix2 R ⟨j.val, by omega⟩)) (fun j k => m ((c : Thread nD τ).loc main_arg1) (ix3 1 j k)) k := by
  have ht := lt64 t
  have hk := k.isLt
  show k0_pay2 (k0_pay1 (X0_0 m c (rowOf t.val))) (iblk m c 1 (colOf t.val k.val)) (ix2 r ⟨k.val % 512, _⟩) = _
  rw [pay2_apply]
  unfold rowMul
  refine Finset.sum_congr rfl fun j _ => ?_
  rw [pay1_apply, read_x m c (rowOf t.val) r j R (by rw [hR]; show _ = t.val / 4 * 4 % 64 / 4 * 512 + r.val; omega),
    read_w m c (colOf t.val k.val) j _ k (by show k.val = (t.val / 4 * 4 + k.val / 512) % 64 % 4 * 512 + k.val % 512; omega)]

/-- What a stretch leaves in the output's buffer, row by row. -/
theorem left_apply (t : Fin cfg0.N) (h : t.val % 4 = 3) (X : Vec Ideal S512x2048 .f32) (hX : left m c t X) (r : Fin 512) (k : Fin 2048)
    (R : Fin 8192) (hR : R.val = t.val / 4 * 512 + r.val) :
    X (ix2 r k) = Cert.Reference4Ideal.Read.val_main_v22 (F := Ideal) (m ((c : Thread nD τ).loc main_arg0)) (m ((c : Thread nD τ).loc main_arg1))
      (m ((c : Thread nD τ).loc main_arg2)) (m ((c : Thread nD τ).loc main_arg3)) (ix2 R k) := by
  unfold left at hX
  rw [if_pos h] at hX
  rw [hX, pay3_apply, ref_apply, read_y m c t r k R hR]
  unfold downRow
  congr 2
  · funext j; exact G_apply m c t r j R hR
  · funext j; exact read_g m c t j

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 4 cfg0.N = Cert.Reference4Ideal.Read.val_main_v22 (F := Ideal) (m ((c : Thread nD τ).loc main_arg0)) (m ((c : Thread nD τ).loc main_arg1))
      (m ((c : Thread nD τ).loc main_arg2)) (m ((c : Thread nD τ).loc main_arg3)) := by
  refine ((rdat m c).withAfter after).arrAt_eq_of_covers 4 _ (by decide +kernel) fun t hf y => ?_
  have h3 := (flush0_4 t).mp hf
  have hl : left m c t (after 4 t) := (dats m 0 c).toRRel_leaves (fgt := marked) (Rl := Rl m c) (w := 4) rfl (hL 4 t hf)
  blk_simp
  rw [Pipeline.RDat.withAfter_after]
  idx_vars y
  have hN := lt64 t
  have hi : ((View.whole main_v1).slice (win0_4.rect t)).emb (ix2 y0 y1) = ix2 (⟨t.val / 4 * 512 + y0.val, by omega⟩ : Fin 8192) y1 := by
    blk_ext [idx t]
  rw [hi]
  exact left_apply m c t h3 _ hl y0 y1 _ rfl

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

/-- The two programs name the same body. -/
theorem rows_eq : Cert.Kernel4.defs₀ (F := Bits) = Cert.Kernel4Ideal.defs₀ (F := Bits) := by
  unfold Cert.Kernel4.defs₀ Cert.Kernel4Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel4.defs (F := Bits) = Cert.Kernel4Ideal.defs (F := Bits) :=
  congrArg (Pipeline.defs (Cert.Kernel4Ideal.pcfgs (F := Bits))) rows_eq

/-- The frame of the kernel as it stands. -/
theorem frame_kernel : Cert.quiescent_Kernel4 := fun m ρ _ => by
  rw [defs_eq]
  exact frame (F := Bits) m ρ

/-- The frame of the ideal kernel. -/
theorem frame_ideal : Cert.quiescent_Kernel4Ideal := fun m ρ _ => frame (F := Ideal) m ρ

/-- Kernel and reference compute the same array over the extended reals. -/
theorem algebraic : Cert.algebraic_Kernel4Ideal_Reference4Ideal := by
  intro m g m' g' _ hagree
  refine ⟨fun c => Cert.Reference4Ideal.Read.val_main_v22 (F := Ideal) (m ((c : Thread nD τ).loc main_arg0)) (m ((c : Thread nD τ).loc main_arg1))
      (m ((c : Thread nD τ).loc main_arg2)) (m ((c : Thread nD τ).loc main_arg3)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 4).trans (out_eq m c after hL)
  · refine (θ_run _ _ _).mono (fun r h c => ⟨(h c).1.trans ?_, (h c).2⟩) (Cert.Reference4Ideal.Value.run (F := Ideal) m' g')
    obtain ⟨h0, h1, h2, h3⟩ := hagree c
    refine (Cert.Reference4Ideal.Read.val_main_v22_eq _ _ _ _).trans ?_
    rw [h0, h1, h2, h3]

/-- The reference ends without fault, its arguments unchanged, every counter at zero. -/
theorem frame_ref : Cert.quiescent_Reference4Ideal := fun m g _ =>
  (θ_run _ _ _).mono (fun r h => ⟨fun c => (h c).2, sem_eq_zero_of_no_sems (by decide) r.2⟩)
    (Cert.Reference4Ideal.Value.run (F := Ideal) m g)
end Cert.Down
end
-- ==== Proof.UpRun.lean ====
/- The up-projection of a feed-forward layer: the body of the kernel, run at one grid point. -/
module
public import proofs.«01_k».proof.Defs
public import proofs.«01_k».proof.Proof.Gen.Kernel5Ideal
public import proofs.«01_k».proof.Proof.Gen.Kernel5Ideal.Skeleton
public import proofs.«01_k».proof.Proof.Gen.Kernel5Ideal.Frame
public import Idealize.ShloMosaic.Lib.Pointwise
public import Idealize.ShloMosaic.Lib.Pipeline.ValueKit
public import Idealize.ShloMosaic.Lib.Pipeline.ReadBack
public import Idealize.ShloMosaic.Lib.VecWindow
@[expose] public section
set_option maxRecDepth 16384
noncomputable section
namespace Cert.Up
open Idealize.ShloMosaic Idealize.ShloMosaic.TcCoe Idealize.ShloMosaic.Tactic Cert.Kernel5Ideal Cert.Kernel5Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The row of gains the kernel loads: row 4. -/
abbrev gainRow (x3 : Vec F S1x6x2048 .f32) : Vec F S1x1x2048 .f32 :=
  View.ld x3 (Rect.unit (s := S1x6x2048) ![0, 4, 0] S1x1x2048.size inb_S1x6x2048_S1x1x2048_0_4_0)

local notation "𝕄" => MT nD τ sig Unit (Elt F) ℕ (UR sig nD τ) ℕ

/-- The point is the first of its block of rows. -/
abbrev isJ0 (i : grid0.Coords) : Prop := (Scalar.cmpi .ne (Scalar.extui (Scalar.cmpi .eq (BitVec.ofNat 32 (i 1).val) 0#32)) 0#32) = 1#1
/-- The point is in the first block of rows. -/
abbrev isI0 (i : grid0.Coords) : Prop := (Scalar.cmpi .ne (Scalar.extui (Scalar.cmpi .eq (BitVec.ofNat 32 (i 0).val) 0#32)) 0#32) = 1#1

/-- The kernel's first branch: the scratch takes the normed rows at the first point of a block. -/
def norm_if (i : grid0.Coords) (arg2 : Memref sig .tc .vmem S1024x2048 .f32) (harg2 : arg2.IsWhole) (arg3 : Memref sig .tc .vmem S1x6x2048 .f32) (harg3 : arg3.IsWhole) (arg16 : Memref sig .tc .vmem S1024x2048 .bf16) (harg16 : arg16.IsWhole) {R : Type} (q : Prog (TpuEff nD τ sig (Elt F) Λ₀ .tc) R) : Prog (TpuEff nD τ sig (Elt F) Λ₀ .tc) R :=
  if k0_h1 : isJ0 i then do
    let v187 : Vec F S1024x2048 .f32 ← Prog.lift (.load arg2 (Rect.unit (s := S1024x2048) ![0, 0] S1024x2048.size inb_S1024x2048_S1024x2048_0_0).toLoadRect (View.loadsAt_vmem h_S1024x2048))
    let v188 : Vec F S1x1x2048 .f32 ← Prog.lift (.load arg3 (Rect.unit (s := S1x6x2048) ![0, 4, 0] S1x1x2048.size inb_S1x6x2048_S1x1x2048_0_4_0).toLoadRect (View.loadsAt_vmem h_S1x1x2048))
    let v203 : Vec F S1024x2048 .bf16 ← Prog.lift (.load arg16 (Rect.unit (s := S1024x2048) ![0, 0] S1024x2048.size inb_S1024x2048_S1024x2048_0_0).toLoadRect (View.loadsAt_vmem h_S1024x2048))
    Prog.lift (.store arg16 (Rect.unit (s := S1024x2048) ![0, 0] S1024x2048.size inb_S1024x2048_S1024x2048_0_0) (k0_pay1 v187 v188) Finset.univ (View.stores_vmem h_S1024x2048 (harg16.storeExact_slice rfl _ packedbf16_S1024x2048_S1024x2048_0_0) (fun _ => rfl)) (.inl rfl))
    q
  else q

/-- The kernel's second branch: in the first block of rows the eight rows before it are the given ones. -/
def prev_if (i : grid0.Coords) (arg13 : Memref sig .tc .vmem S8x512 .f32) (harg13 : arg13.IsWhole) (arg19 : Memref sig .tc .vmem S1032x512 .f32) (harg19 : arg19.IsWhole) {R : Type} (q : Prog (TpuEff nD τ sig (Elt F) Λ₀ .tc) R) : Prog (TpuEff nD τ sig (Elt F) Λ₀ .tc) R :=
  if k0_h2 : isI0 i then do
    let v187 : Vec F S8x512 .f32 ← Prog.lift (.load arg13 (Rect.unit (s := S8x512) ![0, 0] S8x512.size inb_S8x512_S8x512_0_0).toLoadRect (View.loadsAt_vmem h_S8x512))
    let v189 : Vec F S8x512 .f32 ← Prog.lift (.load arg19 (Rect.unit (s := S1032x512) ![0, 0] S8x512.size inb_S1032x512_S8x512_0_0).toLoadRect (View.loadsAt_vmem h_S8x512))
    Prog.lift (.store arg19 (Rect.unit (s := S1032x512) ![0, 0] S8x512.size inb_S1032x512_S8x512_0_0) (k0_pay2 v187) Finset.univ (View.stores_vmem_bits_univ h_S8x512 rfl) (.inl rfl))
    q
  else q

/-- The kernel's third branch: in a later block they are what the block before left. -/
def halo_if (i : grid0.Coords) (arg18 : Memref sig .tc .vmem S11x8x512 .f32) (harg18 : arg18.IsWhole) (arg19 : Memref sig .tc .vmem S1032x512 .f32) (harg19 : arg19.IsWhole) {R : Type} (q : Prog (TpuEff nD τ sig (Elt F) Λ₀ .tc) R) : Prog (TpuEff nD τ sig (Elt F) Λ₀ .tc) R :=
  if k0_h3 : k0_cond3 i = 1#1 then do
    let v188 : Vec F S1x8x512 .f32 ← Prog.lift (.load arg18 (Rect.unit (s := S11x8x512) (k0_off1 i) S1x8x512.size (k0_off1_inb i k0_h3)).toLoadRect (View.loadsAt_vmem h_S1x8x512))
    let v190 : Vec F S8x512 .f32 ← Prog.lift (.load arg19 (Rect.unit (s := S1032x512) ![0, 0] S8x512.size inb_S1032x512_S8x512_0_0).toLoadRect (View.loadsAt_vmem h_S8x512))
    Prog.lift (.store arg19 (Rect.unit (s := S1032x512) ![0, 0] S8x512.size inb_S1032x512_S8x512_0_0) (k0_pay3 v188) Finset.univ (View.stores_vmem_bits_univ h_S8x512 rfl) (.inl rfl))
    q
  else q

/-- Eight rows of a store. -/
abbrev putTop (x : Vec F S1032x512 .f32) (w : Vec F S8x512 .f32) : Vec F S1032x512 .f32 := VecWindow.put (s := S1032x512) x ![0, 0] S8x512.size w

/-- The store's slice `j`. -/
abbrev slab (x : Vec F S11x8x512 .f32) (j : ℕ) (h : ∀ a : Fin 3, (![j, 0, 0] : Fin 3 → ℕ) a + S1x8x512.size a ≤ S11x8x512.size a) : Vec F S1x8x512 .f32 :=
  VecWindow.window (s := S11x8x512) x ![j, 0, 0] S1x8x512.size h

theorem norm_run (c : Dev nD) (i : grid0.Coords) (arg2 : Memref sig .tc .vmem S1024x2048 .f32) (harg2 : arg2.IsWhole) (arg3 : Memref sig .tc .vmem S1x6x2048 .f32) (harg3 : arg3.IsWhole) (arg16 : Memref sig .tc .vmem S1024x2048 .bf16) (harg16 : arg16.IsWhole)
    (x2 : Vec F S1024x2048 .f32) (x3 : Vec F S1x6x2048 .f32) (xn xn' : Vec F S1024x2048 .bf16)
    (h1 : isJ0 i → xn' = k0_pay1 x2 (gainRow x3)) (h2 : ¬ isJ0 i → xn' = xn) {R : Type} (q : Prog (TpuEff nD τ sig (Elt F) Λ₀ .tc) R) (K : R → sProp 𝕄) :
    iprop(owns (c : Thread nD τ) arg2 fullShare x2 ∗ owns (c : Thread nD τ) arg3 fullShare x3 ∗ owns (c : Thread nD τ) arg16 fullShare xn
        ∗ (iprop(owns (c : Thread nD τ) arg2 fullShare x2 ∗ owns (c : Thread nD τ) arg3 fullShare x3 ∗ owns (c : Thread nD τ) arg16 fullShare xn') -∗ wp frame (wpE (defs₀ (F := F)) Variants.none c none) Set.univ q K))
      ⊢ wp frame (wpE (defs₀ (F := F)) Variants.none c none) Set.univ (norm_if i arg2 harg2 arg3 harg3 arg16 harg16 q) K := by
  unfold norm_if
  by_cases hc : isJ0 i
  · rw [h1 hc]
    unfold owns
    iintro ⟨⟨%f2, %hf2, H2⟩, ⟨%f3, %hf3, H3⟩, ⟨%f16, %hf16, H16⟩, Hk⟩
    obtain rfl := harg2.eq_unread hf2; obtain rfl := harg3.eq_unread hf3; obtain rfl := harg16.eq_unread hf16
    sl_exec (disch := first | sl_exact hc)
    iapply Hk
    isplitl [H2]
    · iexists _; isplitr; · ipureintro; exact harg2.read_unread _
      iexact H2
    isplitl [H3]
    · iexists _; isplitr; · ipureintro; exact harg3.read_unread _
      iexact H3
    iexists _; isplitr; swap; · iexact H16
    ipureintro
    rw [View.read_writes_full, View.readAt_full, View.readAt_eq_ld, harg2.read_unread, harg3.read_unread]
  · rw [h2 hc, dif_neg hc]
    iintro ⟨H2, H3, H16, Hk⟩
    iapply Hk
    isplitl [H2]; · iexact H2
    isplitl [H3]; · iexact H3
    iexact H16

theorem prev_run (c : Dev nD) (i : grid0.Coords) (arg13 : Memref sig .tc .vmem S8x512 .f32) (harg13 : arg13.IsWhole) (arg19 : Memref sig .tc .vmem S1032x512 .f32) (harg19 : arg19.IsWhole)
    (pv : Vec F S8x512 .f32) (ex ex' : Vec F S1032x512 .f32)
    (h1 : isI0 i → ex' = putTop ex (k0_pay2 pv)) (h2 : ¬ isI0 i → ex' = ex) {R : Type} (q : Prog (TpuEff nD τ sig (Elt F) Λ₀ .tc) R) (K : R → sProp 𝕄) :
    iprop(owns (c : Thread nD τ) arg13 fullShare pv ∗ owns (c : Thread nD τ) arg19 fullShare ex
        ∗ (iprop(owns (c : Thread nD τ) arg13 fullShare pv ∗ owns (c : Thread nD τ) arg19 fullShare ex') -∗ wp frame (wpE (defs₀ (F := F)) Variants.none c none) Set.univ q K))
      ⊢ wp frame (wpE (defs₀ (F := F)) Variants.none c none) Set.univ (prev_if i arg13 harg13 arg19 harg19 q) K := by
  unfold prev_if
  by_cases hc : isI0 i
  · rw [h1 hc]
    unfold owns
    iintro ⟨⟨%f13, %hf13, H13⟩, ⟨%f19, %hf19, H19⟩, Hk⟩
    obtain rfl := harg13.eq_unread hf13; obtain rfl := harg19.eq_unread hf19
    sl_exec (disch := first | sl_exact hc)
    iapply Hk
    isplitl [H13]
    · iexists _; isplitr; · ipureintro; exact harg13.read_unread _
      iexact H13
    iexists _; isplitr; swap; · iexact H19
    ipureintro
    rw [View.read_writes_cons_put _ _ _ _ _ rfl, View.writes_nil, View.readAt_full, harg13.read_unread, harg19.read_unread]
  · rw [h2 hc, dif_neg hc]
    iintro ⟨H13, H19, Hk⟩
    iapply Hk
    isplitl [H13]; · iexact H13
    iexact H19

theorem halo_run (c : Dev nD) (i : grid0.Coords) (arg18 : Memref sig .tc .vmem S11x8x512 .f32) (harg18 : arg18.IsWhole) (arg19 : Memref sig .tc .vmem S1032x512 .f32) (harg19 : arg19.IsWhole)
    (hl : Vec F S11x8x512 .f32) (ex ex' : Vec F S1032x512 .f32) (j : ℕ) (hj) (ho : k0_off1 i = ![j, 0, 0])
    (h1 : k0_cond3 i = 1#1 → ex' = putTop ex (k0_pay3 (slab hl j hj))) (h2 : ¬ k0_cond3 i = 1#1 → ex' = ex) {R : Type} (q : Prog (TpuEff nD τ sig (Elt F) Λ₀ .tc) R) (K : R → sProp 𝕄) :
    iprop(owns (c : Thread nD τ) arg18 fullShare hl ∗ owns (c : Thread nD τ) arg19 fullShare ex
        ∗ (iprop(owns (c : Thread nD τ) arg18 fullShare hl ∗ owns (c : Thread nD τ) arg19 fullShare ex') -∗ wp frame (wpE (defs₀ (F := F)) Variants.none c none) Set.univ q K))
      ⊢ wp frame (wpE (defs₀ (F := F)) Variants.none c none) Set.univ (halo_if i arg18 harg18 arg19 harg19 q) K := by
  unfold halo_if
  by_cases hc : k0_cond3 i = 1#1
  · rw [h1 hc]
    unfold owns
    iintro ⟨⟨%f18, %hf18, H18⟩, ⟨%f19, %hf19, H19⟩, Hk⟩
    obtain rfl := harg18.eq_unread hf18; obtain rfl := harg19.eq_unread hf19
    sl_exec (disch := first | sl_exact hc)
    iapply Hk
    isplitl [H18]
    · iexists _; isplitr; · ipureintro; exact harg18.read_unread _
      iexact H18
    iexists _; isplitr; swap; · iexact H19
    ipureintro
    rw [View.read_writes_cons_put _ _ _ _ _ rfl, View.writes_nil, View.readAt_unit _ _ _ ho hj, harg18.read_unread, harg19.read_unread]
  · rw [h2 hc, dif_neg hc]
    iintro ⟨H18, H19, Hk⟩
    iapply Hk
    isplitl [H18]; · iexact H18
    iexact H19

/-- A window's store read inside the window. -/
theorem put_in {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  unfold VecWindow.put
  rw [dif_pos fun a => ⟨by rw [h a]; exact Nat.le_add_right _ _, by rw [h a]; exact Nat.add_lt_add_left (z a).isLt _⟩]
  exact congrArg w (funext fun a => Fin.ext (by show (y a).val - off a = (z a).val; rw [h a]; exact Nat.add_sub_cancel_left _ _))

/-- A window's store read outside the window. -/
theorem put_out {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y :=
  dif_neg fun hh => by have := hh a; omega

/-- Two blocks of 128 columns beside one another. -/
def wcat (p q : Vec F S1x2048x128 .bf16) : Vec F S1x2048x256 .bf16 := fun y =>
  if h : (y 2).val < 128 then p (ix3 (y 0) (y 1) (⟨(y 2).val, h⟩ : Fin 128))
  else q (ix3 (y 0) (y 1) (⟨(y 2).val - 128, by have : (y 2).val < 256 := (y 2).isLt; omega⟩ : Fin 128))

/-- What a load of a slot of packed weights gives after its two halves are stored. -/
theorem load_wcat {sg : RefSig} (u : View sg .tc .vmem S4x2048x256 .bf16) (s : ℕ) (i1 i2 i3) (p q : Vec F S1x2048x128 .bf16) (L) :
    u.readCov (Val := Elt F) (⟨Rect.unit (s := S4x2048x256) ![s, 0, 128] S1x2048x128.size i1, q⟩ :: ⟨Rect.unit (s := S4x2048x256) ![s, 0, 0] S1x2048x128.size i2, p⟩ :: L)
      (Rect.unit (s := S4x2048x256) ![s, 0, 0] S1x2048x256.size i3).toLoadRect = wcat p q := by
  show View.readAt (Elt F) u _ (u.writes (Elt F) u.junk _) = _
  rw [View.readAt_eq_ld, View.read_writes_cons_put _ _ _ _ _ rfl, View.read_writes_cons_put _ _ _ _ _ rfl]
  funext y
  unfold wcat View.ld
  have h0 : (y 0).val = 0 := by have : (y 0).val < 1 := (y 0).isLt; omega
  by_cases h : (y 2).val < 128
  · rw [dif_pos h]
    rw [put_out _ _ _ _ _ 2 (.inl (by show 0 + 1 * (y 2).val < 128; omega))]
    exact put_in _ _ _ _ _ _ fun a => by fin_cases a <;> simp [ValueKit.rect_emb_unit_val]
  · rw [dif_neg h]
    exact put_in _ _ _ _ _ _ fun a => by fin_cases a <;> simp [ValueKit.rect_emb_unit_val]; omega

/-- The product of the normed rows with granule `s` of the weights: the gated half in its first 128 columns, the value half in the others. -/
def gp (xn : Vec F S1024x2048 .bf16) (a v : Fin 4 → Vec F S1x2048x128 .f32) (s : Fin 4) : FVec F S1024x256 .f32 :=
  k0_pay6 xn (wcat (k0_pay4 (a s)) (k0_pay5 (v s)))

/-- The gated half of granule `s`. -/
def ga (xn : Vec F S1024x2048 .bf16) (a v : Fin 4 → Vec F S1x2048x128 .f32) (s : Fin 4) : FVec F S1024x128 .f32 := k0_pay10 (gp xn a v s)

/-- Row `r` and granule `s` of the convolution's weights. -/
def cwr (cw : Vec F S3x512 .f32) (r : Fin 3) (s : Fin 4) : Vec F S1x128 .f32 := fun y =>
  cw (ix2 r (⟨128 * s.val + (y 1).val, by have : (y 1).val < 128 := (y 1).isLt; omega⟩ : Fin 512))

/-- The rows of granule `s` moved down by `8 - k`: the first ones come from the eight rows before the block. -/
def shift (k : Fin 9) (s : Fin 4) (ht : Vec F S8x512 .f32) (g : Vec F S1024x128 .f32) : Vec F S1024x128 .f32 := fun y =>
  if h : (y 0).val + k.val < 8 then ht (ix2 (⟨(y 0).val + k.val, h⟩ : Fin 8) (⟨128 * s.val + (y 1).val, by have : (y 1).val < 128 := (y 1).isLt; omega⟩ : Fin 512))
  else g (ix2 (⟨(y 0).val + k.val - 8, by have : (y 0).val < 1024 := (y 0).isLt; omega⟩ : Fin 1024) (y 1))

/-- The first eight rows of the extended rows are `ht`. -/
def TopIs (x : Vec F S1032x512 .f32) (ht : Vec F S8x512 .f32) : Prop :=
  ∀ (r : Fin 8) (c : Fin 512), x (ix2 (⟨r.val, by omega⟩ : Fin 1032) c) = ht (ix2 r c)

theorem TopIs.cons (u : View sig .tc .vmem S1032x512 .f32) (f) (c : ℕ) (i1) (w : Vec F S1024x128 .f32) (L) (ht : Vec F S8x512 .f32)
    (h : TopIs (u.read (Elt F) (u.writes (Elt F) f L)) ht) :
    TopIs (u.read (Elt F) (u.writes (Elt F) f (⟨Rect.unit (s := S1032x512) ![8, c] S1024x128.size i1, w⟩ :: L))) ht := fun r d => by
  rw [View.read_writes_cons_put _ _ _ _ _ rfl, ← h r d]
  exact put_out _ _ _ _ _ 0 (.inl (by show r.val < 8; exact r.isLt))

/-- A load of 1024 extended rows from row `k`, after granule `s` is stored from row 8. -/
theorem load_shift (u : View sig .tc .vmem S1032x512 .f32) (f) (k : Fin 9) (s : Fin 4) (k' c : ℕ) (hk : k' = k.val) (hc : c = 128 * s.val) (i1 i2) (w : Vec F S1024x128 .f32) (L) (ht : Vec F S8x512 .f32)
    (h : TopIs (u.read (Elt F) (u.writes (Elt F) f L)) ht) :
    u.readAt (Elt F) (Rect.unit (s := S1032x512) ![k', c] S1024x128.size i2).toLoadRect
      (u.writes (Elt F) f (⟨Rect.unit (s := S1032x512) ![8, c] S1024x128.size i1, w⟩ :: L)) = shift k s ht w := by
  subst hk hc
  rw [View.readAt_eq_ld, View.read_writes_cons_put _ _ _ _ _ rfl]
  funext y
  unfold shift View.ld
  have h1 : (y 1).val < 128 := (y 1).isLt
  have h0 : (y 0).val < 1024 := (y 0).isLt
  by_cases hy : (y 0).val + k.val < 8
  · rw [dif_pos hy, ← h]
    rw [put_out _ _ _ _ _ 0 (.inl (by show k.val + 1 * (y 0).val < 8; omega))]
    exact congrArg _ (funext fun a => Fin.ext (by fin_cases a <;> simp [ValueKit.rect_emb_unit_val] <;> omega))
  · rw [dif_neg hy]
    exact put_in _ _ _ _ _ _ fun a => by fin_cases a <;> simp [ValueKit.rect_emb_unit_val] <;> omega

/-- A load of the granule just stored. -/
theorem load_same (u : View sig .tc .vmem S1032x512 .f32) (c : ℕ) (i1 i2) (w : Vec F S1024x128 .f32) (L) :
    u.readCov (Val := Elt F) (⟨Rect.unit (s := S1032x512) ![8, c] S1024x128.size i1, w⟩ :: L) (Rect.unit (s := S1032x512) ![8, c] S1024x128.size i2).toLoadRect = w := by
  show View.readAt (Elt F) u _ (u.writes (Elt F) u.junk _) = _
  rw [View.readAt_eq_ld, View.read_writes_cons_put _ _ _ _ _ rfl]
  exact VecWindow.window_put_same _ _ _ i1 _

/-- Granule `s` of the block that the kernel leaves: the convolution's three taps, gated, times the value half. -/
def outG (xn : Vec F S1024x2048 .bf16) (a v : Fin 4 → Vec F S1x2048x128 .f32) (cw : Vec F S3x512 .f32) (ht : Vec F S8x512 .f32) (s : Fin 4) : FVec F S1024x128 .bf16 :=
  k0_pay17 (gp xn a v s) (cwr cw 0 s) (shift 6 s ht (ga xn a v s)) (cwr cw 1 s) (shift 7 s ht (ga xn a v s)) (cwr cw 2 s) (ga xn a v s)

/-- The block of gated rows that a point leaves. -/
def rowsOut (xn : Vec F S1024x2048 .bf16) (a v : Fin 4 → Vec F S1x2048x128 .f32) (cw : Vec F S3x512 .f32) (ht : Vec F S8x512 .f32) : Vec F S1024x512 .bf16 := fun y =>
  outG xn a v cw ht ⟨(y 1).val / 128, by have : (y 1).val < 512 := (y 1).isLt; omega⟩ (ix2 (y 0) (⟨(y 1).val % 128, Nat.mod_lt _ (by decide)⟩ : Fin 128))

/-- The last eight rows of the gated half. -/
def tailOf (xn : Vec F S1024x2048 .bf16) (a v : Fin 4 → Vec F S1x2048x128 .f32) : Vec F S8x512 .f32 := fun y =>
  ga xn a v ⟨(y 1).val / 128, by have : (y 1).val < 512 := (y 1).isLt; omega⟩
    (ix2 (⟨1016 + (y 0).val, by have : (y 0).val < 8 := (y 0).isLt; omega⟩ : Fin 1024) (⟨(y 1).val % 128, Nat.mod_lt _ (by decide)⟩ : Fin 128))

/-- The store after slice `j` is replaced. -/
abbrev haloPut (x : Vec F S11x8x512 .f32) (j : ℕ) (w : Vec F S8x512 .f32) : Vec F S11x8x512 .f32 :=
  VecWindow.put (s := S11x8x512) x ![j, 0, 0] S1x8x512.size (k0_pay27 w)

theorem out_writes (u : View sig .tc .vmem S1024x512 .bf16) (f) (i0 i1 i2 i3) (P : Fin 4 → Vec F S1024x128 .bf16) (p0 p1 p2 p3 : Vec F S1024x128 .bf16)
    (h0 : p0 = P 0) (h1 : p1 = P 1) (h2 : p2 = P 2) (h3 : p3 = P 3) :
    u.read (Elt F) (u.writes (Elt F) f [⟨Rect.unit (s := S1024x512) ![0, 384] S1024x128.size i3, p3⟩, ⟨Rect.unit (s := S1024x512) ![0, 256] S1024x128.size i2, p2⟩,
        ⟨Rect.unit (s := S1024x512) ![0, 128] S1024x128.size i1, p1⟩, ⟨Rect.unit (s := S1024x512) ![0, 0] S1024x128.size i0, p0⟩])
      = fun y => P ⟨(y 1).val / 128, by have : (y 1).val < 512 := (y 1).isLt; omega⟩ (ix2 (y 0) (⟨(y 1).val % 128, Nat.mod_lt _ (by decide)⟩ : Fin 128)) := by
  subst h0 h1 h2 h3
  rw [View.read_writes_cons_put _ _ _ _ _ rfl, View.read_writes_cons_put _ _ _ _ _ rfl, View.read_writes_cons_put _ _ _ _ _ rfl, View.read_writes_cons_put _ _ _ _ _ rfl]
  funext y
  have hy : (y 1).val < 512 := (y 1).isLt
  obtain ⟨s, hs⟩ : ∃ s : Fin 4, s = (⟨(y 1).val / 128, by omega⟩ : Fin 4) := ⟨_, rfl⟩
  have hv : s.val = (y 1).val / 128 := congrArg Fin.val hs
  rw [← hs]
  fin_cases s
  · rw [put_out _ _ _ _ _ 1 (.inl (by show (y 1).val < 384; simp at hv; omega)), put_out _ _ _ _ _ 1 (.inl (by show (y 1).val < 256; simp at hv; omega)), put_out _ _ _ _ _ 1 (.inl (by show (y 1).val < 128; simp at hv; omega))]
    exact put_in _ _ _ _ _ _ fun a => by fin_cases a <;> simp at hv ⊢ <;> omega
  · rw [put_out _ _ _ _ _ 1 (.inl (by show (y 1).val < 384; simp at hv; omega)), put_out _ _ _ _ _ 1 (.inl (by show (y 1).val < 256; simp at hv; omega))]
    exact put_in _ _ _ _ _ _ fun a => by fin_cases a <;> simp at hv ⊢ <;> omega
  · rw [put_out _ _ _ _ _ 1 (.inl (by show (y 1).val < 384; simp at hv; omega))]
    exact put_in _ _ _ _ _ _ fun a => by fin_cases a <;> simp at hv ⊢ <;> omega
  · exact put_in _ _ _ _ _ _ fun a => by fin_cases a <;> simp at hv ⊢ <;> omega

theorem load_tail (u : View sig .tc .vmem S1032x512 .f32) (i0 i1 i2 i3 i4) (P : Fin 4 → Vec F S1024x128 .f32) (p0 p1 p2 p3 : Vec F S1024x128 .f32)
    (h0 : p0 = P 0) (h1 : p1 = P 1) (h2 : p2 = P 2) (h3 : p3 = P 3) :
    u.readCov (Val := Elt F) [⟨Rect.unit (s := S1032x512) ![8, 384] S1024x128.size i3, p3⟩, ⟨Rect.unit (s := S1032x512) ![8, 256] S1024x128.size i2, p2⟩,
        ⟨Rect.unit (s := S1032x512) ![8, 128] S1024x128.size i1, p1⟩, ⟨Rect.unit (s := S1032x512) ![8, 0] S1024x128.size i0, p0⟩]
      (Rect.unit (s := S1032x512) ![1024, 0] S8x512.size i4).toLoadRect
      = fun y => P ⟨(y 1).val / 128, by have : (y 1).val < 512 := (y 1).isLt; omega⟩
          (ix2 (⟨1016 + (y 0).val, by have : (y 0).val < 8 := (y 0).isLt; omega⟩ : Fin 1024) (⟨(y 1).val % 128, Nat.mod_lt _ (by decide)⟩ : Fin 128)) := by
  subst h0 h1 h2 h3
  show View.readAt (Elt F) u _ (u.writes (Elt F) u.junk _) = _
  rw [View.readAt_eq_ld, View.read_writes_cons_put _ _ _ _ _ rfl, View.read_writes_cons_put _ _ _ _ _ rfl, View.read_writes_cons_put _ _ _ _ _ rfl, View.read_writes_cons_put _ _ _ _ _ rfl]
  funext y
  unfold View.ld
  have hy : (y 1).val < 512 := (y 1).isLt
  have hr : (y 0).val < 8 := (y 0).isLt
  obtain ⟨s, hs⟩ : ∃ s : Fin 4, s = (⟨(y 1).val / 128, by omega⟩ : Fin 4) := ⟨_, rfl⟩
  have hv : s.val = (y 1).val / 128 := congrArg Fin.val hs
  rw [← hs]
  fin_cases s
  · rw [put_out _ _ _ _ _ 1 (.inl (by show 0 + 1 * (y 1).val < 384; simp at hv; omega)), put_out _ _ _ _ _ 1 (.inl (by show 0 + 1 * (y 1).val < 256; simp at hv; omega)), put_out _ _ _ _ _ 1 (.inl (by show 0 + 1 * (y 1).val < 128; simp at hv; omega))]
    exact put_in _ _ _ _ _ _ fun a => by fin_cases a <;> simp [ValueKit.rect_emb_unit_val] at hv ⊢ <;> omega
  · rw [put_out _ _ _ _ _ 1 (.inl (by show 0 + 1 * (y 1).val < 384; simp at hv; omega)), put_out _ _ _ _ _ 1 (.inl (by show 0 + 1 * (y 1).val < 256; simp at hv; omega))]
    exact put_in _ _ _ _ _ _ fun a => by fin_cases a <;> simp [ValueKit.rect_emb_unit_val] at hv ⊢ <;> omega
  · rw [put_out _ _ _ _ _ 1 (.inl (by show 0 + 1 * (y 1).val < 384; simp at hv; omega))]
    exact put_in _ _ _ _ _ _ fun a => by fin_cases a <;> simp [ValueKit.rect_emb_unit_val] at hv ⊢ <;> omega
  · exact put_in _ _ _ _ _ _ fun a => by fin_cases a <;> simp [ValueKit.rect_emb_unit_val] at hv ⊢ <;> omega

/-- A load of one row and one granule of the convolution's weights. -/
theorem load_cw (u : View sig .tc .vmem S3x512 .f32) (f) (r : Fin 3) (s : Fin 4) (r' c : ℕ) (hr : r' = r.val) (hc : c = 128 * s.val) (i) :
    u.readAt (Elt F) (Rect.unit (s := S3x512) ![r', c] S1x128.size i).toLoadRect f = cwr (u.read (Elt F) f) r s := by
  subst hr hc
  rw [View.readAt_eq_ld]
  funext y
  unfold cwr View.ld
  have h0 : (y 0).val < 1 := (y 0).isLt
  exact congrArg _ (funext fun a => Fin.ext (by fin_cases a <;> simp [ValueKit.rect_emb_unit_val] <;> omega))

theorem outG_eq (xn : Vec F S1024x2048 .bf16) (a v : Fin 4 → Vec F S1x2048x128 .f32) (cw : Vec F S3x512 .f32) (ht : Vec F S8x512 .f32) (s : Fin 4)
    {h : FVec F S1024x256 .f32} {c0 c1 c2 : Vec F S1x128 .f32} {e6 e7 e8 : Vec F S1024x128 .f32}
    (g : h = gp xn a v s) (k0 : c0 = cwr cw 0 s) (k6 : e6 = shift 6 s ht (ga xn a v s)) (k1 : c1 = cwr cw 1 s) (k7 : e7 = shift 7 s ht (ga xn a v s))
    (k2 : c2 = cwr cw 2 s) (k8 : e8 = ga xn a v s) : k0_pay17 h c0 e6 c1 e7 c2 e8 = outG xn a v cw ht s := by
  subst g k0 k6 k1 k7 k2 k8; rfl

theorem top_put (x : Vec F S1032x512 .f32) (w ht : Vec F S8x512 .f32) (h : w = ht) : TopIs (putTop x w) ht := fun r c => by
  subst h
  exact put_in _ _ _ _ _ _ fun a => by fin_cases a <;> simp

set_option maxHeartbeats 4000000 in
/-- One grid point: the two blocks it leaves, the scratch rows, and the store of last rows with slice `j` replaced. `xn'` is the normed rows and `ht` the eight rows before the block, whichever branch gave them. -/
theorem run (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S3x512 .f32) (harg12 : arg12.IsWhole) (arg13 : Memref sig .tc .vmem S8x512 .f32) (harg13 : arg13.IsWhole) (arg14 : Memref sig .tc .vmem S1024x512 .bf16) (harg14 : arg14.IsWhole) (arg15 : Memref sig .tc .vmem S8x512 .f32) (harg15 : arg15.IsWhole) (arg16 : Memref sig .tc .vmem S1024x2048 .bf16) (harg16 : arg16.IsWhole) (arg17 : Memref sig .tc .vmem S4x2048x256 .bf16) (harg17 : arg17.IsWhole) (arg18 : Memref sig .tc .vmem S11x8x512 .f32) (harg18 : arg18.IsWhole) (arg19 : Memref sig .tc .vmem S1032x512 .f32) (harg19 : arg19.IsWhole)
    (x2 : Vec F S1024x2048 .f32) (x3 : Vec F S1x6x2048 .f32) (cw : Vec F S3x512 .f32) (pv : Vec F S8x512 .f32) (o14 : Vec F S1024x512 .bf16) (o15 : Vec F S8x512 .f32) (xn : Vec F S1024x2048 .bf16) (wc : Vec F S4x2048x256 .bf16) (hl : Vec F S11x8x512 .f32) (ex : Vec F S1032x512 .f32) (a v : Fin 4 → Vec F S1x2048x128 .f32)
    (xn' : Vec F S1024x2048 .bf16) (ht : Vec F S8x512 .f32) (j : ℕ) (hj) (ho1 : k0_off1 i = ![j, 0, 0]) (ho2 : k0_off2 i = ![j, 0, 0])
    (hn1 : isJ0 i → xn' = k0_pay1 x2 (gainRow x3)) (hn2 : ¬ isJ0 i → xn' = xn)
    (hh : (isI0 i ∧ ¬ k0_cond3 i = 1#1 ∧ k0_pay2 pv = ht) ∨ (¬ isI0 i ∧ k0_cond3 i = 1#1 ∧ k0_pay3 (slab hl j hj) = ht))
    (K : PUnit → sProp 𝕄) :
    iprop(owns (c : Thread nD τ) arg2 fullShare x2 ∗ owns (c : Thread nD τ) arg3 fullShare x3 ∗ owns (c : Thread nD τ) arg4 fullShare (a 0) ∗ owns (c : Thread nD τ) arg5 fullShare (a 1) ∗ owns (c : Thread nD τ) arg6 fullShare (a 2) ∗ owns (c : Thread nD τ) arg7 fullShare (a 3) ∗ owns (c : Thread nD τ) arg8 fullShare (v 0) ∗ owns (c : Thread nD τ) arg9 fullShare (v 1) ∗ owns (c : Thread nD τ) arg10 fullShare (v 2) ∗ owns (c : Thread nD τ) arg11 fullShare (v 3) ∗ owns (c : Thread nD τ) arg12 fullShare cw ∗ owns (c : Thread nD τ) arg13 fullShare pv ∗ owns (c : Thread nD τ) arg14 fullShare o14 ∗ owns (c : Thread nD τ) arg15 fullShare o15 ∗ owns (c : Thread nD τ) arg16 fullShare xn ∗ owns (c : Thread nD τ) arg17 fullShare wc ∗ owns (c : Thread nD τ) arg18 fullShare hl ∗ owns (c : Thread nD τ) arg19 fullShare ex
        ∗ (∀ w17 w19, iprop(owns (c : Thread nD τ) arg2 fullShare x2 ∗ owns (c : Thread nD τ) arg3 fullShare x3 ∗ owns (c : Thread nD τ) arg4 fullShare (a 0) ∗ owns (c : Thread nD τ) arg5 fullShare (a 1) ∗ owns (c : Thread nD τ) arg6 fullShare (a 2) ∗ owns (c : Thread nD τ) arg7 fullShare (a 3) ∗ owns (c : Thread nD τ) arg8 fullShare (v 0) ∗ owns (c : Thread nD τ) arg9 fullShare (v 1) ∗ owns (c : Thread nD τ) arg10 fullShare (v 2) ∗ owns (c : Thread nD τ) arg11 fullShare (v 3) ∗ owns (c : Thread nD τ) arg12 fullShare cw ∗ owns (c : Thread nD τ) arg13 fullShare pv ∗ owns (c : Thread nD τ) arg14 fullShare (rowsOut xn' a v cw ht) ∗ owns (c : Thread nD τ) arg15 fullShare (tailOf xn' a v) ∗ owns (c : Thread nD τ) arg16 fullShare xn' ∗ owns (c : Thread nD τ) arg17 fullShare w17 ∗ owns (c : Thread nD τ) arg18 fullShare (haloPut hl j (tailOf xn' a v)) ∗ owns (c : Thread nD τ) arg19 fullShare w19) -∗ K ⟨⟩))
      ⊢ wp frame (wpE (defs₀ (F := F)) Variants.none c none) Set.univ (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨ex1, ex2, hp1, hp2, hh1, hh2, hT⟩ : ∃ ex1 ex2 : Vec F S1032x512 .f32, (isI0 i → ex1 = putTop ex (k0_pay2 pv)) ∧ (¬ isI0 i → ex1 = ex)
      ∧ (k0_cond3 i = 1#1 → ex2 = putTop ex1 (k0_pay3 (slab hl j hj))) ∧ (¬ k0_cond3 i = 1#1 → ex2 = ex1) ∧ TopIs ex2 ht := by
    rcases hh with ⟨h1, h2, h3⟩ | ⟨h1, h2, h3⟩
    · exact ⟨putTop ex (k0_pay2 pv), putTop ex (k0_pay2 pv), fun _ => rfl, fun h => absurd h1 h, fun h => absurd h h2, fun _ => rfl, top_put _ _ _ h3⟩
    · exact ⟨ex, putTop ex (k0_pay3 (slab hl j hj)), fun h => absurd h h1, fun _ => rfl, fun _ => rfl, fun h => absurd h2 h, top_put _ _ _ h3⟩
  simp only [cc0_ffn_up_eq_skeleton]; unfold cc0_ffn_up_skel
  simp only [k0_part6_eq_skeleton]; unfold k0_part6_skel
  simp only [k0_part1_eq_skeleton, k0_part2_eq_skeleton, k0_part3_eq_skeleton, k0_part4_eq_skeleton, k0_part5_eq_skeleton]; unfold k0_part1_skel
  iintro ⟨H2, H3, H4, H5, H6, H7, H8, H9, H10, H11, H12, H13, H14, H15, H16, H17, H18, H19, Hk⟩
  rw [wp_bind, wp_bind]
  iapply (norm_run c i arg2 harg2 arg3 harg3 arg16 harg16 x2 x3 xn xn' hn1 hn2 _ _)
  isplitl [H2]; · iexact H2
  isplitl [H3]; · iexact H3
  isplitl [H16]; · iexact H16
  iintro ⟨H2, H3, H16⟩
  iapply (prev_run c i arg13 harg13 arg19 harg19 pv ex ex1 hp1 hp2 _ _)
  isplitl [H13]; · iexact H13
  isplitl [H19]; · iexact H19
  iintro ⟨H13, H19⟩
  iapply (halo_run c i arg18 harg18 arg19 harg19 hl ex1 ex2 j hj ho1 hh1 hh2 _ _)
  isplitl [H18]; · iexact H18
  isplitl [H19]; · iexact H19
  iintro ⟨H18, H19⟩
  unfold owns
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  icases H16 with ⟨%f16, %hf16, H16⟩
  icases H17 with ⟨%f17, %hf17, H17⟩
  icases H18 with ⟨%f18, %hf18, H18⟩
  icases H19 with ⟨%f19, %hf19, H19⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec
  sl_step
  have g0 : run.sl.r c arg4 harg4 arg8 harg8 arg16 harg16 arg17 a v xn' = gp xn' a v 0 := by
    unfold run.sl.r run.sl.v22 run.sl.H17_2
    rw [load_wcat]
    rw [View.readAt_full arg16.view, View.readAt_full arg4.view, View.readAt_full arg8.view, harg4.read_unread, harg8.read_unread, harg16.read_unread]
    rfl
  have g1 : run.sl.r_2 c arg4 harg4 arg5 harg5 arg8 harg8 arg9 harg9 arg16 harg16 arg17 a v xn' = gp xn' a v 1 := by
    unfold run.sl.r_2 run.sl.v38 run.sl.H17_4 run.sl.r_1
    rw [load_wcat]
    rw [View.readAt_full arg16.view, View.readAt_full arg5.view, View.readAt_full arg9.view, harg5.read_unread, harg9.read_unread, harg16.read_unread]
    rfl
  have g2 : run.sl.r_4 c arg4 harg4 arg5 harg5 arg6 harg6 arg8 harg8 arg9 harg9 arg10 harg10 arg16 harg16 arg17 a v xn' = gp xn' a v 2 := by
    unfold run.sl.r_4 run.sl.v81 run.sl.H17_6
    rw [load_wcat]
    rw [View.readAt_full arg16.view, View.readAt_full arg6.view, View.readAt_full arg10.view, harg6.read_unread, harg10.read_unread, harg16.read_unread]
    rfl
  have g3 : run.sl.r_6 c arg4 harg4 arg5 harg5 arg6 harg6 arg7 harg7 arg8 harg8 arg9 harg9 arg10 harg10 arg11 harg11 arg16 harg16 arg17 a v xn' = gp xn' a v 3 := by
    unfold run.sl.r_6 run.sl.v124 run.sl.H17_8 run.sl.r_5
    rw [load_wcat]
    rw [View.readAt_full arg16.view, View.readAt_full arg7.view, View.readAt_full arg11.view, harg7.read_unread, harg11.read_unread, harg16.read_unread]
    rfl
  have q0 : ∀ r r' i, r' = r.val → arg12.view.readAt (Elt F) (Rect.unit (s := S3x512) ![r', 0] S1x128.size i).toLoadRect (harg12.unread cw) = cwr cw r 0 := fun r r' i h => (load_cw _ _ r 0 r' 0 h rfl i).trans (by rw [harg12.read_unread])
  have q1 : ∀ r r' i, r' = r.val → arg12.view.readAt (Elt F) (Rect.unit (s := S3x512) ![r', 128] S1x128.size i).toLoadRect (harg12.unread cw) = cwr cw r 1 := fun r r' i h => (load_cw _ _ r 1 r' 128 h rfl i).trans (by rw [harg12.read_unread])
  have q2 : ∀ r r' i, r' = r.val → arg12.view.readAt (Elt F) (Rect.unit (s := S3x512) ![r', 256] S1x128.size i).toLoadRect (harg12.unread cw) = cwr cw r 2 := fun r r' i h => (load_cw _ _ r 2 r' 256 h rfl i).trans (by rw [harg12.read_unread])
  have q3 : ∀ r r' i, r' = r.val → arg12.view.readAt (Elt F) (Rect.unit (s := S3x512) ![r', 384] S1x128.size i).toLoadRect (harg12.unread cw) = cwr cw r 3 := fun r r' i h => (load_cw _ _ r 3 r' 384 h rfl i).trans (by rw [harg12.read_unread])
  have n0 : k0_pay10 (run.sl.r c arg4 harg4 arg8 harg8 arg16 harg16 arg17 a v xn') = ga xn' a v 0 := congrArg k0_pay10 g0
  have l1 : run.sl.H19_1 c arg4 harg4 arg8 harg8 arg16 harg16 arg17 a v xn' = [⟨Rect.unit (s := S1032x512) ![8, 0] S1024x128.size inb_S1032x512_S1024x128_8_0, ga xn' a v 0⟩] := by
    unfold run.sl.H19_1; rw [n0]
  have n1 : k0_pay16 (run.sl.r_2 c arg4 harg4 arg5 harg5 arg8 harg8 arg9 harg9 arg16 harg16 arg17 a v xn') = ga xn' a v 1 := congrArg k0_pay10 g1
  have l2 : run.sl.H19_2 c arg4 harg4 arg5 harg5 arg8 harg8 arg9 harg9 arg16 harg16 arg17 a v xn' = [⟨Rect.unit (s := S1032x512) ![8, 128] S1024x128.size inb_S1032x512_S1024x128_8_128, ga xn' a v 1⟩, ⟨Rect.unit (s := S1032x512) ![8, 0] S1024x128.size inb_S1032x512_S1024x128_8_0, ga xn' a v 0⟩] := by
    unfold run.sl.H19_2; rw [n1, l1]
  have n2 : k0_pay22 (run.sl.r_4 c arg4 harg4 arg5 harg5 arg6 harg6 arg8 harg8 arg9 harg9 arg10 harg10 arg16 harg16 arg17 a v xn') = ga xn' a v 2 := congrArg k0_pay10 g2
  have l3 : run.sl.H19_3 c arg4 harg4 arg5 harg5 arg6 harg6 arg8 harg8 arg9 harg9 arg10 harg10 arg16 harg16 arg17 a v xn' = [⟨Rect.unit (s := S1032x512) ![8, 256] S1024x128.size inb_S1032x512_S1024x128_8_256, ga xn' a v 2⟩, ⟨Rect.unit (s := S1032x512) ![8, 128] S1024x128.size inb_S1032x512_S1024x128_8_128, ga xn' a v 1⟩, ⟨Rect.unit (s := S1032x512) ![8, 0] S1024x128.size inb_S1032x512_S1024x128_8_0, ga xn' a v 0⟩] := by
    unfold run.sl.H19_3; rw [n2, l2]
  have n3 : k0_pay25 (run.sl.r_7 c arg4 harg4 arg5 harg5 arg6 harg6 arg7 harg7 arg8 harg8 arg9 harg9 arg10 harg10 arg11 harg11 arg16 harg16 arg17 a v xn') = ga xn' a v 3 := (by unfold run.sl.r_7; exact congrArg k0_pay10 g3)
  have l4 : run.sl.H19_4 c arg4 harg4 arg5 harg5 arg6 harg6 arg7 harg7 arg8 harg8 arg9 harg9 arg10 harg10 arg11 harg11 arg16 harg16 arg17 a v xn' = [⟨Rect.unit (s := S1032x512) ![8, 384] S1024x128.size inb_S1032x512_S1024x128_8_384, ga xn' a v 3⟩, ⟨Rect.unit (s := S1032x512) ![8, 256] S1024x128.size inb_S1032x512_S1024x128_8_256, ga xn' a v 2⟩, ⟨Rect.unit (s := S1032x512) ![8, 128] S1024x128.size inb_S1032x512_S1024x128_8_128, ga xn' a v 1⟩, ⟨Rect.unit (s := S1032x512) ![8, 0] S1024x128.size inb_S1032x512_S1024x128_8_0, ga xn' a v 0⟩] := by
    unfold run.sl.H19_4; rw [n3, l3]
  have T0 : TopIs (arg19.view.read (Elt F) (arg19.view.writes (Elt F) (harg19.unread ex2) [])) ht := by rw [View.writes_nil, harg19.read_unread]; exact hT
  have t0 : run.sl.v181 c arg4 harg4 arg5 harg5 arg6 harg6 arg7 harg7 arg8 harg8 arg9 harg9 arg10 harg10 arg11 harg11 arg16 harg16 arg17 arg19 a v xn' = tailOf xn' a v := by
    unfold run.sl.v181; rw [l4]
    exact load_tail arg19.view _ _ _ _ _ (ga xn' a v) _ _ _ _ rfl rfl rfl rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine (out_writes arg14.view _ _ _ _ _ (outG xn' a v cw ht) _ _ _ _ ?_ ?_ ?_ ?_)
    · unfold run.sl.r_3; refine outG_eq xn' a v cw ht 0 g0 (q0 0 _ _ rfl) ?_ (q0 1 _ _ rfl) ?_ (q0 2 _ _ rfl) ?_
      · rw [l1]; exact load_shift _ _ 6 0 6 0 rfl rfl _ _ _ _ ht T0
      · rw [l1]; exact load_shift _ _ 7 0 7 0 rfl rfl _ _ _ _ ht T0
      · unfold run.sl.v58; rw [l1]; exact load_same _ _ _ _ _ _
    · refine outG_eq xn' a v cw ht 1 g1 (q1 0 _ _ rfl) ?_ (q1 1 _ _ rfl) ?_ (q1 2 _ _ rfl) ?_
      · unfold run.sl.v90; rw [l2]; exact load_shift _ _ 6 1 6 128 rfl rfl _ _ _ _ ht (TopIs.cons _ _ _ _ _ _ _ T0)
      · unfold run.sl.v95; rw [l2]; exact load_shift _ _ 7 1 7 128 rfl rfl _ _ _ _ ht (TopIs.cons _ _ _ _ _ _ _ T0)
      · unfold run.sl.v101; rw [l2]; exact load_same _ _ _ _ _ _
    · refine outG_eq xn' a v cw ht 2 g2 (q2 0 _ _ rfl) ?_ (q2 1 _ _ rfl) ?_ (q2 2 _ _ rfl) ?_
      · unfold run.sl.v133; rw [l3]; exact load_shift _ _ 6 2 6 256 rfl rfl _ _ _ _ ht (TopIs.cons _ _ _ _ _ _ _ (TopIs.cons _ _ _ _ _ _ _ T0))
      · unfold run.sl.v138; rw [l3]; exact load_shift _ _ 7 2 7 256 rfl rfl _ _ _ _ ht (TopIs.cons _ _ _ _ _ _ _ (TopIs.cons _ _ _ _ _ _ _ T0))
      · unfold run.sl.v144; rw [l3]; exact load_same _ _ _ _ _ _
    · refine outG_eq xn' a v cw ht 3 g3 (q3 0 _ _ rfl) ?_ (q3 1 _ _ rfl) ?_ (q3 2 _ _ rfl) ?_
      · unfold run.sl.v160; rw [l4]; exact load_shift _ _ 6 3 6 384 rfl rfl _ _ _ _ ht (TopIs.cons _ _ _ _ _ _ _ (TopIs.cons _ _ _ _ _ _ _ (TopIs.cons _ _ _ _ _ _ _ T0)))
      · unfold run.sl.v165; rw [l4]; exact load_shift _ _ 7 3 7 384 rfl rfl _ _ _ _ ht (TopIs.cons _ _ _ _ _ _ _ (TopIs.cons _ _ _ _ _ _ _ (TopIs.cons _ _ _ _ _ _ _ T0)))
      · unfold run.sl.v171; rw [l4]; exact load_same _ _ _ _ _ _
  isplitl [H15]
  · iexists _; isplitr; swap; · iexact H15
    ipureintro
    rw [View.read_writes_full]
    exact t0
  isplitl [H16]
  · iexists _; isplitr; · ipureintro; exact harg16.read_unread _
    iexact H16
  isplitl [H17]
  · iexists _; isplitr; swap; · iexact H17
    ipureintro; rfl
  isplitl [H18]
  · iexists _; isplitr; swap; · iexact H18
    ipureintro
    rw [View.read_writes_cons_put _ _ _ _ _ ho2, View.writes_nil, harg18.read_unread, t0]
  iexists _; isplitr; swap; · iexact H19
  ipureintro; rfl
end Cert.Up
end
-- ==== Proof.UpData.lean ====
/- The up-projection of a feed-forward layer: what the kernel keeps from point to point, and its launch. -/
module
public import proofs.«01_k».proof.Proof.UpRun
@[expose] public section
set_option maxRecDepth 16384
noncomputable section
namespace Cert.Up
open Idealize.ShloMosaic Idealize.ShloMosaic.TcCoe Idealize.ShloMosaic.Tactic Cert.Kernel5Ideal Cert.Kernel5Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]
local notation "𝕄" => MT nD τ sig Unit (Elt F) ℕ (UR sig nD τ) ℕ
variable (m : (ℓ : Loc nD τ sig) → Buf (Elt F) ℓ) (ρ : Dev nD → PrngReg)

theorem N_eq : cfg0.N = 88 := N_0
theorem lt88 (t : Fin cfg0.N) : t.val < 88 := lt_of_lt_of_eq t.isLt N_eq

theorem isJ0_iff : ∀ t : Fin cfg0.N, isJ0 (grid0.coords t) ↔ t.val % 11 = 0 := by decide +kernel
theorem isI0_iff : ∀ t : Fin cfg0.N, isI0 (grid0.coords t) ↔ t.val < 11 := by decide +kernel
theorem cond3_iff : ∀ t : Fin cfg0.N, k0_cond3 (grid0.coords t) = 1#1 ↔ 11 ≤ t.val := by decide +kernel
theorem off1_eq : ∀ t : Fin cfg0.N, k0_off1 (grid0.coords t) = ![t.val % 11, 0, 0] := by decide +kernel
theorem off2_eq : ∀ t : Fin cfg0.N, k0_off2 (grid0.coords t) = ![t.val % 11, 0, 0] := by decide +kernel

/-- Point number `n`. -/
def pt (n : ℕ) : Fin cfg0.N := ⟨n % 88, by rw [N_eq]; omega⟩
theorem pt_val (t : Fin cfg0.N) : pt t.val = t := Fin.ext (Nat.mod_eq_of_lt (lt88 t))

/-- The four granules of the gated half of the weights at a point. -/
def av (c : Dev nD) (t : Fin cfg0.N) : Fin 4 → Vec F S1x2048x128 .f32
  | 0 => iblk m c 2 t
  | 1 => iblk m c 3 t
  | 2 => iblk m c 4 t
  | 3 => iblk m c 5 t
/-- The four granules of the value half. -/
def vv (c : Dev nD) (t : Fin cfg0.N) : Fin 4 → Vec F S1x2048x128 .f32
  | 0 => iblk m c 6 t
  | 1 => iblk m c 7 t
  | 2 => iblk m c 8 t
  | 3 => iblk m c 9 t

/-- The normed rows of the block that point `n` lies in: they are made at the block's first point. -/
def xnAt (c : Dev nD) (n : ℕ) : Vec F S1024x2048 .bf16 := k0_pay1 (iblk m c 0 (pt (n / 11 * 11))) (gainRow (iblk m c 1 (pt (n / 11 * 11))))

/-- The last eight rows of the gated half at point `n`. -/
def tailAt (c : Dev nD) (n : ℕ) : Vec F S8x512 .f32 := tailOf (xnAt m c n) (av m c (pt n)) (vv m c (pt n))

/-- The eight rows before the block: the given ones at first, then what the block of rows before left for these columns. -/
def htAt (c : Dev nD) (n : ℕ) : Vec F S8x512 .f32 := if n < 11 then k0_pay2 (iblk m c 11 (pt n)) else tailAt m c (n - 11)

theorem xnAt_succ (c : Dev nD) (n : ℕ) (h : (n + 1) % 11 ≠ 0) : xnAt m c (n + 1) = xnAt m c n := by
  unfold xnAt; rw [show (n + 1) / 11 = n / 11 by omega]

/-- The kept rows before point `n`: each of the eleven last points has left its last eight rows. -/
def Kept (c : Dev nD) (n : ℕ) (d : Vec F S11x8x512 .f32) : Prop :=
  ∀ p, p < n → n ≤ p + 11 → ∀ (r : Fin 8) (k : Fin 512), d (ix3 (⟨p % 11, Nat.mod_lt _ (by decide)⟩ : Fin 11) r k) = tailAt m c p (ix2 r k)

theorem pay27_apply (w : Vec F S8x512 .f32) (r : Fin 8) (k : Fin 512) : k0_pay27 w (ix3 0 r k) = w (ix2 r k) := by pointwise [k0_pay27]
theorem pay3_apply (w : Vec F S1x8x512 .f32) (r : Fin 8) (k : Fin 512) : k0_pay3 w (ix2 r k) = w (ix3 0 r k) := by pointwise [k0_pay3]

theorem slab_inb (j : ℕ) (hj : j < 11) : ∀ a : Fin 3, (![j, 0, 0] : Fin 3 → ℕ) a + S1x8x512.size a ≤ S11x8x512.size a := fun a => by
  match a with
  | 0 => show j + 1 ≤ 11; omega
  | 1 => exact Nat.le_refl 8
  | 2 => exact Nat.le_refl 512

theorem kept_step (c : Dev nD) (n : ℕ) (d : Vec F S11x8x512 .f32) (h : Kept m c n d) : Kept m c (n + 1) (haloPut d (n % 11) (tailAt m c n)) := fun p hp hn r k => by
  by_cases hpn : p = n
  · subst hpn
    rw [← pay27_apply (tailAt m c p) r k]
    exact put_in d ![p % 11, 0, 0] S1x8x512.size (k0_pay27 (tailAt m c p)) (ix3 (⟨p % 11, Nat.mod_lt _ (by decide)⟩ : Fin 11) r k) (ix3 (0 : Fin 1) r k)
      fun a => by fin_cases a <;> simp
  · rw [← h p (by omega) (by omega) r k]
    exact put_out _ _ _ _ _ 0 (by show p % 11 < n % 11 ∨ n % 11 + 1 ≤ p % 11; omega)

theorem kept_ht (c : Dev nD) (n : ℕ) (hn : 11 ≤ n) (d : Vec F S11x8x512 .f32) (h : Kept m c n d) :
    k0_pay3 (slab d (n % 11) (slab_inb _ (Nat.mod_lt _ (by decide)))) = htAt m c n := by
  funext y
  obtain ⟨r, k, rfl⟩ : ∃ (r : Fin 8) (k : Fin 512), y = ix2 r k := ⟨y 0, y 1, by funext a; fin_cases a <;> rfl⟩
  rw [pay3_apply]
  unfold htAt; rw [if_neg (by omega), ← h (n - 11) (by omega) (by omega) r k]
  unfold slab VecWindow.window
  exact congrArg d (funext fun a => Fin.ext (by fin_cases a <;> simp [ValueKit.rect_emb_unit_val] <;> omega))

/-- What a point leaves in the two outputs' buffers. -/
def rowsAt (c : Dev nD) (t : Fin cfg0.N) : Vec F S1024x512 .bf16 := rowsOut (xnAt m c t.val) (av m c t) (vv m c t) (iblk m c 10 t) (htAt m c t.val)

abbrev scX : Memref sig .tc .vmem S1024x2048 .bf16 := Memref.whole cc0_scratch0
abbrev scW : Memref sig .tc .vmem S4x2048x256 .bf16 := Memref.whole cc0_scratch1
abbrev scH : Memref sig .tc .vmem S11x8x512 .f32 := Memref.whole cc0_scratch2
abbrev scE : Memref sig .tc .vmem S1032x512 .f32 := Memref.whole cc0_scratch3

/-- Between points: inside a block of rows its normed rows are in the scratch, and the rows kept for the next block are there. -/
def Phi (c : Dev nD) (n : ℕ) : sProp 𝕄 :=
  iprop((∃ d, ⌜n % 11 ≠ 0 → d = xnAt m c n⌝ ∗ owns (c : Thread nD τ) scX fullShare d)
    ∗ (∃ d, owns (c : Thread nD τ) scW fullShare d)
    ∗ (∃ d, ⌜Kept m c n d⌝ ∗ owns (c : Thread nD τ) scH fullShare d)
    ∗ (∃ d, owns (c : Thread nD τ) scE fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => rowsAt m c t
    | ⟨13, _⟩ => tailAt m c t.val
  Φ t := Phi m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = rowsAt m c t := by dsimp only [dats]
theorem after13 (c : Dev nD) (t : Fin cfg0.N) : (dats m 0 c).after 13 t = tailAt m c t.val := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem ht_cases (c : Dev nD) (t : Fin cfg0.N) (d : Vec F S11x8x512 .f32) (h : Kept m c t.val d) :
    (isI0 (grid0.coords t) ∧ ¬ k0_cond3 (grid0.coords t) = 1#1 ∧ k0_pay2 (iblk m c 11 t) = htAt m c t.val)
      ∨ (¬ isI0 (grid0.coords t) ∧ k0_cond3 (grid0.coords t) = 1#1 ∧ k0_pay3 (slab d (t.val % 11) (slab_inb _ (Nat.mod_lt _ (by decide)))) = htAt m c t.val) := by
  by_cases h11 : t.val < 11
  · refine .inl ⟨(isI0_iff t).mpr h11, fun h => absurd ((cond3_iff t).mp h) (by omega), ?_⟩
    unfold htAt; rw [if_pos h11, pt_val]
  · exact .inr ⟨fun h => h11 ((isI0_iff t).mp h), (cond3_iff t).mpr (by omega), kept_ht m c t.val (by omega) d h⟩

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl, after0, after1, after2, after3, after4, after5, after6, after7, after8, after9, after10, after11, after12, after13]
  rw [show (dats m 0 c).Φ t.castSucc = Phi m c t.val from rfl, show (dats m 0 c).Φ t.succ = Phi m c (t.val + 1) from rfl]
  unfold Phi
  iintro ⟨⟨⟨%xn, %hxn, HX⟩, ⟨%w, HW⟩, ⟨%h, %hh, HH⟩, ⟨%e, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run c (grid0.coords t) _ _ _ _ _ _ _ _ _ _ _ _ _ _ _ _ _ _ _ _ _ _ _ _ _ _ _ _ _ _ _ _ _ _ _ _
    (iblk m c 0 t) (iblk m c 1 t) (iblk m c 10 t) (iblk m c 11 t) _ _ xn w h e (av m c t) (vv m c t) (xnAt m c t.val) (htAt m c t.val) (t.val % 11)
    (slab_inb _ (Nat.mod_lt _ (by decide))) (off1_eq t) (off2_eq t)
    (fun hj => by unfold xnAt; rw [show t.val / 11 * 11 = t.val by have := (isJ0_iff t).mp hj; omega, pt_val])
    (fun hj => (hxn fun h0 => hj ((isJ0_iff t).mpr h0)).symm) (ht_cases m c t h hh) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HX]; · iexact HX
  isplitl [HW]; · iexact HW
  isplitl [HH]; · iexact HH
  isplitl [HE]; · iexact HE
  iintro %w17 %w19 ⟨H0, H1, H2, H3, H4, H5, H6, H7, H8, H9, H10, H11, H12, H13, HX, HW, HH, HE⟩
  have htl : tailOf (xnAt m c t.val) (av m c t) (vv m c t) = tailAt m c t.val := by unfold tailAt; rw [pt_val]
  isplitl [HX HW HH HE Hg]
  · isplitl [HX]
    · iexists _; isplitr; swap; · iexact HX
      ipureintro; intro h0; exact (xnAt_succ m c t.val h0).symm
    isplitl [HW]
    · iexists _; iexact HW
    isplitl [HH]
    · iexists _; isplitr; swap; · iexact HH
      ipureintro; rw [htl]; exact kept_step m c t.val h hh
    isplitl [HE]
    · iexists _; iexact HE
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [← htl]; iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) : (ΦA spec0 c : sProp 𝕄) = iprop(((∃ d, owns (c : Thread nD τ) scX fullShare d) ∗ (∃ d, owns (c : Thread nD τ) scW fullShare d)
    ∗ (∃ d, owns (c : Thread nD τ) scH fullShare d) ∗ (∃ d, owns (c : Thread nD τ) scE fullShare d)) ∗ ∃ r, prngReg c r) := by
  unfold ΦA; rw [scopedRest0_eq]; simp only [scX, scW, scH, scE, owns_whole]; rfl

theorem hin (c : Dev nD) : (ΦA spec0 c : sProp 𝕄) ⊢ Phi m c 0 := by
  rw [PhiA_eq]; unfold Phi
  iintro ⟨⟨⟨%d, HX⟩, HW, ⟨%e, HH⟩, HE⟩, Hg⟩
  isplitl [HX]
  · iexists d; isplitr; swap; · iexact HX
    ipureintro; intro h; exact absurd rfl h
  isplitl [HW]; · iexact HW
  isplitl [HH]
  · iexists e; isplitr; swap; · iexact HH
    ipureintro; intro p hp; exact absurd hp (Nat.not_lt_zero _)
  isplitl [HE]; · iexact HE
  iexact Hg

theorem hout (c : Dev nD) (n : ℕ) : Phi m c n ⊢ (ΦA spec0 c : sProp 𝕄) := by
  rw [PhiA_eq]; unfold Phi
  iintro ⟨⟨%d, %h, HX⟩, HW, ⟨%e, %he, HH⟩, HE, Hg⟩
  isplitl [HX HW HH HE]
  · isplitl [HX]; · iexists d; iexact HX
    isplitl [HW]; · iexact HW
    isplitl [HH]; · iexists e; iexact HH
    iexact HE
  iexact Hg

set_option backward.isDefEq.respectTransparency.types false in
/-- The launch: every fair run ends, the arrays as the data say, all counters at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := fun c => hout m c _)
end Cert.Up
end
-- ==== Proof.UpRef.lean ====
/- The up-projection of a feed-forward layer: what the reference computes, row by row. -/
module
public import proofs.«01_k».proof.Proof.CrossRef
public import proofs.«01_k».proof.Proof.Gen.Reference5Ideal.Run
public import proofs.«01_k».proof.Proof.Gen.Reference5Ideal.Read
public import Idealize.ShloMosaic.Lib.Pointwise
public import Idealize.ShloMosaic.Lib.KernelVsHost
@[expose] public section
set_option maxRecDepth 16384
noncomputable section
namespace Cert.Up
open Idealize.ShloMosaic Idealize.ShloMosaic.TcCoe
open Cert.Cross (rmsAt rowMul)

/-- One element of the projection: a normed row against a column of the weights. -/
def upAt (x g : Fin 2048 → EReal) (w : Fin 2048 → EReal) : EReal := ∑ j : Fin 2048, rmsAt x g j * w j

/-- Three taps summed, the sum times its logistic function, times the value half. -/
def gateAt (w p : Fin 3 → EReal) (v : EReal) : EReal :=
  (w 0 * p 0 + w 1 * p 1 + w 2 * p 2) * Ideal.logistic (w 0 * p 0 + w 1 * p 1 + w 2 * p 2) * v

/-- A column that the taps read: zero before the first row. -/
def tapAt (f : Fin 8192 → EReal) (R : Fin 8192) (k : Fin 3) : EReal :=
  if h : k.val + R.val < 2 then 0 else f ⟨k.val + R.val - 2, by omega⟩

theorem sitofp_zero {φ : FTy} : FloatOps.sitofp (F := Ideal) φ (0#32) = (0 : EReal) := by
  show ((((0#32 : BitVec 32).toInt : ℤ) : ℝ) : EReal) = 0
  simp

open Cert.Reference5Ideal Cert.Reference5Ideal.Gen Cert.Reference5Ideal.Read

variable (x0 : (⟨S8192x2048, .f32⟩ : BufTy).Contents (Elt Ideal)) (x1 : (⟨S2x6x2048, .f32⟩ : BufTy).Contents (Elt Ideal))
  (x2 : (⟨S2x2048x11008, .f32⟩ : BufTy).Contents (Elt Ideal)) (x3 : (⟨S2x3x5504, .f32⟩ : BufTy).Contents (Elt Ideal))

/-- The projection's element at row `R` and column `K`. -/
def U (R : Fin 8192) (K : Fin 11008) : EReal := upAt (fun j => x0 (ix2 R j)) (fun j => x1 (ix3 1 4 j)) (fun j => x2 (ix3 1 j K))

theorem h_apply (R : Fin 8192) (j : Fin 2048) : val_main_v16 (F := Ideal) x0 x1 (ix2 R j) = rmsAt (fun j => x0 (ix2 R j)) (fun j => x1 (ix3 1 4 j)) j := by
  unfold rmsAt
  unfold val_main_v16 val_main_v15 val_main_v14 val_main_v13 val_main_v12 val_main_v11 val_main_v10 val_main_v8 val_main_v6 val_main_v5 val_main_v4
  pointwise [val_main_v9, val_main_v7, val_main_v3, val_main_v2, val_main_v1, val_main_v0, val_main_cst, val_main_cst_0, val_main_cst_1]

theorem up_apply (R : Fin 8192) (K : Fin 11008) : val_main_v19 (F := Ideal) x0 x1 x2 (ix2 R K) = U x0 x1 x2 R K := by
  unfold U upAt
  simp only [← h_apply]
  unfold val_main_v19
  generalize val_main_v16 (F := Ideal) x0 x1 = q
  pointwise [val_main_v18, val_main_v17]

theorem a_apply (R : Fin 8192) (k : Fin 5504) : val_main_v20 (F := Ideal) x0 x1 x2 (ix2 R k) = U x0 x1 x2 R ⟨k.val, by omega⟩ := by
  rw [← up_apply]; unfold val_main_v20
  generalize val_main_v19 (F := Ideal) x0 x1 x2 = q
  pointwise

theorem v_apply (R : Fin 8192) (k : Fin 5504) : val_main_v21 (F := Ideal) x0 x1 x2 (ix2 R k) = U x0 x1 x2 R ⟨5504 + k.val, by omega⟩ := by
  rw [← up_apply]; unfold val_main_v21
  generalize val_main_v19 (F := Ideal) x0 x1 x2 = q
  pointwise

theorem ext_apply (R : Fin 8192) (s : Fin 3) (k : Fin 5504) :
    val_main_v25 (F := Ideal) x0 x1 x2 (ix2 (⟨s.val + R.val, by omega⟩ : Fin 8194) k) = tapAt (fun R => U x0 x1 x2 R ⟨k.val, by omega⟩) R s := by
  unfold tapAt
  simp only [← a_apply]
  unfold val_main_v25
  generalize val_main_v20 (F := Ideal) x0 x1 x2 = q
  pointwise [val_main_v24, val_main_cst_2]

/-- The gated rows. -/
theorem g_apply (R : Fin 8192) (k : Fin 5504) :
    val_main_v54 (F := Ideal) x0 x1 x2 x3 (ix2 R k)
      = gateAt (fun s => x3 (ix3 1 s k)) (tapAt (fun R => U x0 x1 x2 R ⟨k.val, by omega⟩) R) (U x0 x1 x2 R ⟨5504 + k.val, by omega⟩) := by
  have e := fun s => ext_apply x0 x1 x2 R s k
  unfold gateAt
  simp only [← e, ← v_apply]
  unfold val_main_v54 val_main_v53 val_main_v52 val_main_v51 val_main_v49 val_main_v47 val_main_v46 val_main_v45 val_main_v44 val_main_v38 val_main_v37 val_main_v31 val_main_v28 val_main_v34 val_main_v41
  generalize val_main_v25 (F := Ideal) x0 x1 x2 = q
  generalize val_main_v21 (F := Ideal) x0 x1 x2 = u
  pointwise [val_main_v50, val_main_v48, val_main_v43, val_main_v42, val_main_v40, val_main_v39, val_main_v36, val_main_v35, val_main_v33, val_main_v32, val_main_v30, val_main_v29, val_main_v27, val_main_v26, val_main_v23, val_main_v22, val_main_cst_3, val_main_cst_4]
  rfl

theorem out_apply (R : Fin 8192) (K : Fin 5632) :
    val_main_v58 (F := Ideal) x0 x1 x2 x3 (ix2 R K)
      = if h : K.val < 5504 then gateAt (fun s => x3 (ix3 1 s ⟨K.val, h⟩)) (tapAt (fun R => U x0 x1 x2 R ⟨K.val, by omega⟩) R) (U x0 x1 x2 R ⟨5504 + K.val, by omega⟩) else 0 := by
  by_cases h : K.val < 5504
  · rw [dif_pos h, ← g_apply x0 x1 x2 x3 R ⟨K.val, h⟩]
    unfold val_main_v58
    refine pad_apply_of_inside _ _ _ _ _ _ _ _ (ix2 R (⟨K.val, h⟩ : Fin 5504)) ?_
    intro a; fin_cases a <;> simp
  · rw [dif_neg h]
    unfold val_main_v58
    refine (pad_apply_of_not_inside _ _ _ _ _ _ _ _ (1 : Fin 2) ?_).trans ?_
    · rintro ⟨-, -, h2⟩; exact h (by simpa using h2)
    · pointwise [val_main_call0_v0, val_main_c]
      exact sitofp_zero

/-- The last eight rows of each block of 1024. -/
theorem tail_apply (i r : Fin 8) (k : Fin 5504) :
    val_main_v57 (F := Ideal) x0 x1 x2 (ix2 (⟨i.val * 8 + r.val, by omega⟩ : Fin 64) k) = U x0 x1 x2 ⟨i.val * 1024 + (1016 + r.val), by omega⟩ ⟨k.val, by omega⟩ := by
  rw [← a_apply]
  unfold val_main_v57 val_main_v56 val_main_v55
  generalize val_main_v20 (F := Ideal) x0 x1 x2 = q
  pointwise

theorem hist_apply (i r : Fin 8) (K : Fin 5632) :
    val_main_v60 (F := Ideal) x0 x1 x2 (ix2 (⟨i.val * 8 + r.val, by omega⟩ : Fin 64) K)
      = U x0 x1 x2 ⟨i.val * 1024 + (1016 + r.val), by omega⟩ ⟨if K.val < 5504 then K.val else K.val - 128, by split <;> omega⟩ := by
  have e := fun k => tail_apply x0 x1 x2 i r k
  unfold val_main_v60 val_main_v59
  revert e
  generalize val_main_v57 (F := Ideal) x0 x1 x2 = q
  intro e
  pointwise
  by_cases h : K.val < 5504
  · simp only [dif_pos h, if_pos h]; exact e ⟨K.val, h⟩
  · simp only [dif_neg h, if_neg h]
    refine (congrArg q ?_).trans ((e ⟨5376 + (K.val - 5504), by omega⟩).trans ?_)
    · rfl
    · have hk : 5376 + (K.val - 5504) = K.val - 128 := by omega
      simp only [hk]
end Cert.Up
end
-- ==== Proof.UpKernel.lean ====
/- The up-projection of a feed-forward layer: what one point of the kernel writes, and the blocks it reads. -/
module
public import proofs.«01_k».proof.Proof.UpData
public import proofs.«01_k».proof.Proof.UpRef
@[expose] public section
set_option maxRecDepth 16384
noncomputable section
namespace Cert.Up
open Idealize.ShloMosaic Idealize.ShloMosaic.TcCoe Cert.Kernel5Ideal Cert.Kernel5Ideal.Gen
open Cert.Cross (rmsAt rowMul)

theorem pay1_apply (x : Vec Ideal S1024x2048 .f32) (g : Vec Ideal S1x1x2048 .f32) (r : Fin 1024) (j : Fin 2048) :
    k0_pay1 x g (ix2 r j) = rmsAt (fun j => x (ix2 r j)) (fun j => g (ix3 0 0 j)) j := by
  unfold rmsAt
  pointwise [k0_pay1]

theorem pay6_apply (x : Vec Ideal S1024x2048 .bf16) (w : Vec Ideal S1x2048x256 .bf16) (r : Fin 1024) (k : Fin 256) :
    k0_pay6 x w (ix2 r k) = ∑ j : Fin 2048, x (ix2 r j) * w (ix3 0 j k) := by
  pointwise [k0_pay6]

theorem pay4_apply (w : Vec Ideal S1x2048x128 .f32) (j : Fin 2048) (k : Fin 128) : k0_pay4 w (ix3 0 j k) = w (ix3 0 j k) := by pointwise [k0_pay4]
theorem pay5_apply (w : Vec Ideal S1x2048x128 .f32) (j : Fin 2048) (k : Fin 128) : k0_pay5 w (ix3 0 j k) = w (ix3 0 j k) := by pointwise [k0_pay5]
theorem pay2_apply (w : Vec Ideal S8x512 .f32) (r : Fin 8) (k : Fin 512) : k0_pay2 w (ix2 r k) = w (ix2 r k) := by pointwise [k0_pay2]

theorem pay10_apply (p : FVec Ideal S1024x256 .f32) (r : Fin 1024) (k : Fin 128) : k0_pay10 p (ix2 r k) = p (ix2 r (⟨k.val, by omega⟩ : Fin 256)) := by
  pointwise [k0_pay10]

theorem pay17_apply (p : FVec Ideal S1024x256 .f32) (w0 w1 w2 : Vec Ideal S1x128 .f32) (p0 p1 p2 : Vec Ideal S1024x128 .f32) (r : Fin 1024) (k : Fin 128) :
    k0_pay17 p w0 p0 w1 p1 w2 p2 (ix2 r k)
      = gateAt ![w0 (ix2 0 k), w1 (ix2 0 k), w2 (ix2 0 k)] ![p0 (ix2 r k), p1 (ix2 r k), p2 (ix2 r k)] (p (ix2 r (⟨128 + k.val, by omega⟩ : Fin 256))) := by
  unfold gateAt
  pointwise [k0_pay17]

/-- A granule of the gated half. -/
theorem ga_apply (xn : Vec Ideal S1024x2048 .bf16) (a v : Fin 4 → Vec Ideal S1x2048x128 .f32) (s : Fin 4) (r : Fin 1024) (k : Fin 128) :
    ga xn a v s (ix2 r k) = ∑ j : Fin 2048, xn (ix2 r j) * a s (ix3 0 j k) := by
  unfold ga gp
  rw [pay10_apply, pay6_apply]
  refine Finset.sum_congr rfl fun j _ => congrArg _ ?_
  unfold wcat
  rw [dif_pos (show ((ix3 (0 : Fin 1) j (⟨k.val, by omega⟩ : Fin 256) : S1x2048x256.Idx) 2).val < 128 from k.isLt)]
  exact pay4_apply (a s) j k

/-- A granule of the value half. -/
theorem gv_apply (xn : Vec Ideal S1024x2048 .bf16) (a v : Fin 4 → Vec Ideal S1x2048x128 .f32) (s : Fin 4) (r : Fin 1024) (k : Fin 128) :
    gp xn a v s (ix2 r (⟨128 + k.val, by omega⟩ : Fin 256)) = ∑ j : Fin 2048, xn (ix2 r j) * v s (ix3 0 j k) := by
  unfold gp
  rw [pay6_apply]
  refine Finset.sum_congr rfl fun j _ => congrArg _ ?_
  unfold wcat
  rw [dif_neg (show ¬ ((ix3 (0 : Fin 1) j (⟨128 + k.val, by omega⟩ : Fin 256) : S1x2048x256.Idx) 2).val < 128 from by show ¬ 128 + k.val < 128; omega)]
  refine Eq.trans (congrArg _ ?_) (pay5_apply (v s) j k)
  funext b; fin_cases b
  · rfl
  · rfl
  · exact Fin.ext (by show 128 + k.val - 128 = k.val; omega)

/-- The blocks of the windows at a grid point. -/
theorem idx : ∀ t : Fin cfg0.N, win0_0.index t = ![t.val / 11, 0] ∧ win0_1.index t = ![1, 0, 0]
    ∧ win0_2.index t = ![1, 0, min (t.val % 11 * 4 + 0) 42] ∧ win0_3.index t = ![1, 0, min (t.val % 11 * 4 + 1) 42]
    ∧ win0_4.index t = ![1, 0, min (t.val % 11 * 4 + 2) 42] ∧ win0_5.index t = ![1, 0, min (t.val % 11 * 4 + 3) 42]
    ∧ win0_6.index t = ![1, 0, 43 + min (t.val % 11 * 4 + 0) 42] ∧ win0_7.index t = ![1, 0, 43 + min (t.val % 11 * 4 + 1) 42]
    ∧ win0_8.index t = ![1, 0, 43 + min (t.val % 11 * 4 + 2) 42] ∧ win0_9.index t = ![1, 0, 43 + min (t.val % 11 * 4 + 3) 42]
    ∧ win0_10.index t = ![0, t.val % 11] ∧ win0_11.index t = ![0, t.val % 11] ∧ win0_12.index t = ![t.val / 11, t.val % 11] ∧ win0_13.index t = ![t.val / 11, t.val % 11] := by
  decide +kernel

variable (m : (ℓ : Loc nD τ sig) → Buf (Elt Ideal) ℓ) (c : Dev nD)

/-- The rows, read off their block. -/
theorem read_x (t : Fin cfg0.N) (r : Fin 1024) (j : Fin 2048) (R : Fin 8192) (hR : R.val = t.val / 11 * 1024 + r.val) :
    iblk m c 0 t (ix2 r j) = m ((c : Thread nD τ).loc main_arg0) (ix2 R j) := by
  blk_ext [iblk, V, idx t]

/-- The gains, read off their block. -/
theorem read_g (t : Fin cfg0.N) (j : Fin 2048) : gainRow (iblk m c 1 t) (ix3 0 0 j) = m ((c : Thread nD τ).loc main_arg1) (ix3 1 4 j) := by
  unfold gainRow
  rw [View.ld_apply]; blk_ext [iblk, V, idx t] <;> (rw [Rect.idx_unit_val]; simp)

/-- The column of the gated half that column `k` of granule `s` is made from: past the last granule, the last granule's. -/
def colOf (t : Fin cfg0.N) (s : Fin 4) (k : Fin 128) : Fin 5504 := ⟨min (t.val % 11 * 4 + s.val) 42 * 128 + k.val, by omega⟩

/-- The gated half's granules, read off their blocks. -/
theorem read_a (t : Fin cfg0.N) (s : Fin 4) (j : Fin 2048) (k : Fin 128) :
    av m c t s (ix3 0 j k) = m ((c : Thread nD τ).loc main_arg2) (ix3 1 j ⟨(colOf t s k).val, by omega⟩) := by
  unfold colOf
  fin_cases s
  · show iblk m c 2 t (ix3 0 j k) = _; blk_ext [iblk, V, idx t]
  · show iblk m c 3 t (ix3 0 j k) = _; blk_ext [iblk, V, idx t]
  · show iblk m c 4 t (ix3 0 j k) = _; blk_ext [iblk, V, idx t]
  · show iblk m c 5 t (ix3 0 j k) = _; blk_ext [iblk, V, idx t]

/-- The value half's granules, read off their blocks. -/
theorem read_v (t : Fin cfg0.N) (s : Fin 4) (j : Fin 2048) (k : Fin 128) :
    vv m c t s (ix3 0 j k) = m ((c : Thread nD τ).loc main_arg2) (ix3 1 j ⟨5504 + (colOf t s k).val, by omega⟩) := by
  unfold colOf
  fin_cases s
  · show iblk m c 6 t (ix3 0 j k) = _; blk_ext [iblk, V, idx t]
  · show iblk m c 7 t (ix3 0 j k) = _; blk_ext [iblk, V, idx t]
  · show iblk m c 8 t (ix3 0 j k) = _; blk_ext [iblk, V, idx t]
  · show iblk m c 9 t (ix3 0 j k) = _; blk_ext [iblk, V, idx t]

/-- The taps' weights of the second layer, padded by zeros. -/
def padW (x : Vec Ideal S2x3x5504 .f32) : Vec Ideal S3x5632 .f32 :=
  pad S3x5632 ![0, 0] ![0, 128] ![0, 0] (shapeCast S3x5504 (extractStridedSlice S1x3x5504 ![1, 0, 0] x slices_S2x3x5504_S1x3x5504_1_0_0) shapeCasts_S1x3x5504_S3x5504)
    (sitofp (F := Ideal) .f32 (constantI S_ 32 0#32)) pads_S3x5504_S3x5632_000_01280 h_S_

/-- The rows before the first, all zero. -/
def padP : Vec Ideal S8x5632 .f32 :=
  pad S8x5632 ![0, 0] ![0, 128] ![0, 0] (broadcastInDim S8x5504 ![] bcast_S_S8x5504 (constant (F := Ideal) S_ .f32 0x00000000#32))
    (sitofp (F := Ideal) .f32 (constantI S_ 32 0#32)) pads_S8x5504_S8x5632_000_01280 h_S_

theorem V_w : V m c main_v3 = padW (m ((c : Thread nD τ).loc main_arg3)) := by
  unfold padW
  simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results_simp <;> rfl

theorem V_p : V m c main_v4 = padP := by
  unfold padP
  simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results_simp <;> rfl

theorem padW_apply (x : Vec Ideal S2x3x5504 .f32) (s : Fin 3) (K : Fin 5632) :
    padW x (ix2 s K) = if h : K.val < 5504 then x (ix3 1 s ⟨K.val, h⟩) else 0 := by
  unfold padW
  by_cases h : K.val < 5504
  · rw [dif_pos h]
    refine (pad_apply_of_inside _ _ _ _ _ _ _ _ (ix2 s (⟨K.val, h⟩ : Fin 5504)) ?_).trans ?_
    · intro a; fin_cases a <;> simp
    · pointwise
  · rw [dif_neg h]
    refine (pad_apply_of_not_inside _ _ _ _ _ _ _ _ (1 : Fin 2) ?_).trans ?_
    · rintro ⟨-, -, h2⟩; exact h (by simpa using h2)
    · pointwise
      exact sitofp_zero

theorem padP_apply (r : Fin 8) (K : Fin 5632) : padP (ix2 r K) = 0 := by
  unfold padP
  by_cases h : K.val < 5504
  · refine (pad_apply_of_inside _ _ _ _ _ _ _ _ (ix2 r (⟨K.val, h⟩ : Fin 5504)) ?_).trans ?_
    · intro a; fin_cases a <;> simp
    · pointwise
  · refine (pad_apply_of_not_inside _ _ _ _ _ _ _ _ (1 : Fin 2) ?_).trans ?_
    · rintro ⟨-, -, h2⟩; exact h (by simpa using h2)
    · pointwise
      exact sitofp_zero

/-- The taps' weights, read off their block. -/
theorem read_w (t : Fin cfg0.N) (s : Fin 3) (k : Fin 512) (K : Fin 5632) (hK : K.val = t.val % 11 * 512 + k.val) :
    iblk m c 10 t (ix2 s k) = padW (m ((c : Thread nD τ).loc main_arg3)) (ix2 s K) := by
  rw [← V_w]
  blk_ext [iblk, idx t]

/-- The rows before the first, read off their block. -/
theorem read_p (t : Fin cfg0.N) (r : Fin 8) (k : Fin 512) : iblk m c 11 t (ix2 r k) = (0 : EReal) := by
  have h := lt88 t
  rw [← padP_apply r ⟨t.val % 11 * 512 + k.val, by omega⟩, ← V_p m c]
  blk_ext [iblk, idx t]

/-- The projection's element at row `R` and column `K`, of the launched arrays. -/
abbrev UK (R : Fin 8192) (K : Fin 11008) : EReal :=
  U (m ((c : Thread nD τ).loc main_arg0)) (m ((c : Thread nD τ).loc main_arg1)) (m ((c : Thread nD τ).loc main_arg2)) R K

/-- The normed rows of the block of a point. -/
theorem xn_apply (t : Fin cfg0.N) (r : Fin 1024) (j : Fin 2048) (R : Fin 8192) (hR : R.val = t.val / 11 * 1024 + r.val) :
    xnAt m c t.val (ix2 r j) = rmsAt (fun j => m ((c : Thread nD τ).loc main_arg0) (ix2 R j)) (fun j => m ((c : Thread nD τ).loc main_arg1) (ix3 1 4 j)) j := by
  have ht := lt88 t
  unfold xnAt
  rw [pay1_apply]
  congr 1
  · funext j; exact read_x m c _ r j R (by rw [hR]; show _ = t.val / 11 * 11 % 88 / 11 * 1024 + r.val; omega)
  · funext j; exact read_g m c _ j

/-- The gated half at a point. -/
theorem a_at (t : Fin cfg0.N) (s : Fin 4) (r : Fin 1024) (k : Fin 128) (R : Fin 8192) (hR : R.val = t.val / 11 * 1024 + r.val) :
    ga (xnAt m c t.val) (av m c t) (vv m c t) s (ix2 r k) = UK m c R ⟨(colOf t s k).val, by omega⟩ := by
  rw [ga_apply]
  unfold UK U upAt
  exact Finset.sum_congr rfl fun j _ => by rw [xn_apply m c t r j R hR, read_a]

/-- The value half at a point. -/
theorem v_at (t : Fin cfg0.N) (s : Fin 4) (r : Fin 1024) (k : Fin 128) (R : Fin 8192) (hR : R.val = t.val / 11 * 1024 + r.val) :
    gp (xnAt m c t.val) (av m c t) (vv m c t) s (ix2 r (⟨128 + k.val, by omega⟩ : Fin 256)) = UK m c R ⟨5504 + (colOf t s k).val, by omega⟩ := by
  rw [gv_apply]
  unfold UK U upAt
  exact Finset.sum_congr rfl fun j _ => by rw [xn_apply m c t r j R hR, read_v]

/-- Inside the array the column is the block's own; past it, the last granule's. -/
theorem colOf_val (t : Fin cfg0.N) (k : Fin 512) :
    (colOf t ⟨k.val / 128, by omega⟩ ⟨k.val % 128, by omega⟩).val = if t.val % 11 * 512 + k.val < 5504 then t.val % 11 * 512 + k.val else t.val % 11 * 512 + k.val - 128 := by
  have ht := lt88 t
  show min (t.val % 11 * 4 + k.val / 128) 42 * 128 + k.val % 128 = _
  split <;> omega

/-- The last rows that a point leaves. -/
theorem tail_at (t : Fin cfg0.N) (r : Fin 8) (k : Fin 512) (R : Fin 8192) (hR : R.val = t.val / 11 * 1024 + (1016 + r.val)) (K : Fin 11008)
    (hK : K.val = if t.val % 11 * 512 + k.val < 5504 then t.val % 11 * 512 + k.val else t.val % 11 * 512 + k.val - 128) :
    tailAt m c t.val (ix2 r k) = UK m c R K := by
  unfold tailAt tailOf
  rw [pt_val]
  refine (a_at m c t _ _ _ R hR).trans (congrArg _ (Fin.ext ?_))
  rw [hK]; exact colOf_val t k

/-- The rows before the block. -/
theorem ht_at (t : Fin cfg0.N) (r : Fin 8) (k : Fin 512) (K : Fin 11008) (hK : K.val = t.val % 11 * 512 + k.val) (hK' : K.val < 5504) :
    htAt m c t.val (ix2 r k) = if h : t.val < 11 then 0 else UK m c ⟨t.val / 11 * 1024 + r.val - 8, by have := lt88 t; omega⟩ K := by
  have ht := lt88 t
  unfold htAt
  by_cases h : t.val < 11
  · rw [if_pos h, dif_pos h, pay2_apply, read_p]
  · rw [if_neg h, dif_neg h]
    refine tail_at m c ⟨t.val - 11, by have := t.isLt; omega⟩ r k _ ?_ K ?_
    · show t.val / 11 * 1024 + r.val - 8 = (t.val - 11) / 11 * 1024 + (1016 + r.val); omega
    · rw [if_pos (by show (t.val - 11) % 11 * 512 + k.val < 5504; omega)]; show K.val = (t.val - 11) % 11 * 512 + k.val; omega

/-- A shifted granule, read at a row: out of the rows before the block, or of the block. -/
theorem shift_lt (n : Fin 9) (s : Fin 4) (ht : Vec Ideal S8x512 .f32) (g : Vec Ideal S1024x128 .f32) (r : Fin 1024) (q : Fin 128) (k : Fin 512)
    (hk : 128 * s.val + q.val = k.val) (h : r.val + n.val < 8) : shift n s ht g (ix2 r q) = ht (ix2 (⟨r.val + n.val, h⟩ : Fin 8) k) := by
  unfold shift
  exact (dif_pos h).trans (congrArg (fun k => ht (ix2 (⟨r.val + n.val, h⟩ : Fin 8) k)) (Fin.ext hk))

theorem shift_ge (n : Fin 9) (s : Fin 4) (ht : Vec Ideal S8x512 .f32) (g : Vec Ideal S1024x128 .f32) (r : Fin 1024) (q : Fin 128)
    (h : ¬ r.val + n.val < 8) : shift n s ht g (ix2 r q) = g (ix2 (⟨r.val + n.val - 8, by omega⟩ : Fin 1024) q) := by
  unfold shift
  exact dif_neg h

/-- A tap inside the array. -/
theorem tap_at (t : Fin cfg0.N) (s : Fin 3) (n : Fin 9) (hn : n.val = 6 + s.val) (r : Fin 1024) (k : Fin 512) (K : Fin 11008) (hK : K.val = t.val % 11 * 512 + k.val) (hK' : K.val < 5504)
    (R : Fin 8192) (hR : R.val = t.val / 11 * 1024 + r.val) :
    shift n ⟨k.val / 128, by omega⟩ (htAt m c t.val) (ga (xnAt m c t.val) (av m c t) (vv m c t) ⟨k.val / 128, by omega⟩) (ix2 r (⟨k.val % 128, by omega⟩ : Fin 128))
      = tapAt (fun R => UK m c R K) R s := by
  have ht := lt88 t
  unfold tapAt
  by_cases h : r.val + n.val < 8
  · rw [shift_lt n _ _ _ r _ k (by show 128 * (k.val / 128) + k.val % 128 = k.val; omega) h, ht_at m c t _ k K hK hK']
    by_cases h1 : t.val < 11
    · rw [dif_pos h1, dif_pos (by omega)]
    · rw [dif_neg h1, dif_neg (by omega)]
      exact congrArg (fun R => UK m c R K) (Fin.ext (by show t.val / 11 * 1024 + (r.val + n.val) - 8 = s.val + R.val - 2; omega))
  · rw [shift_ge n _ _ _ r _ h, dif_neg (by omega)]
    have hc := colOf_val t k
    rw [if_pos (by omega)] at hc
    refine (a_at m c t _ _ _ ⟨s.val + R.val - 2, by omega⟩ ?_).trans (congrArg _ (Fin.ext ?_))
    · show s.val + R.val - 2 = t.val / 11 * 1024 + (r.val + n.val - 8); omega
    · rw [hK]; exact hc

/-- A granule of the written rows, from its taps, their weights and its value. -/
theorem outG_apply (xn : Vec Ideal S1024x2048 .bf16) (a v : Fin 4 → Vec Ideal S1x2048x128 .f32) (cw : Vec Ideal S3x512 .f32) (ht : Vec Ideal S8x512 .f32) (s : Fin 4)
    (r : Fin 1024) (q : Fin 128) (w p : Fin 3 → EReal) (u : EReal) (hw : ∀ i, cwr cw i s (ix2 0 q) = w i)
    (h0 : shift 6 s ht (ga xn a v s) (ix2 r q) = p 0) (h1 : shift 7 s ht (ga xn a v s) (ix2 r q) = p 1) (h2 : ga xn a v s (ix2 r q) = p 2)
    (hu : gp xn a v s (ix2 r (⟨128 + q.val, by omega⟩ : Fin 256)) = u) :
    outG xn a v cw ht s (ix2 r q) = gateAt w p u := by
  unfold outG
  rw [pay17_apply, hw 0, hw 1, hw 2, h0, h1, h2, hu]
  rfl

/-- No weight, no value. -/
theorem gate_zero (p : Fin 3 → EReal) (u : EReal) : gateAt (fun _ => 0) p u = 0 := by
  unfold gateAt; simp

/-- The rows that a point writes. -/
theorem rows_at (t : Fin cfg0.N) (r : Fin 1024) (k : Fin 512) (R : Fin 8192) (hR : R.val = t.val / 11 * 1024 + r.val) (K : Fin 5632) (hK : K.val = t.val % 11 * 512 + k.val) :
    rowsAt m c t (ix2 r k) = Cert.Reference5Ideal.Read.val_main_v58 (F := Ideal) (m ((c : Thread nD τ).loc main_arg0)) (m ((c : Thread nD τ).loc main_arg1))
      (m ((c : Thread nD τ).loc main_arg2)) (m ((c : Thread nD τ).loc main_arg3)) (ix2 R K) := by
  have ht := lt88 t
  have hw : ∀ s : Fin 3, cwr (iblk m c 10 t) s ⟨k.val / 128, by omega⟩ (ix2 0 (⟨k.val % 128, by omega⟩ : Fin 128)) = padW (m ((c : Thread nD τ).loc main_arg3)) (ix2 s K) :=
    fun s => read_w m c t s ⟨128 * (k.val / 128) + k.val % 128, by omega⟩ K (by rw [hK]; show _ = t.val % 11 * 512 + (128 * (k.val / 128) + k.val % 128); omega)
  have hc := colOf_val t k
  rw [out_apply]
  refine Eq.trans (b := outG (xnAt m c t.val) (av m c t) (vv m c t) (iblk m c 10 t) (htAt m c t.val) ⟨k.val / 128, by omega⟩ (ix2 r (⟨k.val % 128, by omega⟩ : Fin 128))) rfl ?_
  by_cases h : K.val < 5504
  · rw [dif_pos h]
    rw [if_pos (by omega)] at hc
    refine outG_apply _ _ _ _ _ _ _ _ _ _ _ (fun s => (hw s).trans ((padW_apply _ s K).trans (dif_pos h)))
      (tap_at m c t 0 6 rfl r k ⟨K.val, by omega⟩ hK h R hR) (tap_at m c t 1 7 rfl r k ⟨K.val, by omega⟩ hK h R hR) ?_ ?_
    · refine (a_at m c t _ r _ R hR).trans ?_
      unfold tapAt
      rw [dif_neg (by show ¬ 2 + R.val < 2; omega)]
      have e1 : (⟨(colOf t ⟨k.val / 128, by omega⟩ ⟨k.val % 128, by omega⟩).val, by omega⟩ : Fin 11008) = ⟨K.val, by omega⟩ := Fin.ext (hc.trans hK.symm)
      have e2 : (⟨(2 : Fin 3).val + R.val - 2, by show 2 + R.val - 2 < 8192; omega⟩ : Fin 8192) = R := Fin.ext (by show 2 + R.val - 2 = R.val; omega)
      rw [e1, e2]
    · refine (v_at m c t _ r _ R hR).trans ?_
      have e1 : (⟨5504 + (colOf t ⟨k.val / 128, by omega⟩ ⟨k.val % 128, by omega⟩).val, by omega⟩ : Fin 11008) = ⟨5504 + K.val, by omega⟩ :=
        Fin.ext (congrArg (5504 + ·) (hc.trans hK.symm))
      rw [e1]
  · rw [dif_neg h]
    exact (outG_apply _ _ _ _ _ _ _ _ (fun _ => 0) ![_, _, _] _ (fun s => (hw s).trans ((padW_apply _ s K).trans (dif_neg h))) rfl rfl rfl rfl).trans (gate_zero _ _)

/-- The last rows that a point writes. -/
theorem hist_at (t : Fin cfg0.N) (r : Fin 8) (k : Fin 512) (R : Fin 64) (hR : R.val = t.val / 11 * 8 + r.val) (K : Fin 5632) (hK : K.val = t.val % 11 * 512 + k.val) :
    tailAt m c t.val (ix2 r k) = Cert.Reference5Ideal.Read.val_main_v60 (F := Ideal) (m ((c : Thread nD τ).loc main_arg0)) (m ((c : Thread nD τ).loc main_arg1))
      (m ((c : Thread nD τ).loc main_arg2)) (ix2 R K) := by
  have ht := lt88 t
  rw [show R = ⟨(⟨t.val / 11, by omega⟩ : Fin 8).val * 8 + r.val, by show t.val / 11 * 8 + r.val < 64; omega⟩ from Fin.ext hR, hist_apply]
  exact tail_at m c t r k _ rfl _ (by show (if K.val < 5504 then K.val else K.val - 128) = _; rw [hK])
end Cert.Up
end
-- ==== Proof.Up.lean ====
/- The up-projection of a feed-forward layer: kernel and reference compute the same two arrays. -/
module
public import proofs.«01_k».proof.Defs
public import proofs.«01_k».proof.Proof.UpKernel
public import proofs.«01_k».proof.Proof.Gen.Kernel5
@[expose] public section
set_option maxRecDepth 16384
noncomputable section
namespace Cert.Up
open Idealize.ShloMosaic Idealize.ShloMosaic.TcCoe Idealize.SL.Sem Cert.Kernel5Ideal Cert.Kernel5Ideal.Gen

section
variable (m : (ℓ : Loc nD τ sig) → Buf (Elt Ideal) ℓ) (c : Dev nD)

/-- The gated rows after a run are the reference's. -/
theorem rows_eq_ref : (dats m 0 c).arrAt 12 cfg0.N = Cert.Reference5Ideal.Read.val_main_v58 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 12 _ (by decide +kernel) fun t hf y => ?_
  blk_simp
  rw [after12]
  idx_vars y
  have hN := lt88 t
  have hi : ((View.whole main_v5_0).slice (win0_12.rect t)).emb (ix2 y0 y1) = ix2 (⟨t.val / 11 * 1024 + y0.val, by omega⟩ : Fin 8192) (⟨t.val % 11 * 512 + y1.val, by omega⟩ : Fin 5632) := by
    blk_ext [idx t]
  rw [hi]
  exact rows_at m c t y0 y1 _ rfl _ rfl

/-- The kept last rows after a run are the reference's. -/
theorem hist_eq_ref : (dats m 0 c).arrAt 13 cfg0.N = Cert.Reference5Ideal.Read.val_main_v60 (F := Ideal) (m ((c : Thread nD τ).loc main_arg0)) (m ((c : Thread nD τ).loc main_arg1))
      (m ((c : Thread nD τ).loc main_arg2)) := by
  refine (dats m 0 c).arrAt_eq_of_covers 13 _ (by decide +kernel) fun t hf y => ?_
  blk_simp
  rw [after13]
  idx_vars y
  have hN := lt88 t
  have hi : ((View.whole main_v5_1).slice (win0_13.rect t)).emb (ix2 y0 y1) = ix2 (⟨t.val / 11 * 8 + y0.val, by omega⟩ : Fin 64) (⟨t.val % 11 * 512 + y1.val, by omega⟩ : Fin 5632) := by
    blk_ext [idx t]
  rw [hi]
  exact hist_at m c t y0 y1 _ rfl _ rfl
end

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨h.2, h.1.2⟩) (θ_run_and (run_main m ρ)
    (frame_of m ρ (dats m) (A_eq m) ((θ_run defs _ _).mono (fun _ h => h.1) (run_main m ρ))))

/-- The two programs name the same body. -/
theorem rows_eq : Cert.Kernel5.defs₀ (F := Bits) = Cert.Kernel5Ideal.defs₀ (F := Bits) := by
  unfold Cert.Kernel5.defs₀ Cert.Kernel5Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs (Cert.Kernel5Ideal.pcfgs (F := Bits))) rows_eq

/-- The frame of the kernel as it stands. -/
theorem frame_kernel : Cert.quiescent_Kernel5 := fun m ρ _ => by
  rw [defs_eq]
  exact frame (F := Bits) m ρ

/-- The frame of the ideal kernel. -/
theorem frame_ideal : Cert.quiescent_Kernel5Ideal := fun m ρ _ => frame (F := Ideal) m ρ

/-- Kernel and reference compute the same two arrays over the extended reals. -/
theorem algebraic : Cert.algebraic_Kernel5Ideal_Reference5Ideal := by
  intro m g m' g' _ hagree
  refine ⟨fun c => Cert.Reference5Ideal.Read.val_main_v58 (F := Ideal) (m ((c : Thread nD τ).loc main_arg0)) (m ((c : Thread nD τ).loc main_arg1))
      (m ((c : Thread nD τ).loc main_arg2)) (m ((c : Thread nD τ).loc main_arg3)),
    fun c => Cert.Reference5Ideal.Read.val_main_v60 (F := Ideal) (m ((c : Thread nD τ).loc main_arg0)) (m ((c : Thread nD τ).loc main_arg1))
      (m ((c : Thread nD τ).loc main_arg2)), ?_, ?_⟩
  · refine (θ_run _ _ _).mono (fun r h c => ⟨?_, ?_, h.2.1 c⟩) (θ_run_and (run_main (F := Ideal) m g) (frame (F := Ideal) m g))
    · exact ((h.1.1 c).1 12).trans (rows_eq_ref m c)
    · exact ((h.1.1 c).1 13).trans (hist_eq_ref m c)
  · refine (θ_run _ _ _).mono (fun r h c => ⟨(h c).1.trans ?_, (h c).2.1.trans ?_, (h c).2.2⟩) (Cert.Reference5Ideal.Value.run (F := Ideal) m' g')
    · obtain ⟨h0, h1, h2, h3⟩ := hagree c
      refine (Cert.Reference5Ideal.Read.val_main_v58_eq _ _).trans ?_
      rw [h0, h1, h2, h3]
    · obtain ⟨h0, h1, h2, h3⟩ := hagree c
      refine (Cert.Reference5Ideal.Read.val_main_v60_eq _ _ _).trans ?_
      rw [h0, h1, h2]

/-- The reference ends without fault, its arguments unchanged, every counter at zero. -/
theorem frame_ref : Cert.quiescent_Reference5Ideal := fun m g _ =>
  (θ_run _ _ _).mono (fun r h => ⟨fun c => (h c).2.2, sem_eq_zero_of_no_sems (by decide) r.2⟩)
    (Cert.Reference5Ideal.Value.run (F := Ideal) m g)
end Cert.Up
end
-- ==== Proof.InEvenRun.lean ====
/- The in-projection of an even layer: the body of the kernel at one grid point, what is kept from point to point, the launch. -/
module
public import proofs.«01_k».proof.Defs
public import proofs.«01_k».proof.Proof.Gen.Kernel6Ideal
public import proofs.«01_k».proof.Proof.Gen.Kernel6Ideal.Skeleton
public import proofs.«01_k».proof.Proof.Gen.Kernel6Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.InEven
open Idealize.ShloMosaic Idealize.ShloMosaic.TcCoe Idealize.ShloMosaic.Tactic Cert.Kernel6Ideal Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ

/-- The row of gains that the first point of a block of rows loads: row 0. -/
abbrev gainRow (x1 : Vec F S1x6x2048 .f32) : Vec F S1x1x2048 .f32 :=
  View.ld x1 (Rect.unit (s := S1x6x2048) ![0, 0, 0] S1x1x2048.size inb_S1x6x2048_S1x1x2048_0_0_0)

/-- The body's branch: the point is the first of its block of rows. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 6 = 0 := by decide +kernel

set_option maxHeartbeats 1000000 in
/-- The body at a point: the scratch then holds the normed rows, made here or found, and the output's buffer their product with the slab of weights. -/
theorem run (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x2048 .bf16) (harg6 : arg6.IsWhole)
    (x0 : Vec F S1024x2048 .f32) (x1 : Vec F S1x6x2048 .f32) (x2 : Vec F S1x2048x1024 .bf16) (d : Vec F S1024x1024 .f32) (s xn : Vec F S1024x2048 .bf16)
    (h1 : isFirst i → xn = k0_pay1 x0 (gainRow x1)) (h2 : ¬isFirst i → xn = s) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xn x2) ∗ owns (c : Thread nD τ) arg6 fullShare xn) -∗ K ⟨⟩))
      ⊢ wp frame (wpE (defs₀ (F := F)) Variants.none c none) Set.univ (cc0_norm_mm i arg2 harg2 arg3 harg3 arg4 harg4 arg5 harg5 arg6 harg6) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hfs
  by_cases hc0 : isFirst i
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [h1 hc0, View.read_writes_full]
      unfold run.sl.v3 run.sl.HS0_1
      rw [View.readCov_full, View.readAt_full, View.readAt_full, View.readAt_eq_ld, harg2.read_unread, harg3.read_unread, harg4.read_unread]
    iexists _; isplitr; swap; · iexact HS0
    ipureintro
    unfold run.sl.HS0_1
    rw [h1 hc0, View.read_writes_full, View.readAt_full, View.readAt_eq_ld, harg2.read_unread, harg3.read_unread]
  · obtain rfl := h2 hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full, View.readAt_full, View.readAt_full, harg6.read_unread, harg4.read_unread]
    iexists _; isplitr; swap; · iexact HS0
    ipureintro
    exact harg6.read_unread _

variable (m : (ℓ : Loc nD τ sig) → Buf (Elt F) ℓ) (ρ : Dev nD → PrngReg)

theorem N_eq : cfg0.N = 48 := N_0
theorem lt_N (t : Fin cfg0.N) : t.val < 48 := lt_of_lt_of_eq t.isLt N_eq

/-- Point number `n`. -/
def pt (n : ℕ) : Fin cfg0.N := ⟨n % 48, by rw [N_eq]; omega⟩
theorem pt_val (t : Fin cfg0.N) : pt t.val = t := Fin.ext (Nat.mod_eq_of_lt (lt_N t))

/-- The normed rows of the block that point `n` lies in: they are made at the block's first point. -/
def xnAt (c : Dev nD) (n : ℕ) : Vec F S1024x2048 .bf16 := k0_pay1 (iblk m c 0 (pt (n / 6 * 6))) (gainRow (iblk m c 1 (pt (n / 6 * 6))))

theorem xnAt_succ (c : Dev nD) (n : ℕ) (h : (n + 1) % 6 ≠ 0) : xnAt m c (n + 1) = xnAt m c n := by
  unfold xnAt; rw [show (n + 1) / 6 = n / 6 by omega]

/-- A slab of weights as its buffer may hold it: the columns that the array has, and anything in the columns past its end. -/
def slab (c : Dev nD) (t : Fin cfg0.N) (d : Vec F S1x2048x1024 .bf16) : Vec F S1x2048x1024 .bf16 := (cfg0.win 2).fill (cfg0.grid.coords t) d (iblk m c 2 t)

/-- What the body leaves in the output's buffer: the product with the slab, whatever the slab's columns past the array hold. -/
def left (c : Dev nD) (t : Fin cfg0.N) (X : Vec F S1024x1024 .f32) : Prop := ∃ d, X = k0_pay2 (xnAt m c t.val) (slab m c t d)

/-- The output window alone is held to a predicate. -/
def marked : Fin cfg0.W → Bool := ![false, false, false, true]

def Rl (c : Dev nD) : (w : Fin cfg0.W) → Fin cfg0.N → ((cfg0.win w).block.Idx → Elt F (cfg0.win w).elt) → Prop
  | ⟨3, _⟩ => fun t X => left m c t X
  | _ => fun _ _ => True

/-- The scratch buffer that keeps the normed rows. -/
abbrev scX : Memref sig .tc .vmem S1024x2048 .bf16 := Memref.whole cc0_scratch0

/-- Between points: inside a block of rows the scratch holds its normed rows. -/
def Phi (c : Dev nD) (n : ℕ) : sProp 𝕄 :=
  iprop((∃ d, ⌜n % 6 ≠ 0 → d = xnAt m c n⌝ ∗ owns (c : Thread nD τ) scX fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slab m c t (constant S1x2048x1024 .bf16 0x0000#16)
    | ⟨3, h⟩ => Pipeline.Dat.unnamed (cfg := cfg0) ⟨3, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = slab m c t (constant S1x2048x1024 .bf16 0x0000#16) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = slab m c t d := by
  unfold Dat.before
  rw [if_pos (fetch0_2 t)]
  unfold Dat.fetched slab Dat.blockOf iblk
  rw [A_eq]

/-- The relational proof data: the exact data, the output held to `left`. -/
abbrev rdat (c : Dev nD) := (dats m 0 c).toRRel marked (Rl m c)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ X, ⌜Rl m c 3 t X⌝ ∗ owns (c : Thread nD τ) (st0_3 t) fullShare X))

theorem slab_kept (c : Dev nD) (t : Fin cfg0.N) (d e : Vec F S1x2048x1024 .bf16) :
    (cfg0.win 2).fill (cfg0.grid.coords t) d ((cfg0.win 2).cut (cfg0.grid.coords t) (slab m c t e)) = slab m c t d := by
  unfold slab; rw [Window.cut_fill]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2]
  rw [show (dats m 0 c).Φ t.castSucc = Phi m c t.val from rfl, show (dats m 0 c).Φ t.succ = Phi m c (t.val + 1) from rfl]
  unfold Phi
  iintro ⟨⟨⟨%s, %hs, HS0⟩, Hg⟩, Ho, ⟨%d0, H0⟩, ⟨%d1, H1⟩, ⟨%d2, H2⟩, ⟨%d, %hd, H3⟩⟩
  iapply (run c (grid0.coords t) _ _ _ _ _ _ _ _ _ _ (iblk m c 0 t) (iblk m c 1 t) (slab m c t d2) d s (xnAt m c t.val)
    (fun hj => by unfold xnAt; rw [show t.val / 6 * 6 = t.val by have := (isFirst_iff t).mp hj; omega, pt_val])
    (fun hj => (hs fun h0 => hj ((isFirst_iff t).mpr h0)).symm) _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexists _; isplitr; swap; · iexact HS0
      ipureintro; intro h0; exact (xnAt_succ m c t.val h0).symm
    iexact Hg
  isplitl [Ho]; · iexact Ho
  isplitl [H0]; · iexact H0
  isplitl [H1]; · iexact H1
  isplitl [H2]; · iexists d2; rw [slab_kept]; iexact H2
  iexists _; isplitr; swap; · iexact H3
  ipureintro
  exact ⟨d2, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scX fullShare d) ∗ ∃ r, prngReg c r) := by
  unfold ΦA; rw [scopedRest0_eq]; simp only [scX, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩) (run_main m ρ)
end Cert.InEven
end
-- ==== Proof.InEven.lean ====
/- The in-projection of an even layer: kernel and reference compute the same array. -/
module
public import proofs.«01_k».proof.Proof.InEvenRun
public import proofs.«01_k».proof.Proof.CrossRef
public import proofs.«01_k».proof.Proof.Gen.Reference6Ideal.Run
public import proofs.«01_k».proof.Proof.Gen.Reference6Ideal.Read
public import proofs.«01_k».proof.Proof.Gen.Kernel6
@[expose] public section
set_option maxRecDepth 16384
noncomputable section
namespace Cert.InEven
open Idealize.ShloMosaic Idealize.ShloMosaic.TcCoe Idealize.SL.Sem
open Cert.Cross (rmsAt rowMul)

section Ref
open Cert.Reference6Ideal Cert.Reference6Ideal.Gen Cert.Reference6Ideal.Read

/-- The reference's array, of its three arguments. -/
abbrev ref (x0 : (⟨S1x8192x2048, .f32⟩ : BufTy).Contents (Elt Ideal)) (x1 : (⟨S2x6x2048, .f32⟩ : BufTy).Contents (Elt Ideal))
    (x2 : (⟨S1x2048x5712, .f32⟩ : BufTy).Contents (Elt Ideal)) : (⟨S8192x5712, .f32⟩ : BufTy).Contents (Elt Ideal) := val_main_v19 (F := Ideal) x0 x1 x2

/-- The reference at row `r` and column `k`: the normed row against column `k` of the weights. -/
theorem ref_apply (x0 : (⟨S1x8192x2048, .f32⟩ : BufTy).Contents (Elt Ideal)) (x1 : (⟨S2x6x2048, .f32⟩ : BufTy).Contents (Elt Ideal))
    (x2 : (⟨S1x2048x5712, .f32⟩ : BufTy).Contents (Elt Ideal)) (r : Fin 8192) (k : Fin 5712) :
    ref x0 x1 x2 (ix2 r k) = rowMul (rmsAt (fun j => x0 (ix3 0 r j)) (fun j => x1 (ix3 0 0 j))) (fun j k => x2 (ix3 0 j k)) k := by
  unfold rowMul rmsAt
  pointwise [ref, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
end Ref

open Cert.Kernel6Ideal Cert.Kernel6Ideal.Gen

/-- The blocks of the windows at a grid point. -/
theorem idx : ∀ t : Fin cfg0.N, win0_0.index t = ![t.val / 6, 0] ∧ win0_1.index t = ![0, 0, 0] ∧ win0_2.index t = ![0, 0, t.val % 6]
    ∧ win0_3.index t = ![t.val / 6, t.val % 6] := by
  decide +kernel

/-- How much of a slab of weights lies in the array. -/
theorem xsize2 : ∀ (t : Fin cfg0.N) (a : Fin 3), (cfg0.win 2).xsize (cfg0.grid.coords t) a = (![1, 2048, min 1024 (5712 - t.val % 6 * 1024)] : Fin 3 → ℕ) a := by
  decide +kernel

/-- How much of a block of the output lies in the array. -/
theorem xsize3 : ∀ (t : Fin cfg0.N) (a : Fin 2), (cfg0.win 3).xsize (cfg0.grid.coords t) a = (![1024, min 1024 (5712 - t.val % 6 * 1024)] : Fin 2 → ℕ) a := by
  decide +kernel

/-- The rows the scratch keeps: the norm of the rows, times the gains. -/
theorem pay1_apply (x : Vec Ideal S1024x2048 .f32) (g : Vec Ideal S1x1x2048 .f32) (r : Fin 1024) (k : Fin 2048) :
    k0_pay1 x g (ix2 r k) = rmsAt (fun j => x (ix2 r j)) (fun j => g (ix3 0 0 j)) k := by
  unfold rmsAt
  pointwise [k0_pay1]

/-- One product of the kernel. -/
theorem pay2_apply (x : Vec Ideal S1024x2048 .bf16) (w : Vec Ideal S1x2048x1024 .bf16) (r k : Fin 1024) :
    k0_pay2 x w (ix2 r k) = ∑ j : Fin 2048, x (ix2 r j) * w (ix3 0 j k) := by
  pointwise [k0_pay2]

variable (m : (ℓ : Loc nD τ sig) → Buf (Elt Ideal) ℓ) (c : Dev nD)

/-- The prompt as the kernel takes it: its rows alone. -/
def rowsOf (x : (⟨S1x8192x2048, .f32⟩ : BufTy).Contents (Elt Ideal)) : (⟨S8192x2048, .f32⟩ : BufTy).Contents (Elt Ideal) :=
  shapeCast _ x shapeCasts_S1x8192x2048_S8192x2048

theorem rowsOf_apply (x : (⟨S1x8192x2048, .f32⟩ : BufTy).Contents (Elt Ideal)) (R : Fin 8192) (j : Fin 2048) : rowsOf x (ix2 R j) = x (ix3 0 R j) := by
  pointwise [rowsOf]

theorem V_x : V m c main_v0 = rowsOf (m ((c : Thread nD τ).loc main_arg0)) := by
  unfold rowsOf
  simp only [V, hostOps0]
  after_results_simp <;> rfl

/-- The rows, read off their block. -/
theorem read_x (t : Fin cfg0.N) (r : Fin 1024) (j : Fin 2048) (R : Fin 8192) (hR : R.val = t.val / 6 * 1024 + r.val) :
    iblk m c 0 t (ix2 r j) = m ((c : Thread nD τ).loc main_arg0) (ix3 0 R j) := by
  rw [← rowsOf_apply (m ((c : Thread nD τ).loc main_arg0)) R j, ← V_x m c]
  blk_ext [iblk, idx t]

/-- The gains, read off their block. -/
theorem read_g (t : Fin cfg0.N) (j : Fin 2048) : gainRow (iblk m c 1 t) (ix3 0 0 j) = m ((c : Thread nD τ).loc main_arg1) (ix3 0 0 j) := by
  unfold gainRow
  rw [View.ld_apply]; blk_ext [iblk, V, idx t] <;> (rw [Rect.idx_unit_val]; simp)

/-- The weights, read off their slab: its columns that the array has. -/
theorem read_w (t : Fin cfg0.N) (d : Vec Ideal S1x2048x1024 .bf16) (j : Fin 2048) (k : Fin 1024) (K : Fin 5712) (hK : K.val = t.val % 6 * 1024 + k.val) :
    slab m c t d (ix3 0 j k) = m ((c : Thread nD τ).loc main_arg2) (ix3 0 j K) := by
  have hm : (cfg0.win 2).moved (cfg0.grid.coords t) (ix3 0 j k) = true := ((cfg0.win 2).moved_iff _ _).mpr fun a => by
    rw [xsize2 t a]
    have := K.isLt
    match a with
    | 0 => exact Nat.zero_lt_one
    | 1 => exact j.isLt
    | 2 => show k.val < min 1024 (5712 - t.val % 6 * 1024); omega
  unfold slab Pipeline.Window.fill
  rw [dif_pos hm]
  blk_ext [iblk, V, idx t]

/-- The normed rows at a point, of the launched arrays. -/
theorem xnAt_apply (t : Fin cfg0.N) (r : Fin 1024) (k : Fin 2048) (R : Fin 8192) (hR : R.val = t.val / 6 * 1024 + r.val) :
    xnAt m c t.val (ix2 r k) = rmsAt (fun j => m ((c : Thread nD τ).loc main_arg0) (ix3 0 R j)) (fun j => m ((c : Thread nD τ).loc main_arg1) (ix3 0 0 j)) k := by
  have ht := lt_N t
  unfold xnAt
  rw [pay1_apply]
  congr 1
  · funext j; exact read_x m c _ r j R (by rw [hR]; show _ = t.val / 6 * 6 % 48 / 6 * 1024 + r.val; omega)
  · funext j; exact read_g m c _ j

/-- What a point leaves in the output's buffer, in the columns that the array has. -/
theorem left_apply (t : Fin cfg0.N) (X : Vec Ideal S1024x1024 .f32) (hX : left m c t X) (r k : Fin 1024)
    (R : Fin 8192) (hR : R.val = t.val / 6 * 1024 + r.val) (K : Fin 5712) (hK : K.val = t.val % 6 * 1024 + k.val) :
    X (ix2 r k) = ref (m ((c : Thread nD τ).loc main_arg0)) (m ((c : Thread nD τ).loc main_arg1)) (m ((c : Thread nD τ).loc main_arg2)) (ix2 R K) := by
  obtain ⟨d, rfl⟩ := hX
  rw [pay2_apply, ref_apply]
  unfold rowMul
  exact Finset.sum_congr rfl fun j _ => by rw [xnAt_apply m c t r j R hR, read_w m c t d j k K hK]

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N
      = ref (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  have hl : left m c t (after 3 t) := (dats m 0 c).toRRel_leaves (fgt := marked) (Rl := Rl m c) (w := 3) rfl (hL 3 t hf)
  have ht := lt_N t
  have h0 : (y 0).val < 1024 := lt_of_lt_of_eq (y 0).isLt (xsize3 t 0)
  have h1 : (y 1).val < min 1024 (5712 - t.val % 6 * 1024) := lt_of_lt_of_eq (y 1).isLt (xsize3 t 1)
  blk_simp
  rw [Pipeline.RDat.withAfter_after]
  have hi : ((View.whole main_v2).slice (win0_3.rect t)).emb y = ix2 (⟨t.val / 6 * 1024 + (y 0).val, by omega⟩ : Fin 8192) (⟨t.val % 6 * 1024 + (y 1).val, by omega⟩ : Fin 5712) := by
    blk_ext [idx t]
  have hx : (cfg0.win 3).xinj (cfg0.grid.coords t) y = ix2 (⟨(y 0).val, h0⟩ : Fin 1024) (⟨(y 1).val, by omega⟩ : Fin 1024) := by
    funext a; match a with
    | 0 => rfl
    | 1 => rfl
  refine Eq.trans (congrArg (after 3 t) hx) (Eq.trans ?_ (congrArg _ hi).symm)
  exact left_apply m c t (after 3 t) hl _ _ _ rfl _ rfl

/-- The two programs name the same body. -/
theorem rows_eq : Cert.Kernel6.defs₀ (F := Bits) = Cert.Kernel6Ideal.defs₀ (F := Bits) := by
  unfold Cert.Kernel6.defs₀ Cert.Kernel6Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel6.defs (F := Bits) = Cert.Kernel6Ideal.defs (F := Bits) :=
  congrArg (Pipeline.defs (Cert.Kernel6Ideal.pcfgs (F := Bits))) rows_eq

/-- The frame of the kernel as it stands. -/
theorem frame_kernel : Cert.quiescent_Kernel6 := fun m ρ _ => by
  rw [defs_eq]
  exact frame (F := Bits) m ρ

/-- The frame of the ideal kernel. -/
theorem frame_ideal : Cert.quiescent_Kernel6Ideal := fun m ρ _ => frame (F := Ideal) m ρ

/-- Kernel and reference compute the same array over the extended reals. -/
theorem algebraic : Cert.algebraic_Kernel6Ideal_Reference6Ideal := by
  intro m g m' g' _ hagree
  refine ⟨fun c => ref (m ((c : Thread nD τ).loc main_arg0)) (m ((c : Thread nD τ).loc main_arg1)) (m ((c : Thread nD τ).loc main_arg2)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 3).trans (out_eq m c after hL)
  · refine (θ_run _ _ _).mono (fun r h c => ⟨(h c).1.trans ?_, (h c).2⟩) (Cert.Reference6Ideal.Value.run (F := Ideal) m' g')
    obtain ⟨h0, h1, h2⟩ := hagree c
    refine (Cert.Reference6Ideal.Read.val_main_v19_eq _ _ _).trans ?_
    rw [h0, h1, h2]

/-- The reference ends without fault, its arguments unchanged, every counter at zero. -/
theorem frame_ref : Cert.quiescent_Reference6Ideal := fun m g _ =>
  (θ_run _ _ _).mono (fun r h => ⟨fun c => (h c).2, sem_eq_zero_of_no_sems (by decide) r.2⟩)
    (Cert.Reference6Ideal.Value.run (F := Ideal) m g)
end Cert.InEven
end
-- ==== Proof.InOddRun.lean ====
/- The in-projection of an odd layer: the body of the kernel at one grid point, what is kept from point to point, the launch. -/
module
public import proofs.«01_k».proof.Defs
public import proofs.«01_k».proof.Proof.Gen.Kernel7Ideal
public import proofs.«01_k».proof.Proof.Gen.Kernel7Ideal.Skeleton
public import proofs.«01_k».proof.Proof.Gen.Kernel7Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.InOdd
open Idealize.ShloMosaic Idealize.ShloMosaic.TcCoe Idealize.ShloMosaic.Tactic Cert.Kernel7Ideal Cert.Kernel7Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ

/-- The row of gains that the first point of a block of rows loads: row 0. -/
abbrev gainRow (x1 : Vec F S1x6x2048 .f32) : Vec F S1x1x2048 .f32 :=
  View.ld x1 (Rect.unit (s := S1x6x2048) ![0, 0, 0] S1x1x2048.size inb_S1x6x2048_S1x1x2048_0_0_0)

/-- The body's branch: the point is the first of its block of rows. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 5 = 0 := by decide +kernel

set_option maxHeartbeats 1000000 in
/-- The body at a point: the scratch then holds the normed rows, made here or found, and the output's buffer their product with the slab of weights. -/
theorem run (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x2048 .bf16) (harg6 : arg6.IsWhole)
    (x0 : Vec F S1024x2048 .f32) (x1 : Vec F S1x6x2048 .f32) (x2 : Vec F S1x2048x1024 .bf16) (d : Vec F S1024x1024 .f32) (s xn : Vec F S1024x2048 .bf16)
    (h1 : isFirst i → xn = k0_pay1 x0 (gainRow x1)) (h2 : ¬isFirst i → xn = s) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xn x2) ∗ owns (c : Thread nD τ) arg6 fullShare xn) -∗ K ⟨⟩))
      ⊢ wp frame (wpE (defs₀ (F := F)) Variants.none c none) Set.univ (cc0_norm_mm i arg2 harg2 arg3 harg3 arg4 harg4 arg5 harg5 arg6 harg6) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hfs
  by_cases hc0 : isFirst i
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [h1 hc0, View.read_writes_full]
      unfold run.sl.v3 run.sl.HS0_1
      rw [View.readCov_full, View.readAt_full, View.readAt_full, View.readAt_eq_ld, harg2.read_unread, harg3.read_unread, harg4.read_unread]
    iexists _; isplitr; swap; · iexact HS0
    ipureintro
    unfold run.sl.HS0_1
    rw [h1 hc0, View.read_writes_full, View.readAt_full, View.readAt_eq_ld, harg2.read_unread, harg3.read_unread]
  · obtain rfl := h2 hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full, View.readAt_full, View.readAt_full, harg6.read_unread, harg4.read_unread]
    iexists _; isplitr; swap; · iexact HS0
    ipureintro
    exact harg6.read_unread _

variable (m : (ℓ : Loc nD τ sig) → Buf (Elt F) ℓ) (ρ : Dev nD → PrngReg)

theorem N_eq : cfg0.N = 40 := N_0
theorem lt_N (t : Fin cfg0.N) : t.val < 40 := lt_of_lt_of_eq t.isLt N_eq

/-- Point number `n`. -/
def pt (n : ℕ) : Fin cfg0.N := ⟨n % 40, by rw [N_eq]; omega⟩
theorem pt_val (t : Fin cfg0.N) : pt t.val = t := Fin.ext (Nat.mod_eq_of_lt (lt_N t))

/-- The normed rows of the block that point `n` lies in: they are made at the block's first point. -/
def xnAt (c : Dev nD) (n : ℕ) : Vec F S1024x2048 .bf16 := k0_pay1 (iblk m c 0 (pt (n / 5 * 5))) (gainRow (iblk m c 1 (pt (n / 5 * 5))))

theorem xnAt_succ (c : Dev nD) (n : ℕ) (h : (n + 1) % 5 ≠ 0) : xnAt m c (n + 1) = xnAt m c n := by
  unfold xnAt; rw [show (n + 1) / 5 = n / 5 by omega]

/-- A slab of weights as its buffer may hold it: the columns that the array has, and anything in the columns past its end. -/
def slab (c : Dev nD) (t : Fin cfg0.N) (d : Vec F S1x2048x1024 .bf16) : Vec F S1x2048x1024 .bf16 := (cfg0.win 2).fill (cfg0.grid.coords t) d (iblk m c 2 t)

/-- What the body leaves in the output's buffer: the product with the slab, whatever the slab's columns past the array hold. -/
def left (c : Dev nD) (t : Fin cfg0.N) (X : Vec F S1024x1024 .f32) : Prop := ∃ d, X = k0_pay2 (xnAt m c t.val) (slab m c t d)

/-- The output window alone is held to a predicate. -/
def marked : Fin cfg0.W → Bool := ![false, false, false, true]

def Rl (c : Dev nD) : (w : Fin cfg0.W) → Fin cfg0.N → ((cfg0.win w).block.Idx → Elt F (cfg0.win w).elt) → Prop
  | ⟨3, _⟩ => fun t X => left m c t X
  | _ => fun _ _ => True

/-- The scratch buffer that keeps the normed rows. -/
abbrev scX : Memref sig .tc .vmem S1024x2048 .bf16 := Memref.whole cc0_scratch0

/-- Between points: inside a block of rows the scratch holds its normed rows. -/
def Phi (c : Dev nD) (n : ℕ) : sProp 𝕄 :=
  iprop((∃ d, ⌜n % 5 ≠ 0 → d = xnAt m c n⌝ ∗ owns (c : Thread nD τ) scX fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slab m c t (constant S1x2048x1024 .bf16 0x0000#16)
    | ⟨3, h⟩ => Pipeline.Dat.unnamed (cfg := cfg0) ⟨3, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = slab m c t (constant S1x2048x1024 .bf16 0x0000#16) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = slab m c t d := by
  unfold Dat.before
  rw [if_pos (fetch0_2 t)]
  unfold Dat.fetched slab Dat.blockOf iblk
  rw [A_eq]

/-- The relational proof data: the exact data, the output held to `left`. -/
abbrev rdat (c : Dev nD) := (dats m 0 c).toRRel marked (Rl m c)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ X, ⌜Rl m c 3 t X⌝ ∗ owns (c : Thread nD τ) (st0_3 t) fullShare X))

theorem slab_kept (c : Dev nD) (t : Fin cfg0.N) (d e : Vec F S1x2048x1024 .bf16) :
    (cfg0.win 2).fill (cfg0.grid.coords t) d ((cfg0.win 2).cut (cfg0.grid.coords t) (slab m c t e)) = slab m c t d := by
  unfold slab; rw [Window.cut_fill]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2]
  rw [show (dats m 0 c).Φ t.castSucc = Phi m c t.val from rfl, show (dats m 0 c).Φ t.succ = Phi m c (t.val + 1) from rfl]
  unfold Phi
  iintro ⟨⟨⟨%s, %hs, HS0⟩, Hg⟩, Ho, ⟨%d0, H0⟩, ⟨%d1, H1⟩, ⟨%d2, H2⟩, ⟨%d, %hd, H3⟩⟩
  iapply (run c (grid0.coords t) _ _ _ _ _ _ _ _ _ _ (iblk m c 0 t) (iblk m c 1 t) (slab m c t d2) d s (xnAt m c t.val)
    (fun hj => by unfold xnAt; rw [show t.val / 5 * 5 = t.val by have := (isFirst_iff t).mp hj; omega, pt_val])
    (fun hj => (hs fun h0 => hj ((isFirst_iff t).mpr h0)).symm) _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexists _; isplitr; swap; · iexact HS0
      ipureintro; intro h0; exact (xnAt_succ m c t.val h0).symm
    iexact Hg
  isplitl [Ho]; · iexact Ho
  isplitl [H0]; · iexact H0
  isplitl [H1]; · iexact H1
  isplitl [H2]; · iexists d2; rw [slab_kept]; iexact H2
  iexists _; isplitr; swap; · iexact H3
  ipureintro
  exact ⟨d2, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scX fullShare d) ∗ ∃ r, prngReg c r) := by
  unfold ΦA; rw [scopedRest0_eq]; simp only [scX, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩) (run_main m ρ)
end Cert.InOdd
end
-- ==== Proof.InOdd.lean ====
/- The in-projection of an odd layer: kernel and reference compute the same array. -/
module
public import proofs.«01_k».proof.Proof.InOddRun
public import proofs.«01_k».proof.Proof.CrossRef
public import proofs.«01_k».proof.Proof.Gen.Reference7Ideal.Run
public import proofs.«01_k».proof.Proof.Gen.Reference7Ideal.Read
public import proofs.«01_k».proof.Proof.Gen.Kernel7
@[expose] public section
set_option maxRecDepth 16384
noncomputable section
namespace Cert.InOdd
open Idealize.ShloMosaic Idealize.ShloMosaic.TcCoe Idealize.SL.Sem
open Cert.Cross (rmsAt rowMul)

/-- Where a column of the kernel's array stands in the problem's: the gates' 24 columns are moved behind the others. -/
def col (K : Fin 4632) : Fin 4632 := ⟨if K.val < 2560 then K.val else if K.val < 4608 then K.val + 24 else K.val - 2048, by split_ifs <;> omega⟩

/-- Three stretches of columns laid end to end, read at a column. -/
theorem pick (f : Fin 4632 → EReal) (K : Fin 4632) :
    (if h : K.val < 2560 then f K else if h : K.val - 2560 < 2048 then f ⟨2584 + (K.val - 2560), by omega⟩ else f ⟨2560 + (K.val - 2560 - 2048), by omega⟩) = f (col K) := by
  by_cases h : K.val < 2560
  · rw [dif_pos h]
    exact congrArg f (Fin.ext (by show K.val = if K.val < 2560 then _ else _; rw [if_pos h]))
  · rw [dif_neg h]
    by_cases h2 : K.val < 4608
    · rw [dif_pos (by omega)]
      exact congrArg f (Fin.ext (by show 2584 + (K.val - 2560) = if K.val < 2560 then _ else if K.val < 4608 then _ else _; rw [if_neg h, if_pos h2]; omega))
    · rw [dif_neg (by omega)]
      exact congrArg f (Fin.ext (by show 2560 + (K.val - 2560 - 2048) = if K.val < 2560 then _ else if K.val < 4608 then _ else _; rw [if_neg h, if_neg h2]; omega))

section Ref
open Cert.Reference7Ideal Cert.Reference7Ideal.Gen Cert.Reference7Ideal.Read

/-- The reference's array, of its three arguments. -/
abbrev ref (x0 : (⟨S8192x2048, .f32⟩ : BufTy).Contents (Elt Ideal)) (x1 : (⟨S2x6x2048, .f32⟩ : BufTy).Contents (Elt Ideal))
    (x2 : (⟨S1x2048x4632, .f32⟩ : BufTy).Contents (Elt Ideal)) : (⟨S8192x4632, .f32⟩ : BufTy).Contents (Elt Ideal) := val_main_v22 (F := Ideal) x0 x1 x2

variable (x0 : (⟨S8192x2048, .f32⟩ : BufTy).Contents (Elt Ideal)) (x1 : (⟨S2x6x2048, .f32⟩ : BufTy).Contents (Elt Ideal))
  (x2 : (⟨S1x2048x4632, .f32⟩ : BufTy).Contents (Elt Ideal))

/-- The projection at row `r` and column `k`: the normed row against column `k` of the weights. -/
theorem z_apply (r : Fin 8192) (k : Fin 4632) :
    val_main_v18 (F := Ideal) x0 x1 x2 (ix2 r k) = rowMul (rmsAt (fun j => x0 (ix2 r j)) (fun j => x1 (ix3 1 0 j))) (fun j k => x2 (ix3 0 j k)) k := by
  unfold rowMul rmsAt
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference at row `r` and column `k`: the projection's column that stands there. -/
theorem ref_apply (r : Fin 8192) (k : Fin 4632) :
    ref x0 x1 x2 (ix2 r k) = rowMul (rmsAt (fun j => x0 (ix2 r j)) (fun j => x1 (ix3 1 0 j))) (fun j k => x2 (ix3 0 j k)) (col k) := by
  rw [← z_apply]
  unfold ref val_main_v22 val_main_v21 val_main_v20 val_main_v19
  generalize val_main_v18 (F := Ideal) x0 x1 x2 = z
  pointwise
  exact pick (fun K => z (ix2 r K)) k
end Ref

open Cert.Kernel7Ideal Cert.Kernel7Ideal.Gen

/-- The blocks of the windows at a grid point. -/
theorem idx : ∀ t : Fin cfg0.N, win0_0.index t = ![t.val / 5, 0] ∧ win0_1.index t = ![1, 0, 0] ∧ win0_2.index t = ![0, 0, t.val % 5]
    ∧ win0_3.index t = ![t.val / 5, t.val % 5] := by
  decide +kernel

/-- How much of a slab of weights lies in the array. -/
theorem xsize2 : ∀ (t : Fin cfg0.N) (a : Fin 3), (cfg0.win 2).xsize (cfg0.grid.coords t) a = (![1, 2048, min 1024 (4632 - t.val % 5 * 1024)] : Fin 3 → ℕ) a := by
  decide +kernel

/-- How much of a block of the output lies in the array. -/
theorem xsize3 : ∀ (t : Fin cfg0.N) (a : Fin 2), (cfg0.win 3).xsize (cfg0.grid.coords t) a = (![1024, min 1024 (4632 - t.val % 5 * 1024)] : Fin 2 → ℕ) a := by
  decide +kernel

/-- The rows the scratch keeps: the norm of the rows, times the gains. -/
theorem pay1_apply (x : Vec Ideal S1024x2048 .f32) (g : Vec Ideal S1x1x2048 .f32) (r : Fin 1024) (k : Fin 2048) :
    k0_pay1 x g (ix2 r k) = rmsAt (fun j => x (ix2 r j)) (fun j => g (ix3 0 0 j)) k := by
  unfold rmsAt
  pointwise [k0_pay1]

/-- One product of the kernel. -/
theorem pay2_apply (x : Vec Ideal S1024x2048 .bf16) (w : Vec Ideal S1x2048x1024 .bf16) (r k : Fin 1024) :
    k0_pay2 x w (ix2 r k) = ∑ j : Fin 2048, x (ix2 r j) * w (ix3 0 j k) := by
  pointwise [k0_pay2]

variable (m : (ℓ : Loc nD τ sig) → Buf (Elt Ideal) ℓ) (c : Dev nD)

/-- The weights as the kernel takes them: the gates' columns behind the others, in the narrow format. -/
def moved (x : (⟨S1x2048x4632, .f32⟩ : BufTy).Contents (Elt Ideal)) : (⟨S1x2048x4632, .bf16⟩ : BufTy).Contents (Elt Ideal) :=
  (truncf (F := Ideal) .bf16 · bitsLt_bf16_f32) (concatenate S1x2048x4632 2 [⟨S1x2048x2560, (extractStridedSlice S1x2048x2560 ![0, 0, 0] x slices_S1x2048x4632_S1x2048x2560_0_0_0 : (⟨S1x2048x2560, .f32⟩ : BufTy).Contents (Elt Ideal))⟩,
    ⟨S1x2048x2048, (extractStridedSlice S1x2048x2048 ![0, 0, 2584] x slices_S1x2048x4632_S1x2048x2048_0_0_2584 : (⟨S1x2048x2048, .f32⟩ : BufTy).Contents (Elt Ideal))⟩,
    ⟨S1x2048x24, (extractStridedSlice S1x2048x24 ![0, 0, 2560] x slices_S1x2048x4632_S1x2048x24_0_0_2560 : (⟨S1x2048x24, .f32⟩ : BufTy).Contents (Elt Ideal))⟩]
    concatenates_S1x2048x2560_S1x2048x2048_S1x2048x24_S1x2048x4632_d2 : (⟨S1x2048x4632, .f32⟩ : BufTy).Contents (Elt Ideal))

theorem moved_apply (x : (⟨S1x2048x4632, .f32⟩ : BufTy).Contents (Elt Ideal)) (j : Fin 2048) (K : Fin 4632) : moved x (ix3 0 j K) = x (ix3 0 j (col K)) := by
  unfold moved
  pointwise
  exact pick (fun K => x (ix3 0 j K)) K

theorem V_w : V m c main_v4 = moved (m ((c : Thread nD τ).loc main_arg2)) := by
  unfold moved
  simp only [V, hostOps0]
  after_results_simp <;> rfl

/-- The rows, read off their block. -/
theorem read_x (t : Fin cfg0.N) (r : Fin 1024) (j : Fin 2048) (R : Fin 8192) (hR : R.val = t.val / 5 * 1024 + r.val) :
    iblk m c 0 t (ix2 r j) = m ((c : Thread nD τ).loc main_arg0) (ix2 R j) := by
  blk_ext [iblk, V, idx t]

/-- The gains, read off their block. -/
theorem read_g (t : Fin cfg0.N) (j : Fin 2048) : gainRow (iblk m c 1 t) (ix3 0 0 j) = m ((c : Thread nD τ).loc main_arg1) (ix3 1 0 j) := by
  unfold gainRow
  rw [View.ld_apply]; blk_ext [iblk, V, idx t] <;> (rw [Rect.idx_unit_val]; simp)

/-- The weights, read off their slab: its columns that the array has. -/
theorem read_w (t : Fin cfg0.N) (d : Vec Ideal S1x2048x1024 .bf16) (j : Fin 2048) (k : Fin 1024) (K : Fin 4632) (hK : K.val = t.val % 5 * 1024 + k.val) :
    slab m c t d (ix3 0 j k) = m ((c : Thread nD τ).loc main_arg2) (ix3 0 j (col K)) := by
  have hm : (cfg0.win 2).moved (cfg0.grid.coords t) (ix3 0 j k) = true := ((cfg0.win 2).moved_iff _ _).mpr fun a => by
    rw [xsize2 t a]
    have := K.isLt
    match a with
    | 0 => exact Nat.zero_lt_one
    | 1 => exact j.isLt
    | 2 => show k.val < min 1024 (4632 - t.val % 5 * 1024); omega
  unfold slab Pipeline.Window.fill
  rw [dif_pos hm, ← moved_apply (m ((c : Thread nD τ).loc main_arg2)) j K, ← V_w m c]
  blk_ext [iblk, idx t]

/-- The normed rows at a point, of the launched arrays. -/
theorem xnAt_apply (t : Fin cfg0.N) (r : Fin 1024) (k : Fin 2048) (R : Fin 8192) (hR : R.val = t.val / 5 * 1024 + r.val) :
    xnAt m c t.val (ix2 r k) = rmsAt (fun j => m ((c : Thread nD τ).loc main_arg0) (ix2 R j)) (fun j => m ((c : Thread nD τ).loc main_arg1) (ix3 1 0 j)) k := by
  have ht := lt_N t
  unfold xnAt
  rw [pay1_apply]
  congr 1
  · funext j; exact read_x m c _ r j R (by rw [hR]; show _ = t.val / 5 * 5 % 40 / 5 * 1024 + r.val; omega)
  · funext j; exact read_g m c _ j

/-- What a point leaves in the output's buffer, in the columns that the array has. -/
theorem left_apply (t : Fin cfg0.N) (X : Vec Ideal S1024x1024 .f32) (hX : left m c t X) (r k : Fin 1024)
    (R : Fin 8192) (hR : R.val = t.val / 5 * 1024 + r.val) (K : Fin 4632) (hK : K.val = t.val % 5 * 1024 + k.val) :
    X (ix2 r k) = ref (m ((c : Thread nD τ).loc main_arg0)) (m ((c : Thread nD τ).loc main_arg1)) (m ((c : Thread nD τ).loc main_arg2)) (ix2 R K) := by
  obtain ⟨d, rfl⟩ := hX
  rw [pay2_apply, ref_apply]
  unfold rowMul
  exact Finset.sum_congr rfl fun j _ => by rw [xnAt_apply m c t r j R hR, read_w m c t d j k K hK]

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N
      = ref (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  have hl : left m c t (after 3 t) := (dats m 0 c).toRRel_leaves (fgt := marked) (Rl := Rl m c) (w := 3) rfl (hL 3 t hf)
  have ht := lt_N t
  have h0 : (y 0).val < 1024 := lt_of_lt_of_eq (y 0).isLt (xsize3 t 0)
  have h1 : (y 1).val < min 1024 (4632 - t.val % 5 * 1024) := lt_of_lt_of_eq (y 1).isLt (xsize3 t 1)
  blk_simp
  rw [Pipeline.RDat.withAfter_after]
  have hi : ((View.whole main_v5).slice (win0_3.rect t)).emb y = ix2 (⟨t.val / 5 * 1024 + (y 0).val, by omega⟩ : Fin 8192) (⟨t.val % 5 * 1024 + (y 1).val, by omega⟩ : Fin 4632) := by
    blk_ext [idx t]
  have hx : (cfg0.win 3).xinj (cfg0.grid.coords t) y = ix2 (⟨(y 0).val, h0⟩ : Fin 1024) (⟨(y 1).val, by omega⟩ : Fin 1024) := by
    funext a; match a with
    | 0 => rfl
    | 1 => rfl
  refine Eq.trans (congrArg (after 3 t) hx) (Eq.trans ?_ (congrArg _ hi).symm)
  exact left_apply m c t (after 3 t) hl _ _ _ rfl _ rfl

/-- The two programs name the same body. -/
theorem rows_eq : Cert.Kernel7.defs₀ (F := Bits) = Cert.Kernel7Ideal.defs₀ (F := Bits) := by
  unfold Cert.Kernel7.defs₀ Cert.Kernel7Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel7.defs (F := Bits) = Cert.Kernel7Ideal.defs (F := Bits) :=
  congrArg (Pipeline.defs (Cert.Kernel7Ideal.pcfgs (F := Bits))) rows_eq

/-- The frame of the kernel as it stands. -/
theorem frame_kernel : Cert.quiescent_Kernel7 := fun m ρ _ => by
  rw [defs_eq]
  exact frame (F := Bits) m ρ

/-- The frame of the ideal kernel. -/
theorem frame_ideal : Cert.quiescent_Kernel7Ideal := fun m ρ _ => frame (F := Ideal) m ρ

/-- Kernel and reference compute the same array over the extended reals. -/
theorem algebraic : Cert.algebraic_Kernel7Ideal_Reference7Ideal := by
  intro m g m' g' _ hagree
  refine ⟨fun c => ref (m ((c : Thread nD τ).loc main_arg0)) (m ((c : Thread nD τ).loc main_arg1)) (m ((c : Thread nD τ).loc main_arg2)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 3).trans (out_eq m c after hL)
  · refine (θ_run _ _ _).mono (fun r h c => ⟨(h c).1.trans ?_, (h c).2⟩) (Cert.Reference7Ideal.Value.run (F := Ideal) m' g')
    obtain ⟨h0, h1, h2⟩ := hagree c
    refine (Cert.Reference7Ideal.Read.val_main_v22_eq _ _ _).trans ?_
    rw [h0, h1, h2]

/-- The reference ends without fault, its arguments unchanged, every counter at zero. -/
theorem frame_ref : Cert.quiescent_Reference7Ideal := fun m g _ =>
  (θ_run _ _ _).mono (fun r h => ⟨fun c => (h c).2, sem_eq_zero_of_no_sems (by decide) r.2⟩)
    (Cert.Reference7Ideal.Value.run (F := Ideal) m g)
end Cert.InOdd
end
-- ==== Proof.Rows.lean ====
/- A tall array written and read some consecutive rows at a time, element by element. -/
module
public import Idealize.ShloMosaic.Lib.Pointwise
public import Idealize.ShloMosaic.Lib.Pipeline.ValueKit
public import Idealize.ShloMosaic.Lib.Pipeline.ReadBack
@[expose] public section
noncomputable section
namespace Cert.Rows
open Idealize.ShloMosaic Idealize.ShloMosaic.View

variable {sig : RefSig} {κ : Kind} {sp : Space} {Val : EltTy → Type} {e : EltTy} {m n k : ℕ}

/-- The index of a row of a stretch of rows, in the whole. -/
theorem idx_row (o : ℕ) (inb : ∀ a, (![o, 0] : Fin 2 → ℕ) a + (![k, n] : Fin 2 → ℕ) a ≤ (⟨2, ![m, n]⟩ : Shape).size a) (r : Fin k) (j : Fin n) (R : Fin m) (hR : R.val = o + r.val) :
    (Rect.unit (s := (⟨2, ![m, n]⟩ : Shape)) ![o, 0] ![k, n] inb).emb (ix2 r j) = ix2 R j := by
  funext a
  match a with
  | 0 => exact Fin.ext (by show o + 1 * r.val = R.val; omega)
  | 1 => exact Fin.ext (by show 0 + 1 * j.val = j.val; omega)

/-- A stretch of rows loaded from contents. -/
theorem ld_rows (x : (⟨2, ![m, n]⟩ : Shape).Idx → Val e) (o : ℕ) (inb : ∀ a, (![o, 0] : Fin 2 → ℕ) a + (![k, n] : Fin 2 → ℕ) a ≤ (⟨2, ![m, n]⟩ : Shape).size a) (r : Fin k) (j : Fin n) (R : Fin m) (hR : R.val = o + r.val) :
    View.ld (Val := Val) x (Rect.unit (s := (⟨2, ![m, n]⟩ : Shape)) ![o, 0] ![k, n] inb) (ix2 r j) = x (ix2 R j) :=
  congrArg x (idx_row o inb r j R hR)

/-- A stretch of rows loaded after writes that cover it. -/
theorem readCov_rows [∀ e, Nonempty (Val e)] (v : View sig κ sp (⟨2, ![m, n]⟩ : Shape) e) (L : List (Piece Val (⟨2, ![m, n]⟩ : Shape) e)) (o : ℕ)
    (inb : ∀ a, (![o, 0] : Fin 2 → ℕ) a + (![k, n] : Fin 2 → ℕ) a ≤ (⟨2, ![m, n]⟩ : Shape).size a) (r : Fin k) (j : Fin n) (R : Fin m) (hR : R.val = o + r.val) :
    v.readCov L (Rect.unit (s := (⟨2, ![m, n]⟩ : Shape)) ![o, 0] ![k, n] inb).toLoadRect (ix2 r j) = View.canon L (ix2 R j) := by
  rw [View.readCov_eq_canon']
  exact congrArg (View.canon L) (idx_row o inb r j R hR)

/-- A written row holds what was written. -/
theorem canon_hit [∀ e, Nonempty (Val e)] (o : ℕ) (inb : ∀ a, (![o, 0] : Fin 2 → ℕ) a + (![k, n] : Fin 2 → ℕ) a ≤ (⟨2, ![m, n]⟩ : Shape).size a)
    (w : (⟨2, ![k, n]⟩ : Shape).Idx → Val e) (L : List (Piece Val (⟨2, ![m, n]⟩ : Shape) e)) (R : Fin m) (j : Fin n) (r : Fin k) (hR : R.val = o + r.val) :
    View.canon ((⟨Rect.unit (s := (⟨2, ![m, n]⟩ : Shape)) ![o, 0] ![k, n] inb, w⟩ : Piece Val (⟨2, ![m, n]⟩ : Shape) e) :: L) (ix2 R j) = w (ix2 r j) := by
  rw [← idx_row o inb r j R hR]
  exact View.canon_cons_emb (Rect.unit (s := (⟨2, ![m, n]⟩ : Shape)) ![o, 0] ![k, n] inb) w L (ix2 r j)

/-- A row outside the stretch is not in its rectangle. -/
theorem not_mem (o : ℕ) (inb : ∀ a, (![o, 0] : Fin 2 → ℕ) a + (![k, n] : Fin 2 → ℕ) a ≤ (⟨2, ![m, n]⟩ : Shape).size a) (R : Fin m) (j : Fin n) (h : R.val < o ∨ o + k ≤ R.val) :
    (ix2 R j : (⟨2, ![m, n]⟩ : Shape).Idx) ∉ (Rect.unit (s := (⟨2, ![m, n]⟩ : Shape)) ![o, 0] ![k, n] inb).set :=
  Rect.not_mem_set_of_axis _ (ix2 R j) (0 : Fin 2) o k rfl rfl rfl h

/-- A row outside the last stretch written holds what the earlier writes left. -/
theorem canon_miss [∀ e, Nonempty (Val e)] (o : ℕ) (inb : ∀ a, (![o, 0] : Fin 2 → ℕ) a + (![k, n] : Fin 2 → ℕ) a ≤ (⟨2, ![m, n]⟩ : Shape).size a)
    (w : (⟨2, ![k, n]⟩ : Shape).Idx → Val e) (L : List (Piece Val (⟨2, ![m, n]⟩ : Shape) e)) (R : Fin m) (j : Fin n) (h : R.val < o ∨ o + k ≤ R.val) :
    View.canon ((⟨Rect.unit (s := (⟨2, ![m, n]⟩ : Shape)) ![o, 0] ![k, n] inb, w⟩ : Piece Val (⟨2, ![m, n]⟩ : Shape) e) :: L) (ix2 R j) = View.canon L (ix2 R j) :=
  View.canon_cons_of_not_mem _ L (not_mem o inb R j h)

/-- A written row, read through a view over any earlier contents. -/
theorem read_hit (v : View sig κ sp (⟨2, ![m, n]⟩ : Shape) e) (f : v.ty.Contents Val) (o : ℕ) (inb : ∀ a, (![o, 0] : Fin 2 → ℕ) a + (![k, n] : Fin 2 → ℕ) a ≤ (⟨2, ![m, n]⟩ : Shape).size a)
    (w : (⟨2, ![k, n]⟩ : Shape).Idx → Val e) (L : List (Piece Val (⟨2, ![m, n]⟩ : Shape) e)) (R : Fin m) (j : Fin n) (r : Fin k) (hR : R.val = o + r.val) :
    v.read Val (v.writes Val f ((⟨Rect.unit (s := (⟨2, ![m, n]⟩ : Shape)) ![o, 0] ![k, n] inb, w⟩ : Piece Val (⟨2, ![m, n]⟩ : Shape) e) :: L)) (ix2 R j) = w (ix2 r j) :=
  View.read_writes_cons_hit v f (Rect.unit (s := (⟨2, ![m, n]⟩ : Shape)) ![o, 0] ![k, n] inb) w L (ix2 r j) _ (idx_row o inb r j R hR)

/-- A row outside the last stretch written, read through a view over any earlier contents. -/
theorem read_miss (v : View sig κ sp (⟨2, ![m, n]⟩ : Shape) e) (f : v.ty.Contents Val) (o : ℕ) (inb : ∀ a, (![o, 0] : Fin 2 → ℕ) a + (![k, n] : Fin 2 → ℕ) a ≤ (⟨2, ![m, n]⟩ : Shape).size a)
    (w : (⟨2, ![k, n]⟩ : Shape).Idx → Val e) (L : List (Piece Val (⟨2, ![m, n]⟩ : Shape) e)) (R : Fin m) (j : Fin n) (h : R.val < o ∨ o + k ≤ R.val) :
    v.read Val (v.writes Val f ((⟨Rect.unit (s := (⟨2, ![m, n]⟩ : Shape)) ![o, 0] ![k, n] inb, w⟩ : Piece Val (⟨2, ![m, n]⟩ : Shape) e) :: L)) (ix2 R j) = v.read Val (v.writes Val f L) (ix2 R j) :=
  View.read_writes_cons_miss v f _ L _ (not_mem o inb R j h)
end Cert.Rows
end
-- ==== Proof.ConvA.lean ====
/- The short gated convolution of an even layer: kernel and reference compute the same two arrays. -/
module
public import proofs.«01_k».proof.Defs
public import proofs.«01_k».proof.Proof.Rows
public import proofs.«01_k».proof.Proof.Gen.Kernel8Ideal.Value
public import proofs.«01_k».proof.Proof.Gen.Reference8Ideal.Run
public import proofs.«01_k».proof.Proof.Gen.Reference8Ideal.Read
@[expose] public section
set_option maxRecDepth 16384
noncomputable section
namespace Cert.ConvA
open Idealize.ShloMosaic Idealize.ShloMosaic.TcCoe

/-- The gated input of the convolution, eight rows of zeros before it: row `q`, column `j`. -/
def U (z : (⟨⟨2, ![8192, 5712]⟩, .f32⟩ : BufTy).Contents (Elt Ideal)) (q : ℕ) (j : Fin 1024) : EReal :=
  if h : 8 ≤ q ∧ q - 8 < 8192 then z (ix2 (⟨q - 8, h.2⟩ : Fin 8192) (⟨2048 + j.val, by omega⟩ : Fin 5712)) * z (ix2 (⟨q - 8, h.2⟩ : Fin 8192) (⟨j.val, by omega⟩ : Fin 5712)) else 0

theorem U_lt (z) (q : ℕ) (j : Fin 1024) (h : q < 8) : U z q j = 0 := dif_neg fun h' => by omega

theorem U_row (z) (q : ℕ) (j : Fin 1024) (R : Fin 8192) (h : q = R.val + 8) :
    U z q j = z (ix2 R (⟨2048 + j.val, by omega⟩ : Fin 5712)) * z (ix2 R (⟨j.val, by omega⟩ : Fin 5712)) := by
  subst h
  exact dif_pos ⟨by omega, by show R.val + 8 - 8 < 8192; omega⟩

section Ref
open Cert.Reference8Ideal Cert.Reference8Ideal.Gen Cert.Reference8Ideal.Read

variable (x0 : (⟨S8192x5712, .f32⟩ : BufTy).Contents (Elt Ideal)) (x1 : (⟨S1x3x1024, .f32⟩ : BufTy).Contents (Elt Ideal))

/-- The reference's gated input. -/
theorem u_apply (R : Fin 8192) (j : Fin 1024) : val_main_v3 (F := Ideal) x0 (ix2 R j) = U x0 (R.val + 8) j := by
  rw [U_row x0 _ j R rfl]
  pointwise [val_main_v3, val_main_v2, val_main_v0]

/-- The reference's gated input with two rows of zeros before it. -/
theorem e_apply (s : Fin 8194) (j : Fin 1024) : val_main_v6 (F := Ideal) x0 (ix2 s j) = U x0 (s.val + 6) j := by
  have hu := u_apply x0
  unfold val_main_v6
  generalize val_main_v3 (F := Ideal) x0 = u at hu ⊢
  pointwise [val_main_v5, val_main_cst]
  split_ifs with h
  · rw [U_lt x0 _ j (by omega)]
  all_goals (rw [hu]; congr 1; show s.val - 2 + 8 = s.val + 6; omega)

/-- The reference's first array: three neighbouring rows, weighted, times the gate. -/
theorem ref_apply (R : Fin 8192) (j : Fin 1024) :
    val_main_v27 (F := Ideal) x0 x1 (ix2 R j) = x0 (ix2 R (⟨1024 + j.val, by omega⟩ : Fin 5712))
      * (x1 (ix3 0 0 j) * U x0 (R.val + 6) j + x1 (ix3 0 1 j) * U x0 (R.val + 7) j + x1 (ix3 0 2 j) * U x0 (R.val + 8) j) := by
  have he := e_apply x0
  unfold val_main_v27 val_main_v26 val_main_v25 val_main_v22 val_main_v19 val_main_v18 val_main_v15 val_main_v12 val_main_v9
  generalize val_main_v6 (F := Ideal) x0 = u at he ⊢
  pointwise [val_main_v24, val_main_v23, val_main_v21, val_main_v20, val_main_v17, val_main_v16, val_main_v14, val_main_v13, val_main_v11, val_main_v10, val_main_v8, val_main_v7, val_main_v4, val_main_v1]
  have h1 : 1 + R.val + 6 = R.val + 7 := by omega
  have h2 : 2 + R.val + 6 = R.val + 8 := by omega
  simp only [he, h1, h2]

/-- The reference's second array: the last rows of the gated input. -/
theorem st_apply (r : Fin 8) (j : Fin 1024) : val_main_v28 (F := Ideal) x0 (ix2 r j) = U x0 (8192 + r.val) j := by
  have hu := u_apply x0
  unfold val_main_v28
  generalize val_main_v3 (F := Ideal) x0 = u at hu ⊢
  pointwise
  rw [hu]; congr 1; show 8184 + r.val + 8 = 8192 + r.val; omega
end Ref

open Cert.Kernel8Ideal Cert.Kernel8Ideal.Gen

/-- The blocks of the windows at a grid point. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] ∧ win0_6.index t = ![0, 0] := by
  decide +kernel

theorem lt_N (t : Fin cfg0.N) : t.val < 16 := lt_of_lt_of_eq t.isLt N_0

variable (m : (ℓ : Loc nD τ sig) → Buf (Elt Ideal) ℓ) (c : Dev nD)

/-- The projection that the layer is given. -/
abbrev z : (⟨S8192x5712, .f32⟩ : BufTy).Contents (Elt Ideal) := m ((c : Thread nD τ).loc main_arg0)

/-- The gated rows of a block. -/
theorem u_blk (t : Fin cfg0.N) (r : Fin 512) (j : Fin 1024) : k0_pay3 (X0_2 m c t) (X0_0 m c t) (ix2 r j) = U (z m c) (t.val * 512 + r.val + 8) j := by
  have ht := lt_N t
  rw [U_row _ _ j ⟨t.val * 512 + r.val, by omega⟩ rfl]
  have h2 : X0_2 m c t (ix2 r j) = z m c (ix2 (⟨t.val * 512 + r.val, by omega⟩ : Fin 8192) (⟨2048 + j.val, by omega⟩ : Fin 5712)) := by
    unfold X0_2 Pipeline.Window.fill
    rw [dif_pos (moved0_2 t _)]
    blk_ext [iblk, V, idx t]
  have h0 : X0_0 m c t (ix2 r j) = z m c (ix2 (⟨t.val * 512 + r.val, by omega⟩ : Fin 8192) (⟨j.val, by omega⟩ : Fin 5712)) := by
    unfold X0_0 Pipeline.Window.fill
    rw [dif_pos (moved0_0 t _)]
    blk_ext [iblk, V, idx t]
  rw [← h2, ← h0]
  pointwise [k0_pay3]

/-- The gate of a block. -/
theorem g_blk (t : Fin cfg0.N) (r : Fin 512) (j : Fin 1024) (R : Fin 8192) (hR : R.val = t.val * 512 + r.val) : X0_1 m c t (ix2 r j) = z m c (ix2 R (⟨1024 + j.val, by omega⟩ : Fin 5712)) := by
  unfold X0_1 Pipeline.Window.fill
  rw [dif_pos (moved0_1 t _)]
  blk_ext [iblk, V, idx t]

/-- The weights as the kernel takes them: a row for each tap. -/
def tapsOf (x : (⟨S1x3x1024, .f32⟩ : BufTy).Contents (Elt Ideal)) : (⟨S3x1024, .f32⟩ : BufTy).Contents (Elt Ideal) :=
  shapeCast _ x shapeCasts_S1x3x1024_S3x1024

theorem tapsOf_apply (x : (⟨S1x3x1024, .f32⟩ : BufTy).Contents (Elt Ideal)) (k : Fin 3) (j : Fin 1024) : tapsOf x (ix2 k j) = x (ix3 0 k j) := by
  pointwise [tapsOf]

theorem V_w : V m c main_v0 = tapsOf (m ((c : Thread nD τ).loc main_arg1)) := by
  unfold tapsOf
  simp only [V, hostOps0]
  after_results_simp <;> rfl

/-- A row of weights, read off its block. -/
theorem w_blk (t : Fin cfg0.N) (o : ℕ) (k : Fin 3) (hk : k.val = o) (inb) (j : Fin 1024) :
    View.ld (Val := Elt Ideal) (e' := .f32) (iblk m c 3 t) (Rect.unit (s := S3x1024) ![o, 0] ![1, 1024] inb) (ix2 0 j) = m ((c : Thread nD τ).loc main_arg1) (ix3 0 k j) := by
  refine (Rows.ld_rows (m := 3) (n := 1024) (k := 1) (iblk m c 3 t) o inb 0 j k (by rw [hk]; rfl)).trans ?_
  rw [← tapsOf_apply (m ((c : Thread nD τ).loc main_arg1)) k j, ← V_w m c]
  blk_ext [iblk, idx t]

/-- The rows before the first: zeros. -/
def noRows : (⟨S8x1024, .f32⟩ : BufTy).Contents (Elt Ideal) :=
  broadcastInDim S8x1024 ![] bcast_S_S8x1024 (constant (F := Ideal) S_ .f32 0x00000000#32)

theorem noRows_apply (r : Fin 8) (j : Fin 1024) : noRows (ix2 r j) = (0 : EReal) := by
  pointwise [noRows]

theorem V_prev : V m c main_v1 = noRows := by
  unfold noRows
  simp only [V, hostOps0]
  after_results_simp <;> rfl

theorem p_blk (t : Fin cfg0.N) (r : Fin 8) (j : Fin 1024) : k0_pay2 (iblk m c 4 t) (ix2 r j) = (0 : EReal) := by
  have h : iblk m c 4 t (ix2 r j) = V m c main_v1 (ix2 r j) := by blk_ext [iblk, idx t]
  have h' : iblk m c 4 t (ix2 r j) = (0 : EReal) := h.trans (by rw [V_prev]; exact noRows_apply r j)
  rw [← h']
  pointwise [k0_pay2]

/-- The weighted rows of a block, row by row. -/
theorem mix_apply (w0 w1 w2 : (⟨S1x1024, .f32⟩ : BufTy).Contents (Elt Ideal)) (e0 e1 e2 g : (⟨S512x1024, .f32⟩ : BufTy).Contents (Elt Ideal)) (r : Fin 512) (j : Fin 1024) :
    k0_pay1 (k0_pay4 w0 e0 w1 e1 w2 e2) g (ix2 r j) = g (ix2 r j) * (w0 (ix2 0 j) * e0 (ix2 r j) + w1 (ix2 0 j) * e1 (ix2 r j) + w2 (ix2 0 j) * e2 (ix2 r j)) := by
  pointwise [k0_pay1, k0_pay4]

/-- A row of the written buffer at or after the eighth, over any earlier contents. -/
theorem ext_hit (t : Fin cfg0.N) (f) (inb) (L : List (View.Piece (Elt Ideal) S520x1024 .f32)) (e : Fin 520) (j : Fin 1024) (he : 8 ≤ e.val) :
    (View.whole cc0_scratch0).read (Elt Ideal) ((View.whole cc0_scratch0).writes (Elt Ideal) f ((⟨Rect.unit (s := S520x1024) ![8, 0] ![512, 1024] inb, k0_pay3 (X0_2 m c t) (X0_0 m c t)⟩ : View.Piece (Elt Ideal) S520x1024 .f32) :: L)) (ix2 e j)
      = U (z m c) (t.val * 512 + e.val) j := by
  refine (Rows.read_hit (View.whole cc0_scratch0) f 8 inb _ L e j (⟨e.val - 8, by omega⟩ : Fin 512) (by show e.val = 8 + (e.val - 8); omega)).trans ?_
  rw [u_blk]
  congr 1
  show t.val * 512 + (e.val - 8) + 8 = _
  omega

/-- The same of the writes' own closed form. -/
theorem canon_ext_hit (t : Fin cfg0.N) (inb) (L : List (View.Piece (Elt Ideal) S520x1024 .f32)) (e : Fin 520) (j : Fin 1024) (he : 8 ≤ e.val) :
    View.canon ((⟨Rect.unit (s := S520x1024) ![8, 0] ![512, 1024] inb, k0_pay3 (X0_2 m c t) (X0_0 m c t)⟩ : View.Piece (Elt Ideal) S520x1024 .f32) :: L) (ix2 e j)
      = U (z m c) (t.val * 512 + e.val) j := by
  refine (Rows.canon_hit 8 inb _ L e j (⟨e.val - 8, by omega⟩ : Fin 512) (by show e.val = 8 + (e.val - 8); omega)).trans ?_
  rw [u_blk]
  congr 1
  show t.val * 512 + (e.val - 8) + 8 = _
  omega

/-- The last rows of the buffer, read back. -/
theorem tail (t : Fin cfg0.N) (inb) (inb') (L : List (View.Piece (Elt Ideal) S520x1024 .f32)) (r : Fin 8) (j : Fin 1024) :
    (View.whole cc0_scratch0).readCov ((⟨Rect.unit (s := S520x1024) ![8, 0] ![512, 1024] inb, k0_pay3 (X0_2 m c t) (X0_0 m c t)⟩ : View.Piece (Elt Ideal) S520x1024 .f32) :: L)
      (Rect.unit (s := S520x1024) ![512, 0] ![8, 1024] inb').toLoadRect (ix2 r j) = U (z m c) (t.val * 512 + 512 + r.val) j := by
  refine (Rows.readCov_rows (View.whole cc0_scratch0) _ 512 inb' r j (⟨512 + r.val, by omega⟩ : Fin 520) rfl).trans ?_
  rw [canon_ext_hit m c t inb L _ j (by show 8 ≤ 512 + r.val; omega)]
  congr 1
  show t.val * 512 + (512 + r.val) = _
  omega

/-- The copy back to the buffer's head keeps its elements. -/
theorem pay5_apply (x : (⟨S8x1024, .f32⟩ : BufTy).Contents (Elt Ideal)) (r : Fin 8) (j : Fin 1024) : k0_pay5 x (ix2 r j) = x (ix2 r j) := by
  pointwise [k0_pay5]

/-- After a grid point the first eight rows of the buffer are the last eight of the block. -/
theorem carry (t : Fin cfg0.N) (e : Fin 520) (j : Fin 1024) (he : e.val < 8) :
    (outsAt0 m c t.val t.isLt).2.2 (ix2 e j) = U (z m c) (t.val * 512 + 512 + e.val) j := by
  by_cases h0 : t.val % 16 = 0
  · rw [outsAt0_A m c t h0]
    simp (disch := decide) only [↓ View.readCov_skip]
    frame_out
    refine (Rows.canon_hit 0 _ _ _ e j (⟨e.val, he⟩ : Fin 8) (by show e.val = 0 + e.val; omega)).trans ?_
    rw [pay5_apply]
    exact tail m c t _ _ _ _ j
  · rw [outsAt0_B m c t h0]
    simp (disch := decide) only [↓ View.readCov_skip]
    frame_out
    refine (Rows.canon_hit 0 _ _ _ e j (⟨e.val, he⟩ : Fin 8) (by show e.val = 0 + e.val; omega)).trans ?_
    rw [pay5_apply]
    exact tail m c t _ _ _ _ j

/-- The buffer's rows at the first grid point: zeros, and then the block's gated rows. -/
theorem canon_ext (t : Fin cfg0.N) (h0 : t.val % 16 = 0) (inb) (inb') (e : Fin 520) (j : Fin 1024) :
    View.canon [(⟨Rect.unit (s := S520x1024) ![8, 0] ![512, 1024] inb, k0_pay3 (X0_2 m c t) (X0_0 m c t)⟩ : View.Piece (Elt Ideal) S520x1024 .f32),
      (⟨Rect.unit (s := S520x1024) ![0, 0] ![8, 1024] inb', k0_pay2 (iblk m c 4 t)⟩ : View.Piece (Elt Ideal) S520x1024 .f32)] (ix2 e j) = U (z m c) (t.val * 512 + e.val) j := by
  have ht := lt_N t
  by_cases he : 8 ≤ e.val
  · exact canon_ext_hit m c t inb _ e j he
  · refine (Rows.canon_miss 8 inb _ _ e j (Or.inl (by omega))).trans ?_
    refine (Rows.canon_hit 0 inb' _ _ e j (⟨e.val, by omega⟩ : Fin 8) (by show e.val = 0 + e.val; omega)).trans ?_
    rw [p_blk, U_lt _ _ _ (by omega)]

/-- The buffer's rows at a later grid point: what the point before left at its head, and then the block's gated rows. -/
theorem read_ext (t : Fin cfg0.N) (h0 : ¬ t.val % 16 = 0) (hp : t.val - 1 < cfg0.N) (hw : (Memref.whole cc0_scratch0).IsWhole) (inb) (e : Fin 520) (j : Fin 1024) :
    (View.whole cc0_scratch0).read (Elt Ideal) ((View.whole cc0_scratch0).writes (Elt Ideal) (hw.unread (outsAt0 m c (t.val - 1) hp).2.2)
      [(⟨Rect.unit (s := S520x1024) ![8, 0] ![512, 1024] inb, k0_pay3 (X0_2 m c t) (X0_0 m c t)⟩ : View.Piece (Elt Ideal) S520x1024 .f32)]) (ix2 e j) = U (z m c) (t.val * 512 + e.val) j := by
  by_cases he : 8 ≤ e.val
  · exact ext_hit m c t _ inb _ e j he
  · refine (Rows.read_miss (View.whole cc0_scratch0) _ 8 inb _ _ e j (Or.inl (by omega))).trans ?_
    rw [View.writes_nil, read_unread_whole]
    refine (carry m c ⟨t.val - 1, hp⟩ e j (by omega)).trans ?_
    congr 1
    show (t.val - 1) * 512 + 512 + e.val = _
    omega

/-- The first output's block at a grid point. -/
theorem out5_blk (t : Fin cfg0.N) (r : Fin 512) (j : Fin 1024) (R : Fin 8192) (hR : R.val = t.val * 512 + r.val) :
    (outsAt0 m c t.val t.isLt).1 (ix2 r j) = Cert.Reference8Ideal.Read.val_main_v27 (F := Ideal) (z m c) (m ((c : Thread nD τ).loc main_arg1)) (ix2 R j) := by
  rw [ref_apply]
  have e6 : R.val + 6 = t.val * 512 + (6 + r.val) := by omega
  have e7 : R.val + 7 = t.val * 512 + (7 + r.val) := by omega
  have e8 : R.val + 8 = t.val * 512 + (8 + r.val) := by omega
  by_cases h0 : t.val % 16 = 0
  · rw [outsAt0_A m c t h0]
    simp (disch := decide) only [↓ View.readCov_skip]
    frame_out
    refine (mix_apply _ _ _ _ _ _ _ r j).trans ?_
    rw [g_blk m c t r j R hR, w_blk m c t 0 0 rfl, w_blk m c t 1 1 rfl, w_blk m c t 2 2 rfl, e6, e7, e8]
    rw [Rows.readCov_rows (m := 520) (n := 1024) (k := 512) (View.whole cc0_scratch0) _ 6 _ r j (⟨6 + r.val, by omega⟩ : Fin 520) rfl,
      Rows.readCov_rows (m := 520) (n := 1024) (k := 512) (View.whole cc0_scratch0) _ 7 _ r j (⟨7 + r.val, by omega⟩ : Fin 520) rfl,
      Rows.readCov_rows (m := 520) (n := 1024) (k := 512) (View.whole cc0_scratch0) _ 8 _ r j (⟨8 + r.val, by omega⟩ : Fin 520) rfl]
    rw [canon_ext m c t h0, canon_ext m c t h0, canon_ext m c t h0]
  · rw [outsAt0_B m c t h0]
    simp (disch := decide) only [↓ View.readCov_skip]
    frame_out
    refine (mix_apply _ _ _ _ _ _ _ r j).trans ?_
    rw [g_blk m c t r j R hR, w_blk m c t 0 0 rfl, w_blk m c t 1 1 rfl, w_blk m c t 2 2 rfl, e6, e7, e8]
    rw [Rows.ld_rows (m := 520) (n := 1024) (k := 512) _ 6 _ r j (⟨6 + r.val, by omega⟩ : Fin 520) rfl,
      Rows.ld_rows (m := 520) (n := 1024) (k := 512) _ 7 _ r j (⟨7 + r.val, by omega⟩ : Fin 520) rfl,
      Rows.readCov_rows (m := 520) (n := 1024) (k := 512) (View.whole cc0_scratch0) _ 8 _ r j (⟨8 + r.val, by omega⟩ : Fin 520) rfl]
    rw [read_ext m c t h0, read_ext m c t h0, canon_ext_hit m c t _ _ _ j (by show 8 ≤ 8 + r.val; omega)]

/-- The second output's block at a grid point. -/
theorem out6_blk (t : Fin cfg0.N) (r : Fin 8) (j : Fin 1024) :
    (outsAt0 m c t.val t.isLt).2.1 (ix2 r j) = U (z m c) (t.val * 512 + 512 + r.val) j := by
  by_cases h0 : t.val % 16 = 0
  · rw [outsAt0_A m c t h0]
    simp (disch := decide) only [↓ View.readCov_skip]
    frame_out
    exact tail m c t _ _ _ r j
  · rw [outsAt0_B m c t h0]
    simp (disch := decide) only [↓ View.readCov_skip]
    frame_out
    exact tail m c t _ _ _ r j

/-- The kernel's first array is the reference's. -/
theorem out5_eq : (dats (F := Ideal) m 0 c).arrAt 5 cfg0.N = Cert.Reference8Ideal.Read.val_main_v27 (F := Ideal) (z m c) (m ((c : Thread nD τ).loc main_arg1)) := by
  refine (dats m 0 c).arrAt_eq_of_covers 5 _ (by decide +kernel) fun t hf y => ?_
  blk_simp
  rw [after0_5]
  idx_vars y
  have hN := lt_N t
  have hi : ((View.whole main_v2_0).slice (win0_5.rect t)).emb (ix2 y0 y1) = ix2 (⟨t.val * 512 + y0.val, by omega⟩ : Fin 8192) y1 := by
    blk_ext [idx t]
  rw [hi]
  exact out5_blk m c t y0 y1 _ rfl

/-- The second array is written back after the last grid point alone. -/
theorem last6 : ∀ t : Fin cfg0.N, (cfg0.win 6).flush t = true → t.val = 15 := by decide +kernel

/-- The kernel's second array is the reference's. -/
theorem out6_eq : (dats (F := Ideal) m 0 c).arrAt 6 cfg0.N = Cert.Reference8Ideal.Read.val_main_v28 (F := Ideal) (z m c) := by
  refine (dats m 0 c).arrAt_eq_of_covers 6 _ (by decide +kernel) fun t hf y => ?_
  have hl := last6 t hf
  blk_simp
  rw [after0_6]
  idx_vars y
  have hi : ((View.whole main_v2_1).slice (win0_6.rect t)).emb (ix2 y0 y1) = ix2 y0 y1 := by
    blk_ext [idx t]
  rw [hi, st_apply]
  refine (out6_blk m c t y0 y1).trans ?_
  rw [hl]

/-- Kernel and reference compute the same two arrays over the extended reals. -/
theorem algebraic [hK : Cert.Kernel8Ideal.Facts] [hR : Cert.Reference8Ideal.Facts] : Cert.algebraic_Kernel8Ideal_Reference8Ideal := by
  intro m g m' g' _ hagree
  refine ⟨fun c => Cert.Reference8Ideal.Read.val_main_v27 (F := Ideal) (m ((c : Thread nD τ).loc main_arg0)) (m ((c : Thread nD τ).loc main_arg1)),
    fun c => Cert.Reference8Ideal.Read.val_main_v28 (F := Ideal) (m ((c : Thread nD τ).loc main_arg0)), ?_, ?_⟩
  · exact (θ_run _ _ _).mono (fun r h c => ⟨(h c).1.trans (out5_eq m c), (h c).2.1.trans (out6_eq m c), (h c).2.2⟩) (Cert.Kernel8Ideal.Value.run_blocks (F := Ideal) m g)
  · refine (θ_run _ _ _).mono (fun r h c => ?_) (Cert.Reference8Ideal.Value.run (F := Ideal) m' g')
    obtain ⟨h0, h1⟩ := hagree c
    refine ⟨(h c).1.trans ?_, (h c).2.1.trans ?_, (h c).2.2⟩
    · refine (Cert.Reference8Ideal.Read.val_main_v27_eq _ _).trans ?_
      rw [h0, h1]
    · refine (Cert.Reference8Ideal.Read.val_main_v28_eq _).trans ?_
      rw [h0]

/-- The reference ends without fault, its arguments unchanged, every counter at zero. -/
theorem frame_ref : Cert.quiescent_Reference8Ideal := fun m g _ =>
  (θ_run _ _ _).mono (fun r h => ⟨fun c => (h c).2.2, sem_eq_zero_of_no_sems (by decide) r.2⟩)
    (Cert.Reference8Ideal.Value.run (F := Ideal) m g)

end Cert.ConvA
end
-- ==== Proof.MixOutRun.lean ====
/- The out-projection of an even layer: the body of the kernel, run at one grid point. -/
module
public import proofs.«01_k».proof.Defs
public import proofs.«01_k».proof.Proof.Gen.Kernel9Ideal
public import proofs.«01_k».proof.Proof.Gen.Kernel9Ideal.Skeleton
public import proofs.«01_k».proof.Proof.Gen.Kernel9Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.MixOut
open Idealize.ShloMosaic Idealize.ShloMosaic.TcCoe Idealize.ShloMosaic.Tactic Cert.Kernel9Ideal Cert.Kernel9Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The row of gains the last point loads: row 1. -/
abbrev gainRow (x3 : Vec F S1x6x2048 .f32) : Vec F S1x1x2048 .f32 :=
  View.ld x3 (Rect.unit (s := S1x6x2048) ![0, 1, 0] S1x1x2048.size inb_S1x6x2048_S1x1x2048_0_1_0)

/-- The output's buffer after a product is stored at column `o`: the product there, `d` elsewhere. -/
abbrev upd (d : Vec F S512x2048 .f32) (o : ℕ) (p : Vec F S512x512 .f32) : Vec F S512x2048 .f32 :=
  VecWindow.put (s := S512x2048) d ![0, o] S512x512.size p

/-- The scratch once both mixers' rows are copied to it, side by side. -/
def both (x0 x1 : Vec F S512x1024 .f32) : Vec F S512x2048 .bf16 := fun y =>
  if h : (y 1).val < 1024 then k0_pay1 x0 (ix2 (y 0) ⟨(y 1).val, h⟩)
  else k0_pay2 x1 (ix2 (y 0) ⟨(y 1).val - 1024, by have : (y 1).val < 2048 := (y 1).isLt; omega⟩)

/-- The two copies leave nothing of what the scratch held. -/
theorem put_both (x0 x1 : Vec F S512x1024 .f32) (s : Vec F S512x2048 .bf16) :
    VecWindow.put (s := S512x2048) (VecWindow.put (s := S512x2048) s ![0, 0] S512x1024.size (k0_pay1 x0)) ![0, 1024] S512x1024.size (k0_pay2 x1) = both x0 x1 := by
  funext y
  have h0 : (y 0).val < 512 := (y 0).isLt
  have h1 : (y 1).val < 2048 := (y 1).isLt
  unfold VecWindow.put both
  by_cases h : (y 1).val < 1024
  · rw [dif_neg (fun hm => by have : 1024 ≤ (y 1).val := (hm 1).1; omega), dif_pos h]
    have hm : ∀ a : Fin S512x2048.rank, (![0, 0] : Fin 2 → ℕ) a ≤ (y a).val ∧ (y a).val < (![0, 0] : Fin 2 → ℕ) a + S512x1024.size a := by
      intro a; match a with
      | 0 => exact ⟨Nat.zero_le _, by show (y 0).val < 0 + 512; omega⟩
      | 1 => exact ⟨Nat.zero_le _, by show (y 1).val < 0 + 1024; omega⟩
    rw [dif_pos hm]
    refine congrArg (k0_pay1 x0) (funext fun a => ?_)
    match a with
    | 0 => exact Fin.ext (by show (y 0).val - 0 = (y 0).val; omega)
    | 1 => exact Fin.ext (by show (y 1).val - 0 = (y 1).val; omega)
  · have hm : ∀ a : Fin S512x2048.rank, (![0, 1024] : Fin 2 → ℕ) a ≤ (y a).val ∧ (y a).val < (![0, 1024] : Fin 2 → ℕ) a + S512x1024.size a := by
      intro a; match a with
      | 0 => exact ⟨Nat.zero_le _, by show (y 0).val < 0 + 512; omega⟩
      | 1 => exact ⟨by show 1024 ≤ (y 1).val; omega, by show (y 1).val < 1024 + 1024; omega⟩
    rw [dif_pos hm, dif_neg h]
    refine congrArg (k0_pay2 x1) (funext fun a => ?_)
    match a with
    | 0 => exact Fin.ext (by show (y 0).val - 0 = (y 0).val; omega)
    | 1 => exact Fin.ext (by show (y 1).val - 1024 = (y 1).val - 1024; rfl)

local notation "𝕄" => MT nD τ sig Unit (Elt F) ℕ (UR sig nD τ) ℕ

/-- The body's first branch: the point is the first of its rows. -/
abbrev isFirst (i : grid0.Coords) : Prop := (Scalar.cmpi .ne (Scalar.extui (Scalar.cmpi .eq (BitVec.ofNat 32 (i 1).val) 0#32)) 0#32) = 1#1
/-- The body's second branch: the point is the last of its rows. -/
abbrev isLast (i : grid0.Coords) : Prop := (Scalar.cmpi .ne (Scalar.extui (Scalar.cmpi .eq (BitVec.ofNat 32 (i 1).val) 3#32)) 0#32) = 1#1

theorem isFirst_iff : ∀ t : Fin cfg0.N, isFirst (grid0.coords t) ↔ t.val % 4 = 0 := by decide +kernel
theorem isLast_iff : ∀ t : Fin cfg0.N, isLast (grid0.coords t) ↔ t.val % 4 = 3 := by decide +kernel
theorem off_eq : ∀ t : Fin cfg0.N, k0_off1 (grid0.coords t) = ![0, 512 * (t.val % 4)] := by decide +kernel

set_option maxHeartbeats 1000000 in
/-- At the first point of a stretch of rows the body copies the rows to the scratch and stores their product with the first slab of weights. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x2048x512 .bf16) (harg4 : arg4.IsWhole) (arg5 : Memref sig .tc .vmem S1x6x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole)
    (hc0 : isFirst i) (hc1 : ¬isLast i) (o : ℕ) (ho : k0_off1 i = ![0, o])
    (x0 : Vec F S512x1024 .f32) (x1 : Vec F S512x1024 .f32) (x2 : Vec F S1x2048x512 .bf16) (x3 : Vec F S1x6x2048 .f32) (x4 : Vec F S512x2048 .f32) (d : Vec F S512x2048 .f32) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (upd d o (k0_pay3 (both x0 x1) x2)) ∗ owns (c : Thread nD τ) arg8 fullShare (both x0 x1)) -∗ K ⟨⟩))
      ⊢ wp frame (wpE (defs₀ (F := F)) Variants.none c none) Set.univ (cc0_mm_norm_res i arg2 harg2 arg3 harg3 arg4 harg4 arg5 harg5 arg6 harg6 arg7 harg7 arg8 harg8) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_cons_put _ _ _ _ _ ho, View.writes_nil, harg7.read_unread]
    unfold run_first.sl.v5
    unfold View.readCov
    rw [View.readAt_full]
    unfold run_first.sl.HS0_2
    rw [View.read_writes_cons_put _ _ _ _ _ rfl, View.read_writes_cons_put _ _ _ _ _ rfl, View.readAt_full, View.readAt_full, View.readAt_full, harg2.read_unread, harg3.read_unread, harg4.read_unread, put_both]
  iexists _; isplitr; swap; · iexact HS0
  ipureintro
  unfold run_first.sl.HS0_2
  rw [View.read_writes_cons_put _ _ _ _ _ rfl, View.read_writes_cons_put _ _ _ _ _ rfl, View.readAt_full, View.readAt_full, harg2.read_unread, harg3.read_unread, put_both]

set_option maxHeartbeats 1000000 in
/-- At a point between the body stores the product of the scratch with its slab of weights. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x2048x512 .bf16) (harg4 : arg4.IsWhole) (arg5 : Memref sig .tc .vmem S1x6x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole)
    (hc0 : ¬isFirst i) (hc1 : ¬isLast i) (o : ℕ) (ho : k0_off1 i = ![0, o])
    (x0 : Vec F S512x1024 .f32) (x1 : Vec F S512x1024 .f32) (x2 : Vec F S1x2048x512 .bf16) (x3 : Vec F S1x6x2048 .f32) (x4 : Vec F S512x2048 .f32) (d : Vec F S512x2048 .f32) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (upd d o (k0_pay3 s x2)) ∗ owns (c : Thread nD τ) arg8 fullShare (s)) -∗ K ⟨⟩))
      ⊢ wp frame (wpE (defs₀ (F := F)) Variants.none c none) Set.univ (cc0_mm_norm_res i arg2 harg2 arg3 harg3 arg4 harg4 arg5 harg5 arg6 harg6 arg7 harg7 arg8 harg8) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_cons_put _ _ _ _ _ ho, View.writes_nil, harg7.read_unread, View.readAt_full, View.readAt_full, harg8.read_unread, harg4.read_unread]
  iexists _; isplitr; swap; · iexact HS0
  ipureintro
  exact harg8.read_unread _

set_option maxHeartbeats 1000000 in
/-- At the last point of a stretch of rows the body stores the last product, then replaces the buffer by the normed and added rows. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x2048x512 .bf16) (harg4 : arg4.IsWhole) (arg5 : Memref sig .tc .vmem S1x6x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole)
    (hc0 : ¬isFirst i) (hc1 : isLast i) (o : ℕ) (ho : k0_off1 i = ![0, o])
    (x0 : Vec F S512x1024 .f32) (x1 : Vec F S512x1024 .f32) (x2 : Vec F S1x2048x512 .bf16) (x3 : Vec F S1x6x2048 .f32) (x4 : Vec F S512x2048 .f32) (d : Vec F S512x2048 .f32) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x4 (upd d o (k0_pay3 s x2)) (gainRow x3)) ∗ owns (c : Thread nD τ) arg8 fullShare (s)) -∗ K ⟨⟩))
      ⊢ wp frame (wpE (defs₀ (F := F)) Variants.none c none) Set.univ (cc0_mm_norm_res i arg2 harg2 arg3 harg3 arg4 harg4 arg5 harg5 arg6 harg6 arg7 harg7 arg8 harg8) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    unfold run_last.sl.H5_1
    rw [View.read_writes_full, View.readAt_full, View.readAt_full, View.read_writes_cons_put _ _ _ _ _ ho, View.writes_nil, harg7.read_unread, View.readAt_full, View.readAt_full, harg8.read_unread, harg4.read_unread, harg6.read_unread, View.readAt_eq_ld, harg5.read_unread]
  iexists _; isplitr; swap; · iexact HS0
  ipureintro
  exact harg8.read_unread _

end Cert.MixOut
end
-- ==== Proof.MixOutData.lean ====
/- The out-projection of an even layer: what the kernel keeps from point to point, its launch and both frames. -/
module
public import proofs.«01_k».proof.Proof.MixOutRun
@[expose] public section
set_option maxRecDepth 16384
noncomputable section
namespace Cert.MixOut
open Idealize.ShloMosaic Idealize.ShloMosaic.TcCoe Idealize.ShloMosaic.Tactic Cert.Kernel9Ideal Cert.Kernel9Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ
variable (m : (ℓ : Loc nD τ sig) → Buf (Elt F) ℓ) (ρ : Dev nD → PrngReg)

theorem N_eq : cfg0.N = 64 := N_0
theorem lt64 (t : Fin cfg0.N) : t.val < 64 := lt_of_lt_of_eq t.isLt N_eq

/-- The first point of the stretch of four that point `n` lies in: the four share their rows. -/
def rowOf (n : ℕ) : Fin cfg0.N := ⟨n / 4 * 4 % 64, by rw [N_eq]; omega⟩
/-- The point of that stretch which computes column `k`. -/
def colOf (n k : ℕ) : Fin cfg0.N := ⟨(n / 4 * 4 + k / 512) % 64, by rw [N_eq]; omega⟩

/-- The product of the rows of point `n`'s stretch with all the weights. -/
def G (c : Dev nD) (n : ℕ) : Vec F S512x2048 .f32 := fun y =>
  k0_pay3 (both (iblk m c 0 (rowOf n)) (iblk m c 1 (rowOf n))) (iblk m c 2 (colOf n (y 1).val)) (ix2 (y 0) ⟨(y 1).val % 512, Nat.mod_lt _ (by decide)⟩)

/-- The columns stored up to point `n` of its stretch hold the product. -/
def Part (c : Dev nD) (n : ℕ) (X : Vec F S512x2048 .f32) : Prop := ∀ y, (y 1).val < 512 * (n % 4 + 1) → X y = G m c n y

theorem rowOf_first (t : Fin cfg0.N) (h : t.val % 4 = 0) : rowOf t.val = t := Fin.ext (by
  have := lt64 t; show t.val / 4 * 4 % 64 = t.val; omega)

theorem rowOf_succ (n : ℕ) (h : n % 4 ≠ 3) : rowOf (n + 1) = rowOf n := Fin.ext (by
  show (n + 1) / 4 * 4 % 64 = n / 4 * 4 % 64; omega)

theorem G_pred (c : Dev nD) (n : ℕ) (h : n % 4 ≠ 0) : G m c (n - 1) = G m c n := by
  have hr : rowOf (n - 1) = rowOf n := Fin.ext (by show (n - 1) / 4 * 4 % 64 = n / 4 * 4 % 64; omega)
  have hc : ∀ k, colOf (n - 1) k = colOf n k := fun k => Fin.ext (by
    show ((n - 1) / 4 * 4 + k / 512) % 64 = (n / 4 * 4 + k / 512) % 64
    rw [show (n - 1) / 4 = n / 4 by omega])
  funext y; unfold G; rw [hr, hc]

/-- One more slab of columns. -/
theorem part_upd (c : Dev nD) (t : Fin cfg0.N) (d : Vec F S512x2048 .f32) (hd : ∀ y, (y 1).val < 512 * (t.val % 4) → d y = G m c t.val y) :
    Part m c t.val (upd d (512 * (t.val % 4)) (k0_pay3 (both (iblk m c 0 (rowOf t.val)) (iblk m c 1 (rowOf t.val))) (iblk m c 2 t))) := fun y hy => by
  have hN := lt64 t
  have hy0 : (y 0).val < 512 := (y 0).isLt
  unfold upd VecWindow.put
  by_cases hk : 512 * (t.val % 4) ≤ (y 1).val
  · have hm : ∀ a : Fin S512x2048.rank, (![0, 512 * (t.val % 4)] : Fin 2 → ℕ) a ≤ (y a).val ∧ (y a).val < (![0, 512 * (t.val % 4)] : Fin 2 → ℕ) a + S512x512.size a := by
      intro a; match a with
      | 0 => exact ⟨Nat.zero_le _, by show (y 0).val < 0 + 512; omega⟩
      | 1 => exact ⟨hk, by show (y 1).val < 512 * (t.val % 4) + 512; omega⟩
    rw [dif_pos hm]
    unfold G
    have hc : colOf t.val (y 1).val = t := Fin.ext (by show (t.val / 4 * 4 + (y 1).val / 512) % 64 = t.val; omega)
    rw [hc]
    congr 1
    funext a; match a with
    | 0 => exact Fin.ext (by show (y 0).val - 0 = (y 0).val; omega)
    | 1 => exact Fin.ext (by show (y 1).val - 512 * (t.val % 4) = (y 1).val % 512; omega)
  · rw [dif_neg (fun h => hk (h 1).1)]
    exact hd y (by omega)

theorem part_first (c : Dev nD) (t : Fin cfg0.N) (h : t.val % 4 = 0) (d : Vec F S512x2048 .f32) :
    Part m c t.val (upd d (512 * (t.val % 4)) (k0_pay3 (both (iblk m c 0 (rowOf t.val)) (iblk m c 1 (rowOf t.val))) (iblk m c 2 t))) :=
  part_upd m c t d fun y hy => absurd hy (by omega)

theorem part_next (c : Dev nD) (t : Fin cfg0.N) (h : t.val % 4 ≠ 0) (d : Vec F S512x2048 .f32) (hd : Part m c (t.val - 1) d) :
    Part m c t.val (upd d (512 * (t.val % 4)) (k0_pay3 (both (iblk m c 0 (rowOf t.val)) (iblk m c 1 (rowOf t.val))) (iblk m c 2 t))) :=
  part_upd m c t d fun y hy => by rw [hd y (by omega), G_pred m c t.val h]

theorem part_last (c : Dev nD) (n : ℕ) (h : n % 4 = 3) (X : Vec F S512x2048 .f32) (hX : Part m c n X) : X = G m c n :=
  funext fun y => hX y (by have : (y 1).val < 2048 := (y 1).isLt; omega)

/-- What the body leaves in the output's buffer: at the last point of a stretch the finished rows, before it the columns so far. -/
def left (c : Dev nD) (t : Fin cfg0.N) (X : Vec F S512x2048 .f32) : Prop :=
  if t.val % 4 = 3 then X = k0_pay4 (iblk m c 4 t) (G m c t.val) (gainRow (iblk m c 3 t)) else Part m c t.val X

/-- The output window alone is held to a predicate. -/
def marked : Fin cfg0.W → Bool := ![false, false, false, false, false, true]

def Rl (c : Dev nD) : (w : Fin cfg0.W) → Fin cfg0.N → ((cfg0.win w).block.Idx → Elt F (cfg0.win w).elt) → Prop
  | ⟨5, _⟩ => fun t X => left m c t X
  | _ => fun _ _ => True

/-- The scratch buffer that keeps the rows. -/
abbrev scM0_0 : Memref sig .tc .vmem S512x2048 .bf16 := Memref.whole cc0_scratch0

/-- Between points: inside a stretch the scratch holds the stretch's rows. -/
def Phi (c : Dev nD) (n : ℕ) : sProp 𝕄 :=
  iprop((∃ d, ⌜n % 4 ≠ 0 → d = both (iblk m c 0 (rowOf n)) (iblk m c 1 (rowOf n))⌝ ∗ owns (c : Thread nD τ) scM0_0 fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- The relational proof data: the exact data, the output held to `left`. -/
abbrev rdat (c : Dev nD) := (dats m 0 c).toRRel marked (Rl m c)

/-- What the output's buffer may hold at a point inside a stretch: what the point before left. -/
theorem found (c : Dev nD) (t : Fin cfg0.N) (h : t.val % 4 ≠ 0) (Y : Vec F S512x2048 .f32) (hY : (rdat m c).Finds 5 t Y) : Part m c (t.val - 1) Y := by
  have hp : t.val - 1 < cfg0.N := Nat.lt_of_le_of_lt (Nat.sub_le _ _) t.isLt
  rcases ((rdat m c).finds_of_pos (w := 5) (t := t) rfl (by omega) Y).mp hY with hf | hl
  · have := (flush0_5 ⟨t.val - 1, hp⟩).mp hf
    exact absurd this (by show ¬ (t.val - 1) % 4 = 3; omega)
  · have := (dats m 0 c).toRRel_leaves (fgt := marked) (Rl := Rl m c) (w := 5) rfl hl
    have h2 : left m c ⟨t.val - 1, hp⟩ Y := this
    unfold left at h2
    rwa [if_neg (by show ¬ (t.val - 1) % 4 = 3; omega)] at h2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rdat m c).Finds 5 t Y⌝ ∗ owns (c : Thread nD τ) (st0_5 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X))

theorem Rl_last (c : Dev nD) (t : Fin cfg0.N) (h : t.val % 4 = 3) (d : Vec F S512x2048 .f32) (hd : Part m c (t.val - 1) d) :
    Rl m c 5 t (k0_pay4 (iblk m c 4 t) (upd d (512 * (t.val % 4)) (k0_pay3 (both (iblk m c 0 (rowOf t.val)) (iblk m c 1 (rowOf t.val))) (iblk m c 2 t))) (gainRow (iblk m c 3 t))) := by
  show left m c t _
  unfold left; rw [if_pos h, part_last m c t.val h _ (part_next m c t (by omega) d hd)]

theorem Rl_part (c : Dev nD) (t : Fin cfg0.N) (h : t.val % 4 ≠ 3) (X : Vec F S512x2048 .f32) (hX : Part m c t.val X) : Rl m c 5 t X := by
  show left m c t _
  unfold left; rwa [if_neg h]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4]
  rw [show (dats m 0 c).Φ t.castSucc = Phi m c t.val from rfl, show (dats m 0 c).Φ t.succ = Phi m c (t.val + 1) from rfl]
  unfold Phi
  by_cases h0 : t.val % 4 = 0
  · iintro ⟨⟨⟨%s, %hs, HS0⟩, Hg⟩, Ho, ⟨%d0, H0⟩, ⟨%d1, H1⟩, ⟨%d2, H2⟩, ⟨%d3, H3⟩, ⟨%d4, H4⟩, ⟨%d, %hd, H5⟩⟩
    iapply (run_first c (grid0.coords t) _ _ _ _ _ _ _ _ _ _ _ _ _ _ ((isFirst_iff t).mpr h0) (fun h => absurd ((isLast_iff t).mp h) (by omega)) _ (off_eq t)
      (iblk m c 0 t) (iblk m c 1 t) (iblk m c 2 t) (iblk m c 3 t) (iblk m c 4 t) d s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]
      · iexists _; isplitr; swap; · iexact HS0
        ipureintro; intro _; rw [rowOf_succ t.val (by omega), rowOf_first t h0]
      iexact Hg
    isplitl [Ho]; · iexact Ho
    isplitl [H0]; · iexact H0
    isplitl [H1]; · iexact H1
    isplitl [H2]; · iexact H2
    isplitl [H3]; · iexact H3
    isplitl [H4]; · iexact H4
    iexists _; isplitr; swap; · iexact H5
    ipureintro
    have := part_first m c t h0 d
    rw [rowOf_first t h0] at this
    exact Rl_part m c t (by omega) _ this
  · by_cases h1 : t.val % 4 = 3
    · iintro ⟨⟨⟨%s, %hs, HS0⟩, Hg⟩, Ho, ⟨%d0, H0⟩, ⟨%d1, H1⟩, ⟨%d2, H2⟩, ⟨%d3, H3⟩, ⟨%d4, H4⟩, ⟨%d, %hd, H5⟩⟩
      iapply (run_last c (grid0.coords t) _ _ _ _ _ _ _ _ _ _ _ _ _ _ (fun h => h0 ((isFirst_iff t).mp h)) ((isLast_iff t).mpr h1) _ (off_eq t)
        (iblk m c 0 t) (iblk m c 1 t) (iblk m c 2 t) (iblk m c 3 t) (iblk m c 4 t) d s _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexists _; isplitr; swap; · iexact HS0
          ipureintro; intro h; exact absurd h (by omega)
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      rw [hs h0]
      exact Rl_last m c t h1 d (found m c t h0 d hd)
    · iintro ⟨⟨⟨%s, %hs, HS0⟩, Hg⟩, Ho, ⟨%d0, H0⟩, ⟨%d1, H1⟩, ⟨%d2, H2⟩, ⟨%d3, H3⟩, ⟨%d4, H4⟩, ⟨%d, %hd, H5⟩⟩
      iapply (run_mid c (grid0.coords t) _ _ _ _ _ _ _ _ _ _ _ _ _ _ (fun h => h0 ((isFirst_iff t).mp h)) (fun h => h1 ((isLast_iff t).mp h)) _ (off_eq t)
        (iblk m c 0 t) (iblk m c 1 t) (iblk m c 2 t) (iblk m c 3 t) (iblk m c 4 t) d s _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexists _; isplitr; swap; · iexact HS0
          ipureintro; intro _; rw [rowOf_succ t.val h1]; exact hs h0
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      rw [hs h0]
      exact Rl_part m c t h1 _ (part_next m c t h0 d (found m c t h0 d hd))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scM0_0 fullShare d) ∗ ∃ r, prngReg c r) := by
  unfold ΦA; rw [scopedRest0_eq]; simp only [scM0_0, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)
end Cert.MixOut
end
-- ==== Proof.MixOut.lean ====
/- The out-projection of an even layer, its norm and the residual sum: kernel and reference compute the same array. -/
module
public import proofs.«01_k».proof.Proof.MixOutData
public import proofs.«01_k».proof.Proof.CrossRef
public import proofs.«01_k».proof.Proof.Gen.Reference9Ideal.Run
public import proofs.«01_k».proof.Proof.Gen.Reference9Ideal.Read
public import proofs.«01_k».proof.Proof.Gen.Kernel9
@[expose] public section
set_option maxRecDepth 16384
noncomputable section
namespace Cert.MixOut
open Idealize.ShloMosaic Idealize.ShloMosaic.TcCoe Idealize.SL.Sem
open Cert.Cross (rmsAt rowMul)

/-- One row of the layer's output: the residual plus the normed product. -/
def outRow (f : Fin 2048 → EReal) (w : Fin 2048 → Fin 2048 → EReal) (g y : Fin 2048 → EReal) (k : Fin 2048) : EReal :=
  y k + rmsAt (rowMul f w) g k

/-- The rows of two mixers, side by side. -/
def side (a b : Fin 1024 → EReal) (j : Fin 2048) : EReal :=
  if h : j.val < 1024 then a ⟨j.val, h⟩ else b ⟨j.val - 1024, by omega⟩

section Ref
open Cert.Reference9Ideal Cert.Reference9Ideal.Gen Cert.Reference9Ideal.Read

variable (x0 x1 : (⟨S8192x1024, .f32⟩ : BufTy).Contents (Elt Ideal)) (x2 : (⟨S1x2048x2048, .f32⟩ : BufTy).Contents (Elt Ideal))
  (x3 : (⟨S2x6x2048, .f32⟩ : BufTy).Contents (Elt Ideal)) (x4 : (⟨S8192x2048, .f32⟩ : BufTy).Contents (Elt Ideal))

/-- The rows of the two mixers laid end to end. -/
theorem side_apply (r : Fin 8192) (j : Fin 2048) :
    val_main_v0 (F := Ideal) x0 x1 (ix2 r j) = side (fun j => x0 (ix2 r j)) (fun j => x1 (ix2 r j)) j := by
  unfold side
  pointwise [val_main_v0]

/-- The reference's product. -/
theorem f_apply (r : Fin 8192) (k : Fin 2048) :
    val_main_v2 (F := Ideal) x0 x1 x2 (ix2 r k) = rowMul (side (fun j => x0 (ix2 r j)) (fun j => x1 (ix2 r j))) (fun j k => x2 (ix3 0 j k)) k := by
  have hs := side_apply x0 x1 r
  unfold rowMul
  simp only [← hs]
  unfold val_main_v2
  generalize val_main_v0 (F := Ideal) x0 x1 = q
  pointwise [val_main_v1]

/-- The reference's array. -/
theorem ref_apply (r : Fin 8192) (k : Fin 2048) :
    val_main_v20 (F := Ideal) x0 x1 x2 x3 x4 (ix2 r k)
      = outRow (side (fun j => x0 (ix2 r j)) (fun j => x1 (ix2 r j))) (fun j k => x2 (ix3 0 j k)) (fun j => x3 (ix3 0 1 j)) (fun j => x4 (ix2 r j)) k := by
  have hf := f_apply x0 x1 x2 r
  unfold outRow rmsAt
  simp only [← hf]
  unfold val_main_v20 val_main_v19 val_main_v16 val_main_v15 val_main_v14 val_main_v13 val_main_v11 val_main_v9 val_main_v8 val_main_v7
  generalize val_main_v2 (F := Ideal) x0 x1 x2 = q
  pointwise [val_main_v18, val_main_v17, val_main_v12, val_main_v10, val_main_v6, val_main_v5, val_main_v4, val_main_v3, val_main_cst, val_main_cst_0, val_main_cst_1]

end Ref

open Cert.Kernel9Ideal Cert.Kernel9Ideal.Gen

/-- The blocks of the windows at a grid point. -/
theorem idx : ∀ t : Fin cfg0.N, win0_0.index t = ![t.val / 4, 0] ∧ win0_1.index t = ![t.val / 4, 0] ∧ win0_2.index t = ![0, 0, t.val % 4]
    ∧ win0_3.index t = ![0, 0, 0] ∧ win0_4.index t = ![t.val / 4, 0] ∧ win0_5.index t = ![t.val / 4, 0] := by
  decide +kernel

/-- One product of the kernel. -/
theorem pay3_apply (x : Vec Ideal S512x2048 .bf16) (w : Vec Ideal S1x2048x512 .bf16) (r k : Fin 512) :
    k0_pay3 x w (ix2 r k) = ∑ j : Fin 2048, x (ix2 r j) * w (ix3 0 j k) := by
  pointwise [k0_pay3]

/-- The scratch's copies are the copied rows. -/
theorem pay1_apply (x : Vec Ideal S512x1024 .f32) (r : Fin 512) (j : Fin 1024) : k0_pay1 x (ix2 r j) = x (ix2 r j) := by
  pointwise [k0_pay1]
theorem pay2_apply (x : Vec Ideal S512x1024 .f32) (r : Fin 512) (j : Fin 1024) : k0_pay2 x (ix2 r j) = x (ix2 r j) := by
  pointwise [k0_pay2]

/-- The scratch, row by row. -/
theorem both_apply (x0 x1 : Vec Ideal S512x1024 .f32) (r : Fin 512) (j : Fin 2048) :
    both x0 x1 (ix2 r j) = side (fun j => x0 (ix2 r j)) (fun j => x1 (ix2 r j)) j := by
  show (if h : j.val < 1024 then k0_pay1 x0 (ix2 r ⟨j.val, h⟩) else k0_pay2 x1 (ix2 r ⟨j.val - 1024, _⟩)) = _
  unfold side
  by_cases h : j.val < 1024
  · rw [dif_pos h, dif_pos h, pay1_apply]
  · rw [dif_neg h, dif_neg h, pay2_apply]

/-- The last step of the kernel: the norm of the rows, times the gains, added to the residual. -/
theorem pay4_apply (y f : Vec Ideal S512x2048 .f32) (g : Vec Ideal S1x1x2048 .f32) (r : Fin 512) (k : Fin 2048) :
    k0_pay4 y f g (ix2 r k) = y (ix2 r k) + rmsAt (fun j => f (ix2 r j)) (fun j => g (ix3 0 0 j)) k := by
  unfold rmsAt
  pointwise [k0_pay4]

variable (m : (ℓ : Loc nD τ sig) → Buf (Elt Ideal) ℓ) (c : Dev nD)

/-- The rows of the first mixer, read off their block. -/
theorem read_a (t : Fin cfg0.N) (r : Fin 512) (j : Fin 1024) (R : Fin 8192) (hR : R.val = t.val / 4 * 512 + r.val) :
    iblk m c 0 t (ix2 r j) = m ((c : Thread nD τ).loc main_arg0) (ix2 R j) := by
  blk_ext [iblk, V, idx t]

/-- The rows of the second mixer, read off their block. -/
theorem read_b (t : Fin cfg0.N) (r : Fin 512) (j : Fin 1024) (R : Fin 8192) (hR : R.val = t.val / 4 * 512 + r.val) :
    iblk m c 1 t (ix2 r j) = m ((c : Thread nD τ).loc main_arg1) (ix2 R j) := by
  blk_ext [iblk, V, idx t]

/-- The weights, read off their block. -/
theorem read_w (t : Fin cfg0.N) (j : Fin 2048) (k : Fin 512) (K : Fin 2048) (hK : K.val = t.val % 4 * 512 + k.val) :
    iblk m c 2 t (ix3 0 j k) = m ((c : Thread nD τ).loc main_arg2) (ix3 0 j K) := by
  blk_ext [iblk, V, idx t]

/-- The gains, read off their block. -/
theorem read_g (t : Fin cfg0.N) (j : Fin 2048) : gainRow (iblk m c 3 t) (ix3 0 0 j) = m ((c : Thread nD τ).loc main_arg3) (ix3 0 1 j) := by
  unfold gainRow
  rw [View.ld_apply]; blk_ext [iblk, V, idx t] <;> (rw [Rect.idx_unit_val]; simp)

/-- The residual, read off its block. -/
theorem read_y (t : Fin cfg0.N) (r : Fin 512) (k : Fin 2048) (R : Fin 8192) (hR : R.val = t.val / 4 * 512 + r.val) :
    iblk m c 4 t (ix2 r k) = m ((c : Thread nD τ).loc main_arg4) (ix2 R k) := by
  blk_ext [iblk, V, idx t]

/-- The product of a stretch, row by row. -/
theorem G_apply (t : Fin cfg0.N) (r : Fin 512) (k : Fin 2048) (R : Fin 8192) (hR : R.val = t.val / 4 * 512 + r.val) :
    G m c t.val (ix2 r k) = rowMul (side (fun j => m ((c : Thread nD τ).loc main_arg0) (ix2 R j)) (fun j => m ((c : Thread nD τ).loc main_arg1) (ix2 R j)))
      (fun j k => m ((c : Thread nD τ).loc main_arg2) (ix3 0 j k)) k := by
  have ht := lt64 t
  have hk := k.isLt
  have hr : R.val = (rowOf t.val).val / 4 * 512 + r.val := by rw [hR]; show _ = t.val / 4 * 4 % 64 / 4 * 512 + r.val; omega
  show k0_pay3 (both (iblk m c 0 (rowOf t.val)) (iblk m c 1 (rowOf t.val))) (iblk m c 2 (colOf t.val k.val)) (ix2 r ⟨k.val % 512, _⟩) = _
  rw [pay3_apply]
  unfold rowMul
  refine Finset.sum_congr rfl fun j _ => ?_
  rw [both_apply, read_w m c (colOf t.val k.val) j _ k (by show k.val = (t.val / 4 * 4 + k.val / 512) % 64 % 4 * 512 + k.val % 512; omega)]
  congr 2
  · funext j; exact read_a m c (rowOf t.val) r j R hr
  · funext j; exact read_b m c (rowOf t.val) r j R hr

/-- What a stretch leaves in the output's buffer, row by row. -/
theorem left_apply (t : Fin cfg0.N) (h : t.val % 4 = 3) (X : Vec Ideal S512x2048 .f32) (hX : left m c t X) (r : Fin 512) (k : Fin 2048)
    (R : Fin 8192) (hR : R.val = t.val / 4 * 512 + r.val) :
    X (ix2 r k) = Cert.Reference9Ideal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 R k) := by
  unfold left at hX
  rw [if_pos h] at hX
  rw [hX, pay4_apply, ref_apply, read_y m c t r k R hR]
  unfold outRow
  congr 2
  · funext j; exact G_apply m c t r j R hR
  · funext j; exact read_g m c t j

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 5 cfg0.N = Cert.Reference9Ideal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine ((rdat m c).withAfter after).arrAt_eq_of_covers 5 _ (by decide +kernel) fun t hf y => ?_
  have h3 := (flush0_5 t).mp hf
  have hl : left m c t (after 5 t) := (dats m 0 c).toRRel_leaves (fgt := marked) (Rl := Rl m c) (w := 5) rfl (hL 5 t hf)
  blk_simp
  rw [Pipeline.RDat.withAfter_after]
  idx_vars y
  have hN := lt64 t
  have hi : ((View.whole main_v1).slice (win0_5.rect t)).emb (ix2 y0 y1) = ix2 (⟨t.val / 4 * 512 + y0.val, by omega⟩ : Fin 8192) y1 := by
    blk_ext [idx t]
  rw [hi]
  exact left_apply m c t h3 _ hl y0 y1 _ rfl

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      (Pipeline.RDat.FramePost.arr_in h.1 c 4 rfl).trans ((A_eq m c 4).trans (V_main_arg4 m c))⟩, h.2⟩) (run_main m ρ)

/-- The two programs name the same body. -/
theorem rows_eq : Cert.Kernel9.defs₀ (F := Bits) = Cert.Kernel9Ideal.defs₀ (F := Bits) := by
  unfold Cert.Kernel9.defs₀ Cert.Kernel9Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel9.defs (F := Bits) = Cert.Kernel9Ideal.defs (F := Bits) :=
  congrArg (Pipeline.defs (Cert.Kernel9Ideal.pcfgs (F := Bits))) rows_eq

/-- The frame of the kernel as it stands. -/
theorem frame_kernel : Cert.quiescent_Kernel9 := fun m ρ _ => by
  rw [defs_eq]
  exact frame (F := Bits) m ρ

/-- The frame of the ideal kernel. -/
theorem frame_ideal : Cert.quiescent_Kernel9Ideal := fun m ρ _ => frame (F := Ideal) m ρ

/-- Kernel and reference compute the same array over the extended reals. -/
theorem algebraic : Cert.algebraic_Kernel9Ideal_Reference9Ideal := by
  intro m g m' g' _ hagree
  refine ⟨fun c => Cert.Reference9Ideal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 5).trans (out_eq m c after hL)
  · refine (θ_run _ _ _).mono (fun r h c => ⟨(h c).1.trans ?_, (h c).2⟩) (Cert.Reference9Ideal.Value.run (F := Ideal) m' g')
    obtain ⟨h0, h1, h2, h3, h4⟩ := hagree c
    refine (Cert.Reference9Ideal.Read.val_main_v20_eq _ _ _ _ _).trans ?_
    rw [h0, h1, h2, h3, h4]

/-- The reference ends without fault, its arguments unchanged, every counter at zero. -/
theorem frame_ref : Cert.quiescent_Reference9Ideal := fun m g _ =>
  (θ_run _ _ _).mono (fun r h => ⟨fun c => (h c).2, sem_eq_zero_of_no_sems (by decide) r.2⟩)
    (Cert.Reference9Ideal.Value.run (F := Ideal) m g)
end Cert.MixOut
end
-- ==== Proof.ConvRow.lean ====
/- The row mathematics of the odd layer's convolution module: taps, the layer norm and its activation. -/
module
public import Idealize.ShloMosaic.Lib.Pointwise
@[expose] public section
noncomputable section
namespace Cert.ConvRow
open Idealize.ShloMosaic

/-- The weight of a tap at a column. -/
def W (w : (⟨⟨3, ![1, 31, 1024]⟩, .f32⟩ : BufTy).Contents (Elt Ideal)) (i : ℕ) (j : Fin 1024) : EReal :=
  if h : i < 31 then w (ix3 0 (⟨i, h⟩ : Fin 31) j) else 0

theorem W_eq (w) (k : Fin 31) (j : Fin 1024) (i : ℕ) (h : k.val = i) : w (ix3 0 k j) = W w i j := by
  subst h
  unfold W
  rw [dif_pos k.isLt]

/-- The 31 taps' sum. -/
def taps (w e : ℕ → EReal) : EReal := ∑ i ∈ Finset.range 31, w i * e i

theorem taps_eq (w e : ℕ → EReal) : taps w e = w 0 * e 0 + w 1 * e 1 + w 2 * e 2 + w 3 * e 3 + w 4 * e 4 + w 5 * e 5 + w 6 * e 6 + w 7 * e 7
    + w 8 * e 8 + w 9 * e 9 + w 10 * e 10 + w 11 * e 11 + w 12 * e 12 + w 13 * e 13 + w 14 * e 14 + w 15 * e 15 + w 16 * e 16 + w 17 * e 17
    + w 18 * e 18 + w 19 * e 19 + w 20 * e 20 + w 21 * e 21 + w 22 * e 22 + w 23 * e 23 + w 24 * e 24 + w 25 * e 25 + w 26 * e 26 + w 27 * e 27
    + w 28 * e 28 + w 29 * e 29 + w 30 * e 30 := by
  simp only [taps, Finset.sum_range_succ, Finset.sum_range_zero, zero_add]

/-- The mean of a row. -/
def mean (f : Fin 1024 → EReal) : EReal := Ideal.div (∑ j : Fin 1024, f j) (Ideal.ofBits .f32 0x44800000#32)

/-- One row normed by its mean and variance, with gain and bias. -/
def lnAt (f g b : Fin 1024 → EReal) (k : Fin 1024) : EReal :=
  (f k - mean f) * Ideal.rsqrt (mean (fun j => (f j - mean f) * (f j - mean f)) + Ideal.ofBits .f32 0x358637BD#32) * g k + b k

/-- A value times its logistic function. -/
def silu (x : EReal) : EReal := x * Ideal.logistic x

end Cert.ConvRow
end
-- ==== Proof.Conformer.lean ====
/- The convolution module of an odd layer, of the prompt: kernel and reference compute the same two arrays. -/
module
public import proofs.«01_k».proof.Defs
public import proofs.«01_k».proof.Proof.Rows
public import proofs.«01_k».proof.Proof.ConvRow
public import proofs.«01_k».proof.Proof.Gen.Kernel10Ideal.Value
public import proofs.«01_k».proof.Proof.Gen.Reference10Ideal.Run
public import proofs.«01_k».proof.Proof.Gen.Reference10Ideal.Read
@[expose] public section
set_option maxRecDepth 16384
noncomputable section
namespace Cert.Conformer
open Idealize.ShloMosaic Idealize.ShloMosaic.TcCoe
open Cert.ConvRow

/-- The input of the convolution: thirty rows of zeros, and then the gated rows. -/
def E (z : (⟨⟨2, ![8192, 4632]⟩, .f32⟩ : BufTy).Contents (Elt Ideal)) (e : ℕ) (j : Fin 1024) : EReal :=
  if h : 30 ≤ e ∧ e - 30 < 8192 then z (ix2 (⟨e - 30, h.2⟩ : Fin 8192) (⟨2560 + j.val, by omega⟩ : Fin 4632)) * Ideal.logistic (z (ix2 (⟨e - 30, h.2⟩ : Fin 8192) (⟨3584 + j.val, by omega⟩ : Fin 4632)))
  else 0

theorem E_lt (z) (e : ℕ) (j : Fin 1024) (h : e < 30) : E z e j = 0 := dif_neg fun h' => by omega

theorem E_row (z) (e : ℕ) (j : Fin 1024) (R : Fin 8192) (h : e = R.val + 30) :
    E z e j = z (ix2 R (⟨2560 + j.val, by omega⟩ : Fin 4632)) * Ideal.logistic (z (ix2 R (⟨3584 + j.val, by omega⟩ : Fin 4632))) := by
  subst h
  exact dif_pos ⟨by omega, by show R.val + 30 - 30 < 8192; omega⟩

/-- The taps' sum with its bias, at a row and column. -/
def conv (z : (⟨⟨2, ![8192, 4632]⟩, .f32⟩ : BufTy).Contents (Elt Ideal)) (w : (⟨⟨3, ![1, 31, 1024]⟩, .f32⟩ : BufTy).Contents (Elt Ideal)) (b : (⟨⟨2, ![1, 1024]⟩, .f32⟩ : BufTy).Contents (Elt Ideal)) (r : ℕ) (j : Fin 1024) : EReal :=
  taps (fun i => W w i j) (fun i => E z (i + r) j) + b (ix2 0 j)

/-- The taps' sum by the taps' remainders modulo eight. -/
theorem taps_grouped (w e : ℕ → EReal) : taps w e = (w 0 * e 0 + w 8 * e 8 + w 16 * e 16 + w 24 * e 24) + (w 1 * e 1 + w 9 * e 9 + w 17 * e 17 + w 25 * e 25) + (w 2 * e 2 + w 10 * e 10 + w 18 * e 18 + w 26 * e 26) + (w 3 * e 3 + w 11 * e 11 + w 19 * e 19 + w 27 * e 27) + (w 4 * e 4 + w 12 * e 12 + w 20 * e 20 + w 28 * e 28) + (w 5 * e 5 + w 13 * e 13 + w 21 * e 21 + w 29 * e 29) + (w 6 * e 6 + w 14 * e 14 + w 22 * e 22 + w 30 * e 30) + (w 7 * e 7 + w 15 * e 15 + w 23 * e 23) := by
  rw [taps_eq]
  abel

section Ref
open Cert.Reference10Ideal Cert.Reference10Ideal.Gen Cert.Reference10Ideal.Read

variable (x0 : (⟨S8192x4632, .f32⟩ : BufTy).Contents (Elt Ideal)) (x1 : (⟨S1x31x1024, .f32⟩ : BufTy).Contents (Elt Ideal)) (x2 x3 x4 : (⟨S1x1024, .f32⟩ : BufTy).Contents (Elt Ideal))

/-- The reference's gated input. -/
theorem u_apply (R : Fin 8192) (j : Fin 1024) : val_main_v8 (F := Ideal) x0 (ix2 R j) = E x0 (R.val + 30) j := by
  rw [E_row x0 _ j R rfl]
  unfold Ideal.logistic
  pointwise [val_main_v8, val_main_v7, val_main_v6, val_main_v5, val_main_v4, val_main_v3, val_main_v2, val_main_v1, val_main_v0, val_main_cst, val_main_cst_0]

/-- The reference's gated input with thirty rows of zeros before it. -/
theorem e_apply (s : Fin 8222) (j : Fin 1024) : val_main_v11 (F := Ideal) x0 (ix2 s j) = E x0 s.val j := by
  have hu := u_apply x0
  unfold val_main_v11
  generalize val_main_v8 (F := Ideal) x0 = u at hu ⊢
  pointwise [val_main_v10, val_main_cst_1]
  split_ifs with h
  · rw [E_lt x0 _ j (by omega)]
  all_goals (rw [hu]; congr 1; show s.val - 30 + 30 = s.val; omega)

set_option maxHeartbeats 2000000 in
/-- The reference's convolution. -/
theorem c_apply (r : Fin 8192) (j : Fin 1024) : val_main_v231 (F := Ideal) x0 x1 x2 (ix2 r j) = conv x0 x1 x2 r.val j := by
  have he := e_apply x0
  unfold conv
  rw [taps_eq]
  unfold val_main_v231 val_main_v227 val_main_v226 val_main_v223 val_main_v220 val_main_v219 val_main_v216 val_main_v213 val_main_v212 val_main_v209 val_main_v206 val_main_v205 val_main_v202 val_main_v199 val_main_v198 val_main_v195 val_main_v192 val_main_v191 val_main_v188 val_main_v185 val_main_v184 val_main_v181 val_main_v178 val_main_v177 val_main_v174 val_main_v171 val_main_v170 val_main_v167 val_main_v164 val_main_v163 val_main_v160 val_main_v157 val_main_v156 val_main_v153 val_main_v150 val_main_v149 val_main_v146 val_main_v143 val_main_v142 val_main_v139 val_main_v136 val_main_v135 val_main_v132 val_main_v129 val_main_v128 val_main_v125 val_main_v122 val_main_v121 val_main_v118 val_main_v115 val_main_v114 val_main_v111 val_main_v108 val_main_v107 val_main_v104 val_main_v101 val_main_v100 val_main_v97 val_main_v94 val_main_v93 val_main_v90 val_main_v87 val_main_v86 val_main_v83 val_main_v80 val_main_v79 val_main_v76 val_main_v73 val_main_v72 val_main_v69 val_main_v66 val_main_v65 val_main_v62 val_main_v59 val_main_v58 val_main_v55 val_main_v52 val_main_v51 val_main_v48 val_main_v45 val_main_v44 val_main_v41 val_main_v38 val_main_v37 val_main_v34 val_main_v31 val_main_v30 val_main_v27 val_main_v24 val_main_v23 val_main_v20 val_main_v17 val_main_v14
  generalize val_main_v11 (F := Ideal) x0 = u at he ⊢
  pointwise [val_main_v9, val_main_v230, val_main_v229, val_main_v228, val_main_v225, val_main_v224, val_main_v222, val_main_v221, val_main_v218, val_main_v217, val_main_v215, val_main_v214, val_main_v211, val_main_v210, val_main_v208, val_main_v207, val_main_v204, val_main_v203, val_main_v201, val_main_v200, val_main_v197, val_main_v196, val_main_v194, val_main_v193, val_main_v190, val_main_v189, val_main_v187, val_main_v186, val_main_v183, val_main_v182, val_main_v180, val_main_v179, val_main_v176, val_main_v175, val_main_v173, val_main_v172, val_main_v169, val_main_v168, val_main_v166, val_main_v165, val_main_v162, val_main_v161, val_main_v159, val_main_v158, val_main_v155, val_main_v154, val_main_v152, val_main_v151, val_main_v148, val_main_v147, val_main_v145, val_main_v144, val_main_v141, val_main_v140, val_main_v138, val_main_v137, val_main_v134, val_main_v133, val_main_v131, val_main_v130, val_main_v127, val_main_v126, val_main_v124, val_main_v123, val_main_v120, val_main_v119, val_main_v117, val_main_v116, val_main_v113, val_main_v112, val_main_v110, val_main_v109, val_main_v106, val_main_v105, val_main_v103, val_main_v102, val_main_v99, val_main_v98, val_main_v96, val_main_v95, val_main_v92, val_main_v91, val_main_v89, val_main_v88, val_main_v85, val_main_v84, val_main_v82, val_main_v81, val_main_v78, val_main_v77, val_main_v75, val_main_v74, val_main_v71, val_main_v70, val_main_v68, val_main_v67, val_main_v64, val_main_v63, val_main_v61, val_main_v60, val_main_v57, val_main_v56, val_main_v54, val_main_v53, val_main_v50, val_main_v49, val_main_v47, val_main_v46, val_main_v43, val_main_v42, val_main_v40, val_main_v39, val_main_v36, val_main_v35, val_main_v33, val_main_v32, val_main_v29, val_main_v28, val_main_v26, val_main_v25, val_main_v22, val_main_v21, val_main_v19, val_main_v18, val_main_v16, val_main_v15, val_main_v13, val_main_v12]
  simp only [he, W, Nat.reduceLT, dite_true, Nat.zero_add]
  rfl

/-- The reference's first array. -/
theorem ref_apply (r : Fin 8192) (j : Fin 1024) :
    val_main_v262 (F := Ideal) x0 x1 x2 x3 x4 (ix2 r j) = silu (lnAt (fun k => conv x0 x1 x2 r.val k) (fun k => x3 (ix2 0 k)) (fun k => x4 (ix2 0 k)) j) := by
  have hc := c_apply x0 x1 x2
  unfold val_main_v262 val_main_v261 val_main_v259 val_main_v257 val_main_v256 val_main_v255 val_main_v252 val_main_v249 val_main_v248 val_main_v247 val_main_v246 val_main_v244 val_main_v242 val_main_v241 val_main_cst_4 val_main_v240 val_main_v239 val_main_v238 val_main_v237 val_main_v235 val_main_v234 val_main_cst_2
  generalize val_main_v231 (F := Ideal) x0 x1 x2 = u at hc ⊢
  unfold silu lnAt mean Ideal.logistic
  pointwise [val_main_v260, val_main_cst_8, val_main_v258, val_main_cst_7, val_main_v254, val_main_v253, val_main_v251, val_main_v250, val_main_v245, val_main_cst_6, val_main_v243, val_main_cst_5, val_main_v236, val_main_cst_3, val_main_v233, val_main_v232]
  simp only [hc]

/-- The reference's second array: the last thirty rows. -/
theorem st_apply (r : Fin 30) (j : Fin 1024) : val_main_v263 (F := Ideal) x0 (ix2 r j) = E x0 (8192 + r.val) j := by
  have hu := u_apply x0
  unfold val_main_v263
  generalize val_main_v8 (F := Ideal) x0 = u at hu ⊢
  pointwise
  rw [hu]; congr 1; show 8162 + r.val + 30 = 8192 + r.val; omega
end Ref

open Cert.Kernel10Ideal Cert.Kernel10Ideal.Gen

/-- The blocks of the windows at a grid point. -/
theorem idx : ∀ t : Fin cfg0.N, win0_0.index t = ![t.val, 5] ∧ win0_1.index t = ![t.val, 6] ∧ win0_2.index t = ![t.val, 7] ∧ win0_3.index t = ![t.val, 8]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![0, 0] := by
  decide +kernel

theorem lt_N (t : Fin cfg0.N) : t.val < 16 := lt_of_lt_of_eq t.isLt N_0

variable (m : (ℓ : Loc nD τ sig) → Buf (Elt Ideal) ℓ) (c : Dev nD)

/-- The projection that the layer is given. -/
abbrev z : (⟨S8192x4632, .f32⟩ : BufTy).Contents (Elt Ideal) := m ((c : Thread nD τ).loc main_arg0)

/-- A block of the projection. -/
theorem z_blk0 (t : Fin cfg0.N) (r : Fin 512) (j : Fin 512) (R : Fin 8192) (hR : R.val = t.val * 512 + r.val) : X0_0 m c t (ix2 r j) = z m c (ix2 R (⟨2560 + j.val, by omega⟩ : Fin 4632)) := by
  unfold X0_0 Pipeline.Window.fill
  rw [dif_pos (moved0_0 t _)]
  blk_ext [iblk, V, idx t]

/-- A block of the projection. -/
theorem z_blk1 (t : Fin cfg0.N) (r : Fin 512) (j : Fin 512) (R : Fin 8192) (hR : R.val = t.val * 512 + r.val) : X0_1 m c t (ix2 r j) = z m c (ix2 R (⟨3072 + j.val, by omega⟩ : Fin 4632)) := by
  unfold X0_1 Pipeline.Window.fill
  rw [dif_pos (moved0_1 t _)]
  blk_ext [iblk, V, idx t]

/-- A block of the projection. -/
theorem z_blk2 (t : Fin cfg0.N) (r : Fin 512) (j : Fin 512) (R : Fin 8192) (hR : R.val = t.val * 512 + r.val) : X0_2 m c t (ix2 r j) = z m c (ix2 R (⟨3584 + j.val, by omega⟩ : Fin 4632)) := by
  unfold X0_2 Pipeline.Window.fill
  rw [dif_pos (moved0_2 t _)]
  blk_ext [iblk, V, idx t]

/-- A block of the projection. -/
theorem z_blk3 (t : Fin cfg0.N) (r : Fin 512) (j : Fin 512) (R : Fin 8192) (hR : R.val = t.val * 512 + r.val) : X0_3 m c t (ix2 r j) = z m c (ix2 R (⟨4096 + j.val, by omega⟩ : Fin 4632)) := by
  unfold X0_3 Pipeline.Window.fill
  rw [dif_pos (moved0_3 t _)]
  blk_ext [iblk, V, idx t]

/-- The two halves of the gated rows, side by side. -/
theorem pay4_apply (a ag b bg : (⟨S512x512, .f32⟩ : BufTy).Contents (Elt Ideal)) (r : Fin 512) (j : Fin 1024) :
    k0_pay4 a ag b bg (ix2 r j) = if h : j.val < 512 then a (ix2 r (⟨j.val, h⟩ : Fin 512)) * Ideal.logistic (ag (ix2 r (⟨j.val, h⟩ : Fin 512)))
      else b (ix2 r (⟨j.val - 512, by omega⟩ : Fin 512)) * Ideal.logistic (bg (ix2 r (⟨j.val - 512, by omega⟩ : Fin 512))) := by
  pointwise [k0_pay4]

/-- The gated rows of a grid point. -/
abbrev rows (t : Fin cfg0.N) : (⟨S512x1024, .f32⟩ : BufTy).Contents (Elt Ideal) := k0_pay4 (X0_0 m c t) (X0_2 m c t) (X0_1 m c t) (X0_3 m c t)

/-- The gated rows. -/
theorem u_blk (t : Fin cfg0.N) (r : Fin 512) (j : Fin 1024) (e : ℕ) (he : e = t.val * 512 + r.val + 30) : rows m c t (ix2 r j) = E (z m c) e j := by
  have ht := lt_N t
  unfold rows
  rw [E_row _ _ j (⟨t.val * 512 + r.val, by omega⟩ : Fin 8192) he, pay4_apply]
  split_ifs with h
  · rw [z_blk0 m c t r _ (⟨t.val * 512 + r.val, by omega⟩ : Fin 8192) rfl, z_blk2 m c t r _ (⟨t.val * 512 + r.val, by omega⟩ : Fin 8192) rfl]
  · rw [z_blk1 m c t r _ (⟨t.val * 512 + r.val, by omega⟩ : Fin 8192) rfl, z_blk3 m c t r _ (⟨t.val * 512 + r.val, by omega⟩ : Fin 8192) rfl]
    have h1 : (⟨3072 + (j.val - 512), by omega⟩ : Fin 4632) = ⟨2560 + j.val, by omega⟩ := Fin.ext (by show 3072 + (j.val - 512) = 2560 + j.val; omega)
    have h2 : (⟨4096 + (j.val - 512), by omega⟩ : Fin 4632) = ⟨3584 + j.val, by omega⟩ := Fin.ext (by show 4096 + (j.val - 512) = 3584 + j.val; omega)
    exact congrArg₂ (fun a b => z m c (ix2 (⟨t.val * 512 + r.val, by omega⟩ : Fin 8192) a) * Ideal.logistic (z m c (ix2 (⟨t.val * 512 + r.val, by omega⟩ : Fin 8192) b))) h1 h2

/-- The weights as the kernel takes them: a row for each tap. -/
def tapsOf (x : (⟨S1x31x1024, .f32⟩ : BufTy).Contents (Elt Ideal)) : (⟨S31x1024, .f32⟩ : BufTy).Contents (Elt Ideal) :=
  shapeCast _ x shapeCasts_S1x31x1024_S31x1024

theorem tapsOf_apply (x : (⟨S1x31x1024, .f32⟩ : BufTy).Contents (Elt Ideal)) (k : Fin 31) (j : Fin 1024) : tapsOf x (ix2 k j) = x (ix3 0 k j) := by
  pointwise [tapsOf]

theorem V_w : V m c main_v0 = tapsOf (m ((c : Thread nD τ).loc main_arg1)) := by
  unfold tapsOf
  simp only [V, hostOps0]
  after_results_simp <;> rfl

/-- A row of weights, read off its block. -/
theorem w_at (t : Fin cfg0.N) (o : ℕ) (inb) (j : Fin 1024) :
    View.ld (Val := Elt Ideal) (e' := .f32) (iblk m c 4 t) (Rect.unit (s := S31x1024) ![o, 0] ![1, 1024] inb) (ix2 0 j) = W (m ((c : Thread nD τ).loc main_arg1)) o j := by
  have ho : o + 1 ≤ 31 := inb 0
  rw [← W_eq _ (⟨o, by omega⟩ : Fin 31) j o rfl]
  refine (Rows.ld_rows (m := 31) (n := 1024) (k := 1) (iblk m c 4 t) o inb 0 j (⟨o, by omega⟩ : Fin 31) rfl).trans ?_
  rw [← tapsOf_apply (m ((c : Thread nD τ).loc main_arg1)) _ j, ← V_w m c]
  blk_ext [iblk, idx t]

/-- A row vector as the kernel takes it. -/
def rowOf (x : (⟨S1x1024, .f32⟩ : BufTy).Contents (Elt Ideal)) : (⟨S1x1024, .f32⟩ : BufTy).Contents (Elt Ideal) :=
  shapeCast S1x1024 (shapeCast S1024 x shapeCasts_S1x1024_S1024 : (⟨S1024, .f32⟩ : BufTy).Contents (Elt Ideal)) shapeCasts_S1024_S1x1024

theorem rowOf_apply (x : (⟨S1x1024, .f32⟩ : BufTy).Contents (Elt Ideal)) (j : Fin 1024) : rowOf x (ix2 0 j) = x (ix2 0 j) := by
  pointwise [rowOf]

theorem V_bias : V m c main_v5 = rowOf (m ((c : Thread nD τ).loc main_arg2)) := by
  unfold rowOf
  simp only [V, hostOps0]
  after_results_simp <;> rfl

/-- The bias, read off its block. -/
theorem bias_blk (t : Fin cfg0.N) (j : Fin 1024) : iblk m c 5 t (ix2 0 j) = m ((c : Thread nD τ).loc main_arg2) (ix2 0 j) := by
  have h : iblk m c 5 t (ix2 0 j) = V m c main_v5 (ix2 0 j) := by blk_ext [iblk, idx t]
  exact h.trans (by rw [V_bias]; exact rowOf_apply _ j)

theorem V_gain : V m c main_v6 = rowOf (m ((c : Thread nD τ).loc main_arg3)) := by
  unfold rowOf
  simp only [V, hostOps0]
  after_results_simp <;> rfl

/-- The norm's gain, read off its block. -/
theorem gain_blk (t : Fin cfg0.N) (j : Fin 1024) : iblk m c 6 t (ix2 0 j) = m ((c : Thread nD τ).loc main_arg3) (ix2 0 j) := by
  have h : iblk m c 6 t (ix2 0 j) = V m c main_v6 (ix2 0 j) := by blk_ext [iblk, idx t]
  exact h.trans (by rw [V_gain]; exact rowOf_apply _ j)

theorem V_shift : V m c main_v7 = rowOf (m ((c : Thread nD τ).loc main_arg4)) := by
  unfold rowOf
  simp only [V, hostOps0]
  after_results_simp <;> rfl

/-- The norm's bias, read off its block. -/
theorem shift_blk (t : Fin cfg0.N) (j : Fin 1024) : iblk m c 7 t (ix2 0 j) = m ((c : Thread nD τ).loc main_arg4) (ix2 0 j) := by
  have h : iblk m c 7 t (ix2 0 j) = V m c main_v7 (ix2 0 j) := by blk_ext [iblk, idx t]
  exact h.trans (by rw [V_shift]; exact rowOf_apply _ j)

/-- The rows before the first: zeros. -/
def noRows : (⟨S30x1024, .f32⟩ : BufTy).Contents (Elt Ideal) :=
  broadcastInDim S30x1024 ![] bcast_S_S30x1024 (constant (F := Ideal) S_ .f32 0x00000000#32)

theorem noRows_apply (r : Fin 30) (j : Fin 1024) : noRows (ix2 r j) = (0 : EReal) := by
  pointwise [noRows]

theorem V_prev : V m c main_v4 = noRows := by
  unfold noRows
  simp only [V, hostOps0]
  after_results_simp <;> rfl

theorem p_blk (t : Fin cfg0.N) (r : Fin 30) (j : Fin 1024) : k0_pay2 (iblk m c 8 t) (ix2 r j) = (0 : EReal) := by
  have h : iblk m c 8 t (ix2 r j) = V m c main_v4 (ix2 r j) := by blk_ext [iblk, idx t]
  have h' : iblk m c 8 t (ix2 r j) = (0 : EReal) := h.trans (by rw [V_prev]; exact noRows_apply r j)
  rw [← h']
  pointwise [k0_pay2]

/-- A partial sum, read back from its row `b` on. -/
theorem part_at (p : (⟨S520x1024, .f32⟩ : BufTy).Contents (Elt Ideal)) (L : List (View.Piece (Elt Ideal) S520x1024 .f32)) (inb) (b : ℕ) (inb') (r : Fin 512) (j : Fin 1024) (e : Fin 520) (he : e.val = b + r.val) :
    (View.whole cc0_scratch1).readCov ((⟨Rect.unit (s := S520x1024) ![0, 0] ![520, 1024] inb, p⟩ : View.Piece (Elt Ideal) S520x1024 .f32) :: L)
      (Rect.unit (s := S520x1024) ![b, 0] ![512, 1024] inb').toLoadRect (ix2 r j) = p (ix2 e j) := by
  refine (Rows.readCov_rows (m := 520) (n := 1024) (k := 512) (View.whole cc0_scratch1) _ b inb' r j e he).trans ?_
  exact Rows.canon_hit 0 inb p L e j e (by omega)

/-! The taps of one remainder, and their sums. -/

theorem pay5_apply (w0 w1 w2 : (⟨S1x1024, .f32⟩ : BufTy).Contents (Elt Ideal)) (e0 e1 e2 : (⟨S520x1024, .f32⟩ : BufTy).Contents (Elt Ideal)) (r : Fin 520) (j : Fin 1024) :
    k0_pay5 w0 e0 w1 e1 w2 e2 (ix2 r j) = w0 (ix2 0 j) * e0 (ix2 r j) + w1 (ix2 0 j) * e1 (ix2 r j) + w2 (ix2 0 j) * e2 (ix2 r j) := by
  pointwise [k0_pay5]

theorem pay6_apply (w0 w1 w2 w3 : (⟨S1x1024, .f32⟩ : BufTy).Contents (Elt Ideal)) (e0 e1 e2 e3 : (⟨S520x1024, .f32⟩ : BufTy).Contents (Elt Ideal)) (r : Fin 520) (j : Fin 1024) :
    k0_pay6 w0 e0 w1 e1 w2 e2 w3 e3 (ix2 r j) = w0 (ix2 0 j) * e0 (ix2 r j) + w1 (ix2 0 j) * e1 (ix2 r j) + w2 (ix2 0 j) * e2 (ix2 r j) + w3 (ix2 0 j) * e3 (ix2 r j) := by
  pointwise [k0_pay6]

theorem pay8_apply (w0 w1 w2 w3 : (⟨S1x1024, .f32⟩ : BufTy).Contents (Elt Ideal)) (e0 e1 e2 e3 : (⟨S520x1024, .f32⟩ : BufTy).Contents (Elt Ideal)) (r : Fin 520) (j : Fin 1024) :
    k0_pay8 w0 e0 w1 e1 w2 e2 w3 e3 (ix2 r j) = w0 (ix2 0 j) * e0 (ix2 r j) + w1 (ix2 0 j) * e1 (ix2 r j) + w2 (ix2 0 j) * e2 (ix2 r j) + w3 (ix2 0 j) * e3 (ix2 r j) := by
  pointwise [k0_pay8]

theorem pay10_apply (w0 : (⟨S1x1024, .f32⟩ : BufTy).Contents (Elt Ideal)) (e0 : (⟨S520x1024, .f32⟩ : BufTy).Contents (Elt Ideal)) (r : Fin 520) (j : Fin 1024) :
    k0_pay10 w0 e0 (ix2 r j) = w0 (ix2 0 j) * e0 (ix2 r j) := by
  pointwise [k0_pay10]

theorem pay11_apply (v : (⟨S520x1024, .f32⟩ : BufTy).Contents (Elt Ideal)) (w0 w1 w2 : (⟨S1x1024, .f32⟩ : BufTy).Contents (Elt Ideal)) (e0 e1 e2 : (⟨S520x1024, .f32⟩ : BufTy).Contents (Elt Ideal)) (r : Fin 520) (j : Fin 1024) :
    k0_pay11 v w0 e0 w1 e1 w2 e2 (ix2 r j) = v (ix2 r j) + w0 (ix2 0 j) * e0 (ix2 r j) + w1 (ix2 0 j) * e1 (ix2 r j) + w2 (ix2 0 j) * e2 (ix2 r j) := by
  pointwise [k0_pay11]

theorem pay13_apply (w0 w1 : (⟨S1x1024, .f32⟩ : BufTy).Contents (Elt Ideal)) (e0 e1 : (⟨S520x1024, .f32⟩ : BufTy).Contents (Elt Ideal)) (r : Fin 520) (j : Fin 1024) :
    k0_pay13 w0 e0 w1 e1 (ix2 r j) = w0 (ix2 0 j) * e0 (ix2 r j) + w1 (ix2 0 j) * e1 (ix2 r j) := by
  pointwise [k0_pay13]

theorem pay17_apply (w0 w1 w2 : (⟨S1x1024, .f32⟩ : BufTy).Contents (Elt Ideal)) (e0 e1 e2 : (⟨S520x1024, .f32⟩ : BufTy).Contents (Elt Ideal)) (r : Fin 520) (j : Fin 1024) :
    k0_pay17 w0 e0 w1 e1 w2 e2 (ix2 r j) = w0 (ix2 0 j) * e0 (ix2 r j) + w1 (ix2 0 j) * e1 (ix2 r j) + w2 (ix2 0 j) * e2 (ix2 r j) := by
  pointwise [k0_pay17]

theorem pay21_apply (w0 w1 w2 w3 : (⟨S1x1024, .f32⟩ : BufTy).Contents (Elt Ideal)) (e0 e1 e2 e3 : (⟨S520x1024, .f32⟩ : BufTy).Contents (Elt Ideal)) (r : Fin 520) (j : Fin 1024) :
    k0_pay21 w0 e0 w1 e1 w2 e2 w3 e3 (ix2 r j) = w0 (ix2 0 j) * e0 (ix2 r j) + w1 (ix2 0 j) * e1 (ix2 r j) + w2 (ix2 0 j) * e2 (ix2 r j) + w3 (ix2 0 j) * e3 (ix2 r j) := by
  pointwise [k0_pay21]

theorem pay22_apply (w0 w1 w2 : (⟨S1x1024, .f32⟩ : BufTy).Contents (Elt Ideal)) (e0 e1 e2 : (⟨S520x1024, .f32⟩ : BufTy).Contents (Elt Ideal)) (r : Fin 520) (j : Fin 1024) :
    k0_pay22 w0 e0 w1 e1 w2 e2 (ix2 r j) = w0 (ix2 0 j) * e0 (ix2 r j) + w1 (ix2 0 j) * e1 (ix2 r j) + w2 (ix2 0 j) * e2 (ix2 r j) := by
  pointwise [k0_pay22]

theorem pay14_apply (w : (⟨S1x1024, .f32⟩ : BufTy).Contents (Elt Ideal)) (j : Fin 1024) : k0_pay14 w (ix2 0 j) = w (ix2 0 j) := by
  pointwise [k0_pay14]

theorem pay18_apply (w : (⟨S1x1024, .f32⟩ : BufTy).Contents (Elt Ideal)) (j : Fin 1024) : k0_pay18 w (ix2 0 j) = w (ix2 0 j) := by
  pointwise [k0_pay18]

theorem pay15_apply (v : (⟨S520x1024, .f32⟩ : BufTy).Contents (Elt Ideal)) (w0 : (⟨S1x1024, .f32⟩ : BufTy).Contents (Elt Ideal)) (e0 : (⟨S520x1024, .f32⟩ : BufTy).Contents (Elt Ideal)) (w1 : (⟨S1x1024, .f32⟩ : BufTy).Contents (Elt Ideal)) (e1 : (⟨S520x1024, .f32⟩ : BufTy).Contents (Elt Ideal)) (r : Fin 520) (j : Fin 1024) :
    k0_pay15 v w0 e0 w1 e1 (ix2 r j) = v (ix2 r j) + w0 (ix2 0 j) * e0 (ix2 r j) + w1 (ix2 0 j) * e1 (ix2 r j) := by
  pointwise [k0_pay15]

theorem pay19_apply (v : (⟨S520x1024, .f32⟩ : BufTy).Contents (Elt Ideal)) (w0 : (⟨S1x1024, .f32⟩ : BufTy).Contents (Elt Ideal)) (e0 : (⟨S520x1024, .f32⟩ : BufTy).Contents (Elt Ideal)) (r : Fin 520) (j : Fin 1024) :
    k0_pay19 v w0 e0 (ix2 r j) = v (ix2 r j) + w0 (ix2 0 j) * e0 (ix2 r j) := by
  pointwise [k0_pay19]

theorem pay7_apply (v : (⟨S520x1024, .f32⟩ : BufTy).Contents (Elt Ideal)) (w0 : (⟨S1x1024, .f32⟩ : BufTy).Contents (Elt Ideal)) (e0 : (⟨S520x1024, .f32⟩ : BufTy).Contents (Elt Ideal)) (p : (⟨S512x1024, .f32⟩ : BufTy).Contents (Elt Ideal)) (r : Fin 512) (j : Fin 1024) :
    k0_pay7 v w0 e0 p (ix2 r j) = v (ix2 (⟨r.val, by omega⟩ : Fin 520) j) + w0 (ix2 0 j) * e0 (ix2 (⟨r.val, by omega⟩ : Fin 520) j) + p (ix2 r j) := by
  pointwise [k0_pay7]

theorem pay9_apply (a b : (⟨S512x1024, .f32⟩ : BufTy).Contents (Elt Ideal)) (r : Fin 512) (j : Fin 1024) :
    k0_pay9 a b (ix2 r j) = a (ix2 r j) + b (ix2 r j) := by
  pointwise [k0_pay9]

theorem pay12_apply (a b : (⟨S512x1024, .f32⟩ : BufTy).Contents (Elt Ideal)) (r : Fin 512) (j : Fin 1024) :
    k0_pay12 a b (ix2 r j) = a (ix2 r j) + b (ix2 r j) := by
  pointwise [k0_pay12]

theorem pay16_apply (a b : (⟨S512x1024, .f32⟩ : BufTy).Contents (Elt Ideal)) (r : Fin 512) (j : Fin 1024) :
    k0_pay16 a b (ix2 r j) = a (ix2 r j) + b (ix2 r j) := by
  pointwise [k0_pay16]

theorem pay20_apply (a b : (⟨S512x1024, .f32⟩ : BufTy).Contents (Elt Ideal)) (r : Fin 512) (j : Fin 1024) :
    k0_pay20 a b (ix2 r j) = a (ix2 r j) + b (ix2 r j) := by
  pointwise [k0_pay20]

theorem pay24_apply (a b d : (⟨S512x1024, .f32⟩ : BufTy).Contents (Elt Ideal)) (w : (⟨S1x1024, .f32⟩ : BufTy).Contents (Elt Ideal)) (r : Fin 512) (j : Fin 1024) :
    k0_pay24 a b d w (ix2 r j) = a (ix2 r j) + b (ix2 r j) + d (ix2 r j) + w (ix2 0 j) := by
  pointwise [k0_pay24]

/-- The sums of the rows. -/
theorem pay25_apply (a b d : (⟨S512x1024, .f32⟩ : BufTy).Contents (Elt Ideal)) (w : (⟨S1x1024, .f32⟩ : BufTy).Contents (Elt Ideal)) (r : Fin 512) : k0_pay25 a b d w (ix1 r) = ∑ k : Fin 1024, k0_pay24 a b d w (ix2 r k) := by
  unfold k0_pay25
  generalize k0_pay24 a b d w = f
  pointwise

/-- The last step: the norm of the rows and its activation. -/
theorem pay1_apply (f : (⟨S512x1024, .f32⟩ : BufTy).Contents (Elt Ideal)) (s : (⟨S512, .f32⟩ : BufTy).Contents (Elt Ideal)) (g b : (⟨S1x1024, .f32⟩ : BufTy).Contents (Elt Ideal)) (r : Fin 512) (j : Fin 1024)
    (hs : s (ix1 r) = ∑ k : Fin 1024, f (ix2 r k)) :
    k0_pay1 f s g b (ix2 r j) = silu (lnAt (fun k => f (ix2 r k)) (fun k => g (ix2 0 k)) (fun k => b (ix2 0 k)) j) := by
  unfold silu lnAt mean
  rw [← hs]
  pointwise [k0_pay1]

/-- The last rows of the buffer, read back. -/
theorem tail (t : Fin cfg0.N) (inb) (inb') (L : List (View.Piece (Elt Ideal) S550x1024 .f32)) (r : Fin 30) (j : Fin 1024) :
    (View.whole cc0_scratch0).readCov ((⟨Rect.unit (s := S550x1024) ![30, 0] ![512, 1024] inb, rows m c t⟩ : View.Piece (Elt Ideal) S550x1024 .f32) :: L)
      (Rect.unit (s := S550x1024) ![512, 0] ![30, 1024] inb').toLoadRect (ix2 r j) = E (z m c) (t.val * 512 + 512 + r.val) j := by
  refine (Rows.readCov_rows (m := 550) (n := 1024) (k := 30) (View.whole cc0_scratch0) _ 512 inb' r j (⟨512 + r.val, by omega⟩ : Fin 550) rfl).trans ?_
  refine (Rows.canon_hit 30 inb _ L _ j (⟨482 + r.val, by omega⟩ : Fin 512) (by show 512 + r.val = 30 + (482 + r.val); omega)).trans ?_
  exact u_blk m c t _ j _ (by show t.val * 512 + 512 + r.val = t.val * 512 + (482 + r.val) + 30; omega)

/-- The copy back to the buffer's head keeps its elements. -/
theorem pay23_apply (x : (⟨S30x1024, .f32⟩ : BufTy).Contents (Elt Ideal)) (r : Fin 30) (j : Fin 1024) : k0_pay23 x (ix2 r j) = x (ix2 r j) := by
  pointwise [k0_pay23]

set_option maxHeartbeats 2000000 in
/-- After a grid point the first thirty rows of the buffer are the last thirty of the block. -/
theorem carry (t : Fin cfg0.N) (e : Fin 550) (j : Fin 1024) (he : e.val < 30) :
    (outsAt0 m c t.val t.isLt).2.2 (ix2 e j) = E (z m c) (t.val * 512 + 512 + e.val) j := by
  by_cases h0 : t.val % 16 = 0
  · rw [outsAt0_A m c t h0]
    simp (disch := decide) only [↓ View.readCov_skip]
    frame_out
    refine (Rows.canon_hit 0 _ _ _ e j (⟨e.val, he⟩ : Fin 30) (by show e.val = 0 + e.val; omega)).trans ?_
    rw [pay23_apply]
    exact tail m c t _ _ _ _ j
  · rw [outsAt0_B m c t h0]
    simp (disch := decide) only [↓ View.readCov_skip]
    frame_out
    refine (Rows.read_hit (View.whole cc0_scratch0) _ 0 _ _ _ e j (⟨e.val, he⟩ : Fin 30) (by show e.val = 0 + e.val; omega)).trans ?_
    rw [pay23_apply]
    exact tail m c t _ _ _ _ j

/-- The second output's block at a grid point. -/
theorem out10_blk (t : Fin cfg0.N) (r : Fin 30) (j : Fin 1024) :
    (outsAt0 m c t.val t.isLt).2.1 (ix2 r j) = E (z m c) (t.val * 512 + 512 + r.val) j := by
  by_cases h0 : t.val % 16 = 0
  · rw [outsAt0_A m c t h0]
    simp (disch := decide) only [↓ View.readCov_skip]
    frame_out
    exact tail m c t _ _ _ r j
  · rw [outsAt0_B m c t h0]
    simp (disch := decide) only [↓ View.readCov_skip]
    frame_out
    exact tail m c t _ _ _ r j

/-- The buffer's rows at the first grid point: zeros, and then the block's gated rows. -/
theorem canon_ext (t : Fin cfg0.N) (h0 : t.val % 16 = 0) (inb) (inb') (inb'') (e : Fin 550) (j : Fin 1024) (q : ℕ) (hq : t.val * 512 + e.val = q) (he : e.val < 542) :
    View.canon [(⟨Rect.unit (s := S550x1024) ![30, 0] ![512, 1024] inb, rows m c t⟩ : View.Piece (Elt Ideal) S550x1024 .f32),
      (⟨Rect.unit (s := S550x1024) ![542, 0] ![8, 1024] inb', k0_pay3 (F := Ideal)⟩ : View.Piece (Elt Ideal) S550x1024 .f32),
      (⟨Rect.unit (s := S550x1024) ![0, 0] ![30, 1024] inb'', k0_pay2 (iblk m c 8 t)⟩ : View.Piece (Elt Ideal) S550x1024 .f32)] (ix2 e j) = E (z m c) q j := by
  have ht := lt_N t
  by_cases h : 30 ≤ e.val
  · refine (Rows.canon_hit 30 inb _ _ e j (⟨e.val - 30, by omega⟩ : Fin 512) (by show e.val = 30 + (e.val - 30); omega)).trans ?_
    exact u_blk m c t _ j q (by show q = t.val * 512 + (e.val - 30) + 30; omega)
  · refine (Rows.canon_miss 30 inb _ _ e j (Or.inl (by omega))).trans ?_
    refine (Rows.canon_miss 542 inb' _ _ e j (Or.inl (by omega))).trans ?_
    refine (Rows.canon_hit 0 inb'' _ _ e j (⟨e.val, by omega⟩ : Fin 30) (by show e.val = 0 + e.val; omega)).trans ?_
    rw [p_blk, E_lt _ _ _ (by omega)]

/-- A stretch of the buffer's rows, as a tap reads it, at the first grid point. -/
theorem ext_A (t : Fin cfg0.N) (h0 : t.val % 16 = 0) (inb) (inb') (inb'') (o : ℕ) (inbo) (e : Fin 520) (j : Fin 1024) (q : ℕ) (hq : t.val * 512 + (o + e.val) = q) (he : o + e.val < 542) :
    (View.whole cc0_scratch0).readCov [(⟨Rect.unit (s := S550x1024) ![30, 0] ![512, 1024] inb, rows m c t⟩ : View.Piece (Elt Ideal) S550x1024 .f32),
      (⟨Rect.unit (s := S550x1024) ![542, 0] ![8, 1024] inb', k0_pay3 (F := Ideal)⟩ : View.Piece (Elt Ideal) S550x1024 .f32),
      (⟨Rect.unit (s := S550x1024) ![0, 0] ![30, 1024] inb'', k0_pay2 (iblk m c 8 t)⟩ : View.Piece (Elt Ideal) S550x1024 .f32)] (Rect.unit (s := S550x1024) ![o, 0] ![520, 1024] inbo).toLoadRect (ix2 e j) = E (z m c) q j := by
  refine (Rows.readCov_rows (m := 550) (n := 1024) (k := 520) (View.whole cc0_scratch0) _ o inbo e j (⟨o + e.val, by omega⟩ : Fin 550) rfl).trans ?_
  exact canon_ext m c t h0 inb inb' inb'' _ j q hq he

/-- A stretch of the buffer's rows, as a tap reads it, at a later grid point: what the point before left at its head, and then the
block's gated rows. -/
theorem ext_B (t : Fin cfg0.N) (h0 : ¬ t.val % 16 = 0) (hp : t.val - 1 < cfg0.N) (hw : (Memref.whole cc0_scratch0).IsWhole) (inb) (o : ℕ) (inbo) (e : Fin 520) (j : Fin 1024) (q : ℕ) (hq : t.val * 512 + (o + e.val) = q) (he : o + e.val < 542) :
    View.ld (Val := Elt Ideal) (e' := .f32) ((View.whole cc0_scratch0).read (Elt Ideal) ((View.whole cc0_scratch0).writes (Elt Ideal) (hw.unread (outsAt0 m c (t.val - 1) hp).2.2)
      [(⟨Rect.unit (s := S550x1024) ![30, 0] ![512, 1024] inb, rows m c t⟩ : View.Piece (Elt Ideal) S550x1024 .f32)])) (Rect.unit (s := S550x1024) ![o, 0] ![520, 1024] inbo) (ix2 e j) = E (z m c) q j := by
  refine (Rows.ld_rows (m := 550) (n := 1024) (k := 520) _ o inbo e j (⟨o + e.val, by omega⟩ : Fin 550) rfl).trans ?_
  by_cases h : 30 ≤ o + e.val
  · refine (Rows.read_hit (View.whole cc0_scratch0) _ 30 inb _ _ _ j (⟨o + e.val - 30, by omega⟩ : Fin 512) (by show o + e.val = 30 + (o + e.val - 30); omega)).trans ?_
    exact u_blk m c t _ j q (by show q = t.val * 512 + (o + e.val - 30) + 30; omega)
  · refine (Rows.read_miss (View.whole cc0_scratch0) _ 30 inb _ _ _ j (Or.inl (by show o + e.val < 30; omega))).trans ?_
    rw [View.writes_nil, read_unread_whole]
    refine (carry m c ⟨t.val - 1, hp⟩ (⟨o + e.val, by omega⟩ : Fin 550) j (by show o + e.val < 30; omega)).trans ?_
    congr 1
    show (t.val - 1) * 512 + 512 + (o + e.val) = _
    omega

/-- The sum of a grid point's taps, the partial sums read back one after the other, is the convolution: `e0`, `e8`, `e16` and `e24` are
the buffer's rows from row 0, 8, 16 and 24 on. -/
theorem sum_apply (t : Fin cfg0.N) (r : Fin 512) (R : Fin 8192) (hR : R.val = t.val * 512 + r.val) (k : Fin 1024) (e0 e8 e16 e24 : (⟨S520x1024, .f32⟩ : BufTy).Contents (Elt Ideal))
    (h0 : ∀ (e : Fin 520) (k : Fin 1024) (q : ℕ), t.val * 512 + (0 + e.val) = q → 0 + e.val < 542 → e0 (ix2 e k) = E (z m c) q k)
    (h8 : ∀ (e : Fin 520) (k : Fin 1024) (q : ℕ), t.val * 512 + (8 + e.val) = q → 8 + e.val < 542 → e8 (ix2 e k) = E (z m c) q k)
    (h16 : ∀ (e : Fin 520) (k : Fin 1024) (q : ℕ), t.val * 512 + (16 + e.val) = q → 16 + e.val < 542 → e16 (ix2 e k) = E (z m c) q k)
    (h24 : ∀ (e : Fin 520) (k : Fin 1024) (q : ℕ), t.val * 512 + (24 + e.val) = q → 24 + e.val < 542 → e24 (ix2 e k) = E (z m c) q k)
    (L1 L2 L3 L4 L5 L6 L7 : List (View.Piece (Elt Ideal) S520x1024 .f32)) :
    k0_pay24 (k0_pay20 (k0_pay16 (k0_pay12 (k0_pay9 (k0_pay7 (k0_pay5 (View.ld (Val := Elt Ideal) (e' := .f32) (iblk m c 4 t) (Rect.unit (s := S31x1024) ![0, 0] S1x1024.size inb_S31x1024_S1x1024_0_0)) e0 (View.ld (Val := Elt Ideal) (e' := .f32) (iblk m c 4 t) (Rect.unit (s := S31x1024) ![8, 0] S1x1024.size inb_S31x1024_S1x1024_8_0)) e8 (View.ld (Val := Elt Ideal) (e' := .f32) (iblk m c 4 t) (Rect.unit (s := S31x1024) ![16, 0] S1x1024.size inb_S31x1024_S1x1024_16_0)) e16) (View.ld (Val := Elt Ideal) (e' := .f32) (iblk m c 4 t) (Rect.unit (s := S31x1024) ![24, 0] S1x1024.size inb_S31x1024_S1x1024_24_0)) e24
        ((View.whole cc0_scratch1).readCov ((⟨Rect.unit (s := S520x1024) ![0, 0] S520x1024.size inb_S520x1024_S520x1024_0_0, k0_pay6 (View.ld (Val := Elt Ideal) (e' := .f32) (iblk m c 4 t) (Rect.unit (s := S31x1024) ![1, 0] S1x1024.size inb_S31x1024_S1x1024_1_0)) e0 (View.ld (Val := Elt Ideal) (e' := .f32) (iblk m c 4 t) (Rect.unit (s := S31x1024) ![9, 0] S1x1024.size inb_S31x1024_S1x1024_9_0)) e8 (View.ld (Val := Elt Ideal) (e' := .f32) (iblk m c 4 t) (Rect.unit (s := S31x1024) ![17, 0] S1x1024.size inb_S31x1024_S1x1024_17_0)) e16 (View.ld (Val := Elt Ideal) (e' := .f32) (iblk m c 4 t) (Rect.unit (s := S31x1024) ![25, 0] S1x1024.size inb_S31x1024_S1x1024_25_0)) e24⟩ : View.Piece (Elt Ideal) S520x1024 .f32) :: L1) (Rect.unit (s := S520x1024) ![1, 0] S512x1024.size inb_S520x1024_S512x1024_1_0).toLoadRect))
        ((View.whole cc0_scratch1).readCov ((⟨Rect.unit (s := S520x1024) ![0, 0] S520x1024.size inb_S520x1024_S520x1024_0_0, k0_pay8 (View.ld (Val := Elt Ideal) (e' := .f32) (iblk m c 4 t) (Rect.unit (s := S31x1024) ![2, 0] S1x1024.size inb_S31x1024_S1x1024_2_0)) e0 (View.ld (Val := Elt Ideal) (e' := .f32) (iblk m c 4 t) (Rect.unit (s := S31x1024) ![10, 0] S1x1024.size inb_S31x1024_S1x1024_10_0)) e8 (View.ld (Val := Elt Ideal) (e' := .f32) (iblk m c 4 t) (Rect.unit (s := S31x1024) ![18, 0] S1x1024.size inb_S31x1024_S1x1024_18_0)) e16 (View.ld (Val := Elt Ideal) (e' := .f32) (iblk m c 4 t) (Rect.unit (s := S31x1024) ![26, 0] S1x1024.size inb_S31x1024_S1x1024_26_0)) e24⟩ : View.Piece (Elt Ideal) S520x1024 .f32) :: L2) (Rect.unit (s := S520x1024) ![2, 0] S512x1024.size inb_S520x1024_S512x1024_2_0).toLoadRect))
        ((View.whole cc0_scratch1).readCov ((⟨Rect.unit (s := S520x1024) ![0, 0] S520x1024.size inb_S520x1024_S520x1024_0_0, k0_pay11 (k0_pay10 (View.ld (Val := Elt Ideal) (e' := .f32) (iblk m c 4 t) (Rect.unit (s := S31x1024) ![3, 0] S1x1024.size inb_S31x1024_S1x1024_3_0)) e0) (View.ld (Val := Elt Ideal) (e' := .f32) (iblk m c 4 t) (Rect.unit (s := S31x1024) ![11, 0] S1x1024.size inb_S31x1024_S1x1024_11_0)) e8 (View.ld (Val := Elt Ideal) (e' := .f32) (iblk m c 4 t) (Rect.unit (s := S31x1024) ![19, 0] S1x1024.size inb_S31x1024_S1x1024_19_0)) e16 (View.ld (Val := Elt Ideal) (e' := .f32) (iblk m c 4 t) (Rect.unit (s := S31x1024) ![27, 0] S1x1024.size inb_S31x1024_S1x1024_27_0)) e24⟩ : View.Piece (Elt Ideal) S520x1024 .f32) :: L3) (Rect.unit (s := S520x1024) ![3, 0] S512x1024.size inb_S520x1024_S512x1024_3_0).toLoadRect))
        ((View.whole cc0_scratch1).readCov ((⟨Rect.unit (s := S520x1024) ![0, 0] S520x1024.size inb_S520x1024_S520x1024_0_0, k0_pay15 (k0_pay13 (View.ld (Val := Elt Ideal) (e' := .f32) (iblk m c 4 t) (Rect.unit (s := S31x1024) ![4, 0] S1x1024.size inb_S31x1024_S1x1024_4_0)) e0 (View.ld (Val := Elt Ideal) (e' := .f32) (iblk m c 4 t) (Rect.unit (s := S31x1024) ![12, 0] S1x1024.size inb_S31x1024_S1x1024_12_0)) e8) (k0_pay14 (View.ld (Val := Elt Ideal) (e' := .f32) (iblk m c 4 t) (Rect.unit (s := S31x1024) ![20, 0] S1x1024.size inb_S31x1024_S1x1024_20_0))) e16 (View.ld (Val := Elt Ideal) (e' := .f32) (iblk m c 4 t) (Rect.unit (s := S31x1024) ![28, 0] S1x1024.size inb_S31x1024_S1x1024_28_0)) e24⟩ : View.Piece (Elt Ideal) S520x1024 .f32) :: L4) (Rect.unit (s := S520x1024) ![4, 0] S512x1024.size inb_S520x1024_S512x1024_4_0).toLoadRect))
        ((View.whole cc0_scratch1).readCov ((⟨Rect.unit (s := S520x1024) ![0, 0] S520x1024.size inb_S520x1024_S520x1024_0_0, k0_pay19 (k0_pay17 (View.ld (Val := Elt Ideal) (e' := .f32) (iblk m c 4 t) (Rect.unit (s := S31x1024) ![5, 0] S1x1024.size inb_S31x1024_S1x1024_5_0)) e0 (View.ld (Val := Elt Ideal) (e' := .f32) (iblk m c 4 t) (Rect.unit (s := S31x1024) ![13, 0] S1x1024.size inb_S31x1024_S1x1024_13_0)) e8 (View.ld (Val := Elt Ideal) (e' := .f32) (iblk m c 4 t) (Rect.unit (s := S31x1024) ![21, 0] S1x1024.size inb_S31x1024_S1x1024_21_0)) e16) (k0_pay18 (View.ld (Val := Elt Ideal) (e' := .f32) (iblk m c 4 t) (Rect.unit (s := S31x1024) ![29, 0] S1x1024.size inb_S31x1024_S1x1024_29_0))) e24⟩ : View.Piece (Elt Ideal) S520x1024 .f32) :: L5) (Rect.unit (s := S520x1024) ![5, 0] S512x1024.size inb_S520x1024_S512x1024_5_0).toLoadRect))
        ((View.whole cc0_scratch1).readCov ((⟨Rect.unit (s := S520x1024) ![0, 0] S520x1024.size inb_S520x1024_S520x1024_0_0, k0_pay21 (View.ld (Val := Elt Ideal) (e' := .f32) (iblk m c 4 t) (Rect.unit (s := S31x1024) ![6, 0] S1x1024.size inb_S31x1024_S1x1024_6_0)) e0 (View.ld (Val := Elt Ideal) (e' := .f32) (iblk m c 4 t) (Rect.unit (s := S31x1024) ![14, 0] S1x1024.size inb_S31x1024_S1x1024_14_0)) e8 (View.ld (Val := Elt Ideal) (e' := .f32) (iblk m c 4 t) (Rect.unit (s := S31x1024) ![22, 0] S1x1024.size inb_S31x1024_S1x1024_22_0)) e16 (View.ld (Val := Elt Ideal) (e' := .f32) (iblk m c 4 t) (Rect.unit (s := S31x1024) ![30, 0] S1x1024.size inb_S31x1024_S1x1024_30_0)) e24⟩ : View.Piece (Elt Ideal) S520x1024 .f32) :: L6) (Rect.unit (s := S520x1024) ![6, 0] S512x1024.size inb_S520x1024_S512x1024_6_0).toLoadRect)
        ((View.whole cc0_scratch1).readCov ((⟨Rect.unit (s := S520x1024) ![0, 0] S520x1024.size inb_S520x1024_S520x1024_0_0, k0_pay22 (View.ld (Val := Elt Ideal) (e' := .f32) (iblk m c 4 t) (Rect.unit (s := S31x1024) ![7, 0] S1x1024.size inb_S31x1024_S1x1024_7_0)) e0 (View.ld (Val := Elt Ideal) (e' := .f32) (iblk m c 4 t) (Rect.unit (s := S31x1024) ![15, 0] S1x1024.size inb_S31x1024_S1x1024_15_0)) e8 (View.ld (Val := Elt Ideal) (e' := .f32) (iblk m c 4 t) (Rect.unit (s := S31x1024) ![23, 0] S1x1024.size inb_S31x1024_S1x1024_23_0)) e16⟩ : View.Piece (Elt Ideal) S520x1024 .f32) :: L7) (Rect.unit (s := S520x1024) ![7, 0] S512x1024.size inb_S520x1024_S512x1024_7_0).toLoadRect) (iblk m c 5 t) (ix2 r k)
      = conv (z m c) (m ((c : Thread nD τ).loc main_arg1)) (m ((c : Thread nD τ).loc main_arg2)) R.val k := by
  rw [pay24_apply, pay20_apply, pay16_apply, pay12_apply, pay9_apply, pay7_apply, pay5_apply]
  unfold conv
  rw [taps_grouped]
  refine congrArg₂ (· + ·) ?_ (bias_blk m c t k)
  exact (congrArg₂ (· + ·)
        (congrArg₂ (· + ·)
        (congrArg₂ (· + ·)
        (congrArg₂ (· + ·)
        (congrArg₂ (· + ·)
        (congrArg₂ (· + ·)
        (congrArg₂ (· + ·)
        (congrArg₂ (· + ·)
        (congrArg₂ (· + ·)
        (congrArg₂ (· + ·)
        (congrArg₂ (· * ·) (w_at m c t 0 _ k) (h0 (⟨r.val, by omega⟩ : Fin 520) k (0 + R.val) (by show t.val * 512 + (0 + r.val) = 0 + R.val; omega) (by show 0 + r.val < 542; omega)))
        (congrArg₂ (· * ·) (w_at m c t 8 _ k) (h8 (⟨r.val, by omega⟩ : Fin 520) k (8 + R.val) (by show t.val * 512 + (8 + r.val) = 8 + R.val; omega) (by show 8 + r.val < 542; omega))))
        (congrArg₂ (· * ·) (w_at m c t 16 _ k) (h16 (⟨r.val, by omega⟩ : Fin 520) k (16 + R.val) (by show t.val * 512 + (16 + r.val) = 16 + R.val; omega) (by show 16 + r.val < 542; omega))))
        (congrArg₂ (· * ·) (w_at m c t 24 _ k) (h24 (⟨r.val, by omega⟩ : Fin 520) k (24 + R.val) (by show t.val * 512 + (24 + r.val) = 24 + R.val; omega) (by show 24 + r.val < 542; omega))))
        ((part_at _ _ _ 1 _ r k (⟨1 + r.val, by omega⟩ : Fin 520) rfl).trans
        ((pay6_apply _ _ _ _ _ _ _ _ _ k).trans
        (congrArg₂ (· + ·)
        (congrArg₂ (· + ·)
        (congrArg₂ (· + ·)
        (congrArg₂ (· * ·) (w_at m c t 1 _ k) (h0 (⟨1 + r.val, by omega⟩ : Fin 520) k (1 + R.val) (by show t.val * 512 + (0 + (1 + r.val)) = 1 + R.val; omega) (by show 0 + (1 + r.val) < 542; omega)))
        (congrArg₂ (· * ·) (w_at m c t 9 _ k) (h8 (⟨1 + r.val, by omega⟩ : Fin 520) k (9 + R.val) (by show t.val * 512 + (8 + (1 + r.val)) = 9 + R.val; omega) (by show 8 + (1 + r.val) < 542; omega))))
        (congrArg₂ (· * ·) (w_at m c t 17 _ k) (h16 (⟨1 + r.val, by omega⟩ : Fin 520) k (17 + R.val) (by show t.val * 512 + (16 + (1 + r.val)) = 17 + R.val; omega) (by show 16 + (1 + r.val) < 542; omega))))
        (congrArg₂ (· * ·) (w_at m c t 25 _ k) (h24 (⟨1 + r.val, by omega⟩ : Fin 520) k (25 + R.val) (by show t.val * 512 + (24 + (1 + r.val)) = 25 + R.val; omega) (by show 24 + (1 + r.val) < 542; omega)))))))
        ((part_at _ _ _ 2 _ r k (⟨2 + r.val, by omega⟩ : Fin 520) rfl).trans
        ((pay8_apply _ _ _ _ _ _ _ _ _ k).trans
        (congrArg₂ (· + ·)
        (congrArg₂ (· + ·)
        (congrArg₂ (· + ·)
        (congrArg₂ (· * ·) (w_at m c t 2 _ k) (h0 (⟨2 + r.val, by omega⟩ : Fin 520) k (2 + R.val) (by show t.val * 512 + (0 + (2 + r.val)) = 2 + R.val; omega) (by show 0 + (2 + r.val) < 542; omega)))
        (congrArg₂ (· * ·) (w_at m c t 10 _ k) (h8 (⟨2 + r.val, by omega⟩ : Fin 520) k (10 + R.val) (by show t.val * 512 + (8 + (2 + r.val)) = 10 + R.val; omega) (by show 8 + (2 + r.val) < 542; omega))))
        (congrArg₂ (· * ·) (w_at m c t 18 _ k) (h16 (⟨2 + r.val, by omega⟩ : Fin 520) k (18 + R.val) (by show t.val * 512 + (16 + (2 + r.val)) = 18 + R.val; omega) (by show 16 + (2 + r.val) < 542; omega))))
        (congrArg₂ (· * ·) (w_at m c t 26 _ k) (h24 (⟨2 + r.val, by omega⟩ : Fin 520) k (26 + R.val) (by show t.val * 512 + (24 + (2 + r.val)) = 26 + R.val; omega) (by show 24 + (2 + r.val) < 542; omega)))))))
        ((part_at _ _ _ 3 _ r k (⟨3 + r.val, by omega⟩ : Fin 520) rfl).trans
        ((pay11_apply _ _ _ _ _ _ _ _ k).trans
        (congrArg₂ (· + ·)
        (congrArg₂ (· + ·)
        (congrArg₂ (· + ·)
        ((pay10_apply _ _ _ k).trans
        (congrArg₂ (· * ·) (w_at m c t 3 _ k) (h0 (⟨3 + r.val, by omega⟩ : Fin 520) k (3 + R.val) (by show t.val * 512 + (0 + (3 + r.val)) = 3 + R.val; omega) (by show 0 + (3 + r.val) < 542; omega))))
        (congrArg₂ (· * ·) (w_at m c t 11 _ k) (h8 (⟨3 + r.val, by omega⟩ : Fin 520) k (11 + R.val) (by show t.val * 512 + (8 + (3 + r.val)) = 11 + R.val; omega) (by show 8 + (3 + r.val) < 542; omega))))
        (congrArg₂ (· * ·) (w_at m c t 19 _ k) (h16 (⟨3 + r.val, by omega⟩ : Fin 520) k (19 + R.val) (by show t.val * 512 + (16 + (3 + r.val)) = 19 + R.val; omega) (by show 16 + (3 + r.val) < 542; omega))))
        (congrArg₂ (· * ·) (w_at m c t 27 _ k) (h24 (⟨3 + r.val, by omega⟩ : Fin 520) k (27 + R.val) (by show t.val * 512 + (24 + (3 + r.val)) = 27 + R.val; omega) (by show 24 + (3 + r.val) < 542; omega)))))))
        ((part_at _ _ _ 4 _ r k (⟨4 + r.val, by omega⟩ : Fin 520) rfl).trans
        ((pay15_apply _ _ _ _ _ _ k).trans
        (congrArg₂ (· + ·)
        (congrArg₂ (· + ·)
        ((pay13_apply _ _ _ _ _ k).trans
        (congrArg₂ (· + ·)
        (congrArg₂ (· * ·) (w_at m c t 4 _ k) (h0 (⟨4 + r.val, by omega⟩ : Fin 520) k (4 + R.val) (by show t.val * 512 + (0 + (4 + r.val)) = 4 + R.val; omega) (by show 0 + (4 + r.val) < 542; omega)))
        (congrArg₂ (· * ·) (w_at m c t 12 _ k) (h8 (⟨4 + r.val, by omega⟩ : Fin 520) k (12 + R.val) (by show t.val * 512 + (8 + (4 + r.val)) = 12 + R.val; omega) (by show 8 + (4 + r.val) < 542; omega)))))
        (congrArg₂ (· * ·) ((pay14_apply _ k).trans (w_at m c t 20 _ k)) (h16 (⟨4 + r.val, by omega⟩ : Fin 520) k (20 + R.val) (by show t.val * 512 + (16 + (4 + r.val)) = 20 + R.val; omega) (by show 16 + (4 + r.val) < 542; omega))))
        (congrArg₂ (· * ·) (w_at m c t 28 _ k) (h24 (⟨4 + r.val, by omega⟩ : Fin 520) k (28 + R.val) (by show t.val * 512 + (24 + (4 + r.val)) = 28 + R.val; omega) (by show 24 + (4 + r.val) < 542; omega)))))))
        ((part_at _ _ _ 5 _ r k (⟨5 + r.val, by omega⟩ : Fin 520) rfl).trans
        ((pay19_apply _ _ _ _ k).trans
        (congrArg₂ (· + ·)
        ((pay17_apply _ _ _ _ _ _ _ k).trans
        (congrArg₂ (· + ·)
        (congrArg₂ (· + ·)
        (congrArg₂ (· * ·) (w_at m c t 5 _ k) (h0 (⟨5 + r.val, by omega⟩ : Fin 520) k (5 + R.val) (by show t.val * 512 + (0 + (5 + r.val)) = 5 + R.val; omega) (by show 0 + (5 + r.val) < 542; omega)))
        (congrArg₂ (· * ·) (w_at m c t 13 _ k) (h8 (⟨5 + r.val, by omega⟩ : Fin 520) k (13 + R.val) (by show t.val * 512 + (8 + (5 + r.val)) = 13 + R.val; omega) (by show 8 + (5 + r.val) < 542; omega))))
        (congrArg₂ (· * ·) (w_at m c t 21 _ k) (h16 (⟨5 + r.val, by omega⟩ : Fin 520) k (21 + R.val) (by show t.val * 512 + (16 + (5 + r.val)) = 21 + R.val; omega) (by show 16 + (5 + r.val) < 542; omega)))))
        (congrArg₂ (· * ·) ((pay18_apply _ k).trans (w_at m c t 29 _ k)) (h24 (⟨5 + r.val, by omega⟩ : Fin 520) k (29 + R.val) (by show t.val * 512 + (24 + (5 + r.val)) = 29 + R.val; omega) (by show 24 + (5 + r.val) < 542; omega)))))))
        ((part_at _ _ _ 6 _ r k (⟨6 + r.val, by omega⟩ : Fin 520) rfl).trans
        ((pay21_apply _ _ _ _ _ _ _ _ _ k).trans
        (congrArg₂ (· + ·)
        (congrArg₂ (· + ·)
        (congrArg₂ (· + ·)
        (congrArg₂ (· * ·) (w_at m c t 6 _ k) (h0 (⟨6 + r.val, by omega⟩ : Fin 520) k (6 + R.val) (by show t.val * 512 + (0 + (6 + r.val)) = 6 + R.val; omega) (by show 0 + (6 + r.val) < 542; omega)))
        (congrArg₂ (· * ·) (w_at m c t 14 _ k) (h8 (⟨6 + r.val, by omega⟩ : Fin 520) k (14 + R.val) (by show t.val * 512 + (8 + (6 + r.val)) = 14 + R.val; omega) (by show 8 + (6 + r.val) < 542; omega))))
        (congrArg₂ (· * ·) (w_at m c t 22 _ k) (h16 (⟨6 + r.val, by omega⟩ : Fin 520) k (22 + R.val) (by show t.val * 512 + (16 + (6 + r.val)) = 22 + R.val; omega) (by show 16 + (6 + r.val) < 542; omega))))
        (congrArg₂ (· * ·) (w_at m c t 30 _ k) (h24 (⟨6 + r.val, by omega⟩ : Fin 520) k (30 + R.val) (by show t.val * 512 + (24 + (6 + r.val)) = 30 + R.val; omega) (by show 24 + (6 + r.val) < 542; omega)))))))
        ((part_at _ _ _ 7 _ r k (⟨7 + r.val, by omega⟩ : Fin 520) rfl).trans
        ((pay22_apply _ _ _ _ _ _ _ k).trans
        (congrArg₂ (· + ·)
        (congrArg₂ (· + ·)
        (congrArg₂ (· * ·) (w_at m c t 7 _ k) (h0 (⟨7 + r.val, by omega⟩ : Fin 520) k (7 + R.val) (by show t.val * 512 + (0 + (7 + r.val)) = 7 + R.val; omega) (by show 0 + (7 + r.val) < 542; omega)))
        (congrArg₂ (· * ·) (w_at m c t 15 _ k) (h8 (⟨7 + r.val, by omega⟩ : Fin 520) k (15 + R.val) (by show t.val * 512 + (8 + (7 + r.val)) = 15 + R.val; omega) (by show 8 + (7 + r.val) < 542; omega))))
        (congrArg₂ (· * ·) (w_at m c t 23 _ k) (h16 (⟨7 + r.val, by omega⟩ : Fin 520) k (23 + R.val) (by show t.val * 512 + (16 + (7 + r.val)) = 23 + R.val; omega) (by show 16 + (7 + r.val) < 542; omega)))))))

set_option maxHeartbeats 4000000 in
/-- The first output's block at a grid point. -/
theorem out9_blk (t : Fin cfg0.N) (r : Fin 512) (j : Fin 1024) (R : Fin 8192) (hR : R.val = t.val * 512 + r.val) :
    (outsAt0 m c t.val t.isLt).1 (ix2 r j) = Cert.Reference10Ideal.Read.val_main_v262 (F := Ideal) (z m c) (m ((c : Thread nD τ).loc main_arg1)) (m ((c : Thread nD τ).loc main_arg2)) (m ((c : Thread nD τ).loc main_arg3)) (m ((c : Thread nD τ).loc main_arg4)) (ix2 R j) := by
  rw [ref_apply]
  by_cases h0 : t.val % 16 = 0
  · rw [outsAt0_A m c t h0]
    simp (disch := decide) only [↓ View.readCov_skip]
    frame_out
    refine (pay1_apply _ _ _ _ r j (pay25_apply _ _ _ _ r)).trans ?_
    congr 2
    · funext k
      exact sum_apply m c t r R hR k _ _ _ _ (ext_A m c t h0 _ _ _ 0 _) (ext_A m c t h0 _ _ _ 8 _) (ext_A m c t h0 _ _ _ 16 _) (ext_A m c t h0 _ _ _ 24 _) _ _ _ _ _ _ _
    · funext k; exact gain_blk m c t k
    · funext k; exact shift_blk m c t k
  · rw [outsAt0_B m c t h0]
    simp (disch := decide) only [↓ View.readCov_skip]
    frame_out
    refine (pay1_apply _ _ _ _ r j (pay25_apply _ _ _ _ r)).trans ?_
    congr 2
    · funext k
      exact sum_apply m c t r R hR k _ _ _ _ (ext_B m c t h0 _ _ _ 0 _) (ext_B m c t h0 _ _ _ 8 _) (ext_B m c t h0 _ _ _ 16 _) (ext_B m c t h0 _ _ _ 24 _) _ _ _ _ _ _ _
    · funext k; exact gain_blk m c t k
    · funext k; exact shift_blk m c t k

/-- The kernel's first array is the reference's. -/
theorem out9_eq : (dats (F := Ideal) m 0 c).arrAt 9 cfg0.N = Cert.Reference10Ideal.Read.val_main_v262 (F := Ideal) (z m c) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  idx_vars y
  have hN := lt_N t
  have hi : ((View.whole main_v8_0).slice (win0_9.rect t)).emb (ix2 y0 y1) = ix2 (⟨t.val * 512 + y0.val, by omega⟩ : Fin 8192) y1 := by
    blk_ext [idx t]
  rw [hi]
  exact out9_blk m c t y0 y1 _ rfl

/-- The second array is written back after the last grid point alone. -/
theorem last10 : ∀ t : Fin cfg0.N, (cfg0.win 10).flush t = true → t.val = 15 := by decide +kernel

/-- The kernel's second array is the reference's. -/
theorem out10_eq : (dats (F := Ideal) m 0 c).arrAt 10 cfg0.N = Cert.Reference10Ideal.Read.val_main_v263 (F := Ideal) (z m c) := by
  refine (dats m 0 c).arrAt_eq_of_covers 10 _ (by decide +kernel) fun t hf y => ?_
  have hl := last10 t hf
  blk_simp
  rw [after0_10]
  idx_vars y
  have hi : ((View.whole main_v8_1).slice (win0_10.rect t)).emb (ix2 y0 y1) = ix2 y0 y1 := by
    blk_ext [idx t]
  rw [hi, st_apply]
  refine (out10_blk m c t y0 y1).trans ?_
  rw [hl]

/-- Kernel and reference compute the same two arrays over the extended reals. -/
theorem algebraic [hK : Cert.Kernel10Ideal.Facts] [hR : Cert.Reference10Ideal.Facts] : Cert.algebraic_Kernel10Ideal_Reference10Ideal := by
  intro m g m' g' _ hagree
  refine ⟨fun c => Cert.Reference10Ideal.Read.val_main_v262 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Reference10Ideal.Read.val_main_v263 (F := Ideal) (m ((c : Thread nD τ).loc main_arg0)), ?_, ?_⟩
  · exact (θ_run _ _ _).mono (fun r h c => ⟨(h c).1.trans (out9_eq m c), (h c).2.1.trans (out10_eq m c), (h c).2.2⟩) (Cert.Kernel10Ideal.Value.run_blocks (F := Ideal) m g)
  · refine (θ_run _ _ _).mono (fun r h c => ?_) (Cert.Reference10Ideal.Value.run (F := Ideal) m' g')
    obtain ⟨h0, h1, h2, h3, h4⟩ := hagree c
    refine ⟨(h c).1.trans ?_, (h c).2.1.trans ?_, (h c).2.2⟩
    · refine (Cert.Reference10Ideal.Read.val_main_v262_eq _).trans ?_
      simp only [StableHlo.launchContents, h0, h1, h2, h3, h4]
    · refine (Cert.Reference10Ideal.Read.val_main_v263_eq _).trans ?_
      simp only [StableHlo.launchContents, h0]

/-- The reference ends without fault, its arguments unchanged, every counter at zero. -/
theorem frame_ref : Cert.quiescent_Reference10Ideal := fun m g _ =>
  (θ_run _ _ _).mono (fun r h => ⟨fun c => (h c).2.2, sem_eq_zero_of_no_sems (by decide) r.2⟩)
    (Cert.Reference10Ideal.Value.run (F := Ideal) m g)

end Cert.Conformer
end
-- ==== Proof.InSampleEvenRun.lean ====
/- The in-projection of an even layer, of the sample batch: the body of the kernel at one grid point, what is kept from point to point, the launch. -/
module
public import proofs.«01_k».proof.Defs
public import proofs.«01_k».proof.Proof.Gen.Kernel11Ideal
public import proofs.«01_k».proof.Proof.Gen.Kernel11Ideal.Skeleton
public import proofs.«01_k».proof.Proof.Gen.Kernel11Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.InSampleEven
open Idealize.ShloMosaic Idealize.ShloMosaic.TcCoe Idealize.ShloMosaic.Tactic Cert.Kernel11Ideal Cert.Kernel11Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ

/-- The row of gains that the first point of a block of rows loads: row 0. -/
abbrev gainRow (x1 : Vec F S1x6x2048 .f32) : Vec F S1x1x2048 .f32 :=
  View.ld x1 (Rect.unit (s := S1x6x2048) ![0, 0, 0] S1x1x2048.size inb_S1x6x2048_S1x1x2048_0_0_0)

/-- The body's branch: the point is the first of its block of rows. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 12 = 0 := by decide +kernel

set_option maxHeartbeats 1000000 in
/-- The body at a point: the scratch then holds the normed rows, made here or found, and the output's buffer their product with the slab of weights. -/
theorem run (c : Dev nD) (i : grid0.Coords) (arg2 : Memref sig .tc .vmem S128x2048 .f32) (harg2 : arg2.IsWhole) (arg3 : Memref sig .tc .vmem S1x6x2048 .f32) (harg3 : arg3.IsWhole) (arg4 : Memref sig .tc .vmem S1x2048x512 .bf16) (harg4 : arg4.IsWhole) (arg5 : Memref sig .tc .vmem S128x512 .f32) (harg5 : arg5.IsWhole) (arg6 : Memref sig .tc .vmem S128x2048 .bf16) (harg6 : arg6.IsWhole)
    (x0 : Vec F S128x2048 .f32) (x1 : Vec F S1x6x2048 .f32) (x2 : Vec F S1x2048x512 .bf16) (d : Vec F S128x512 .f32) (s xn : Vec F S128x2048 .bf16)
    (h1 : isFirst i → xn = k0_pay1 x0 (gainRow x1)) (h2 : ¬isFirst i → xn = s) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xn x2) ∗ owns (c : Thread nD τ) arg6 fullShare xn) -∗ K ⟨⟩))
      ⊢ wp frame (wpE (defs₀ (F := F)) Variants.none c none) Set.univ (cc0_norm_mm i arg2 harg2 arg3 harg3 arg4 harg4 arg5 harg5 arg6 harg6) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hfs
  by_cases hc0 : isFirst i
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [h1 hc0, View.read_writes_full]
      unfold run.sl.v3 run.sl.HS0_1
      rw [View.readCov_full, View.readAt_full, View.readAt_full, View.readAt_eq_ld, harg2.read_unread, harg3.read_unread, harg4.read_unread]
    iexists _; isplitr; swap; · iexact HS0
    ipureintro
    unfold run.sl.HS0_1
    rw [h1 hc0, View.read_writes_full, View.readAt_full, View.readAt_eq_ld, harg2.read_unread, harg3.read_unread]
  · obtain rfl := h2 hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full, View.readAt_full, View.readAt_full, harg6.read_unread, harg4.read_unread]
    iexists _; isplitr; swap; · iexact HS0
    ipureintro
    exact harg6.read_unread _

variable (m : (ℓ : Loc nD τ sig) → Buf (Elt F) ℓ) (ρ : Dev nD → PrngReg)

theorem N_eq : cfg0.N = 12 := N_0
theorem lt_N (t : Fin cfg0.N) : t.val < 12 := lt_of_lt_of_eq t.isLt N_eq

/-- Point number `n`. -/
def pt (n : ℕ) : Fin cfg0.N := ⟨n % 12, by rw [N_eq]; omega⟩
theorem pt_val (t : Fin cfg0.N) : pt t.val = t := Fin.ext (Nat.mod_eq_of_lt (lt_N t))

/-- The normed rows of the block that point `n` lies in: they are made at the block's first point. -/
def xnAt (c : Dev nD) (n : ℕ) : Vec F S128x2048 .bf16 := k0_pay1 (iblk m c 0 (pt (n / 12 * 12))) (gainRow (iblk m c 1 (pt (n / 12 * 12))))

theorem xnAt_succ (c : Dev nD) (n : ℕ) (h : (n + 1) % 12 ≠ 0) : xnAt m c (n + 1) = xnAt m c n := by
  unfold xnAt; rw [show (n + 1) / 12 = n / 12 by omega]

/-- A slab of weights as its buffer may hold it: the columns that the array has, and anything in the columns past its end. -/
def slab (c : Dev nD) (t : Fin cfg0.N) (d : Vec F S1x2048x512 .bf16) : Vec F S1x2048x512 .bf16 := (cfg0.win 2).fill (cfg0.grid.coords t) d (iblk m c 2 t)

/-- What the body leaves in the output's buffer: the product with the slab, whatever the slab's columns past the array hold. -/
def left (c : Dev nD) (t : Fin cfg0.N) (X : Vec F S128x512 .f32) : Prop := ∃ d, X = k0_pay2 (xnAt m c t.val) (slab m c t d)

/-- The output window alone is held to a predicate. -/
def marked : Fin cfg0.W → Bool := ![false, false, false, true]

def Rl (c : Dev nD) : (w : Fin cfg0.W) → Fin cfg0.N → ((cfg0.win w).block.Idx → Elt F (cfg0.win w).elt) → Prop
  | ⟨3, _⟩ => fun t X => left m c t X
  | _ => fun _ _ => True

/-- The scratch buffer that keeps the normed rows. -/
abbrev scX : Memref sig .tc .vmem S128x2048 .bf16 := Memref.whole cc0_scratch0

/-- Between points: inside a block of rows the scratch holds its normed rows. -/
def Phi (c : Dev nD) (n : ℕ) : sProp 𝕄 :=
  iprop((∃ d, ⌜n % 12 ≠ 0 → d = xnAt m c n⌝ ∗ owns (c : Thread nD τ) scX fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slab m c t (constant S1x2048x512 .bf16 0x0000#16)
    | ⟨3, h⟩ => Pipeline.Dat.unnamed (cfg := cfg0) ⟨3, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = slab m c t (constant S1x2048x512 .bf16 0x0000#16) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = slab m c t d := by
  unfold Dat.before
  rw [if_pos (fetch0_2 t)]
  unfold Dat.fetched slab Dat.blockOf iblk
  rw [A_eq]

/-- The relational proof data: the exact data, the output held to `left`. -/
abbrev rdat (c : Dev nD) := (dats m 0 c).toRRel marked (Rl m c)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ X, ⌜Rl m c 3 t X⌝ ∗ owns (c : Thread nD τ) (st0_3 t) fullShare X))

theorem slab_kept (c : Dev nD) (t : Fin cfg0.N) (d e : Vec F S1x2048x512 .bf16) :
    (cfg0.win 2).fill (cfg0.grid.coords t) d ((cfg0.win 2).cut (cfg0.grid.coords t) (slab m c t e)) = slab m c t d := by
  unfold slab; rw [Window.cut_fill]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2]
  rw [show (dats m 0 c).Φ t.castSucc = Phi m c t.val from rfl, show (dats m 0 c).Φ t.succ = Phi m c (t.val + 1) from rfl]
  unfold Phi
  iintro ⟨⟨⟨%s, %hs, HS0⟩, Hg⟩, Ho, ⟨%d0, H0⟩, ⟨%d1, H1⟩, ⟨%d2, H2⟩, ⟨%d, %hd, H3⟩⟩
  iapply (run c (grid0.coords t) _ _ _ _ _ _ _ _ _ _ (iblk m c 0 t) (iblk m c 1 t) (slab m c t d2) d s (xnAt m c t.val)
    (fun hj => by unfold xnAt; rw [show t.val / 12 * 12 = t.val by have := (isFirst_iff t).mp hj; omega, pt_val])
    (fun hj => (hs fun h0 => hj ((isFirst_iff t).mpr h0)).symm) _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexists _; isplitr; swap; · iexact HS0
      ipureintro; intro h0; exact (xnAt_succ m c t.val h0).symm
    iexact Hg
  isplitl [Ho]; · iexact Ho
  isplitl [H0]; · iexact H0
  isplitl [H1]; · iexact H1
  isplitl [H2]; · iexists d2; rw [slab_kept]; iexact H2
  iexists _; isplitr; swap; · iexact H3
  ipureintro
  exact ⟨d2, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scX fullShare d) ∗ ∃ r, prngReg c r) := by
  unfold ΦA; rw [scopedRest0_eq]; simp only [scX, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩) (run_main m ρ)
end Cert.InSampleEven
end
-- ==== Proof.InSampleEven.lean ====
/- The in-projection of an even layer, of the sample batch: kernel and reference compute the same array. -/
module
public import proofs.«01_k».proof.Proof.InSampleEvenRun
public import proofs.«01_k».proof.Proof.CrossRef
public import proofs.«01_k».proof.Proof.Gen.Reference11Ideal.Run
public import proofs.«01_k».proof.Proof.Gen.Reference11Ideal.Read
public import proofs.«01_k».proof.Proof.Gen.Kernel11
@[expose] public section
set_option maxRecDepth 16384
noncomputable section
namespace Cert.InSampleEven
open Idealize.ShloMosaic Idealize.ShloMosaic.TcCoe Idealize.SL.Sem
open Cert.Cross (rmsAt rowMul)

section Ref
open Cert.Reference11Ideal Cert.Reference11Ideal.Gen Cert.Reference11Ideal.Read

/-- The reference's array, of its three arguments. -/
abbrev ref (x0 : (⟨S32x4x2048, .f32⟩ : BufTy).Contents (Elt Ideal)) (x1 : (⟨S2x6x2048, .f32⟩ : BufTy).Contents (Elt Ideal))
    (x2 : (⟨S1x2048x5712, .f32⟩ : BufTy).Contents (Elt Ideal)) : (⟨S128x5712, .f32⟩ : BufTy).Contents (Elt Ideal) := val_main_v20 (F := Ideal) x0 x1 x2

/-- The reference at row `r` and column `k`: the normed row against column `k` of the weights. -/
theorem ref_apply (x0 : (⟨S32x4x2048, .f32⟩ : BufTy).Contents (Elt Ideal)) (x1 : (⟨S2x6x2048, .f32⟩ : BufTy).Contents (Elt Ideal))
    (x2 : (⟨S1x2048x5712, .f32⟩ : BufTy).Contents (Elt Ideal)) (r : Fin 128) (k : Fin 5712) :
    ref x0 x1 x2 (ix2 r k) = rowMul (rmsAt (fun j => x0 (ix3 (⟨r.val % 32, by omega⟩ : Fin 32) (⟨r.val / 32, by omega⟩ : Fin 4) j)) (fun j => x1 (ix3 0 0 j))) (fun j k => x2 (ix3 0 j k)) k := by
  unfold rowMul rmsAt
  pointwise [ref, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
end Ref

open Cert.Kernel11Ideal Cert.Kernel11Ideal.Gen

/-- The blocks of the windows at a grid point. -/
theorem idx : ∀ t : Fin cfg0.N, win0_0.index t = ![t.val / 12, 0] ∧ win0_1.index t = ![0, 0, 0] ∧ win0_2.index t = ![0, 0, t.val % 12]
    ∧ win0_3.index t = ![t.val / 12, t.val % 12] := by
  decide +kernel

/-- How much of a slab of weights lies in the array. -/
theorem xsize2 : ∀ (t : Fin cfg0.N) (a : Fin 3), (cfg0.win 2).xsize (cfg0.grid.coords t) a = (![1, 2048, min 512 (5712 - t.val % 12 * 512)] : Fin 3 → ℕ) a := by
  decide +kernel

/-- How much of a block of the output lies in the array. -/
theorem xsize3 : ∀ (t : Fin cfg0.N) (a : Fin 2), (cfg0.win 3).xsize (cfg0.grid.coords t) a = (![128, min 512 (5712 - t.val % 12 * 512)] : Fin 2 → ℕ) a := by
  decide +kernel

/-- The rows the scratch keeps: the norm of the rows, times the gains. -/
theorem pay1_apply (x : Vec Ideal S128x2048 .f32) (g : Vec Ideal S1x1x2048 .f32) (r : Fin 128) (k : Fin 2048) :
    k0_pay1 x g (ix2 r k) = rmsAt (fun j => x (ix2 r j)) (fun j => g (ix3 0 0 j)) k := by
  unfold rmsAt
  pointwise [k0_pay1]

/-- One product of the kernel. -/
theorem pay2_apply (x : Vec Ideal S128x2048 .bf16) (w : Vec Ideal S1x2048x512 .bf16) (r : Fin 128) (k : Fin 512) :
    k0_pay2 x w (ix2 r k) = ∑ j : Fin 2048, x (ix2 r j) * w (ix3 0 j k) := by
  pointwise [k0_pay2]

variable (m : (ℓ : Loc nD τ sig) → Buf (Elt Ideal) ℓ) (c : Dev nD)

/-- The sample batch as the kernel takes it: its rows, time by time. -/
def rowsOf (x : (⟨S32x4x2048, .f32⟩ : BufTy).Contents (Elt Ideal)) : (⟨S128x2048, .f32⟩ : BufTy).Contents (Elt Ideal) :=
  shapeCast S128x2048 (transpose S4x32x2048 [1, 0, 2] x transposes_S32x4x2048_S4x32x2048_1_0_2 : (⟨S4x32x2048, .f32⟩ : BufTy).Contents (Elt Ideal)) shapeCasts_S4x32x2048_S128x2048

theorem rowsOf_apply (x : (⟨S32x4x2048, .f32⟩ : BufTy).Contents (Elt Ideal)) (R : Fin 128) (j : Fin 2048) : rowsOf x (ix2 R j) = x (ix3 (⟨R.val % 32, by omega⟩ : Fin 32) (⟨R.val / 32, by omega⟩ : Fin 4) j) := by
  pointwise [rowsOf]

theorem V_x : V m c main_v1 = rowsOf (m ((c : Thread nD τ).loc main_arg0)) := by
  unfold rowsOf
  simp only [V, hostOps0]
  after_results_simp <;> rfl

/-- The rows, read off their block. -/
theorem read_x (t : Fin cfg0.N) (r : Fin 128) (j : Fin 2048) (R : Fin 128) (hR : R.val = t.val / 12 * 128 + r.val) :
    iblk m c 0 t (ix2 r j) = m ((c : Thread nD τ).loc main_arg0) (ix3 (⟨R.val % 32, by omega⟩ : Fin 32) (⟨R.val / 32, by omega⟩ : Fin 4) j) := by
  rw [← rowsOf_apply (m ((c : Thread nD τ).loc main_arg0)) R j, ← V_x m c]
  blk_ext [iblk, idx t]

/-- The gains, read off their block. -/
theorem read_g (t : Fin cfg0.N) (j : Fin 2048) : gainRow (iblk m c 1 t) (ix3 0 0 j) = m ((c : Thread nD τ).loc main_arg1) (ix3 0 0 j) := by
  unfold gainRow
  rw [View.ld_apply]; blk_ext [iblk, V, idx t] <;> (rw [Rect.idx_unit_val]; simp)

/-- The weights, read off their slab: its columns that the array has. -/
theorem read_w (t : Fin cfg0.N) (d : Vec Ideal S1x2048x512 .bf16) (j : Fin 2048) (k : Fin 512) (K : Fin 5712) (hK : K.val = t.val % 12 * 512 + k.val) :
    slab m c t d (ix3 0 j k) = m ((c : Thread nD τ).loc main_arg2) (ix3 0 j K) := by
  have hm : (cfg0.win 2).moved (cfg0.grid.coords t) (ix3 0 j k) = true := ((cfg0.win 2).moved_iff _ _).mpr fun a => by
    rw [xsize2 t a]
    have := K.isLt
    match a with
    | 0 => exact Nat.zero_lt_one
    | 1 => exact j.isLt
    | 2 => show k.val < min 512 (5712 - t.val % 12 * 512); omega
  unfold slab Pipeline.Window.fill
  rw [dif_pos hm]
  blk_ext [iblk, V, idx t]

/-- The normed rows at a point, of the launched arrays. -/
theorem xnAt_apply (t : Fin cfg0.N) (r : Fin 128) (k : Fin 2048) (R : Fin 128) (hR : R.val = t.val / 12 * 128 + r.val) :
    xnAt m c t.val (ix2 r k) = rmsAt (fun j => m ((c : Thread nD τ).loc main_arg0) (ix3 (⟨R.val % 32, by omega⟩ : Fin 32) (⟨R.val / 32, by omega⟩ : Fin 4) j)) (fun j => m ((c : Thread nD τ).loc main_arg1) (ix3 0 0 j)) k := by
  have ht := lt_N t
  unfold xnAt
  rw [pay1_apply]
  congr 1
  · funext j; exact read_x m c _ r j R (by rw [hR]; show _ = t.val / 12 * 12 % 12 / 12 * 128 + r.val; omega)
  · funext j; exact read_g m c _ j

/-- What a point leaves in the output's buffer, in the columns that the array has. -/
theorem left_apply (t : Fin cfg0.N) (X : Vec Ideal S128x512 .f32) (hX : left m c t X) (r : Fin 128) (k : Fin 512)
    (R : Fin 128) (hR : R.val = t.val / 12 * 128 + r.val) (K : Fin 5712) (hK : K.val = t.val % 12 * 512 + k.val) :
    X (ix2 r k) = ref (m ((c : Thread nD τ).loc main_arg0)) (m ((c : Thread nD τ).loc main_arg1)) (m ((c : Thread nD τ).loc main_arg2)) (ix2 R K) := by
  obtain ⟨d, rfl⟩ := hX
  rw [pay2_apply, ref_apply]
  unfold rowMul
  exact Finset.sum_congr rfl fun j _ => by rw [xnAt_apply m c t r j R hR, read_w m c t d j k K hK]

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N
      = ref (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  have hl : left m c t (after 3 t) := (dats m 0 c).toRRel_leaves (fgt := marked) (Rl := Rl m c) (w := 3) rfl (hL 3 t hf)
  have ht := lt_N t
  have h0 : (y 0).val < 128 := lt_of_lt_of_eq (y 0).isLt (xsize3 t 0)
  have h1 : (y 1).val < min 512 (5712 - t.val % 12 * 512) := lt_of_lt_of_eq (y 1).isLt (xsize3 t 1)
  blk_simp
  rw [Pipeline.RDat.withAfter_after]
  have hi : ((View.whole main_v3).slice (win0_3.rect t)).emb y = ix2 (⟨t.val / 12 * 128 + (y 0).val, by omega⟩ : Fin 128) (⟨t.val % 12 * 512 + (y 1).val, by omega⟩ : Fin 5712) := by
    blk_ext [idx t]
  have hx : (cfg0.win 3).xinj (cfg0.grid.coords t) y = ix2 (⟨(y 0).val, h0⟩ : Fin 128) (⟨(y 1).val, by omega⟩ : Fin 512) := by
    funext a; match a with
    | 0 => rfl
    | 1 => rfl
  refine Eq.trans (congrArg (after 3 t) hx) (Eq.trans ?_ (congrArg _ hi).symm)
  exact left_apply m c t (after 3 t) hl _ _ _ rfl _ rfl

/-- The two programs name the same body. -/
theorem rows_eq : Cert.Kernel11.defs₀ (F := Bits) = Cert.Kernel11Ideal.defs₀ (F := Bits) := by
  unfold Cert.Kernel11.defs₀ Cert.Kernel11Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel11.defs (F := Bits) = Cert.Kernel11Ideal.defs (F := Bits) :=
  congrArg (Pipeline.defs (Cert.Kernel11Ideal.pcfgs (F := Bits))) rows_eq

/-- The frame of the kernel as it stands. -/
theorem frame_kernel : Cert.quiescent_Kernel11 := fun m ρ _ => by
  rw [defs_eq]
  exact frame (F := Bits) m ρ

/-- The frame of the ideal kernel. -/
theorem frame_ideal : Cert.quiescent_Kernel11Ideal := fun m ρ _ => frame (F := Ideal) m ρ

/-- Kernel and reference compute the same array over the extended reals. -/
theorem algebraic : Cert.algebraic_Kernel11Ideal_Reference11Ideal := by
  intro m g m' g' _ hagree
  refine ⟨fun c => ref (m ((c : Thread nD τ).loc main_arg0)) (m ((c : Thread nD τ).loc main_arg1)) (m ((c : Thread nD τ).loc main_arg2)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 3).trans (out_eq m c after hL)
  · refine (θ_run _ _ _).mono (fun r h c => ⟨(h c).1.trans ?_, (h c).2⟩) (Cert.Reference11Ideal.Value.run (F := Ideal) m' g')
    obtain ⟨h0, h1, h2⟩ := hagree c
    refine (Cert.Reference11Ideal.Read.val_main_v20_eq _ _ _).trans ?_
    rw [h0, h1, h2]

/-- The reference ends without fault, its arguments unchanged, every counter at zero. -/
theorem frame_ref : Cert.quiescent_Reference11Ideal := fun m g _ =>
  (θ_run _ _ _).mono (fun r h => ⟨fun c => (h c).2, sem_eq_zero_of_no_sems (by decide) r.2⟩)
    (Cert.Reference11Ideal.Value.run (F := Ideal) m g)
end Cert.InSampleEven
end
-- ==== Proof.InSampleOddRun.lean ====
/- The in-projection of an odd layer, of the sample batch: the body of the kernel at one grid point, what is kept from point to point, the launch. -/
module
public import proofs.«01_k».proof.Defs
public import proofs.«01_k».proof.Proof.Gen.Kernel12Ideal
public import proofs.«01_k».proof.Proof.Gen.Kernel12Ideal.Skeleton
public import proofs.«01_k».proof.Proof.Gen.Kernel12Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.InSampleOdd
open Idealize.ShloMosaic Idealize.ShloMosaic.TcCoe Idealize.ShloMosaic.Tactic Cert.Kernel12Ideal Cert.Kernel12Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ

/-- The row of gains that the first point of a block of rows loads: row 0. -/
abbrev gainRow (x1 : Vec F S1x6x2048 .f32) : Vec F S1x1x2048 .f32 :=
  View.ld x1 (Rect.unit (s := S1x6x2048) ![0, 0, 0] S1x1x2048.size inb_S1x6x2048_S1x1x2048_0_0_0)

/-- The body's branch: the point is the first of its block of rows. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 10 = 0 := by decide +kernel

set_option maxHeartbeats 1000000 in
/-- The body at a point: the scratch then holds the normed rows, made here or found, and the output's buffer their product with the slab of weights. -/
theorem run (c : Dev nD) (i : grid0.Coords) (arg2 : Memref sig .tc .vmem S128x2048 .f32) (harg2 : arg2.IsWhole) (arg3 : Memref sig .tc .vmem S1x6x2048 .f32) (harg3 : arg3.IsWhole) (arg4 : Memref sig .tc .vmem S1x2048x512 .bf16) (harg4 : arg4.IsWhole) (arg5 : Memref sig .tc .vmem S128x512 .f32) (harg5 : arg5.IsWhole) (arg6 : Memref sig .tc .vmem S128x2048 .bf16) (harg6 : arg6.IsWhole)
    (x0 : Vec F S128x2048 .f32) (x1 : Vec F S1x6x2048 .f32) (x2 : Vec F S1x2048x512 .bf16) (d : Vec F S128x512 .f32) (s xn : Vec F S128x2048 .bf16)
    (h1 : isFirst i → xn = k0_pay1 x0 (gainRow x1)) (h2 : ¬isFirst i → xn = s) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xn x2) ∗ owns (c : Thread nD τ) arg6 fullShare xn) -∗ K ⟨⟩))
      ⊢ wp frame (wpE (defs₀ (F := F)) Variants.none c none) Set.univ (cc0_norm_mm i arg2 harg2 arg3 harg3 arg4 harg4 arg5 harg5 arg6 harg6) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hfs
  by_cases hc0 : isFirst i
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [h1 hc0, View.read_writes_full]
      unfold run.sl.v3 run.sl.HS0_1
      rw [View.readCov_full, View.readAt_full, View.readAt_full, View.readAt_eq_ld, harg2.read_unread, harg3.read_unread, harg4.read_unread]
    iexists _; isplitr; swap; · iexact HS0
    ipureintro
    unfold run.sl.HS0_1
    rw [h1 hc0, View.read_writes_full, View.readAt_full, View.readAt_eq_ld, harg2.read_unread, harg3.read_unread]
  · obtain rfl := h2 hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full, View.readAt_full, View.readAt_full, harg6.read_unread, harg4.read_unread]
    iexists _; isplitr; swap; · iexact HS0
    ipureintro
    exact harg6.read_unread _

variable (m : (ℓ : Loc nD τ sig) → Buf (Elt F) ℓ) (ρ : Dev nD → PrngReg)

theorem N_eq : cfg0.N = 10 := N_0
theorem lt_N (t : Fin cfg0.N) : t.val < 10 := lt_of_lt_of_eq t.isLt N_eq

/-- Point number `n`. -/
def pt (n : ℕ) : Fin cfg0.N := ⟨n % 10, by rw [N_eq]; omega⟩
theorem pt_val (t : Fin cfg0.N) : pt t.val = t := Fin.ext (Nat.mod_eq_of_lt (lt_N t))

/-- The normed rows of the block that point `n` lies in: they are made at the block's first point. -/
def xnAt (c : Dev nD) (n : ℕ) : Vec F S128x2048 .bf16 := k0_pay1 (iblk m c 0 (pt (n / 10 * 10))) (gainRow (iblk m c 1 (pt (n / 10 * 10))))

theorem xnAt_succ (c : Dev nD) (n : ℕ) (h : (n + 1) % 10 ≠ 0) : xnAt m c (n + 1) = xnAt m c n := by
  unfold xnAt; rw [show (n + 1) / 10 = n / 10 by omega]

/-- A slab of weights as its buffer may hold it: the columns that the array has, and anything in the columns past its end. -/
def slab (c : Dev nD) (t : Fin cfg0.N) (d : Vec F S1x2048x512 .bf16) : Vec F S1x2048x512 .bf16 := (cfg0.win 2).fill (cfg0.grid.coords t) d (iblk m c 2 t)

/-- What the body leaves in the output's buffer: the product with the slab, whatever the slab's columns past the array hold. -/
def left (c : Dev nD) (t : Fin cfg0.N) (X : Vec F S128x512 .f32) : Prop := ∃ d, X = k0_pay2 (xnAt m c t.val) (slab m c t d)

/-- The output window alone is held to a predicate. -/
def marked : Fin cfg0.W → Bool := ![false, false, false, true]

def Rl (c : Dev nD) : (w : Fin cfg0.W) → Fin cfg0.N → ((cfg0.win w).block.Idx → Elt F (cfg0.win w).elt) → Prop
  | ⟨3, _⟩ => fun t X => left m c t X
  | _ => fun _ _ => True

/-- The scratch buffer that keeps the normed rows. -/
abbrev scX : Memref sig .tc .vmem S128x2048 .bf16 := Memref.whole cc0_scratch0

/-- Between points: inside a block of rows the scratch holds its normed rows. -/
def Phi (c : Dev nD) (n : ℕ) : sProp 𝕄 :=
  iprop((∃ d, ⌜n % 10 ≠ 0 → d = xnAt m c n⌝ ∗ owns (c : Thread nD τ) scX fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slab m c t (constant S1x2048x512 .bf16 0x0000#16)
    | ⟨3, h⟩ => Pipeline.Dat.unnamed (cfg := cfg0) ⟨3, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = slab m c t (constant S1x2048x512 .bf16 0x0000#16) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = slab m c t d := by
  unfold Dat.before
  rw [if_pos (fetch0_2 t)]
  unfold Dat.fetched slab Dat.blockOf iblk
  rw [A_eq]

/-- The relational proof data: the exact data, the output held to `left`. -/
abbrev rdat (c : Dev nD) := (dats m 0 c).toRRel marked (Rl m c)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ X, ⌜Rl m c 3 t X⌝ ∗ owns (c : Thread nD τ) (st0_3 t) fullShare X))

theorem slab_kept (c : Dev nD) (t : Fin cfg0.N) (d e : Vec F S1x2048x512 .bf16) :
    (cfg0.win 2).fill (cfg0.grid.coords t) d ((cfg0.win 2).cut (cfg0.grid.coords t) (slab m c t e)) = slab m c t d := by
  unfold slab; rw [Window.cut_fill]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2]
  rw [show (dats m 0 c).Φ t.castSucc = Phi m c t.val from rfl, show (dats m 0 c).Φ t.succ = Phi m c (t.val + 1) from rfl]
  unfold Phi
  iintro ⟨⟨⟨%s, %hs, HS0⟩, Hg⟩, Ho, ⟨%d0, H0⟩, ⟨%d1, H1⟩, ⟨%d2, H2⟩, ⟨%d, %hd, H3⟩⟩
  iapply (run c (grid0.coords t) _ _ _ _ _ _ _ _ _ _ (iblk m c 0 t) (iblk m c 1 t) (slab m c t d2) d s (xnAt m c t.val)
    (fun hj => by unfold xnAt; rw [show t.val / 10 * 10 = t.val by have := (isFirst_iff t).mp hj; omega, pt_val])
    (fun hj => (hs fun h0 => hj ((isFirst_iff t).mpr h0)).symm) _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexists _; isplitr; swap; · iexact HS0
      ipureintro; intro h0; exact (xnAt_succ m c t.val h0).symm
    iexact Hg
  isplitl [Ho]; · iexact Ho
  isplitl [H0]; · iexact H0
  isplitl [H1]; · iexact H1
  isplitl [H2]; · iexists d2; rw [slab_kept]; iexact H2
  iexists _; isplitr; swap; · iexact H3
  ipureintro
  exact ⟨d2, rfl⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scX fullShare d) ∗ ∃ r, prngReg c r) := by
  unfold ΦA; rw [scopedRest0_eq]; simp only [scX, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩) (run_main m ρ)
end Cert.InSampleOdd
end
-- ==== Proof.InSampleOdd.lean ====
/- The in-projection of an odd layer, of the sample batch: kernel and reference compute the same array. -/
module
public import proofs.«01_k».proof.Proof.InSampleOddRun
public import proofs.«01_k».proof.Proof.CrossRef
public import proofs.«01_k».proof.Proof.Gen.Reference12Ideal.Run
public import proofs.«01_k».proof.Proof.Gen.Reference12Ideal.Read
public import proofs.«01_k».proof.Proof.Gen.Kernel12
@[expose] public section
set_option maxRecDepth 16384
noncomputable section
namespace Cert.InSampleOdd
open Idealize.ShloMosaic Idealize.ShloMosaic.TcCoe Idealize.SL.Sem
open Cert.Cross (rmsAt rowMul)

/-- Where a column of the kernel's array stands in the problem's: the gates' 24 columns are moved behind the others. -/
def col (K : Fin 4632) : Fin 4632 := ⟨if K.val < 2560 then K.val else if K.val < 4608 then K.val + 24 else K.val - 2048, by split_ifs <;> omega⟩

/-- Three stretches of columns laid end to end, read at a column. -/
theorem pick (f : Fin 4632 → EReal) (K : Fin 4632) :
    (if h : K.val < 2560 then f K else if h : K.val - 2560 < 2048 then f ⟨2584 + (K.val - 2560), by omega⟩ else f ⟨2560 + (K.val - 2560 - 2048), by omega⟩) = f (col K) := by
  by_cases h : K.val < 2560
  · rw [dif_pos h]
    exact congrArg f (Fin.ext (by show K.val = if K.val < 2560 then _ else _; rw [if_pos h]))
  · rw [dif_neg h]
    by_cases h2 : K.val < 4608
    · rw [dif_pos (by omega)]
      exact congrArg f (Fin.ext (by show 2584 + (K.val - 2560) = if K.val < 2560 then _ else if K.val < 4608 then _ else _; rw [if_neg h, if_pos h2]; omega))
    · rw [dif_neg (by omega)]
      exact congrArg f (Fin.ext (by show 2560 + (K.val - 2560 - 2048) = if K.val < 2560 then _ else if K.val < 4608 then _ else _; rw [if_neg h, if_neg h2]; omega))

section Ref
open Cert.Reference12Ideal Cert.Reference12Ideal.Gen Cert.Reference12Ideal.Read

/-- The reference's array, of its three arguments. -/
abbrev ref (x0 : (⟨S128x2048, .f32⟩ : BufTy).Contents (Elt Ideal)) (x1 : (⟨S2x6x2048, .f32⟩ : BufTy).Contents (Elt Ideal))
    (x2 : (⟨S1x2048x4632, .f32⟩ : BufTy).Contents (Elt Ideal)) : (⟨S128x4632, .f32⟩ : BufTy).Contents (Elt Ideal) := val_main_v22 (F := Ideal) x0 x1 x2

variable (x0 : (⟨S128x2048, .f32⟩ : BufTy).Contents (Elt Ideal)) (x1 : (⟨S2x6x2048, .f32⟩ : BufTy).Contents (Elt Ideal))
  (x2 : (⟨S1x2048x4632, .f32⟩ : BufTy).Contents (Elt Ideal))

/-- The projection at row `r` and column `k`: the normed row against column `k` of the weights. -/
theorem z_apply (r : Fin 128) (k : Fin 4632) :
    val_main_v18 (F := Ideal) x0 x1 x2 (ix2 r k) = rowMul (rmsAt (fun j => x0 (ix2 r j)) (fun j => x1 (ix3 1 0 j))) (fun j k => x2 (ix3 0 j k)) k := by
  unfold rowMul rmsAt
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference at row `r` and column `k`: the projection's column that stands there. -/
theorem ref_apply (r : Fin 128) (k : Fin 4632) :
    ref x0 x1 x2 (ix2 r k) = rowMul (rmsAt (fun j => x0 (ix2 r j)) (fun j => x1 (ix3 1 0 j))) (fun j k => x2 (ix3 0 j k)) (col k) := by
  rw [← z_apply]
  unfold ref val_main_v22 val_main_v21 val_main_v20 val_main_v19
  generalize val_main_v18 (F := Ideal) x0 x1 x2 = z
  pointwise
  exact pick (fun K => z (ix2 r K)) k
end Ref

open Cert.Kernel12Ideal Cert.Kernel12Ideal.Gen

/-- The blocks of the windows at a grid point. -/
theorem idx : ∀ t : Fin cfg0.N, win0_0.index t = ![t.val / 10, 0] ∧ win0_1.index t = ![1, 0, 0] ∧ win0_2.index t = ![0, 0, t.val % 10]
    ∧ win0_3.index t = ![t.val / 10, t.val % 10] := by
  decide +kernel

/-- How much of a slab of weights lies in the array. -/
theorem xsize2 : ∀ (t : Fin cfg0.N) (a : Fin 3), (cfg0.win 2).xsize (cfg0.grid.coords t) a = (![1, 2048, min 512 (4632 - t.val % 10 * 512)] : Fin 3 → ℕ) a := by
  decide +kernel

/-- How much of a block of the output lies in the array. -/
theorem xsize3 : ∀ (t : Fin cfg0.N) (a : Fin 2), (cfg0.win 3).xsize (cfg0.grid.coords t) a = (![128, min 512 (4632 - t.val % 10 * 512)] : Fin 2 → ℕ) a := by
  decide +kernel

/-- The rows the scratch keeps: the norm of the rows, times the gains. -/
theorem pay1_apply (x : Vec Ideal S128x2048 .f32) (g : Vec Ideal S1x1x2048 .f32) (r : Fin 128) (k : Fin 2048) :
    k0_pay1 x g (ix2 r k) = rmsAt (fun j => x (ix2 r j)) (fun j => g (ix3 0 0 j)) k := by
  unfold rmsAt
  pointwise [k0_pay1]

/-- One product of the kernel. -/
theorem pay2_apply (x : Vec Ideal S128x2048 .bf16) (w : Vec Ideal S1x2048x512 .bf16) (r : Fin 128) (k : Fin 512) :
    k0_pay2 x w (ix2 r k) = ∑ j : Fin 2048, x (ix2 r j) * w (ix3 0 j k) := by
  pointwise [k0_pay2]

variable (m : (ℓ : Loc nD τ sig) → Buf (Elt Ideal) ℓ) (c : Dev nD)

/-- The weights as the kernel takes them: the gates' columns behind the others, in the narrow format. -/
def moved (x : (⟨S1x2048x4632, .f32⟩ : BufTy).Contents (Elt Ideal)) : (⟨S1x2048x4632, .bf16⟩ : BufTy).Contents (Elt Ideal) :=
  (truncf (F := Ideal) .bf16 · bitsLt_bf16_f32) (concatenate S1x2048x4632 2 [⟨S1x2048x2560, (extractStridedSlice S1x2048x2560 ![0, 0, 0] x slices_S1x2048x4632_S1x2048x2560_0_0_0 : (⟨S1x2048x2560, .f32⟩ : BufTy).Contents (Elt Ideal))⟩,
    ⟨S1x2048x2048, (extractStridedSlice S1x2048x2048 ![0, 0, 2584] x slices_S1x2048x4632_S1x2048x2048_0_0_2584 : (⟨S1x2048x2048, .f32⟩ : BufTy).Contents (Elt Ideal))⟩,
    ⟨S1x2048x24, (extractStridedSlice S1x2048x24 ![0, 0, 2560] x slices_S1x2048x4632_S1x2048x24_0_0_2560 : (⟨S1x2048x24, .f32⟩ : BufTy).Contents (Elt Ideal))⟩]
    concatenates_S1x2048x2560_S1x2048x2048_S1x2048x24_S1x2048x4632_d2 : (⟨S1x2048x4632, .f32⟩ : BufTy).Contents (Elt Ideal))

theorem moved_apply (x : (⟨S1x2048x4632, .f32⟩ : BufTy).Contents (Elt Ideal)) (j : Fin 2048) (K : Fin 4632) : moved x (ix3 0 j K) = x (ix3 0 j (col K)) := by
  unfold moved
  pointwise
  exact pick (fun K => x (ix3 0 j K)) K

theorem V_w : V m c main_v4 = moved (m ((c : Thread nD τ).loc main_arg2)) := by
  unfold moved
  simp only [V, hostOps0]
  after_results_simp <;> rfl

/-- The rows, read off their block. -/
theorem read_x (t : Fin cfg0.N) (r : Fin 128) (j : Fin 2048) (R : Fin 128) (hR : R.val = t.val / 10 * 128 + r.val) :
    iblk m c 0 t (ix2 r j) = m ((c : Thread nD τ).loc main_arg0) (ix2 R j) := by
  blk_ext [iblk, V, idx t]

/-- The gains, read off their block. -/
theorem read_g (t : Fin cfg0.N) (j : Fin 2048) : gainRow (iblk m c 1 t) (ix3 0 0 j) = m ((c : Thread nD τ).loc main_arg1) (ix3 1 0 j) := by
  unfold gainRow
  rw [View.ld_apply]; blk_ext [iblk, V, idx t] <;> (rw [Rect.idx_unit_val]; simp)

/-- The weights, read off their slab: its columns that the array has. -/
theorem read_w (t : Fin cfg0.N) (d : Vec Ideal S1x2048x512 .bf16) (j : Fin 2048) (k : Fin 512) (K : Fin 4632) (hK : K.val = t.val % 10 * 512 + k.val) :
    slab m c t d (ix3 0 j k) = m ((c : Thread nD τ).loc main_arg2) (ix3 0 j (col K)) := by
  have hm : (cfg0.win 2).moved (cfg0.grid.coords t) (ix3 0 j k) = true := ((cfg0.win 2).moved_iff _ _).mpr fun a => by
    rw [xsize2 t a]
    have := K.isLt
    match a with
    | 0 => exact Nat.zero_lt_one
    | 1 => exact j.isLt
    | 2 => show k.val < min 512 (4632 - t.val % 10 * 512); omega
  unfold slab Pipeline.Window.fill
  rw [dif_pos hm, ← moved_apply (m ((c : Thread nD τ).loc main_arg2)) j K, ← V_w m c]
  blk_ext [iblk, idx t]

/-- The normed rows at a point, of the launched arrays. -/
theorem xnAt_apply (t : Fin cfg0.N) (r : Fin 128) (k : Fin 2048) (R : Fin 128) (hR : R.val = t.val / 10 * 128 + r.val) :
    xnAt m c t.val (ix2 r k) = rmsAt (fun j => m ((c : Thread nD τ).loc main_arg0) (ix2 R j)) (fun j => m ((c : Thread nD τ).loc main_arg1) (ix3 1 0 j)) k := by
  have ht := lt_N t
  unfold xnAt
  rw [pay1_apply]
  congr 1
  · funext j; exact read_x m c _ r j R (by rw [hR]; show _ = t.val / 10 * 10 % 10 / 10 * 128 + r.val; omega)
  · funext j; exact read_g m c _ j

/-- What a point leaves in the output's buffer, in the columns that the array has. -/
theorem left_apply (t : Fin cfg0.N) (X : Vec Ideal S128x512 .f32) (hX : left m c t X) (r : Fin 128) (k : Fin 512)
    (R : Fin 128) (hR : R.val = t.val / 10 * 128 + r.val) (K : Fin 4632) (hK : K.val = t.val % 10 * 512 + k.val) :
    X (ix2 r k) = ref (m ((c : Thread nD τ).loc main_arg0)) (m ((c : Thread nD τ).loc main_arg1)) (m ((c : Thread nD τ).loc main_arg2)) (ix2 R K) := by
  obtain ⟨d, rfl⟩ := hX
  rw [pay2_apply, ref_apply]
  unfold rowMul
  exact Finset.sum_congr rfl fun j _ => by rw [xnAt_apply m c t r j R hR, read_w m c t d j k K hK]

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N
      = ref (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  have hl : left m c t (after 3 t) := (dats m 0 c).toRRel_leaves (fgt := marked) (Rl := Rl m c) (w := 3) rfl (hL 3 t hf)
  have ht := lt_N t
  have h0 : (y 0).val < 128 := lt_of_lt_of_eq (y 0).isLt (xsize3 t 0)
  have h1 : (y 1).val < min 512 (4632 - t.val % 10 * 512) := lt_of_lt_of_eq (y 1).isLt (xsize3 t 1)
  blk_simp
  rw [Pipeline.RDat.withAfter_after]
  have hi : ((View.whole main_v5).slice (win0_3.rect t)).emb y = ix2 (⟨t.val / 10 * 128 + (y 0).val, by omega⟩ : Fin 128) (⟨t.val % 10 * 512 + (y 1).val, by omega⟩ : Fin 4632) := by
    blk_ext [idx t]
  have hx : (cfg0.win 3).xinj (cfg0.grid.coords t) y = ix2 (⟨(y 0).val, h0⟩ : Fin 128) (⟨(y 1).val, by omega⟩ : Fin 512) := by
    funext a; match a with
    | 0 => rfl
    | 1 => rfl
  refine Eq.trans (congrArg (after 3 t) hx) (Eq.trans ?_ (congrArg _ hi).symm)
  exact left_apply m c t (after 3 t) hl _ _ _ rfl _ rfl

/-- The two programs name the same body. -/
theorem rows_eq : Cert.Kernel12.defs₀ (F := Bits) = Cert.Kernel12Ideal.defs₀ (F := Bits) := by
  unfold Cert.Kernel12.defs₀ Cert.Kernel12Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel12.defs (F := Bits) = Cert.Kernel12Ideal.defs (F := Bits) :=
  congrArg (Pipeline.defs (Cert.Kernel12Ideal.pcfgs (F := Bits))) rows_eq

/-- The frame of the kernel as it stands. -/
theorem frame_kernel : Cert.quiescent_Kernel12 := fun m ρ _ => by
  rw [defs_eq]
  exact frame (F := Bits) m ρ

/-- The frame of the ideal kernel. -/
theorem frame_ideal : Cert.quiescent_Kernel12Ideal := fun m ρ _ => frame (F := Ideal) m ρ

/-- Kernel and reference compute the same array over the extended reals. -/
theorem algebraic : Cert.algebraic_Kernel12Ideal_Reference12Ideal := by
  intro m g m' g' _ hagree
  refine ⟨fun c => ref (m ((c : Thread nD τ).loc main_arg0)) (m ((c : Thread nD τ).loc main_arg1)) (m ((c : Thread nD τ).loc main_arg2)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 3).trans (out_eq m c after hL)
  · refine (θ_run _ _ _).mono (fun r h c => ⟨(h c).1.trans ?_, (h c).2⟩) (Cert.Reference12Ideal.Value.run (F := Ideal) m' g')
    obtain ⟨h0, h1, h2⟩ := hagree c
    refine (Cert.Reference12Ideal.Read.val_main_v22_eq _ _ _).trans ?_
    rw [h0, h1, h2]

/-- The reference ends without fault, its arguments unchanged, every counter at zero. -/
theorem frame_ref : Cert.quiescent_Reference12Ideal := fun m g _ =>
  (θ_run _ _ _).mono (fun r h => ⟨fun c => (h c).2, sem_eq_zero_of_no_sems (by decide) r.2⟩)
    (Cert.Reference12Ideal.Value.run (F := Ideal) m g)
end Cert.InSampleOdd
end
-- ==== Proof.ConvSample.lean ====
/- The short gated convolution of an even layer, of the sample batch: kernel and reference compute the same two arrays. -/
module
public import proofs.«01_k».proof.Defs
public import proofs.«01_k».proof.Proof.Rows
public import proofs.«01_k».proof.Proof.Gen.Kernel13Ideal.Value
public import proofs.«01_k».proof.Proof.Gen.Reference13Ideal.Run
public import proofs.«01_k».proof.Proof.Gen.Reference13Ideal.Read
@[expose] public section
set_option maxRecDepth 16384
noncomputable section
namespace Cert.ConvSample
open Idealize.ShloMosaic Idealize.ShloMosaic.TcCoe

/-- The input of the convolution, time by time: the two steps that the state keeps (32 sequences each), then the gated rows. -/
def E (z : (⟨⟨2, ![128, 5712]⟩, .f32⟩ : BufTy).Contents (Elt Ideal)) (st : (⟨⟨4, ![1, 32, 2, 1024]⟩, .f32⟩ : BufTy).Contents (Elt Ideal)) (e : Fin 192) (j : Fin 1024) : EReal :=
  if h : e.val < 64 then st (ix4 0 (⟨e.val % 32, by omega⟩ : Fin 32) (⟨e.val / 32, by omega⟩ : Fin 2) j)
  else z (ix2 (⟨e.val - 64, by omega⟩ : Fin 128) (⟨2048 + j.val, by omega⟩ : Fin 5712)) * z (ix2 (⟨e.val - 64, by omega⟩ : Fin 128) (⟨j.val, by omega⟩ : Fin 5712))

section Ref
open Cert.Reference13Ideal Cert.Reference13Ideal.Gen Cert.Reference13Ideal.Read

variable (x0 : (⟨S128x5712, .f32⟩ : BufTy).Contents (Elt Ideal)) (x1 : (⟨S1x3x1024, .f32⟩ : BufTy).Contents (Elt Ideal)) (x2 : (⟨S1x32x2x1024, .f32⟩ : BufTy).Contents (Elt Ideal))

/-- The reference's gated input: sequence `b`, time `s`. -/
theorem u_apply (b : Fin 32) (s : Fin 4) (j : Fin 1024) : val_main_v7 (F := Ideal) x0 (ix3 b s j)
    = x0 (ix2 (⟨s.val * 32 + b.val, by omega⟩ : Fin 128) (⟨2048 + j.val, by omega⟩ : Fin 5712)) * x0 (ix2 (⟨s.val * 32 + b.val, by omega⟩ : Fin 128) (⟨j.val, by omega⟩ : Fin 5712)) := by
  pointwise [val_main_v7, val_main_v4, val_main_v2, val_main_v1, val_main_v0]

/-- The state before the gated input. -/
theorem e_apply (b : Fin 32) (s : Fin 6) (j : Fin 1024) : val_main_v8 (F := Ideal) x0 x2 (ix3 b s j) = E x0 x2 (⟨s.val * 32 + b.val, by omega⟩ : Fin 192) j := by
  have hu := u_apply x0
  unfold val_main_v8 E
  generalize val_main_v7 (F := Ideal) x0 = u at hu ⊢
  pointwise [val_main_v6]
  by_cases h : s.val < 2
  · rw [dif_pos h, dif_pos (by omega)]
    congr 1
    funext a
    match a with
    | 0 => rfl
    | 1 => exact Fin.ext (by show b.val = (s.val * 32 + b.val) % 32; omega)
    | 2 => exact Fin.ext (by show s.val = (s.val * 32 + b.val) / 32; omega)
    | 3 => rfl
  · rw [dif_neg h, dif_neg (by omega), hu]
    have hr : (⟨(s.val - 2) * 32 + b.val, by omega⟩ : Fin 128) = ⟨s.val * 32 + b.val - 64, by omega⟩ := Fin.ext (by show (s.val - 2) * 32 + b.val = s.val * 32 + b.val - 64; omega)
    exact congrArg (fun R : Fin 128 => x0 (ix2 R (⟨2048 + j.val, by omega⟩ : Fin 5712)) * x0 (ix2 R (⟨j.val, by omega⟩ : Fin 5712))) hr

/-- The reference's first array: three neighbouring times, weighted, times the gate. -/
theorem ref_apply (r : Fin 128) (j : Fin 1024) :
    val_main_v31 (F := Ideal) x0 x1 x2 (ix2 r j) = x0 (ix2 r (⟨1024 + j.val, by omega⟩ : Fin 5712))
      * (x1 (ix3 0 0 j) * E x0 x2 (⟨r.val, by omega⟩ : Fin 192) j + x1 (ix3 0 1 j) * E x0 x2 (⟨32 + r.val, by omega⟩ : Fin 192) j + x1 (ix3 0 2 j) * E x0 x2 (⟨64 + r.val, by omega⟩ : Fin 192) j) := by
  have he := e_apply x0 x2
  unfold val_main_v31 val_main_v30 val_main_v29 val_main_v28 val_main_v27 val_main_v24 val_main_v21 val_main_v20 val_main_v17 val_main_v14 val_main_v11
  generalize val_main_v8 (F := Ideal) x0 x2 = u at he ⊢
  pointwise [val_main_v26, val_main_v25, val_main_v23, val_main_v22, val_main_v19, val_main_v18, val_main_v16, val_main_v15, val_main_v13, val_main_v12, val_main_v10, val_main_v9, val_main_v5, val_main_v3, val_main_v1, val_main_v0]
  simp only [he]
  have h0 : r.val / 32 * 32 + r.val % 32 = r.val := by omega
  have h1 : (1 + r.val / 32) * 32 + r.val % 32 = 32 + r.val := by omega
  have h2 : (2 + r.val / 32) * 32 + r.val % 32 = 64 + r.val := by omega
  simp only [h0, h1, h2]

/-- The reference's second array: the last two times. -/
theorem st_apply (r : Fin 64) (j : Fin 1024) : val_main_v34 (F := Ideal) x0 x2 (ix2 r j) = E x0 x2 (⟨128 + r.val, by omega⟩ : Fin 192) j := by
  have he := e_apply x0 x2
  unfold val_main_v34 val_main_v33 val_main_v32
  generalize val_main_v8 (F := Ideal) x0 x2 = u at he ⊢
  pointwise
  have h : (4 + r.val / 32) * 32 + r.val % 32 = 128 + r.val := by omega
  simp only [he, h]
end Ref

open Cert.Kernel13Ideal Cert.Kernel13Ideal.Gen

/-- The blocks of the windows at the one grid point. -/
theorem idx : ∀ t : Fin cfg0.N, win0_0.index t = ![0, 0] ∧ win0_1.index t = ![0, 1] ∧ win0_2.index t = ![0, 2]
    ∧ win0_3.index t = ![0, 0] ∧ win0_4.index t = ![0, 0] ∧ win0_5.index t = ![0, 0] ∧ win0_6.index t = ![0, 0] := by
  decide +kernel

variable (m : (ℓ : Loc nD τ sig) → Buf (Elt Ideal) ℓ) (c : Dev nD)

/-- The projection that the layer is given. -/
abbrev z : (⟨S128x5712, .f32⟩ : BufTy).Contents (Elt Ideal) := m ((c : Thread nD τ).loc main_arg0)

/-- The state that the layer is given. -/
abbrev st : (⟨S1x32x2x1024, .f32⟩ : BufTy).Contents (Elt Ideal) := m ((c : Thread nD τ).loc main_arg2)

/-- The gated rows. -/
theorem u_blk (t : Fin cfg0.N) (r : Fin 128) (j : Fin 1024) : k0_pay3 (X0_2 m c t) (X0_0 m c t) (ix2 r j) = E (z m c) (st m c) (⟨64 + r.val, by omega⟩ : Fin 192) j := by
  have h2 : X0_2 m c t (ix2 r j) = z m c (ix2 r (⟨2048 + j.val, by omega⟩ : Fin 5712)) := by
    unfold X0_2 Pipeline.Window.fill
    rw [dif_pos (moved0_2 t _)]
    blk_ext [iblk, V, idx t]
  have h0 : X0_0 m c t (ix2 r j) = z m c (ix2 r (⟨j.val, by omega⟩ : Fin 5712)) := by
    unfold X0_0 Pipeline.Window.fill
    rw [dif_pos (moved0_0 t _)]
    blk_ext [iblk, V, idx t]
  unfold E
  rw [dif_neg (by show ¬ 64 + r.val < 64; omega)]
  have hr : (⟨64 + r.val - 64, by omega⟩ : Fin 128) = r := Fin.ext (by show 64 + r.val - 64 = r.val; omega)
  simp only [hr]
  rw [← h2, ← h0]
  pointwise [k0_pay3]

/-- The gate. -/
theorem g_blk (t : Fin cfg0.N) (r : Fin 128) (j : Fin 1024) : X0_1 m c t (ix2 r j) = z m c (ix2 r (⟨1024 + j.val, by omega⟩ : Fin 5712)) := by
  unfold X0_1 Pipeline.Window.fill
  rw [dif_pos (moved0_1 t _)]
  blk_ext [iblk, V, idx t]

/-- The weights as the kernel takes them: a row for each tap. -/
def tapsOf (x : (⟨S1x3x1024, .f32⟩ : BufTy).Contents (Elt Ideal)) : (⟨S3x1024, .f32⟩ : BufTy).Contents (Elt Ideal) :=
  shapeCast _ x shapeCasts_S1x3x1024_S3x1024

theorem tapsOf_apply (x : (⟨S1x3x1024, .f32⟩ : BufTy).Contents (Elt Ideal)) (k : Fin 3) (j : Fin 1024) : tapsOf x (ix2 k j) = x (ix3 0 k j) := by
  pointwise [tapsOf]

theorem V_w : V m c main_v0 = tapsOf (m ((c : Thread nD τ).loc main_arg1)) := by
  unfold tapsOf
  simp only [V, hostOps0]
  after_results_simp <;> rfl

/-- A row of weights, read off its block. -/
theorem w_blk (t : Fin cfg0.N) (o : ℕ) (k : Fin 3) (hk : k.val = o) (inb) (j : Fin 1024) :
    View.ld (Val := Elt Ideal) (e' := .f32) (iblk m c 3 t) (Rect.unit (s := S3x1024) ![o, 0] ![1, 1024] inb) (ix2 0 j) = m ((c : Thread nD τ).loc main_arg1) (ix3 0 k j) := by
  refine (Rows.ld_rows (m := 3) (n := 1024) (k := 1) (iblk m c 3 t) o inb 0 j k (by rw [hk]; rfl)).trans ?_
  rw [← tapsOf_apply (m ((c : Thread nD τ).loc main_arg1)) k j, ← V_w m c]
  blk_ext [iblk, idx t]

/-- The state as the kernel takes it: a row for each time and sequence. -/
def stateOf (x : (⟨S1x32x2x1024, .f32⟩ : BufTy).Contents (Elt Ideal)) : (⟨S64x1024, .f32⟩ : BufTy).Contents (Elt Ideal) :=
  shapeCast S64x1024 (transpose S2x32x1024 [1, 0, 2] (shapeCast S32x2x1024 x shapeCasts_S1x32x2x1024_S32x2x1024 : (⟨S32x2x1024, .f32⟩ : BufTy).Contents (Elt Ideal)) transposes_S32x2x1024_S2x32x1024_1_0_2 : (⟨S2x32x1024, .f32⟩ : BufTy).Contents (Elt Ideal)) shapeCasts_S2x32x1024_S64x1024

theorem stateOf_apply (x : (⟨S1x32x2x1024, .f32⟩ : BufTy).Contents (Elt Ideal)) (r : Fin 64) (j : Fin 1024) :
    stateOf x (ix2 r j) = x (ix4 0 (⟨r.val % 32, by omega⟩ : Fin 32) (⟨r.val / 32, by omega⟩ : Fin 2) j) := by
  pointwise [stateOf]

theorem V_state : V m c main_v3 = stateOf (st m c) := by
  unfold stateOf
  simp only [V, hostOps0]
  after_results_simp <;> rfl

/-- The rows of the state. -/
theorem p_blk (t : Fin cfg0.N) (r : Fin 64) (j : Fin 1024) : k0_pay2 (iblk m c 4 t) (ix2 r j) = E (z m c) (st m c) (⟨r.val, by omega⟩ : Fin 192) j := by
  have h : iblk m c 4 t (ix2 r j) = V m c main_v3 (ix2 r j) := by blk_ext [iblk, idx t]
  unfold E
  rw [dif_pos (by show r.val < 64; omega)]
  refine Eq.trans ?_ (h.trans (by rw [V_state]; exact stateOf_apply (st m c) r j))
  pointwise [k0_pay2]

/-- The weighted rows, row by row. -/
theorem mix_apply (w0 w1 w2 : (⟨S1x1024, .f32⟩ : BufTy).Contents (Elt Ideal)) (e0 e1 e2 g : (⟨S128x1024, .f32⟩ : BufTy).Contents (Elt Ideal)) (r : Fin 128) (j : Fin 1024) :
    k0_pay1 (k0_pay4 w0 e0 w1 e1 w2 e2) g (ix2 r j) = g (ix2 r j) * (w0 (ix2 0 j) * e0 (ix2 r j) + w1 (ix2 0 j) * e1 (ix2 r j) + w2 (ix2 0 j) * e2 (ix2 r j)) := by
  pointwise [k0_pay1, k0_pay4]

/-- The buffer's rows: the state, and then the gated rows. -/
theorem canon_ext (t : Fin cfg0.N) (inb) (inb') (e : Fin 192) (j : Fin 1024) :
    View.canon [(⟨Rect.unit (s := S192x1024) ![64, 0] ![128, 1024] inb, k0_pay3 (X0_2 m c t) (X0_0 m c t)⟩ : View.Piece (Elt Ideal) S192x1024 .f32),
      (⟨Rect.unit (s := S192x1024) ![0, 0] ![64, 1024] inb', k0_pay2 (iblk m c 4 t)⟩ : View.Piece (Elt Ideal) S192x1024 .f32)] (ix2 e j) = E (z m c) (st m c) e j := by
  by_cases he : 64 ≤ e.val
  · refine (Rows.canon_hit 64 inb _ _ e j (⟨e.val - 64, by omega⟩ : Fin 128) (by show e.val = 64 + (e.val - 64); omega)).trans ?_
    rw [u_blk]
    congr 1
    exact Fin.ext (by show 64 + (e.val - 64) = e.val; omega)
  · refine (Rows.canon_miss 64 inb _ _ e j (Or.inl (by omega))).trans ?_
    refine (Rows.canon_hit 0 inb' _ _ e j (⟨e.val, by omega⟩ : Fin 64) (by show e.val = 0 + e.val; omega)).trans ?_
    rw [p_blk]

/-- The first output. -/
theorem out5_blk (t : Fin cfg0.N) (r : Fin 128) (j : Fin 1024) :
    (outsAt0 m c t).1 (ix2 r j) = Cert.Reference13Ideal.Read.val_main_v31 (F := Ideal) (z m c) (m ((c : Thread nD τ).loc main_arg1)) (st m c) (ix2 r j) := by
  rw [ref_apply]
  unfold outsAt0
  frame_out
  refine (mix_apply _ _ _ _ _ _ _ r j).trans ?_
  rw [g_blk m c t r j, w_blk m c t 0 0 rfl, w_blk m c t 1 1 rfl, w_blk m c t 2 2 rfl]
  rw [Rows.readCov_rows (m := 192) (n := 1024) (k := 128) (View.whole cc0_scratch0) _ 0 _ r j (⟨r.val, by omega⟩ : Fin 192) (by show r.val = 0 + r.val; omega),
    Rows.readCov_rows (m := 192) (n := 1024) (k := 128) (View.whole cc0_scratch0) _ 32 _ r j (⟨32 + r.val, by omega⟩ : Fin 192) rfl,
    Rows.readCov_rows (m := 192) (n := 1024) (k := 128) (View.whole cc0_scratch0) _ 64 _ r j (⟨64 + r.val, by omega⟩ : Fin 192) rfl]
  rw [canon_ext m c t, canon_ext m c t, canon_ext m c t]

/-- The second output. -/
theorem out6_blk (t : Fin cfg0.N) (r : Fin 64) (j : Fin 1024) :
    (outsAt0 m c t).2 (ix2 r j) = E (z m c) (st m c) (⟨128 + r.val, by omega⟩ : Fin 192) j := by
  unfold outsAt0
  frame_out
  refine (Rows.readCov_rows (m := 192) (n := 1024) (k := 64) (View.whole cc0_scratch0) _ 128 _ r j (⟨128 + r.val, by omega⟩ : Fin 192) rfl).trans ?_
  exact canon_ext m c t _ _ _ j

/-- The kernel's first array is the reference's. -/
theorem out5_eq : (dats (F := Ideal) m 0 c).arrAt 5 cfg0.N = Cert.Reference13Ideal.Read.val_main_v31 (F := Ideal) (z m c) (m ((c : Thread nD τ).loc main_arg1)) (st m c) := by
  refine (dats m 0 c).arrAt_eq_of_covers 5 _ (by decide +kernel) fun t hf y => ?_
  blk_simp
  rw [after0_5]
  idx_vars y
  have hi : ((View.whole main_v4_0).slice (win0_5.rect t)).emb (ix2 y0 y1) = ix2 y0 y1 := by
    blk_ext [idx t]
  rw [hi]
  exact out5_blk m c t y0 y1

/-- The kernel's second array is the reference's. -/
theorem out6_eq : (dats (F := Ideal) m 0 c).arrAt 6 cfg0.N = Cert.Reference13Ideal.Read.val_main_v34 (F := Ideal) (z m c) (st m c) := by
  refine (dats m 0 c).arrAt_eq_of_covers 6 _ (by decide +kernel) fun t hf y => ?_
  blk_simp
  rw [after0_6]
  idx_vars y
  have hi : ((View.whole main_v4_1).slice (win0_6.rect t)).emb (ix2 y0 y1) = ix2 y0 y1 := by
    blk_ext [idx t]
  rw [hi, st_apply]
  exact out6_blk m c t y0 y1

/-- Kernel and reference compute the same two arrays over the extended reals. -/
theorem algebraic [hK : Cert.Kernel13Ideal.Facts] [hR : Cert.Reference13Ideal.Facts] : Cert.algebraic_Kernel13Ideal_Reference13Ideal := by
  intro m g m' g' _ hagree
  refine ⟨fun c => Cert.Reference13Ideal.Read.val_main_v31 (F := Ideal) (m ((c : Thread nD τ).loc main_arg0)) (m ((c : Thread nD τ).loc main_arg1)) (m ((c : Thread nD τ).loc main_arg2)),
    fun c => Cert.Reference13Ideal.Read.val_main_v34 (F := Ideal) (m ((c : Thread nD τ).loc main_arg0)) (m ((c : Thread nD τ).loc main_arg2)), ?_, ?_⟩
  · exact (θ_run _ _ _).mono (fun r h c => ⟨(h c).1.trans (out5_eq m c), (h c).2.1.trans (out6_eq m c), (h c).2.2⟩) (Cert.Kernel13Ideal.Value.run_blocks (F := Ideal) m g)
  · refine (θ_run _ _ _).mono (fun r h c => ?_) (Cert.Reference13Ideal.Value.run (F := Ideal) m' g')
    obtain ⟨h0, h1, h2⟩ := hagree c
    refine ⟨(h c).1.trans ?_, (h c).2.1.trans ?_, (h c).2.2⟩
    · refine (Cert.Reference13Ideal.Read.val_main_v31_eq _ _ _).trans ?_
      rw [h0, h1, h2]
    · refine (Cert.Reference13Ideal.Read.val_main_v34_eq _ _).trans ?_
      rw [h0, h2]

/-- The reference ends without fault, its arguments unchanged, every counter at zero. -/
theorem frame_ref : Cert.quiescent_Reference13Ideal := fun m g _ =>
  (θ_run _ _ _).mono (fun r h => ⟨fun c => (h c).2.2, sem_eq_zero_of_no_sems (by decide) r.2⟩)
    (Cert.Reference13Ideal.Value.run (F := Ideal) m g)

end Cert.ConvSample
end
-- ==== Proof.ConformerSample.lean ====
/- The convolution module of an odd layer, of the sample batch: kernel and reference compute the same two arrays. -/
module
public import proofs.«01_k».proof.Defs
public import proofs.«01_k».proof.Proof.Rows
public import proofs.«01_k».proof.Proof.ConvRow
public import proofs.«01_k».proof.Proof.Gen.Kernel14Ideal.Value
public import proofs.«01_k».proof.Proof.Gen.Reference14Ideal.Run
public import proofs.«01_k».proof.Proof.Gen.Reference14Ideal.Read
@[expose] public section
set_option maxRecDepth 16384
noncomputable section
namespace Cert.ConformerSample
open Idealize.ShloMosaic Idealize.ShloMosaic.TcCoe
open Cert.ConvRow

/-- The input of the convolution, time by time: the thirty steps that the state keeps (32 sequences each), then the gated rows. -/
def E (z : (⟨⟨2, ![128, 4632]⟩, .f32⟩ : BufTy).Contents (Elt Ideal)) (st : (⟨⟨4, ![1, 32, 30, 1024]⟩, .f32⟩ : BufTy).Contents (Elt Ideal)) (e : ℕ) (j : Fin 1024) : EReal :=
  if h : e < 960 then st (ix4 0 (⟨e % 32, by omega⟩ : Fin 32) (⟨e / 32, by omega⟩ : Fin 30) j)
  else if h' : e < 1088 then z (ix2 (⟨e - 960, by omega⟩ : Fin 128) (⟨2560 + j.val, by omega⟩ : Fin 4632)) * Ideal.logistic (z (ix2 (⟨e - 960, by omega⟩ : Fin 128) (⟨3584 + j.val, by omega⟩ : Fin 4632)))
  else 0

theorem E_new (z st) (e : ℕ) (j : Fin 1024) (R : Fin 128) (h : e = R.val + 960) :
    E z st e j = z (ix2 R (⟨2560 + j.val, by omega⟩ : Fin 4632)) * Ideal.logistic (z (ix2 R (⟨3584 + j.val, by omega⟩ : Fin 4632))) := by
  subst h
  have hr : (⟨R.val + 960 - 960, by omega⟩ : Fin 128) = R := Fin.ext (by show R.val + 960 - 960 = R.val; omega)
  unfold E
  rw [dif_neg (by omega), dif_pos (by omega)]
  simp only [hr]

theorem E_old (z st) (e : ℕ) (j : Fin 1024) (b : Fin 32) (s : Fin 30) (h : e = s.val * 32 + b.val) : E z st e j = st (ix4 0 b s j) := by
  subst h
  unfold E
  rw [dif_pos (by omega)]
  congr 1
  funext a
  match a with
  | 0 => rfl
  | 1 => exact Fin.ext (by show (s.val * 32 + b.val) % 32 = b.val; omega)
  | 2 => exact Fin.ext (by show (s.val * 32 + b.val) / 32 = s.val; omega)
  | 3 => rfl

/-- The taps' sum with its bias, at a row and column. -/
def conv (z : (⟨⟨2, ![128, 4632]⟩, .f32⟩ : BufTy).Contents (Elt Ideal)) (w : (⟨⟨3, ![1, 31, 1024]⟩, .f32⟩ : BufTy).Contents (Elt Ideal)) (b : (⟨⟨2, ![1, 1024]⟩, .f32⟩ : BufTy).Contents (Elt Ideal)) (st : (⟨⟨4, ![1, 32, 30, 1024]⟩, .f32⟩ : BufTy).Contents (Elt Ideal)) (r : ℕ) (j : Fin 1024) : EReal :=
  taps (fun i => W w i j) (fun i => E z st (32 * i + r) j) + b (ix2 0 j)

section Ref
open Cert.Reference14Ideal Cert.Reference14Ideal.Gen Cert.Reference14Ideal.Read

variable (x0 : (⟨S128x4632, .f32⟩ : BufTy).Contents (Elt Ideal)) (x1 : (⟨S1x31x1024, .f32⟩ : BufTy).Contents (Elt Ideal)) (x2 x3 x4 : (⟨S1x1024, .f32⟩ : BufTy).Contents (Elt Ideal)) (x5 : (⟨S1x32x30x1024, .f32⟩ : BufTy).Contents (Elt Ideal))

/-- The reference's gated input: sequence `b`, time `s`. -/
theorem u_apply (b : Fin 32) (s : Fin 4) (j : Fin 1024) : val_main_v12 (F := Ideal) x0 (ix3 b s j)
    = x0 (ix2 (⟨s.val * 32 + b.val, by omega⟩ : Fin 128) (⟨2560 + j.val, by omega⟩ : Fin 4632)) * Ideal.logistic (x0 (ix2 (⟨s.val * 32 + b.val, by omega⟩ : Fin 128) (⟨3584 + j.val, by omega⟩ : Fin 4632))) := by
  unfold Ideal.logistic
  pointwise [val_main_v12, val_main_v11, val_main_v10, val_main_v9, val_main_v8, val_main_v7, val_main_v6, val_main_v3, val_main_v2, val_main_v1, val_main_v0, val_main_cst, val_main_cst_0]

/-- The state before the gated input. -/
theorem e_apply (b : Fin 32) (s : Fin 34) (j : Fin 1024) : val_main_v13 (F := Ideal) x0 x5 (ix3 b s j) = E x0 x5 (s.val * 32 + b.val) j := by
  have hu := u_apply x0
  unfold val_main_v13
  generalize val_main_v12 (F := Ideal) x0 = u at hu ⊢
  pointwise [val_main_v5]
  by_cases h : s.val < 30
  · rw [dif_pos h, E_old x0 x5 _ j b ⟨s.val, h⟩ rfl]
  · rw [dif_neg h, hu, E_new x0 x5 _ j (⟨(s.val - 30) * 32 + b.val, by omega⟩ : Fin 128) (by show _ = (s.val - 30) * 32 + b.val + 960; omega)]

set_option maxHeartbeats 2000000 in
/-- The reference's convolution. -/
theorem c_apply (b : Fin 32) (s : Fin 4) (j : Fin 1024) : val_main_v233 (F := Ideal) x0 x1 x2 x5 (ix3 b s j) = conv x0 x1 x2 x5 (s.val * 32 + b.val) j := by
  have he := e_apply x0 x5
  unfold conv
  rw [taps_eq]
  unfold val_main_v233 val_main_v229 val_main_v228 val_main_v225 val_main_v222 val_main_v221 val_main_v218 val_main_v215 val_main_v214 val_main_v211 val_main_v208 val_main_v207 val_main_v204 val_main_v201 val_main_v200 val_main_v197 val_main_v194 val_main_v193 val_main_v190 val_main_v187 val_main_v186 val_main_v183 val_main_v180 val_main_v179 val_main_v176 val_main_v173 val_main_v172 val_main_v169 val_main_v166 val_main_v165 val_main_v162 val_main_v159 val_main_v158 val_main_v155 val_main_v152 val_main_v151 val_main_v148 val_main_v145 val_main_v144 val_main_v141 val_main_v138 val_main_v137 val_main_v134 val_main_v131 val_main_v130 val_main_v127 val_main_v124 val_main_v123 val_main_v120 val_main_v117 val_main_v116 val_main_v113 val_main_v110 val_main_v109 val_main_v106 val_main_v103 val_main_v102 val_main_v99 val_main_v96 val_main_v95 val_main_v92 val_main_v89 val_main_v88 val_main_v85 val_main_v82 val_main_v81 val_main_v78 val_main_v75 val_main_v74 val_main_v71 val_main_v68 val_main_v67 val_main_v64 val_main_v61 val_main_v60 val_main_v57 val_main_v54 val_main_v53 val_main_v50 val_main_v47 val_main_v46 val_main_v43 val_main_v40 val_main_v39 val_main_v36 val_main_v33 val_main_v32 val_main_v29 val_main_v26 val_main_v25 val_main_v22 val_main_v19 val_main_v16
  generalize val_main_v13 (F := Ideal) x0 x5 = u at he ⊢
  pointwise [val_main_v232, val_main_v231, val_main_v230, val_main_v227, val_main_v226, val_main_v224, val_main_v223, val_main_v220, val_main_v219, val_main_v217, val_main_v216, val_main_v213, val_main_v212, val_main_v210, val_main_v209, val_main_v206, val_main_v205, val_main_v203, val_main_v202, val_main_v199, val_main_v198, val_main_v196, val_main_v195, val_main_v192, val_main_v191, val_main_v189, val_main_v188, val_main_v185, val_main_v184, val_main_v182, val_main_v181, val_main_v178, val_main_v177, val_main_v175, val_main_v174, val_main_v171, val_main_v170, val_main_v168, val_main_v167, val_main_v164, val_main_v163, val_main_v161, val_main_v160, val_main_v157, val_main_v156, val_main_v154, val_main_v153, val_main_v150, val_main_v149, val_main_v147, val_main_v146, val_main_v143, val_main_v142, val_main_v140, val_main_v139, val_main_v136, val_main_v135, val_main_v133, val_main_v132, val_main_v129, val_main_v128, val_main_v126, val_main_v125, val_main_v122, val_main_v121, val_main_v119, val_main_v118, val_main_v115, val_main_v114, val_main_v112, val_main_v111, val_main_v108, val_main_v107, val_main_v105, val_main_v104, val_main_v101, val_main_v100, val_main_v98, val_main_v97, val_main_v94, val_main_v93, val_main_v91, val_main_v90, val_main_v87, val_main_v86, val_main_v84, val_main_v83, val_main_v80, val_main_v79, val_main_v77, val_main_v76, val_main_v73, val_main_v72, val_main_v70, val_main_v69, val_main_v66, val_main_v65, val_main_v63, val_main_v62, val_main_v59, val_main_v58, val_main_v56, val_main_v55, val_main_v52, val_main_v51, val_main_v49, val_main_v48, val_main_v45, val_main_v44, val_main_v42, val_main_v41, val_main_v38, val_main_v37, val_main_v35, val_main_v34, val_main_v31, val_main_v30, val_main_v28, val_main_v27, val_main_v24, val_main_v23, val_main_v21, val_main_v20, val_main_v18, val_main_v17, val_main_v15, val_main_v14, val_main_v4]
  have hE : ∀ k : ℕ, (k + s.val) * 32 + b.val = 32 * k + (s.val * 32 + b.val) := fun k => by omega
  simp only [he, hE, W, Nat.reduceLT, Nat.reduceMul, dite_true, Nat.zero_add]
  rfl

/-- The reference's first array. -/
theorem ref_apply (r : Fin 128) (j : Fin 1024) :
    val_main_v266 (F := Ideal) x0 x1 x2 x3 x4 x5 (ix2 r j) = silu (lnAt (fun k => conv x0 x1 x2 x5 r.val k) (fun k => x3 (ix2 0 k)) (fun k => x4 (ix2 0 k)) j) := by
  have hc := c_apply x0 x1 x2 x5
  unfold val_main_v266 val_main_v265 val_main_v264 val_main_v263 val_main_v261 val_main_v259 val_main_v258 val_main_v257 val_main_v254 val_main_v251 val_main_v250 val_main_v249 val_main_v248 val_main_v246 val_main_v244 val_main_v243 val_main_v242 val_main_v241 val_main_v240 val_main_v239 val_main_v237 val_main_v236
  generalize val_main_v233 (F := Ideal) x0 x1 x2 x5 = u at hc ⊢
  unfold silu lnAt mean Ideal.logistic
  pointwise [val_main_v262, val_main_v260, val_main_v256, val_main_v255, val_main_v253, val_main_v252, val_main_v247, val_main_v245, val_main_v238, val_main_v235, val_main_v234, val_main_cst_1, val_main_cst_2, val_main_cst_3, val_main_cst_4, val_main_cst_5, val_main_cst_6, val_main_cst_7]
  have hr : r.val / 32 * 32 + r.val % 32 = r.val := by omega
  simp only [hc, hr]

/-- The reference's second array: the last thirty times. -/
theorem st_apply (r : Fin 960) (j : Fin 1024) : val_main_v269 (F := Ideal) x0 x5 (ix2 r j) = E x0 x5 (128 + r.val) j := by
  have he := e_apply x0 x5
  unfold val_main_v269 val_main_v268 val_main_v267
  generalize val_main_v13 (F := Ideal) x0 x5 = u at he ⊢
  pointwise
  have h : (4 + r.val / 32) * 32 + r.val % 32 = 128 + r.val := by omega
  simp only [he, h]
end Ref

open Cert.Kernel14Ideal Cert.Kernel14Ideal.Gen

/-- The blocks of the windows at the one grid point. -/
theorem idx : ∀ t : Fin cfg0.N, win0_0.index t = ![0, 5] ∧ win0_1.index t = ![0, 6] ∧ win0_2.index t = ![0, 7] ∧ win0_3.index t = ![0, 8]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] := by
  decide +kernel

variable (m : (ℓ : Loc nD τ sig) → Buf (Elt Ideal) ℓ) (c : Dev nD)

/-- The projection that the layer is given. -/
abbrev z : (⟨S128x4632, .f32⟩ : BufTy).Contents (Elt Ideal) := m ((c : Thread nD τ).loc main_arg0)

/-- The state that the layer is given. -/
abbrev st : (⟨S1x32x30x1024, .f32⟩ : BufTy).Contents (Elt Ideal) := m ((c : Thread nD τ).loc main_arg5)

/-- A block of the projection. -/
theorem z_blk0 (t : Fin cfg0.N) (r : Fin 128) (j : Fin 512) : X0_0 m c t (ix2 r j) = z m c (ix2 r (⟨2560 + j.val, by omega⟩ : Fin 4632)) := by
  unfold X0_0 Pipeline.Window.fill
  rw [dif_pos (moved0_0 t _)]
  blk_ext [iblk, V, idx t]

/-- A block of the projection. -/
theorem z_blk1 (t : Fin cfg0.N) (r : Fin 128) (j : Fin 512) : X0_1 m c t (ix2 r j) = z m c (ix2 r (⟨3072 + j.val, by omega⟩ : Fin 4632)) := by
  unfold X0_1 Pipeline.Window.fill
  rw [dif_pos (moved0_1 t _)]
  blk_ext [iblk, V, idx t]

/-- A block of the projection. -/
theorem z_blk2 (t : Fin cfg0.N) (r : Fin 128) (j : Fin 512) : X0_2 m c t (ix2 r j) = z m c (ix2 r (⟨3584 + j.val, by omega⟩ : Fin 4632)) := by
  unfold X0_2 Pipeline.Window.fill
  rw [dif_pos (moved0_2 t _)]
  blk_ext [iblk, V, idx t]

/-- A block of the projection. -/
theorem z_blk3 (t : Fin cfg0.N) (r : Fin 128) (j : Fin 512) : X0_3 m c t (ix2 r j) = z m c (ix2 r (⟨4096 + j.val, by omega⟩ : Fin 4632)) := by
  unfold X0_3 Pipeline.Window.fill
  rw [dif_pos (moved0_3 t _)]
  blk_ext [iblk, V, idx t]

/-- The two halves of the gated rows, side by side. -/
theorem pay3_apply (a ag b bg : (⟨S128x512, .f32⟩ : BufTy).Contents (Elt Ideal)) (r : Fin 128) (j : Fin 1024) :
    k0_pay3 a ag b bg (ix2 r j) = if h : j.val < 512 then a (ix2 r (⟨j.val, h⟩ : Fin 512)) * Ideal.logistic (ag (ix2 r (⟨j.val, h⟩ : Fin 512)))
      else b (ix2 r (⟨j.val - 512, by omega⟩ : Fin 512)) * Ideal.logistic (bg (ix2 r (⟨j.val - 512, by omega⟩ : Fin 512))) := by
  pointwise [k0_pay3]

/-- The gated rows. -/
theorem u_blk (t : Fin cfg0.N) (r : Fin 128) (j : Fin 1024) : k0_pay3 (X0_0 m c t) (X0_2 m c t) (X0_1 m c t) (X0_3 m c t) (ix2 r j) = E (z m c) (st m c) (r.val + 960) j := by
  rw [E_new _ _ _ j r rfl, pay3_apply]
  split_ifs with h
  · rw [z_blk0, z_blk2]
  · rw [z_blk1, z_blk3]
    have h1 : (⟨3072 + (j.val - 512), by omega⟩ : Fin 4632) = ⟨2560 + j.val, by omega⟩ := Fin.ext (by show 3072 + (j.val - 512) = 2560 + j.val; omega)
    have h2 : (⟨4096 + (j.val - 512), by omega⟩ : Fin 4632) = ⟨3584 + j.val, by omega⟩ := Fin.ext (by show 4096 + (j.val - 512) = 3584 + j.val; omega)
    exact congrArg₂ (fun a b => z m c (ix2 r a) * Ideal.logistic (z m c (ix2 r b))) h1 h2

/-- The weights as the kernel takes them: a row for each tap. -/
def tapsOf (x : (⟨S1x31x1024, .f32⟩ : BufTy).Contents (Elt Ideal)) : (⟨S31x1024, .f32⟩ : BufTy).Contents (Elt Ideal) :=
  shapeCast _ x shapeCasts_S1x31x1024_S31x1024

theorem tapsOf_apply (x : (⟨S1x31x1024, .f32⟩ : BufTy).Contents (Elt Ideal)) (k : Fin 31) (j : Fin 1024) : tapsOf x (ix2 k j) = x (ix3 0 k j) := by
  pointwise [tapsOf]

theorem V_w : V m c main_v0 = tapsOf (m ((c : Thread nD τ).loc main_arg1)) := by
  unfold tapsOf
  simp only [V, hostOps0]
  after_results_simp <;> rfl

/-- A row of weights, read off its block. -/
theorem w_at (t : Fin cfg0.N) (o : ℕ) (inb) (j : Fin 1024) :
    View.ld (Val := Elt Ideal) (e' := .f32) (iblk m c 4 t) (Rect.unit (s := S31x1024) ![o, 0] ![1, 1024] inb) (ix2 0 j) = W (m ((c : Thread nD τ).loc main_arg1)) o j := by
  have ho : o + 1 ≤ 31 := inb 0
  rw [← W_eq _ (⟨o, by omega⟩ : Fin 31) j o rfl]
  refine (Rows.ld_rows (m := 31) (n := 1024) (k := 1) (iblk m c 4 t) o inb 0 j (⟨o, by omega⟩ : Fin 31) rfl).trans ?_
  rw [← tapsOf_apply (m ((c : Thread nD τ).loc main_arg1)) _ j, ← V_w m c]
  blk_ext [iblk, idx t]

/-- A row vector as the kernel takes it. -/
def rowOf (x : (⟨S1x1024, .f32⟩ : BufTy).Contents (Elt Ideal)) : (⟨S1x1024, .f32⟩ : BufTy).Contents (Elt Ideal) :=
  shapeCast S1x1024 (shapeCast S1024 x shapeCasts_S1x1024_S1024 : (⟨S1024, .f32⟩ : BufTy).Contents (Elt Ideal)) shapeCasts_S1024_S1x1024

theorem rowOf_apply (x : (⟨S1x1024, .f32⟩ : BufTy).Contents (Elt Ideal)) (j : Fin 1024) : rowOf x (ix2 0 j) = x (ix2 0 j) := by
  pointwise [rowOf]

theorem V_bias : V m c main_v7 = rowOf (m ((c : Thread nD τ).loc main_arg2)) := by
  unfold rowOf
  simp only [V, hostOps0]
  after_results_simp <;> rfl

/-- The bias, read off its block. -/
theorem bias_blk (t : Fin cfg0.N) (j : Fin 1024) : iblk m c 5 t (ix2 0 j) = m ((c : Thread nD τ).loc main_arg2) (ix2 0 j) := by
  have h : iblk m c 5 t (ix2 0 j) = V m c main_v7 (ix2 0 j) := by blk_ext [iblk, idx t]
  exact h.trans (by rw [V_bias]; exact rowOf_apply _ j)

theorem V_gain : V m c main_v8 = rowOf (m ((c : Thread nD τ).loc main_arg3)) := by
  unfold rowOf
  simp only [V, hostOps0]
  after_results_simp <;> rfl

/-- The norm's gain, read off its block. -/
theorem gain_blk (t : Fin cfg0.N) (j : Fin 1024) : iblk m c 6 t (ix2 0 j) = m ((c : Thread nD τ).loc main_arg3) (ix2 0 j) := by
  have h : iblk m c 6 t (ix2 0 j) = V m c main_v8 (ix2 0 j) := by blk_ext [iblk, idx t]
  exact h.trans (by rw [V_gain]; exact rowOf_apply _ j)

theorem V_shift : V m c main_v9 = rowOf (m ((c : Thread nD τ).loc main_arg4)) := by
  unfold rowOf
  simp only [V, hostOps0]
  after_results_simp <;> rfl

/-- The norm's bias, read off its block. -/
theorem shift_blk (t : Fin cfg0.N) (j : Fin 1024) : iblk m c 7 t (ix2 0 j) = m ((c : Thread nD τ).loc main_arg4) (ix2 0 j) := by
  have h : iblk m c 7 t (ix2 0 j) = V m c main_v9 (ix2 0 j) := by blk_ext [iblk, idx t]
  exact h.trans (by rw [V_shift]; exact rowOf_apply _ j)

/-- The state as the kernel takes it: a row for each time and sequence. -/
def stateOf (x : (⟨S1x32x30x1024, .f32⟩ : BufTy).Contents (Elt Ideal)) : (⟨S960x1024, .f32⟩ : BufTy).Contents (Elt Ideal) :=
  shapeCast S960x1024 (transpose S30x32x1024 [1, 0, 2] (shapeCast S32x30x1024 x shapeCasts_S1x32x30x1024_S32x30x1024 : (⟨S32x30x1024, .f32⟩ : BufTy).Contents (Elt Ideal)) transposes_S32x30x1024_S30x32x1024_1_0_2 : (⟨S30x32x1024, .f32⟩ : BufTy).Contents (Elt Ideal)) shapeCasts_S30x32x1024_S960x1024

theorem stateOf_apply (x : (⟨S1x32x30x1024, .f32⟩ : BufTy).Contents (Elt Ideal)) (r : Fin 960) (j : Fin 1024) :
    stateOf x (ix2 r j) = x (ix4 0 (⟨r.val % 32, by omega⟩ : Fin 32) (⟨r.val / 32, by omega⟩ : Fin 30) j) := by
  pointwise [stateOf]

theorem V_state : V m c main_v6 = stateOf (st m c) := by
  unfold stateOf
  simp only [V, hostOps0]
  after_results_simp <;> rfl

/-- The rows of the state. -/
theorem p_blk (t : Fin cfg0.N) (r : Fin 960) (j : Fin 1024) : k0_pay2 (iblk m c 8 t) (ix2 r j) = E (z m c) (st m c) r.val j := by
  have h : iblk m c 8 t (ix2 r j) = V m c main_v6 (ix2 r j) := by blk_ext [iblk, idx t]
  rw [E_old _ _ _ j (⟨r.val % 32, by omega⟩ : Fin 32) (⟨r.val / 32, by omega⟩ : Fin 30) (by show r.val = r.val / 32 * 32 + r.val % 32; omega)]
  refine Eq.trans ?_ (h.trans (by rw [V_state]; exact stateOf_apply (st m c) r j))
  pointwise [k0_pay2]

/-- The buffer's rows: the state, and then the gated rows. -/
theorem canon_ext (t : Fin cfg0.N) (inb) (inb') (e : Fin 1088) (j : Fin 1024) :
    View.canon [(⟨Rect.unit (s := S1088x1024) ![960, 0] ![128, 1024] inb, k0_pay3 (X0_0 m c t) (X0_2 m c t) (X0_1 m c t) (X0_3 m c t)⟩ : View.Piece (Elt Ideal) S1088x1024 .f32),
      (⟨Rect.unit (s := S1088x1024) ![0, 0] ![960, 1024] inb', k0_pay2 (iblk m c 8 t)⟩ : View.Piece (Elt Ideal) S1088x1024 .f32)] (ix2 e j) = E (z m c) (st m c) e.val j := by
  by_cases he : 960 ≤ e.val
  · refine (Rows.canon_hit 960 inb _ _ e j (⟨e.val - 960, by omega⟩ : Fin 128) (by show e.val = 960 + (e.val - 960); omega)).trans ?_
    rw [u_blk]
    congr 1
    show e.val - 960 + 960 = e.val
    omega
  · refine (Rows.canon_miss 960 inb _ _ e j (Or.inl (by omega))).trans ?_
    refine (Rows.canon_hit 0 inb' _ _ e j (⟨e.val, by omega⟩ : Fin 960) (by show e.val = 0 + e.val; omega)).trans ?_
    rw [p_blk]

/-- A stretch of the buffer's rows, as a tap reads it. -/
theorem ext_at (t : Fin cfg0.N) (inb) (inb') (o : ℕ) (inb'') (r : Fin 128) (j : Fin 1024) :
    (View.whole cc0_scratch0).readCov [(⟨Rect.unit (s := S1088x1024) ![960, 0] ![128, 1024] inb, k0_pay3 (X0_0 m c t) (X0_2 m c t) (X0_1 m c t) (X0_3 m c t)⟩ : View.Piece (Elt Ideal) S1088x1024 .f32),
      (⟨Rect.unit (s := S1088x1024) ![0, 0] ![960, 1024] inb', k0_pay2 (iblk m c 8 t)⟩ : View.Piece (Elt Ideal) S1088x1024 .f32)] (Rect.unit (s := S1088x1024) ![o, 0] ![128, 1024] inb'').toLoadRect (ix2 r j)
      = E (z m c) (st m c) (o + r.val) j := by
  have ho : o + 128 ≤ 1088 := inb'' 0
  rw [Rows.readCov_rows (m := 1088) (n := 1024) (k := 128) (View.whole cc0_scratch0) _ o inb'' r j (⟨o + r.val, by omega⟩ : Fin 1088) rfl]
  exact canon_ext m c t inb inb' _ j

/-! The taps, some at a time. -/

theorem pay4_apply (w0 w1 w2 : (⟨S1x1024, .f32⟩ : BufTy).Contents (Elt Ideal)) (e0 e1 e2 : (⟨S128x1024, .f32⟩ : BufTy).Contents (Elt Ideal)) (r : Fin 128) (j : Fin 1024) :
    k0_pay4 w0 e0 w1 e1 w2 e2 (ix2 r j) = w0 (ix2 0 j) * e0 (ix2 r j) + w1 (ix2 0 j) * e1 (ix2 r j) + w2 (ix2 0 j) * e2 (ix2 r j) := by
  pointwise [k0_pay4]

theorem pay5_apply (v : (⟨S128x1024, .f32⟩ : BufTy).Contents (Elt Ideal)) (w0 w1 w2 w3 w4 w5 : (⟨S1x1024, .f32⟩ : BufTy).Contents (Elt Ideal)) (e0 e1 e2 e3 e4 e5 : (⟨S128x1024, .f32⟩ : BufTy).Contents (Elt Ideal)) (r : Fin 128) (j : Fin 1024) :
    k0_pay5 v w0 e0 w1 e1 w2 e2 w3 e3 w4 e4 w5 e5 (ix2 r j) = v (ix2 r j) + w0 (ix2 0 j) * e0 (ix2 r j) + w1 (ix2 0 j) * e1 (ix2 r j) + w2 (ix2 0 j) * e2 (ix2 r j) + w3 (ix2 0 j) * e3 (ix2 r j) + w4 (ix2 0 j) * e4 (ix2 r j) + w5 (ix2 0 j) * e5 (ix2 r j) := by
  pointwise [k0_pay5]

theorem pay6_apply (v : (⟨S128x1024, .f32⟩ : BufTy).Contents (Elt Ideal)) (w0 w1 w2 w3 w4 w5 : (⟨S1x1024, .f32⟩ : BufTy).Contents (Elt Ideal)) (e0 e1 e2 e3 e4 e5 : (⟨S128x1024, .f32⟩ : BufTy).Contents (Elt Ideal)) (r : Fin 128) (j : Fin 1024) :
    k0_pay6 v w0 e0 w1 e1 w2 e2 w3 e3 w4 e4 w5 e5 (ix2 r j) = v (ix2 r j) + w0 (ix2 0 j) * e0 (ix2 r j) + w1 (ix2 0 j) * e1 (ix2 r j) + w2 (ix2 0 j) * e2 (ix2 r j) + w3 (ix2 0 j) * e3 (ix2 r j) + w4 (ix2 0 j) * e4 (ix2 r j) + w5 (ix2 0 j) * e5 (ix2 r j) := by
  pointwise [k0_pay6]

theorem pay7_apply (v : (⟨S128x1024, .f32⟩ : BufTy).Contents (Elt Ideal)) (w0 w1 w2 w3 w4 w5 : (⟨S1x1024, .f32⟩ : BufTy).Contents (Elt Ideal)) (e0 e1 e2 e3 e4 e5 : (⟨S128x1024, .f32⟩ : BufTy).Contents (Elt Ideal)) (r : Fin 128) (j : Fin 1024) :
    k0_pay7 v w0 e0 w1 e1 w2 e2 w3 e3 w4 e4 w5 e5 (ix2 r j) = v (ix2 r j) + w0 (ix2 0 j) * e0 (ix2 r j) + w1 (ix2 0 j) * e1 (ix2 r j) + w2 (ix2 0 j) * e2 (ix2 r j) + w3 (ix2 0 j) * e3 (ix2 r j) + w4 (ix2 0 j) * e4 (ix2 r j) + w5 (ix2 0 j) * e5 (ix2 r j) := by
  pointwise [k0_pay7]

theorem pay8_apply (v : (⟨S128x1024, .f32⟩ : BufTy).Contents (Elt Ideal)) (w0 w1 w2 w3 w4 w5 : (⟨S1x1024, .f32⟩ : BufTy).Contents (Elt Ideal)) (e0 e1 e2 e3 e4 e5 : (⟨S128x1024, .f32⟩ : BufTy).Contents (Elt Ideal)) (r : Fin 128) (j : Fin 1024) :
    k0_pay8 v w0 e0 w1 e1 w2 e2 w3 e3 w4 e4 w5 e5 (ix2 r j) = v (ix2 r j) + w0 (ix2 0 j) * e0 (ix2 r j) + w1 (ix2 0 j) * e1 (ix2 r j) + w2 (ix2 0 j) * e2 (ix2 r j) + w3 (ix2 0 j) * e3 (ix2 r j) + w4 (ix2 0 j) * e4 (ix2 r j) + w5 (ix2 0 j) * e5 (ix2 r j) := by
  pointwise [k0_pay8]

theorem pay10_apply (v : (⟨S128x1024, .f32⟩ : BufTy).Contents (Elt Ideal)) (w0 w1 w2 w3 : (⟨S1x1024, .f32⟩ : BufTy).Contents (Elt Ideal)) (e0 e1 e2 e3 : (⟨S128x1024, .f32⟩ : BufTy).Contents (Elt Ideal)) (b : (⟨S1x1024, .f32⟩ : BufTy).Contents (Elt Ideal)) (r : Fin 128) (j : Fin 1024) :
    k0_pay10 v w0 e0 w1 e1 w2 e2 w3 e3 b (ix2 r j) = v (ix2 r j) + w0 (ix2 0 j) * e0 (ix2 r j) + w1 (ix2 0 j) * e1 (ix2 r j) + w2 (ix2 0 j) * e2 (ix2 r j) + w3 (ix2 0 j) * e3 (ix2 r j) + b (ix2 0 j) := by
  pointwise [k0_pay10]

/-- The mean of the rows. -/
theorem pay11_apply (v : (⟨S128x1024, .f32⟩ : BufTy).Contents (Elt Ideal)) (w0 : (⟨S1x1024, .f32⟩ : BufTy).Contents (Elt Ideal)) (e0 : (⟨S128x1024, .f32⟩ : BufTy).Contents (Elt Ideal)) (w1 : (⟨S1x1024, .f32⟩ : BufTy).Contents (Elt Ideal)) (e1 : (⟨S128x1024, .f32⟩ : BufTy).Contents (Elt Ideal)) (w2 : (⟨S1x1024, .f32⟩ : BufTy).Contents (Elt Ideal)) (e2 : (⟨S128x1024, .f32⟩ : BufTy).Contents (Elt Ideal)) (w3 : (⟨S1x1024, .f32⟩ : BufTy).Contents (Elt Ideal)) (e3 : (⟨S128x1024, .f32⟩ : BufTy).Contents (Elt Ideal)) (b : (⟨S1x1024, .f32⟩ : BufTy).Contents (Elt Ideal)) (r : Fin 128) :
    k0_pay11 v w0 e0 w1 e1 w2 e2 w3 e3 b (ix2 r 0) = mean (fun k => k0_pay10 v w0 e0 w1 e1 w2 e2 w3 e3 b (ix2 r k)) := by
  unfold mean k0_pay11
  generalize k0_pay10 v w0 e0 w1 e1 w2 e2 w3 e3 b = f
  pointwise

/-- The last step: the norm of the rows and its activation. -/
theorem pay1_apply (f : (⟨S128x1024, .f32⟩ : BufTy).Contents (Elt Ideal)) (mu : (⟨S128x1, .f32⟩ : BufTy).Contents (Elt Ideal)) (g b : (⟨S1x1024, .f32⟩ : BufTy).Contents (Elt Ideal)) (r : Fin 128) (j : Fin 1024)
    (hmu : mu (ix2 r 0) = mean (fun k => f (ix2 r k))) :
    k0_pay1 f mu g b (ix2 r j) = silu (lnAt (fun k => f (ix2 r k)) (fun k => g (ix2 0 k)) (fun k => b (ix2 0 k)) j) := by
  unfold silu lnAt
  rw [← hmu]
  unfold mean
  pointwise [k0_pay1]

/-- The first output. -/
theorem out9_blk (t : Fin cfg0.N) (r : Fin 128) (j : Fin 1024) :
    (outsAt0 m c t).1 (ix2 r j) = Cert.Reference14Ideal.Read.val_main_v266 (F := Ideal) (z m c) (m ((c : Thread nD τ).loc main_arg1)) (m ((c : Thread nD τ).loc main_arg2)) (m ((c : Thread nD τ).loc main_arg3)) (m ((c : Thread nD τ).loc main_arg4)) (st m c) (ix2 r j) := by
  rw [ref_apply]
  unfold outsAt0
  frame_out
  refine (pay1_apply _ _ _ _ r j ?_).trans ?_
  · exact pay11_apply _ _ _ _ _ _ _ _ _ _ r
  · congr 2
    · funext k
      rw [pay10_apply, pay8_apply, pay7_apply, pay6_apply, pay5_apply, pay4_apply]
      unfold conv
      rw [taps_eq]
      simp only [w_at]
      refine congrArg₂ (· + ·) ?_ (bias_blk m c t k)
      iterate 30 refine congrArg₂ (· + ·) ?_ (congrArg (W _ _ k * ·) (ext_at m c t _ _ _ _ r k))
      exact congrArg (W _ _ k * ·) (ext_at m c t _ _ _ _ r k)
    · funext k; exact gain_blk m c t k
    · funext k; exact shift_blk m c t k

/-- The second output. -/
theorem out10_blk (t : Fin cfg0.N) (r : Fin 960) (j : Fin 1024) :
    (outsAt0 m c t).2 (ix2 r j) = E (z m c) (st m c) (128 + r.val) j := by
  unfold outsAt0
  frame_out
  refine (Rows.readCov_rows (m := 1088) (n := 1024) (k := 960) (View.whole cc0_scratch0) _ 128 _ r j (⟨128 + r.val, by omega⟩ : Fin 1088) rfl).trans ?_
  exact canon_ext m c t _ _ _ j

/-- The kernel's first array is the reference's. -/
theorem out9_eq : (dats (F := Ideal) m 0 c).arrAt 9 cfg0.N = Cert.Reference14Ideal.Read.val_main_v266 (F := Ideal) (z m c) (m ((c : Thread nD τ).loc main_arg1)) (m ((c : Thread nD τ).loc main_arg2)) (m ((c : Thread nD τ).loc main_arg3)) (m ((c : Thread nD τ).loc main_arg4)) (st m c) := by
  refine (dats m 0 c).arrAt_eq_of_covers 9 _ (by decide +kernel) fun t hf y => ?_
  blk_simp
  rw [after0_9]
  idx_vars y
  have hi : ((View.whole main_v10_0).slice (win0_9.rect t)).emb (ix2 y0 y1) = ix2 y0 y1 := by
    blk_ext [idx t]
  rw [hi]
  exact out9_blk m c t y0 y1

/-- The kernel's second array is the reference's. -/
theorem out10_eq : (dats (F := Ideal) m 0 c).arrAt 10 cfg0.N = Cert.Reference14Ideal.Read.val_main_v269 (F := Ideal) (z m c) (st m c) := by
  refine (dats m 0 c).arrAt_eq_of_covers 10 _ (by decide +kernel) fun t hf y => ?_
  blk_simp
  rw [after0_10]
  idx_vars y
  have hi : ((View.whole main_v10_1).slice (win0_10.rect t)).emb (ix2 y0 y1) = ix2 y0 y1 := by
    blk_ext [idx t]
  rw [hi, st_apply]
  exact out10_blk m c t y0 y1

/-- Kernel and reference compute the same two arrays over the extended reals. -/
theorem algebraic [hK : Cert.Kernel14Ideal.Facts] [hR : Cert.Reference14Ideal.Facts] : Cert.algebraic_Kernel14Ideal_Reference14Ideal := by
  intro m g m' g' _ hagree
  refine ⟨fun c => Cert.Reference14Ideal.Read.val_main_v266 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => Cert.Reference14Ideal.Read.val_main_v269 (F := Ideal) (m ((c : Thread nD τ).loc main_arg0)) (m ((c : Thread nD τ).loc main_arg5)), ?_, ?_⟩
  · exact (θ_run _ _ _).mono (fun r h c => ⟨(h c).1.trans (out9_eq m c), (h c).2.1.trans (out10_eq m c), (h c).2.2⟩) (Cert.Kernel14Ideal.Value.run_blocks (F := Ideal) m g)
  · refine (θ_run _ _ _).mono (fun r h c => ?_) (Cert.Reference14Ideal.Value.run (F := Ideal) m' g')
    obtain ⟨h0, h1, h2, h3, h4, h5⟩ := hagree c
    refine ⟨(h c).1.trans ?_, (h c).2.1.trans ?_, (h c).2.2⟩
    · refine (Cert.Reference14Ideal.Read.val_main_v266_eq _).trans ?_
      simp only [StableHlo.launchContents, h0, h1, h2, h3, h4, h5]
    · refine (Cert.Reference14Ideal.Read.val_main_v269_eq _).trans ?_
      simp only [StableHlo.launchContents, h0, h5]

/-- The reference ends without fault, its arguments unchanged, every counter at zero. -/
theorem frame_ref : Cert.quiescent_Reference14Ideal := fun m g _ =>
  (θ_run _ _ _).mono (fun r h => ⟨fun c => (h c).2.2, sem_eq_zero_of_no_sems (by decide) r.2⟩)
    (Cert.Reference14Ideal.Value.run (F := Ideal) m g)

end Cert.ConformerSample
end
-- ==== Proof.DownSampleRun.lean ====
/- The down-projection of the sample batch: the body of the kernel, run at one grid point. -/
module
public import proofs.«01_k».proof.Defs
public import proofs.«01_k».proof.Proof.Gen.Kernel15Ideal
public import proofs.«01_k».proof.Proof.Gen.Kernel15Ideal.Skeleton
public import proofs.«01_k».proof.Proof.Gen.Kernel15Ideal.Frame
public import Idealize.ShloMosaic.Lib.Pointwise
public import Idealize.ShloMosaic.Lib.Pipeline.ValueKit
public import Idealize.ShloMosaic.Lib.Pipeline.ReadBack
public import Idealize.ShloMosaic.Lib.Pipeline.DatRel
public import Idealize.ShloMosaic.Lib.Pipeline.ArrRel
public import Idealize.ShloMosaic.Lib.VecWindow
@[expose] public section
set_option maxRecDepth 16384
noncomputable section
namespace Cert.DownSample
open Idealize.ShloMosaic Idealize.ShloMosaic.TcCoe Idealize.ShloMosaic.Tactic Cert.Kernel15Ideal Cert.Kernel15Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The row of gains the last point loads: row 5. -/
abbrev gainRow (x2 : Vec F S1x6x2048 .f32) : Vec F S1x1x2048 .f32 :=
  View.ld x2 (Rect.unit (s := S1x6x2048) ![0, 5, 0] S1x1x2048.size inb_S1x6x2048_S1x1x2048_0_5_0)

/-- The output's buffer after a product is stored at column `o`: the product there, `d` elsewhere. -/
abbrev upd (d : Vec F S128x2048 .f32) (o : ℕ) (p : Vec F S128x512 .f32) : Vec F S128x2048 .f32 :=
  VecWindow.put (s := S128x2048) d ![0, o] S128x512.size p

local notation "𝕄" => MT nD τ sig Unit (Elt F) ℕ (UR sig nD τ) ℕ

/-- The body's first branch: the point is the first of its rows. -/
abbrev isFirst (i : grid0.Coords) : Prop := (Scalar.cmpi .ne (Scalar.extui (Scalar.cmpi .eq (BitVec.ofNat 32 (i 1).val) 0#32)) 0#32) = 1#1
/-- The body's second branch: the point is the last of its rows. -/
abbrev isLast (i : grid0.Coords) : Prop := (Scalar.cmpi .ne (Scalar.extui (Scalar.cmpi .eq (BitVec.ofNat 32 (i 1).val) 3#32)) 0#32) = 1#1

theorem isFirst_iff : ∀ t : Fin cfg0.N, isFirst (grid0.coords t) ↔ t.val % 4 = 0 := by decide +kernel
theorem isLast_iff : ∀ t : Fin cfg0.N, isLast (grid0.coords t) ↔ t.val % 4 = 3 := by decide +kernel
theorem off_eq : ∀ t : Fin cfg0.N, k0_off1 (grid0.coords t) = ![0, 512 * (t.val % 4)] := by decide +kernel

set_option maxHeartbeats 1000000 in
/-- At the first point of a stretch of rows the body copies the rows to the scratch and stores their product with the first slab of weights. -/
theorem run_first (c : Dev nD) (i : grid0.Coords) (arg2 : Memref sig .tc .vmem S128x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x5504 .bf16) (harg7 : arg7.IsWhole)
    (hc0 : isFirst i) (hc1 : ¬isLast i) (o : ℕ) (ho : k0_off1 i = ![0, o])
    (x0 : Vec F S128x5504 .bf16) (x1 : Vec F S1x5504x512 .bf16) (x2 : Vec F S1x6x2048 .f32) (x3 d : Vec F S128x2048 .f32) (s : Vec F S128x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (upd d o (k0_pay2 (k0_pay1 x0) x1)) ∗ owns (c : Thread nD τ) arg7 fullShare (k0_pay1 x0)) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_cons_put _ _ _ _ _ ho, View.writes_nil, harg6.read_unread]
    unfold run_first.sl.v5 run_first.sl.HS0_1
    rw [View.readCov_full, View.readAt_full, View.readAt_full, harg2.read_unread, harg3.read_unread]
  iexists _; isplitr; swap; · iexact HS0
  ipureintro
  unfold run_first.sl.HS0_1
  rw [View.read_writes_full, View.readAt_full, harg2.read_unread]

set_option maxHeartbeats 1000000 in
/-- At a point between the body stores the product of the scratch with its slab of weights. -/
theorem run_mid (c : Dev nD) (i : grid0.Coords) (arg2 : Memref sig .tc .vmem S128x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x5504 .bf16) (harg7 : arg7.IsWhole)
    (hc0 : ¬isFirst i) (hc1 : ¬isLast i) (o : ℕ) (ho : k0_off1 i = ![0, o])
    (x0 : Vec F S128x5504 .bf16) (x1 : Vec F S1x5504x512 .bf16) (x2 : Vec F S1x6x2048 .f32) (x3 d : Vec F S128x2048 .f32) (s : Vec F S128x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (upd d o (k0_pay2 s x1)) ∗ owns (c : Thread nD τ) arg7 fullShare s) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_cons_put _ _ _ _ _ ho, View.writes_nil, harg6.read_unread, View.readAt_full, View.readAt_full, harg7.read_unread, harg3.read_unread]
  iexists _; isplitr; swap; · iexact HS0
  ipureintro
  exact harg7.read_unread _

set_option maxHeartbeats 1000000 in
/-- At the last point of a stretch of rows the body stores the last product, then replaces the buffer by the normed and added rows. -/
theorem run_last (c : Dev nD) (i : grid0.Coords) (arg2 : Memref sig .tc .vmem S128x5504 .bf16) (harg2 : arg2.IsWhole) (arg3 : Memref sig .tc .vmem S1x5504x512 .bf16) (harg3 : arg3.IsWhole) (arg4 : Memref sig .tc .vmem S1x6x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x5504 .bf16) (harg7 : arg7.IsWhole)
    (hc0 : ¬isFirst i) (hc1 : isLast i) (o : ℕ) (ho : k0_off1 i = ![0, o])
    (x0 : Vec F S128x5504 .bf16) (x1 : Vec F S1x5504x512 .bf16) (x2 : Vec F S1x6x2048 .f32) (x3 d : Vec F S128x2048 .f32) (s : Vec F S128x5504 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 (upd d o (k0_pay2 s x1)) (gainRow x2)) ∗ owns (c : Thread nD τ) arg7 fullShare s) -∗ K ⟨⟩))
      ⊢ wp frame (wpE (defs₀ (F := F)) Variants.none c none) Set.univ (cc0_mm_norm_res i arg2 harg2 arg3 harg3 arg4 harg4 arg5 harg5 arg6 harg6 arg7 harg7) K := by
  simp only [cc0_mm_norm_res_eq_skeleton]; unfold cc0_mm_norm_res_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold run_last.sl.H4_1
    rw [View.read_writes_full, View.readAt_full, View.readAt_full, View.read_writes_cons_put _ _ _ _ _ ho, View.writes_nil, harg6.read_unread, View.readAt_full, View.readAt_full, harg7.read_unread, harg3.read_unread, harg5.read_unread, View.readAt_eq_ld, harg4.read_unread]
  iexists _; isplitr; swap; · iexact HS0
  ipureintro
  exact harg7.read_unread _

end Cert.DownSample
end
-- ==== Proof.DownSampleData.lean ====
/- The down-projection of the sample batch: what the kernel keeps from point to point, its launch and both frames. -/
module
public import proofs.«01_k».proof.Proof.DownSampleRun
@[expose] public section
set_option maxRecDepth 16384
noncomputable section
namespace Cert.DownSample
open Idealize.ShloMosaic Idealize.ShloMosaic.TcCoe Idealize.ShloMosaic.Tactic Cert.Kernel15Ideal Cert.Kernel15Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel ΦA)

variable {F : FTy → Type} [FloatOps F]
local notation "𝕄" => MT nD τ sig Unit (Elt F) ℕ (UR sig nD τ) ℕ
variable (m : (ℓ : Loc nD τ sig) → Buf (Elt F) ℓ) (ρ : Dev nD → PrngReg)

theorem N_eq : cfg0.N = 4 := N_0
theorem ltN (t : Fin cfg0.N) : t.val < 4 := lt_of_lt_of_eq t.isLt N_eq

/-- The first point of the stretch of four that point `n` lies in: the four share their rows. -/
def rowOf (n : ℕ) : Fin cfg0.N := ⟨n / 4 * 4 % 4, by rw [N_eq]; omega⟩
/-- The point of that stretch which computes column `k`. -/
def colOf (n k : ℕ) : Fin cfg0.N := ⟨(n / 4 * 4 + k / 512) % 4, by rw [N_eq]; omega⟩

/-- The product of the rows of point `n`'s stretch with all the weights. -/
def G (c : Dev nD) (n : ℕ) : Vec F S128x2048 .f32 := fun y =>
  k0_pay2 (k0_pay1 (X0_0 m c (rowOf n))) (iblk m c 1 (colOf n (y 1).val)) (ix2 (y 0) ⟨(y 1).val % 512, Nat.mod_lt _ (by decide)⟩)

/-- The columns stored up to point `n` of its stretch hold the product. -/
def Part (c : Dev nD) (n : ℕ) (X : Vec F S128x2048 .f32) : Prop := ∀ y, (y 1).val < 512 * (n % 4 + 1) → X y = G m c n y

theorem rowOf_first (t : Fin cfg0.N) (h : t.val % 4 = 0) : rowOf t.val = t := Fin.ext (by
  have := ltN t; show t.val / 4 * 4 % 4 = t.val; omega)

theorem rowOf_succ (n : ℕ) (h : n % 4 ≠ 3) : rowOf (n + 1) = rowOf n := Fin.ext (by
  show (n + 1) / 4 * 4 % 4 = n / 4 * 4 % 4; omega)

theorem G_pred (c : Dev nD) (n : ℕ) (h : n % 4 ≠ 0) : G m c (n - 1) = G m c n := by
  have hr : rowOf (n - 1) = rowOf n := Fin.ext (by show (n - 1) / 4 * 4 % 4 = n / 4 * 4 % 4; omega)
  have hc : ∀ k, colOf (n - 1) k = colOf n k := fun k => Fin.ext (by
    show ((n - 1) / 4 * 4 + k / 512) % 4 = (n / 4 * 4 + k / 512) % 4
    rw [show (n - 1) / 4 = n / 4 by omega])
  funext y; unfold G; rw [hr, hc]

/-- One more slab of columns. -/
theorem part_upd (c : Dev nD) (t : Fin cfg0.N) (d : Vec F S128x2048 .f32) (hd : ∀ y, (y 1).val < 512 * (t.val % 4) → d y = G m c t.val y) :
    Part m c t.val (upd d (512 * (t.val % 4)) (k0_pay2 (k0_pay1 (X0_0 m c (rowOf t.val))) (iblk m c 1 t))) := fun y hy => by
  have hN := ltN t
  have hy0 : (y 0).val < 128 := (y 0).isLt
  unfold upd VecWindow.put
  by_cases hk : 512 * (t.val % 4) ≤ (y 1).val
  · have hm : ∀ a : Fin S128x2048.rank, (![0, 512 * (t.val % 4)] : Fin 2 → ℕ) a ≤ (y a).val ∧ (y a).val < (![0, 512 * (t.val % 4)] : Fin 2 → ℕ) a + S128x512.size a := by
      intro a; match a with
      | 0 => exact ⟨Nat.zero_le _, by show (y 0).val < 0 + 128; omega⟩
      | 1 => exact ⟨hk, by show (y 1).val < 512 * (t.val % 4) + 512; omega⟩
    rw [dif_pos hm]
    unfold G
    have hc : colOf t.val (y 1).val = t := Fin.ext (by show (t.val / 4 * 4 + (y 1).val / 512) % 4 = t.val; omega)
    rw [hc]
    congr 1
    funext a; match a with
    | 0 => exact Fin.ext (by show (y 0).val - 0 = (y 0).val; omega)
    | 1 => exact Fin.ext (by show (y 1).val - 512 * (t.val % 4) = (y 1).val % 512; omega)
  · rw [dif_neg (fun h => hk (h 1).1)]
    exact hd y (by omega)

theorem part_first (c : Dev nD) (t : Fin cfg0.N) (h : t.val % 4 = 0) (d : Vec F S128x2048 .f32) :
    Part m c t.val (upd d (512 * (t.val % 4)) (k0_pay2 (k0_pay1 (X0_0 m c (rowOf t.val))) (iblk m c 1 t))) :=
  part_upd m c t d fun y hy => absurd hy (by omega)

theorem part_next (c : Dev nD) (t : Fin cfg0.N) (h : t.val % 4 ≠ 0) (d : Vec F S128x2048 .f32) (hd : Part m c (t.val - 1) d) :
    Part m c t.val (upd d (512 * (t.val % 4)) (k0_pay2 (k0_pay1 (X0_0 m c (rowOf t.val))) (iblk m c 1 t))) :=
  part_upd m c t d fun y hy => by rw [hd y (by omega), G_pred m c t.val h]

theorem part_last (c : Dev nD) (n : ℕ) (h : n % 4 = 3) (X : Vec F S128x2048 .f32) (hX : Part m c n X) : X = G m c n :=
  funext fun y => hX y (by have : (y 1).val < 2048 := (y 1).isLt; omega)

/-- What the body leaves in the output's buffer: at the last point of a stretch the finished rows, before it the columns so far. -/
def left (c : Dev nD) (t : Fin cfg0.N) (X : Vec F S128x2048 .f32) : Prop :=
  if t.val % 4 = 3 then X = k0_pay3 (iblk m c 3 t) (G m c t.val) (gainRow (iblk m c 2 t)) else Part m c t.val X

/-- The output window alone is held to a predicate. -/
def marked : Fin cfg0.W → Bool := ![false, false, false, false, true]

def Rl (c : Dev nD) : (w : Fin cfg0.W) → Fin cfg0.N → ((cfg0.win w).block.Idx → Elt F (cfg0.win w).elt) → Prop
  | ⟨4, _⟩ => fun t X => left m c t X
  | _ => fun _ _ => True

/-- The scratch buffer that keeps the rows. -/
abbrev scM0_0 : Memref sig .tc .vmem S128x5504 .bf16 := Memref.whole cc0_scratch0

/-- Between points: inside a stretch the scratch holds the stretch's rows. -/
def Phi (c : Dev nD) (n : ℕ) : sProp 𝕄 :=
  iprop((∃ d, ⌜n % 4 ≠ 0 → d = k0_pay1 (X0_0 m c (rowOf n))⌝ ∗ owns (c : Thread nD τ) scM0_0 fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem before0 (c : Dev nD) (t : Fin cfg0.N) (d) : (dats m 0 c).before 0 t d = X0_0 m c t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The relational proof data: the exact data, the output held to `left`. -/
abbrev rdat (c : Dev nD) := (dats m 0 c).toRRel marked (Rl m c)

/-- What the output's buffer may hold at a point inside a stretch: what the point before left. -/
theorem found (c : Dev nD) (t : Fin cfg0.N) (h : t.val % 4 ≠ 0) (Y : Vec F S128x2048 .f32) (hY : (rdat m c).Finds 4 t Y) : Part m c (t.val - 1) Y := by
  have hp : t.val - 1 < cfg0.N := Nat.lt_of_le_of_lt (Nat.sub_le _ _) t.isLt
  rcases ((rdat m c).finds_of_pos (w := 4) (t := t) rfl (by omega) Y).mp hY with hf | hl
  · have := (flush0_4 ⟨t.val - 1, hp⟩).mp hf
    exact absurd this (by show ¬ (t.val - 1) % 4 = 3; omega)
  · have := (dats m 0 c).toRRel_leaves (fgt := marked) (Rl := Rl m c) (w := 4) rfl hl
    have h2 : left m c ⟨t.val - 1, hp⟩ Y := this
    unfold left at h2
    rwa [if_neg (by show ¬ (t.val - 1) % 4 = 3; omega)] at h2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X))

theorem Rl_last (c : Dev nD) (t : Fin cfg0.N) (h : t.val % 4 = 3) (d : Vec F S128x2048 .f32) (hd : Part m c (t.val - 1) d) :
    Rl m c 4 t (k0_pay3 (iblk m c 3 t) (upd d (512 * (t.val % 4)) (k0_pay2 (k0_pay1 (X0_0 m c (rowOf t.val))) (iblk m c 1 t))) (gainRow (iblk m c 2 t))) := by
  show left m c t _
  unfold left; rw [if_pos h, part_last m c t.val h _ (part_next m c t (by omega) d hd)]

theorem Rl_part (c : Dev nD) (t : Fin cfg0.N) (h : t.val % 4 ≠ 3) (X : Vec F S128x2048 .f32) (hX : Part m c t.val X) : Rl m c 4 t X := by
  show left m c t _
  unfold left; rwa [if_neg h]

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.castSucc = Phi m c t.val from rfl, show (dats m 0 c).Φ t.succ = Phi m c (t.val + 1) from rfl]
  unfold Phi
  by_cases h0 : t.val % 4 = 0
  · iintro ⟨⟨⟨%s, %hs, HS0⟩, Hg⟩, Ho, ⟨%d0, H0⟩, ⟨%d1, H1⟩, ⟨%d2, H2⟩, ⟨%d3, H3⟩, ⟨%d, %hd, H4⟩⟩
    iapply (run_first c (grid0.coords t) _ _ _ _ _ _ _ _ _ _ _ _ ((isFirst_iff t).mpr h0) (fun h => absurd ((isLast_iff t).mp h) (by omega)) _ (off_eq t)
      (X0_0 m c t) (iblk m c 1 t) (iblk m c 2 t) (iblk m c 3 t) d s _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexists _; isplitr; swap; · iexact HS0
        ipureintro; intro _; rw [rowOf_succ t.val (by omega), rowOf_first t h0]
      iexact Hg
    isplitl [Ho]; · iexact Ho
    isplitl [H0]; · iexists X0_0 m c t; rw [Window.fill_cut]; iexact H0
    isplitl [H1]; · iexact H1
    isplitl [H2]; · iexact H2
    isplitl [H3]; · iexact H3
    iexists _; isplitr; swap; · iexact H4
    ipureintro
    have := part_first m c t h0 d
    rw [rowOf_first t h0] at this
    exact Rl_part m c t (by omega) _ this
  · by_cases h1 : t.val % 4 = 3
    · iintro ⟨⟨⟨%s, %hs, HS0⟩, Hg⟩, Ho, ⟨%d0, H0⟩, ⟨%d1, H1⟩, ⟨%d2, H2⟩, ⟨%d3, H3⟩, ⟨%d, %hd, H4⟩⟩
      iapply (run_last c (grid0.coords t) _ _ _ _ _ _ _ _ _ _ _ _ (fun h => h0 ((isFirst_iff t).mp h)) ((isLast_iff t).mpr h1) _ (off_eq t)
        (X0_0 m c t) (iblk m c 1 t) (iblk m c 2 t) (iblk m c 3 t) d s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitr; swap; · iexact HS0
          ipureintro; intro h; exact absurd h (by omega)
        iexact Hg
      isplitl [Ho]; · iexact Ho
      isplitl [H0]; · iexists X0_0 m c t; rw [Window.fill_cut]; iexact H0
      isplitl [H1]; · iexact H1
      isplitl [H2]; · iexact H2
      isplitl [H3]; · iexact H3
      iexists _; isplitr; swap; · iexact H4
      ipureintro
      rw [hs h0]
      exact Rl_last m c t h1 d (found m c t h0 d hd)
    · iintro ⟨⟨⟨%s, %hs, HS0⟩, Hg⟩, Ho, ⟨%d0, H0⟩, ⟨%d1, H1⟩, ⟨%d2, H2⟩, ⟨%d3, H3⟩, ⟨%d, %hd, H4⟩⟩
      iapply (run_mid c (grid0.coords t) _ _ _ _ _ _ _ _ _ _ _ _ (fun h => h0 ((isFirst_iff t).mp h)) (fun h => h1 ((isLast_iff t).mp h)) _ (off_eq t)
        (X0_0 m c t) (iblk m c 1 t) (iblk m c 2 t) (iblk m c 3 t) d s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitr; swap; · iexact HS0
          ipureintro; intro _; rw [rowOf_succ t.val h1]; exact hs h0
        iexact Hg
      isplitl [Ho]; · iexact Ho
      isplitl [H0]; · iexists X0_0 m c t; rw [Window.fill_cut]; iexact H0
      isplitl [H1]; · iexact H1
      isplitl [H2]; · iexact H2
      isplitl [H3]; · iexact H3
      iexists _; isplitr; swap; · iexact H4
      ipureintro
      rw [hs h0]
      exact Rl_part m c t h1 _ (part_next m c t h0 d (found m c t h0 d hd))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem PhiA_eq (c : Dev nD) : (ΦA spec0 c : sProp 𝕄) = iprop((∃ d, owns (c : Thread nD τ) scM0_0 fullShare d) ∗ ∃ r, prngReg c r) := by
  unfold ΦA; rw [scopedRest0_eq]; simp only [scM0_0, owns_whole]; rfl

theorem hin (c : Dev nD) : (ΦA spec0 c : sProp 𝕄) ⊢ Phi m c 0 := by
  rw [PhiA_eq]; unfold Phi
  iintro ⟨⟨%d, H⟩, Hg⟩
  isplitl [H]
  · iexists d; isplitr; swap; · iexact H
    ipureintro; intro h; exact absurd rfl h
  iexact Hg

theorem hout (c : Dev nD) (n : ℕ) : Phi m c n ⊢ (ΦA spec0 c : sProp 𝕄) := by
  rw [PhiA_eq]; unfold Phi
  iintro ⟨⟨%d, %h, H⟩, Hg⟩
  isplitl [H]
  · iexists d; iexact H
  iexact Hg

set_option backward.isDefEq.respectTransparency.types false in
/-- The launch: every fair run ends, the arrays as the relational data say, all counters at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)
end Cert.DownSample
end
-- ==== Proof.DownSample.lean ====
/- The down-projection of a feed-forward layer, of the sample batch, its norm and the residual sum: kernel and reference compute the same array. -/
module
public import proofs.«01_k».proof.Proof.DownSampleData
public import proofs.«01_k».proof.Proof.CrossRef
public import proofs.«01_k».proof.Proof.Gen.Reference15Ideal.Run
public import proofs.«01_k».proof.Proof.Gen.Reference15Ideal.Read
public import proofs.«01_k».proof.Proof.Gen.Kernel15
@[expose] public section
set_option maxRecDepth 16384
noncomputable section
namespace Cert.DownSample
open Idealize.ShloMosaic Idealize.ShloMosaic.TcCoe Idealize.SL.Sem
open Cert.Cross (rmsAt rowMul)

/-- One row of the layer's output: the residual plus the normed product. -/
def downRow (f : Fin 5504 → EReal) (w : Fin 5504 → Fin 2048 → EReal) (g y : Fin 2048 → EReal) (k : Fin 2048) : EReal :=
  y k + rmsAt (rowMul f w) g k

section Ref
open Cert.Reference15Ideal Cert.Reference15Ideal.Gen Cert.Reference15Ideal.Read

variable (x0 : (⟨S128x5632, .bf16⟩ : BufTy).Contents (Elt Ideal)) (x1 : (⟨S2x5504x2048, .f32⟩ : BufTy).Contents (Elt Ideal))
  (x2 : (⟨S2x6x2048, .f32⟩ : BufTy).Contents (Elt Ideal)) (x3 : (⟨S128x2048, .f32⟩ : BufTy).Contents (Elt Ideal))

/-- The reference's product. -/
theorem f_apply (r : Fin 128) (k : Fin 2048) :
    val_main_v4 (F := Ideal) x0 x1 (ix2 r k) = rowMul (fun j => x0 (ix2 r ⟨j.val, by omega⟩)) (fun j k => x1 (ix3 1 j k)) k := by
  unfold rowMul
  pointwise [val_main_v4, val_main_v3, val_main_v2, val_main_v1, val_main_v0]

/-- The reference's array. -/
theorem ref_apply (r : Fin 128) (k : Fin 2048) :
    val_main_v22 (F := Ideal) x0 x1 x2 x3 (ix2 r k)
      = downRow (fun j => x0 (ix2 r ⟨j.val, by omega⟩)) (fun j k => x1 (ix3 1 j k)) (fun j => x2 (ix3 1 5 j)) (fun j => x3 (ix2 r j)) k := by
  have hf := f_apply x0 x1 r
  unfold downRow rmsAt
  simp only [← hf]
  unfold val_main_v22 val_main_v21 val_main_v20 val_main_v19 val_main_v18 val_main_v17 val_main_v16 val_main_v15 val_main_v13 val_main_v11 val_main_v10 val_main_v9
  generalize val_main_v4 (F := Ideal) x0 x1 = q
  pointwise [val_main_v14, val_main_v12, val_main_v8, val_main_v7, val_main_v6, val_main_v5, val_main_cst, val_main_cst_0, val_main_cst_1]

end Ref

open Cert.Kernel15Ideal Cert.Kernel15Ideal.Gen

/-- The blocks of the windows at a grid point. -/
theorem idx : ∀ t : Fin cfg0.N, win0_0.index t = ![t.val / 4, 0] ∧ win0_1.index t = ![1, 0, t.val % 4] ∧ win0_2.index t = ![1, 0, 0]
    ∧ win0_3.index t = ![t.val / 4, 0] ∧ win0_4.index t = ![t.val / 4, 0] := by
  decide +kernel

/-- One product of the kernel. -/
theorem pay2_apply (x : Vec Ideal S128x5504 .bf16) (w : Vec Ideal S1x5504x512 .bf16) (r : Fin 128) (k : Fin 512) :
    k0_pay2 x w (ix2 r k) = ∑ j : Fin 5504, x (ix2 r j) * w (ix3 0 j k) := by
  pointwise [k0_pay2]

/-- The scratch's copy is the copied rows. -/
theorem pay1_apply (x : Vec Ideal S128x5504 .bf16) (r : Fin 128) (j : Fin 5504) : k0_pay1 x (ix2 r j) = x (ix2 r j) := by
  pointwise [k0_pay1]

/-- The last step of the kernel: the norm of the rows, times the gains, added to the residual. -/
theorem pay3_apply (y f : Vec Ideal S128x2048 .f32) (g : Vec Ideal S1x1x2048 .f32) (r : Fin 128) (k : Fin 2048) :
    k0_pay3 y f g (ix2 r k) = y (ix2 r k) + rmsAt (fun j => f (ix2 r j)) (fun j => g (ix3 0 0 j)) k := by
  unfold rmsAt
  pointwise [k0_pay3]

variable (m : (ℓ : Loc nD τ sig) → Buf (Elt Ideal) ℓ) (c : Dev nD)

/-- The rows, read off their block. -/
theorem read_x (t : Fin cfg0.N) (r : Fin 128) (j : Fin 5504) (R : Fin 128) (hR : R.val = t.val / 4 * 128 + r.val) :
    X0_0 m c t (ix2 r j) = m ((c : Thread nD τ).loc main_arg0) (ix2 R ⟨j.val, by omega⟩) := by
  unfold X0_0 Pipeline.Window.fill
  rw [dif_pos (moved0_0 t _)]
  blk_ext [iblk, V, idx t]

/-- The weights, read off their block. -/
theorem read_w (t : Fin cfg0.N) (j : Fin 5504) (k : Fin 512) (K : Fin 2048) (hK : K.val = t.val % 4 * 512 + k.val) :
    iblk m c 1 t (ix3 0 j k) = m ((c : Thread nD τ).loc main_arg1) (ix3 1 j K) := by
  blk_ext [iblk, V, idx t]

/-- The gains, read off their block. -/
theorem read_g (t : Fin cfg0.N) (j : Fin 2048) : gainRow (iblk m c 2 t) (ix3 0 0 j) = m ((c : Thread nD τ).loc main_arg2) (ix3 1 5 j) := by
  unfold gainRow
  rw [View.ld_apply]; blk_ext [iblk, V, idx t] <;> (rw [Rect.idx_unit_val]; simp)

/-- The residual, read off its block. -/
theorem read_y (t : Fin cfg0.N) (r : Fin 128) (k : Fin 2048) (R : Fin 128) (hR : R.val = t.val / 4 * 128 + r.val) :
    iblk m c 3 t (ix2 r k) = m ((c : Thread nD τ).loc main_arg3) (ix2 R k) := by
  blk_ext [iblk, V, idx t]

/-- The product of a stretch, row by row. -/
theorem G_apply (t : Fin cfg0.N) (r : Fin 128) (k : Fin 2048) (R : Fin 128) (hR : R.val = t.val / 4 * 128 + r.val) :
    G m c t.val (ix2 r k) = rowMul (fun j => m ((c : Thread nD τ).loc main_arg0) (ix2 R ⟨j.val, by omega⟩)) (fun j k => m ((c : Thread nD τ).loc main_arg1) (ix3 1 j k)) k := by
  have ht := ltN t
  have hk := k.isLt
  show k0_pay2 (k0_pay1 (X0_0 m c (rowOf t.val))) (iblk m c 1 (colOf t.val k.val)) (ix2 r ⟨k.val % 512, _⟩) = _
  rw [pay2_apply]
  unfold rowMul
  refine Finset.sum_congr rfl fun j _ => ?_
  rw [pay1_apply, read_x m c (rowOf t.val) r j R (by rw [hR]; show _ = t.val / 4 * 4 % 4 / 4 * 128 + r.val; omega),
    read_w m c (colOf t.val k.val) j _ k (by show k.val = (t.val / 4 * 4 + k.val / 512) % 4 % 4 * 512 + k.val % 512; omega)]

/-- What a stretch leaves in the output's buffer, row by row. -/
theorem left_apply (t : Fin cfg0.N) (h : t.val % 4 = 3) (X : Vec Ideal S128x2048 .f32) (hX : left m c t X) (r : Fin 128) (k : Fin 2048)
    (R : Fin 128) (hR : R.val = t.val / 4 * 128 + r.val) :
    X (ix2 r k) = Cert.Reference15Ideal.Read.val_main_v22 (F := Ideal) (m ((c : Thread nD τ).loc main_arg0)) (m ((c : Thread nD τ).loc main_arg1))
      (m ((c : Thread nD τ).loc main_arg2)) (m ((c : Thread nD τ).loc main_arg3)) (ix2 R k) := by
  unfold left at hX
  rw [if_pos h] at hX
  rw [hX, pay3_apply, ref_apply, read_y m c t r k R hR]
  unfold downRow
  congr 2
  · funext j; exact G_apply m c t r j R hR
  · funext j; exact read_g m c t j

/-- The kernel's array after a run is the reference's. -/
theorem out_eq (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 4 cfg0.N = Cert.Reference15Ideal.Read.val_main_v22 (F := Ideal) (m ((c : Thread nD τ).loc main_arg0)) (m ((c : Thread nD τ).loc main_arg1))
      (m ((c : Thread nD τ).loc main_arg2)) (m ((c : Thread nD τ).loc main_arg3)) := by
  refine ((rdat m c).withAfter after).arrAt_eq_of_covers 4 _ (by decide +kernel) fun t hf y => ?_
  have h3 := (flush0_4 t).mp hf
  have hl : left m c t (after 4 t) := (dats m 0 c).toRRel_leaves (fgt := marked) (Rl := Rl m c) (w := 4) rfl (hL 4 t hf)
  blk_simp
  rw [Pipeline.RDat.withAfter_after]
  idx_vars y
  have hN := ltN t
  have hi : ((View.whole main_v1).slice (win0_4.rect t)).emb (ix2 y0 y1) = ix2 (⟨t.val / 4 * 128 + y0.val, by omega⟩ : Fin 128) y1 := by
    blk_ext [idx t]
  rw [hi]
  exact left_apply m c t h3 _ hl y0 y1 _ rfl

/-- Every fair run ends with the arguments unchanged and every counter at zero, for any float values. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

/-- The two programs name the same body. -/
theorem rows_eq : Cert.Kernel15.defs₀ (F := Bits) = Cert.Kernel15Ideal.defs₀ (F := Bits) := by
  unfold Cert.Kernel15.defs₀ Cert.Kernel15Ideal.defs₀
  refine congrArg _ (funext fun a => funext fun b => ?_)
  match a, b with
  | 0, (t, s) => rfl
  | ⟨_ + 1, h⟩, _ => exact absurd h (Nat.not_lt.2 (Nat.le_add_left _ _))

theorem defs_eq : Cert.Kernel15.defs (F := Bits) = Cert.Kernel15Ideal.defs (F := Bits) :=
  congrArg (Pipeline.defs (Cert.Kernel15Ideal.pcfgs (F := Bits))) rows_eq

/-- The frame of the kernel as it stands. -/
theorem frame_kernel : Cert.quiescent_Kernel15 := fun m ρ _ => by
  rw [defs_eq]
  exact frame (F := Bits) m ρ

/-- The frame of the ideal kernel. -/
theorem frame_ideal : Cert.quiescent_Kernel15Ideal := fun m ρ _ => frame (F := Ideal) m ρ

/-- Kernel and reference compute the same array over the extended reals. -/
theorem algebraic : Cert.algebraic_Kernel15Ideal_Reference15Ideal := by
  intro m g m' g' _ hagree
  refine ⟨fun c => Cert.Reference15Ideal.Read.val_main_v22 (F := Ideal) (m ((c : Thread nD τ).loc main_arg0)) (m ((c : Thread nD τ).loc main_arg1))
      (m ((c : Thread nD τ).loc main_arg2)) (m ((c : Thread nD τ).loc main_arg3)), ?_, ?_⟩
  · refine (θ_run _ _ _).mono (fun r h c => ⟨?_, h.2.1 c⟩) (θ_run_and (run_main (F := Ideal) m g) (frame (F := Ideal) m g))
    replace h := h.1
    obtain ⟨after, hL, hA⟩ := h.1.exists_exact c
    exact (hA 4).trans (out_eq m c after hL)
  · refine (θ_run _ _ _).mono (fun r h c => ⟨(h c).1.trans ?_, (h c).2⟩) (Cert.Reference15Ideal.Value.run (F := Ideal) m' g')
    obtain ⟨h0, h1, h2, h3⟩ := hagree c
    refine (Cert.Reference15Ideal.Read.val_main_v22_eq _ _ _ _).trans ?_
    rw [h0, h1, h2, h3]

/-- The reference ends without fault, its arguments unchanged, every counter at zero. -/
theorem frame_ref : Cert.quiescent_Reference15Ideal := fun m g _ =>
  (θ_run _ _ _).mono (fun r h => ⟨fun c => (h c).2, sem_eq_zero_of_no_sems (by decide) r.2⟩)
    (Cert.Reference15Ideal.Value.run (F := Ideal) m g)
end Cert.DownSample
end
-- ==== Proof.UpSampleBlock.lean ====
/- The up-projection of a feed-forward layer, of the sample batch: what the kernel's buffers hold when they are read back. -/
module
public import proofs.«01_k».proof.Defs
public import proofs.«01_k».proof.Proof.UpRun
public import proofs.«01_k».proof.Proof.Gen.Kernel16Ideal.Frame
public import Idealize.ShloMosaic.Lib.Pipeline.ValueKit
@[expose] public section
set_option maxRecDepth 16384
noncomputable section
namespace Cert.UpSample
open Idealize.ShloMosaic Idealize.ShloMosaic.TcCoe Cert.Kernel16Ideal Cert.Kernel16Ideal.Gen
open Cert.Up (gainRow put_in put_out wcat load_wcat cwr)

variable {F : FTy → Type} [FloatOps F]

/-- The product of the normed rows with granule `s` of the weights: the gated half in its first 128 columns, the value half in the others. -/
def gp (xn : Vec F S128x2048 .bf16) (a v : Fin 4 → Vec F S1x2048x128 .f32) (s : Fin 4) : FVec F S128x256 .f32 :=
  k0_pay6 xn (wcat (k0_pay4 (a s)) (k0_pay5 (v s)))

/-- The gated half of granule `s`. -/
def ga (xn : Vec F S128x2048 .bf16) (a v : Fin 4 → Vec F S1x2048x128 .f32) (s : Fin 4) : FVec F S128x128 .f32 := k0_pay10 (gp xn a v s)

/-- The rows of granule `s` moved down by `64 - k`: the first ones come from the 64 rows before the block. -/
def shift (k : Fin 65) (s : Fin 4) (ht : Vec F S64x512 .f32) (g : Vec F S128x128 .f32) : Vec F S128x128 .f32 := fun y =>
  if h : (y 0).val + k.val < 64 then ht (ix2 (⟨(y 0).val + k.val, h⟩ : Fin 64) (⟨128 * s.val + (y 1).val, by have : (y 1).val < 128 := (y 1).isLt; omega⟩ : Fin 512))
  else g (ix2 (⟨(y 0).val + k.val - 64, by have : (y 0).val < 128 := (y 0).isLt; omega⟩ : Fin 128) (y 1))

/-- The first 64 rows of the extended rows are `ht`. -/
def TopIs (x : Vec F S192x512 .f32) (ht : Vec F S64x512 .f32) : Prop :=
  ∀ (r : Fin 64) (c : Fin 512), x (ix2 (⟨r.val, by omega⟩ : Fin 192) c) = ht (ix2 r c)

theorem TopIs.cons (u : View sig .tc .vmem S192x512 .f32) (f) (c : ℕ) (i1) (w : Vec F S128x128 .f32) (L) (ht : Vec F S64x512 .f32)
    (h : TopIs (u.read (Elt F) (u.writes (Elt F) f L)) ht) :
    TopIs (u.read (Elt F) (u.writes (Elt F) f (⟨Rect.unit (s := S192x512) ![64, c] S128x128.size i1, w⟩ :: L))) ht := fun r d => by
  rw [View.read_writes_cons_put _ _ _ _ _ rfl, ← h r d]
  exact put_out _ _ _ _ _ 0 (.inl (by show r.val < 64; exact r.isLt))

/-- A load of 128 extended rows from row `k`, after granule `s` is stored from row 64. -/
theorem load_shift (u : View sig .tc .vmem S192x512 .f32) (f) (k : Fin 65) (s : Fin 4) (k' c : ℕ) (hk : k' = k.val) (hc : c = 128 * s.val) (i1 i2) (w : Vec F S128x128 .f32) (L) (ht : Vec F S64x512 .f32)
    (h : TopIs (u.read (Elt F) (u.writes (Elt F) f L)) ht) :
    u.readAt (Elt F) (Rect.unit (s := S192x512) ![k', c] S128x128.size i2).toLoadRect
      (u.writes (Elt F) f (⟨Rect.unit (s := S192x512) ![64, c] S128x128.size i1, w⟩ :: L)) = shift k s ht w := by
  subst hk hc
  rw [View.readAt_eq_ld, View.read_writes_cons_put _ _ _ _ _ rfl]
  funext y
  unfold shift View.ld
  have h1 : (y 1).val < 128 := (y 1).isLt
  have h0 : (y 0).val < 128 := (y 0).isLt
  by_cases hy : (y 0).val + k.val < 64
  · rw [dif_pos hy, ← h]
    rw [put_out _ _ _ _ _ 0 (.inl (by show k.val + 1 * (y 0).val < 64; omega))]
    exact congrArg _ (funext fun a => Fin.ext (by fin_cases a <;> simp [ValueKit.rect_emb_unit_val] <;> omega))
  · rw [dif_neg hy]
    exact put_in _ _ _ _ _ _ fun a => by fin_cases a <;> simp [ValueKit.rect_emb_unit_val] <;> omega

/-- A load of the granule just stored. -/
theorem load_same (u : View sig .tc .vmem S192x512 .f32) (c : ℕ) (i1 i2) (w : Vec F S128x128 .f32) (L) :
    u.readCov (Val := Elt F) (⟨Rect.unit (s := S192x512) ![64, c] S128x128.size i1, w⟩ :: L) (Rect.unit (s := S192x512) ![64, c] S128x128.size i2).toLoadRect = w := by
  show View.readAt (Elt F) u _ (u.writes (Elt F) u.junk _) = _
  rw [View.readAt_eq_ld, View.read_writes_cons_put _ _ _ _ _ rfl]
  exact VecWindow.window_put_same _ _ _ i1 _

/-- Granule `s` of the block that the kernel leaves: the convolution's three taps, gated, times the value half. -/
def outG (xn : Vec F S128x2048 .bf16) (a v : Fin 4 → Vec F S1x2048x128 .f32) (cw : Vec F S3x512 .f32) (ht : Vec F S64x512 .f32) (s : Fin 4) : FVec F S128x128 .bf16 :=
  k0_pay17 (gp xn a v s) (cwr cw 0 s) (shift 0 s ht (ga xn a v s)) (cwr cw 1 s) (shift 32 s ht (ga xn a v s)) (cwr cw 2 s) (ga xn a v s)

/-- The block of gated rows that a point leaves. -/
def rowsOut (xn : Vec F S128x2048 .bf16) (a v : Fin 4 → Vec F S1x2048x128 .f32) (cw : Vec F S3x512 .f32) (ht : Vec F S64x512 .f32) : Vec F S128x512 .bf16 := fun y =>
  outG xn a v cw ht ⟨(y 1).val / 128, by have : (y 1).val < 512 := (y 1).isLt; omega⟩ (ix2 (y 0) (⟨(y 1).val % 128, Nat.mod_lt _ (by decide)⟩ : Fin 128))

/-- The last 64 rows of the gated half. -/
def tailOf (xn : Vec F S128x2048 .bf16) (a v : Fin 4 → Vec F S1x2048x128 .f32) : Vec F S64x512 .f32 := fun y =>
  ga xn a v ⟨(y 1).val / 128, by have : (y 1).val < 512 := (y 1).isLt; omega⟩
    (ix2 (⟨64 + (y 0).val, by have : (y 0).val < 64 := (y 0).isLt; omega⟩ : Fin 128) (⟨(y 1).val % 128, Nat.mod_lt _ (by decide)⟩ : Fin 128))

/-- The written rows are the four granules side by side. -/
theorem out_canon (i0 i1 i2 i3) (P : Fin 4 → Vec F S128x128 .bf16) (p0 p1 p2 p3 : Vec F S128x128 .bf16)
    (h0 : p0 = P 0) (h1 : p1 = P 1) (h2 : p2 = P 2) (h3 : p3 = P 3) :
    View.canon ([⟨Rect.unit (s := S128x512) ![0, 384] S128x128.size i3, p3⟩, ⟨Rect.unit (s := S128x512) ![0, 256] S128x128.size i2, p2⟩,
        ⟨Rect.unit (s := S128x512) ![0, 128] S128x128.size i1, p1⟩, ⟨Rect.unit (s := S128x512) ![0, 0] S128x128.size i0, p0⟩] : List (View.Piece (Elt F) S128x512 .bf16))
      = fun y => P ⟨(y 1).val / 128, by have : (y 1).val < 512 := (y 1).isLt; omega⟩ (ix2 (y 0) (⟨(y 1).val % 128, Nat.mod_lt _ (by decide)⟩ : Fin 128)) := by
  subst h0 h1 h2 h3
  rw [← View.read_writes_junk_eq_canon VO0_12]
  rw [View.read_writes_cons_put _ _ _ _ _ rfl, View.read_writes_cons_put _ _ _ _ _ rfl, View.read_writes_cons_put _ _ _ _ _ rfl, View.read_writes_cons_put _ _ _ _ _ rfl]
  funext y
  have hy : (y 1).val < 512 := (y 1).isLt
  obtain ⟨s, hs⟩ : ∃ s : Fin 4, s = (⟨(y 1).val / 128, by omega⟩ : Fin 4) := ⟨_, rfl⟩
  have hv : s.val = (y 1).val / 128 := congrArg Fin.val hs
  rw [← hs]
  fin_cases s
  · rw [put_out _ _ _ _ _ 1 (.inl (by show (y 1).val < 384; simp at hv; omega)), put_out _ _ _ _ _ 1 (.inl (by show (y 1).val < 256; simp at hv; omega)), put_out _ _ _ _ _ 1 (.inl (by show (y 1).val < 128; simp at hv; omega))]
    exact put_in _ _ _ _ _ _ fun a => by fin_cases a <;> simp at hv ⊢ <;> omega
  · rw [put_out _ _ _ _ _ 1 (.inl (by show (y 1).val < 384; simp at hv; omega)), put_out _ _ _ _ _ 1 (.inl (by show (y 1).val < 256; simp at hv; omega))]
    exact put_in _ _ _ _ _ _ fun a => by fin_cases a <;> simp at hv ⊢ <;> omega
  · rw [put_out _ _ _ _ _ 1 (.inl (by show (y 1).val < 384; simp at hv; omega))]
    exact put_in _ _ _ _ _ _ fun a => by fin_cases a <;> simp at hv ⊢ <;> omega
  · exact put_in _ _ _ _ _ _ fun a => by fin_cases a <;> simp at hv ⊢ <;> omega

/-- A load of the last 64 rows. -/
theorem load_tail (u : View sig .tc .vmem S192x512 .f32) (i0 i1 i2 i3 i4) (L : List (View.Piece (Elt F) S192x512 .f32)) (P : Fin 4 → Vec F S128x128 .f32) (p0 p1 p2 p3 : Vec F S128x128 .f32)
    (h0 : p0 = P 0) (h1 : p1 = P 1) (h2 : p2 = P 2) (h3 : p3 = P 3) :
    u.readCov (Val := Elt F) (⟨Rect.unit (s := S192x512) ![64, 384] S128x128.size i3, p3⟩ :: ⟨Rect.unit (s := S192x512) ![64, 256] S128x128.size i2, p2⟩ ::
        ⟨Rect.unit (s := S192x512) ![64, 128] S128x128.size i1, p1⟩ :: ⟨Rect.unit (s := S192x512) ![64, 0] S128x128.size i0, p0⟩ :: L)
      (Rect.unit (s := S192x512) ![128, 0] S64x512.size i4).toLoadRect
      = fun y => P ⟨(y 1).val / 128, by have : (y 1).val < 512 := (y 1).isLt; omega⟩
          (ix2 (⟨64 + (y 0).val, by have : (y 0).val < 64 := (y 0).isLt; omega⟩ : Fin 128) (⟨(y 1).val % 128, Nat.mod_lt _ (by decide)⟩ : Fin 128)) := by
  subst h0 h1 h2 h3
  show View.readAt (Elt F) u _ (u.writes (Elt F) u.junk _) = _
  rw [View.readAt_eq_ld, View.read_writes_cons_put _ _ _ _ _ rfl, View.read_writes_cons_put _ _ _ _ _ rfl, View.read_writes_cons_put _ _ _ _ _ rfl, View.read_writes_cons_put _ _ _ _ _ rfl]
  funext y
  unfold View.ld
  have hy : (y 1).val < 512 := (y 1).isLt
  have hr : (y 0).val < 64 := (y 0).isLt
  obtain ⟨s, hs⟩ : ∃ s : Fin 4, s = (⟨(y 1).val / 128, by omega⟩ : Fin 4) := ⟨_, rfl⟩
  have hv : s.val = (y 1).val / 128 := congrArg Fin.val hs
  rw [← hs]
  fin_cases s
  · rw [put_out _ _ _ _ _ 1 (.inl (by show 0 + 1 * (y 1).val < 384; simp at hv; omega)), put_out _ _ _ _ _ 1 (.inl (by show 0 + 1 * (y 1).val < 256; simp at hv; omega)), put_out _ _ _ _ _ 1 (.inl (by show 0 + 1 * (y 1).val < 128; simp at hv; omega))]
    exact put_in _ _ _ _ _ _ fun a => by fin_cases a <;> simp [ValueKit.rect_emb_unit_val] at hv ⊢ <;> omega
  · rw [put_out _ _ _ _ _ 1 (.inl (by show 0 + 1 * (y 1).val < 384; simp at hv; omega)), put_out _ _ _ _ _ 1 (.inl (by show 0 + 1 * (y 1).val < 256; simp at hv; omega))]
    exact put_in _ _ _ _ _ _ fun a => by fin_cases a <;> simp [ValueKit.rect_emb_unit_val] at hv ⊢ <;> omega
  · rw [put_out _ _ _ _ _ 1 (.inl (by show 0 + 1 * (y 1).val < 384; simp at hv; omega))]
    exact put_in _ _ _ _ _ _ fun a => by fin_cases a <;> simp [ValueKit.rect_emb_unit_val] at hv ⊢ <;> omega
  · exact put_in _ _ _ _ _ _ fun a => by fin_cases a <;> simp [ValueKit.rect_emb_unit_val] at hv ⊢ <;> omega

theorem outG_eq (xn : Vec F S128x2048 .bf16) (a v : Fin 4 → Vec F S1x2048x128 .f32) (cw : Vec F S3x512 .f32) (ht : Vec F S64x512 .f32) (s : Fin 4)
    {h : FVec F S128x256 .f32} {c0 c1 c2 : Vec F S1x128 .f32} {e6 e7 e8 : Vec F S128x128 .f32}
    (g : h = gp xn a v s) (k0 : c0 = cwr cw 0 s) (k6 : e6 = shift 0 s ht (ga xn a v s)) (k1 : c1 = cwr cw 1 s) (k7 : e7 = shift 32 s ht (ga xn a v s))
    (k2 : c2 = cwr cw 2 s) (k8 : e8 = ga xn a v s) : k0_pay17 h c0 e6 c1 e7 c2 e8 = outG xn a v cw ht s := by
  subst g k0 k6 k1 k7 k2 k8; rfl

/-- The first 64 rows, once stored. -/
theorem top_base (u : View sig .tc .vmem S192x512 .f32) (f) (i0) (w : Vec F S64x512 .f32) :
    TopIs (u.read (Elt F) (u.writes (Elt F) f [⟨Rect.unit (s := S192x512) ![0, 0] S64x512.size i0, w⟩])) w := fun r c => by
  rw [View.read_writes_cons_put _ _ _ _ _ rfl]
  exact put_in _ _ _ _ _ _ fun a => by fin_cases a <;> simp
end Cert.UpSample
end
-- ==== Proof.UpSamplePoint.lean ====
/- The up-projection of a feed-forward layer, of the sample batch: what one grid point leaves, from the blocks that it reads. -/
module
public import proofs.«01_k».proof.Proof.UpSampleBlock
public import Idealize.ShloMosaic.Lib.Pipeline.ReadBack
@[expose] public section
set_option maxRecDepth 16384
noncomputable section
namespace Cert.UpSample
open Idealize.ShloMosaic Idealize.ShloMosaic.TcCoe Cert.Kernel16Ideal Cert.Kernel16Ideal.Gen
open Cert.Up (gainRow put_in put_out wcat load_wcat cwr)

variable {F : FTy → Type} [FloatOps F]

/-- A row of weights, one granule wide. -/
theorem ld_cw (cw : Vec F S3x512 .f32) (r : Fin 3) (s : Fin 4) (r' c' : ℕ) (hr : r' = r.val) (hc : c' = 128 * s.val) (inb) :
    View.ld (Val := Elt F) (e' := .f32) cw (Rect.unit (s := S3x512) ![r', c'] ![1, 128] inb) = cwr cw r s := by
  subst hr hc
  funext y
  unfold cwr View.ld
  have h0 : (y 0).val < 1 := (y 0).isLt
  exact congrArg cw (funext fun a => Fin.ext (by fin_cases a <;> simp [ValueKit.rect_emb_unit_val]))

variable (m : (ℓ : Loc nD τ sig) → Buf (Elt F) ℓ) (c : Dev nD)

/-- The granules of the gated half at a point. -/
def av (t : Fin cfg0.N) : Fin 4 → Vec F S1x2048x128 .f32 := ![iblk m c 2 t, iblk m c 3 t, iblk m c 4 t, iblk m c 5 t]

/-- The granules of the value half at a point. -/
def vv (t : Fin cfg0.N) : Fin 4 → Vec F S1x2048x128 .f32 := ![iblk m c 6 t, iblk m c 7 t, iblk m c 8 t, iblk m c 9 t]

/-- The normed rows that a point carries. -/
abbrev xc (t : Fin cfg0.N) : Vec F S128x2048 .bf16 := (outsAt0 m c t.val t.isLt).2.2

/-- The first point norms the rows. -/
theorem xc_first (t : Fin cfg0.N) (h0 : t.val % 11 = 0) : xc m c t = k0_pay1 (iblk m c 0 t) (gainRow (iblk m c 1 t)) := by
  unfold xc
  rw [outsAt0_A m c t h0]
  frame_out

/-- The others carry them on. -/
theorem xc_next (t : Fin cfg0.N) (h0 : ¬ t.val % 11 = 0) : xc m c t = (outsAt0 m c (t.val - 1) (Nat.lt_of_le_of_lt (Nat.sub_le _ _) t.isLt)).2.2 := by
  unfold xc
  rw [outsAt0_B m c t h0]
  rfl

/-- The state that a point is given. -/
abbrev hb (t : Fin cfg0.N) : Vec F S64x512 .f32 := k0_pay2 (iblk m c 11 t)

/-- The product of a granule, from the stored weights. -/
theorem gp_of {xn' xn : Vec F S128x2048 .bf16} (hx : xn' = xn) (a v : Fin 4 → Vec F S1x2048x128 .f32) (s : Fin 4) {w} (hw : w = wcat (k0_pay4 (a s)) (k0_pay5 (v s))) :
    k0_pay6 xn' w = gp xn a v s := by subst hx hw; rfl

/-- A shifted granule, as it is loaded. -/
theorem sh_of (k : Fin 65) (s : Fin 4) (ht : Vec F S64x512 .f32) {e g g' : Vec F S128x128 .f32} (he : e = shift k s ht g') (hg : g' = g) : e = shift k s ht g := by
  subst hg; exact he

set_option maxHeartbeats 3200000 in
/-- The rows that a point leaves. -/
theorem rows_pt (t : Fin cfg0.N) : (outsAt0 m c t.val t.isLt).1 = rowsOut (xc m c t) (av m c t) (vv m c t) (iblk m c 10 t) (hb m c t) := by
  by_cases h0 : t.val % 11 = 0
  on_goal 1 => rw [xc_first m c t h0, outsAt0_A m c t h0]
  on_goal 2 => rw [xc_next m c t h0, outsAt0_B m c t h0]
  all_goals frame_out
  all_goals
    refine out_canon _ _ _ _ (outG _ (av m c t) (vv m c t) (iblk m c 10 t) (hb m c t)) _ _ _ _ ?_ ?_ ?_ ?_
    · exact (outG_eq _ (av m c t) (vv m c t) (iblk m c 10 t) (hb m c t) 0
      (gp_of (by first | rfl | exact read_unread_whole _ _ _) (av m c t) (vv m c t) 0 (load_wcat (View.whole cc0_scratch1) 0 _ _ _ _ _ _))
      (ld_cw _ 0 0 0 0 rfl rfl _)
      (sh_of 0 0 (hb m c t) (load_shift (View.whole cc0_scratch3) _ 0 0 0 0 rfl rfl _ _ _ _ _ (top_base (View.whole cc0_scratch3) _ _ _)) (congrArg k0_pay10 (gp_of (by first | rfl | exact read_unread_whole _ _ _) (av m c t) (vv m c t) 0 (load_wcat (View.whole cc0_scratch1) 0 _ _ _ _ _ _))))
      (ld_cw _ 1 0 1 0 rfl rfl _)
      (sh_of 32 0 (hb m c t) (load_shift (View.whole cc0_scratch3) _ 32 0 32 0 rfl rfl _ _ _ _ _ (top_base (View.whole cc0_scratch3) _ _ _)) (congrArg k0_pay10 (gp_of (by first | rfl | exact read_unread_whole _ _ _) (av m c t) (vv m c t) 0 (load_wcat (View.whole cc0_scratch1) 0 _ _ _ _ _ _))))
      (ld_cw _ 2 0 2 0 rfl rfl _)
      ((load_same (View.whole cc0_scratch3) 0 _ _ _ _).trans (congrArg k0_pay10 (gp_of (by first | rfl | exact read_unread_whole _ _ _) (av m c t) (vv m c t) 0 (load_wcat (View.whole cc0_scratch1) 0 _ _ _ _ _ _)))))
    · exact (outG_eq _ (av m c t) (vv m c t) (iblk m c 10 t) (hb m c t) 1
      (gp_of (by first | rfl | exact read_unread_whole _ _ _) (av m c t) (vv m c t) 1 (load_wcat (View.whole cc0_scratch1) 1 _ _ _ _ _ _))
      (ld_cw _ 0 1 0 128 rfl rfl _)
      (sh_of 0 1 (hb m c t) (load_shift (View.whole cc0_scratch3) _ 0 1 0 128 rfl rfl _ _ _ _ _ (TopIs.cons (View.whole cc0_scratch3) _ 0 _ _ _ _ (top_base (View.whole cc0_scratch3) _ _ _))) (congrArg k0_pay10 (gp_of (by first | rfl | exact read_unread_whole _ _ _) (av m c t) (vv m c t) 1 (load_wcat (View.whole cc0_scratch1) 1 _ _ _ _ _ _))))
      (ld_cw _ 1 1 1 128 rfl rfl _)
      (sh_of 32 1 (hb m c t) (load_shift (View.whole cc0_scratch3) _ 32 1 32 128 rfl rfl _ _ _ _ _ (TopIs.cons (View.whole cc0_scratch3) _ 0 _ _ _ _ (top_base (View.whole cc0_scratch3) _ _ _))) (congrArg k0_pay10 (gp_of (by first | rfl | exact read_unread_whole _ _ _) (av m c t) (vv m c t) 1 (load_wcat (View.whole cc0_scratch1) 1 _ _ _ _ _ _))))
      (ld_cw _ 2 1 2 128 rfl rfl _)
      ((load_same (View.whole cc0_scratch3) 128 _ _ _ _).trans (congrArg k0_pay10 (gp_of (by first | rfl | exact read_unread_whole _ _ _) (av m c t) (vv m c t) 1 (load_wcat (View.whole cc0_scratch1) 1 _ _ _ _ _ _)))))
    · exact (outG_eq _ (av m c t) (vv m c t) (iblk m c 10 t) (hb m c t) 2
      (gp_of (by first | rfl | exact read_unread_whole _ _ _) (av m c t) (vv m c t) 2 (load_wcat (View.whole cc0_scratch1) 2 _ _ _ _ _ _))
      (ld_cw _ 0 2 0 256 rfl rfl _)
      (sh_of 0 2 (hb m c t) (load_shift (View.whole cc0_scratch3) _ 0 2 0 256 rfl rfl _ _ _ _ _ (TopIs.cons (View.whole cc0_scratch3) _ 128 _ _ _ _ (TopIs.cons (View.whole cc0_scratch3) _ 0 _ _ _ _ (top_base (View.whole cc0_scratch3) _ _ _)))) (congrArg k0_pay10 (gp_of (by first | rfl | exact read_unread_whole _ _ _) (av m c t) (vv m c t) 2 (load_wcat (View.whole cc0_scratch1) 2 _ _ _ _ _ _))))
      (ld_cw _ 1 2 1 256 rfl rfl _)
      (sh_of 32 2 (hb m c t) (load_shift (View.whole cc0_scratch3) _ 32 2 32 256 rfl rfl _ _ _ _ _ (TopIs.cons (View.whole cc0_scratch3) _ 128 _ _ _ _ (TopIs.cons (View.whole cc0_scratch3) _ 0 _ _ _ _ (top_base (View.whole cc0_scratch3) _ _ _)))) (congrArg k0_pay10 (gp_of (by first | rfl | exact read_unread_whole _ _ _) (av m c t) (vv m c t) 2 (load_wcat (View.whole cc0_scratch1) 2 _ _ _ _ _ _))))
      (ld_cw _ 2 2 2 256 rfl rfl _)
      ((load_same (View.whole cc0_scratch3) 256 _ _ _ _).trans (congrArg k0_pay10 (gp_of (by first | rfl | exact read_unread_whole _ _ _) (av m c t) (vv m c t) 2 (load_wcat (View.whole cc0_scratch1) 2 _ _ _ _ _ _)))))
    · exact (outG_eq _ (av m c t) (vv m c t) (iblk m c 10 t) (hb m c t) 3
      (gp_of (by first | rfl | exact read_unread_whole _ _ _) (av m c t) (vv m c t) 3 (load_wcat (View.whole cc0_scratch1) 3 _ _ _ _ _ _))
      (ld_cw _ 0 3 0 384 rfl rfl _)
      (sh_of 0 3 (hb m c t) (load_shift (View.whole cc0_scratch3) _ 0 3 0 384 rfl rfl _ _ _ _ _ (TopIs.cons (View.whole cc0_scratch3) _ 256 _ _ _ _ (TopIs.cons (View.whole cc0_scratch3) _ 128 _ _ _ _ (TopIs.cons (View.whole cc0_scratch3) _ 0 _ _ _ _ (top_base (View.whole cc0_scratch3) _ _ _))))) (congrArg k0_pay10 (gp_of (by first | rfl | exact read_unread_whole _ _ _) (av m c t) (vv m c t) 3 (load_wcat (View.whole cc0_scratch1) 3 _ _ _ _ _ _))))
      (ld_cw _ 1 3 1 384 rfl rfl _)
      (sh_of 32 3 (hb m c t) (load_shift (View.whole cc0_scratch3) _ 32 3 32 384 rfl rfl _ _ _ _ _ (TopIs.cons (View.whole cc0_scratch3) _ 256 _ _ _ _ (TopIs.cons (View.whole cc0_scratch3) _ 128 _ _ _ _ (TopIs.cons (View.whole cc0_scratch3) _ 0 _ _ _ _ (top_base (View.whole cc0_scratch3) _ _ _))))) (congrArg k0_pay10 (gp_of (by first | rfl | exact read_unread_whole _ _ _) (av m c t) (vv m c t) 3 (load_wcat (View.whole cc0_scratch1) 3 _ _ _ _ _ _))))
      (ld_cw _ 2 3 2 384 rfl rfl _)
      ((load_same (View.whole cc0_scratch3) 384 _ _ _ _).trans (congrArg k0_pay10 (gp_of (by first | rfl | exact read_unread_whole _ _ _) (av m c t) (vv m c t) 3 (load_wcat (View.whole cc0_scratch1) 3 _ _ _ _ _ _)))))

/-- The last rows that a point leaves. -/
theorem tail_pt (t : Fin cfg0.N) : (outsAt0 m c t.val t.isLt).2.1 = tailOf (xc m c t) (av m c t) (vv m c t) := by
  by_cases h0 : t.val % 11 = 0
  on_goal 1 => rw [xc_first m c t h0, outsAt0_A m c t h0]
  on_goal 2 => rw [xc_next m c t h0, outsAt0_B m c t h0]
  all_goals frame_out
  all_goals
    refine load_tail (View.whole cc0_scratch3) _ _ _ _ _ _ (ga _ (av m c t) (vv m c t)) _ _ _ _ ?_ ?_ ?_ ?_
    · exact congrArg k0_pay10 (gp_of (by first | rfl | exact read_unread_whole _ _ _) (av m c t) (vv m c t) 0 (load_wcat (View.whole cc0_scratch1) 0 _ _ _ _ _ _))
    · exact congrArg k0_pay10 (gp_of (by first | rfl | exact read_unread_whole _ _ _) (av m c t) (vv m c t) 1 (load_wcat (View.whole cc0_scratch1) 1 _ _ _ _ _ _))
    · exact congrArg k0_pay10 (gp_of (by first | rfl | exact read_unread_whole _ _ _) (av m c t) (vv m c t) 2 (load_wcat (View.whole cc0_scratch1) 2 _ _ _ _ _ _))
    · exact congrArg k0_pay10 (gp_of (by first | rfl | exact read_unread_whole _ _ _) (av m c t) (vv m c t) 3 (load_wcat (View.whole cc0_scratch1) 3 _ _ _ _ _ _))
end Cert.UpSample
end
-- ==== Proof.UpSampleRef.lean ====
/- The up-projection of a feed-forward layer, of the sample batch: what the reference computes, row by row. -/
module
public import proofs.«01_k».proof.Proof.UpRef
public import proofs.«01_k».proof.Proof.Gen.Reference16Ideal.Run
public import proofs.«01_k».proof.Proof.Gen.Reference16Ideal.Read
@[expose] public section
set_option maxRecDepth 16384
noncomputable section
namespace Cert.UpSample
open Idealize.ShloMosaic Idealize.ShloMosaic.TcCoe
open Cert.Cross (rmsAt)
open Cert.Up (upAt gateAt)
open Cert.Reference16Ideal Cert.Reference16Ideal.Gen Cert.Reference16Ideal.Read

variable (x0 : (⟨S128x2048, .f32⟩ : BufTy).Contents (Elt Ideal)) (x1 : (⟨S2x6x2048, .f32⟩ : BufTy).Contents (Elt Ideal))
  (x2 : (⟨S2x2048x11008, .f32⟩ : BufTy).Contents (Elt Ideal)) (x3 : (⟨S2x3x5504, .f32⟩ : BufTy).Contents (Elt Ideal)) (x4 : (⟨S2x32x2x5504, .f32⟩ : BufTy).Contents (Elt Ideal))

/-- The projection's element at row `R` and column `K`. -/
def U (R : Fin 128) (K : Fin 11008) : EReal := upAt (fun j => x0 (ix2 R j)) (fun j => x1 (ix3 1 4 j)) (fun j => x2 (ix3 1 j K))

/-- The gated half, time by time: the two steps that the state keeps (32 sequences each), then the projection's rows. -/
def E (e : Fin 192) (k : Fin 5504) : EReal :=
  if h : e.val < 64 then x4 (ix4 1 (⟨e.val % 32, by omega⟩ : Fin 32) (⟨e.val / 32, by omega⟩ : Fin 2) k)
  else U x0 x1 x2 ⟨e.val - 64, by omega⟩ ⟨k.val, by omega⟩

theorem h_apply (R : Fin 128) (j : Fin 2048) : val_main_v16 (F := Ideal) x0 x1 (ix2 R j) = rmsAt (fun j => x0 (ix2 R j)) (fun j => x1 (ix3 1 4 j)) j := by
  unfold rmsAt
  unfold val_main_v16 val_main_v15 val_main_v14 val_main_v13 val_main_v12 val_main_v11 val_main_v10 val_main_v8 val_main_v6 val_main_v5 val_main_v4
  pointwise [val_main_v9, val_main_v7, val_main_v3, val_main_v2, val_main_v1, val_main_v0, val_main_cst, val_main_cst_0, val_main_cst_1]

theorem up_apply (R : Fin 128) (K : Fin 11008) : val_main_v19 (F := Ideal) x0 x1 x2 (ix2 R K) = U x0 x1 x2 R K := by
  unfold U upAt
  simp only [← h_apply]
  unfold val_main_v19
  generalize val_main_v16 (F := Ideal) x0 x1 = q
  pointwise [val_main_v18, val_main_v17]

/-- The projection's array, sequence by sequence. -/
theorem seq_apply (b : Fin 32) (s : Fin 4) (K : Fin 11008) : val_main_v21 (F := Ideal) x0 x1 x2 (ix3 b s K) = U x0 x1 x2 ⟨s.val * 32 + b.val, by omega⟩ K := by
  rw [← up_apply]; unfold val_main_v21 val_main_v20
  generalize val_main_v19 (F := Ideal) x0 x1 x2 = q
  pointwise

theorem a_apply (b : Fin 32) (s : Fin 4) (k : Fin 5504) : val_main_v22 (F := Ideal) x0 x1 x2 (ix3 b s k) = U x0 x1 x2 ⟨s.val * 32 + b.val, by omega⟩ ⟨k.val, by omega⟩ := by
  rw [← seq_apply]; unfold val_main_v22
  generalize val_main_v21 (F := Ideal) x0 x1 x2 = q
  pointwise

theorem v_apply (b : Fin 32) (s : Fin 4) (k : Fin 5504) : val_main_v23 (F := Ideal) x0 x1 x2 (ix3 b s k) = U x0 x1 x2 ⟨s.val * 32 + b.val, by omega⟩ ⟨5504 + k.val, by omega⟩ := by
  rw [← seq_apply]; unfold val_main_v23
  generalize val_main_v21 (F := Ideal) x0 x1 x2 = q
  pointwise

/-- The state before the gated half. -/
theorem e_apply (b : Fin 32) (s : Fin 6) (k : Fin 5504) : val_main_v28 (F := Ideal) x0 x1 x2 x4 (ix3 b s k) = E x0 x1 x2 x4 (⟨s.val * 32 + b.val, by omega⟩ : Fin 192) k := by
  have ha := a_apply x0 x1 x2
  unfold val_main_v28 E
  generalize val_main_v22 (F := Ideal) x0 x1 x2 = u at ha ⊢
  pointwise [val_main_v27, val_main_v26]
  by_cases h : s.val < 2
  · rw [dif_pos h, dif_pos (by omega)]
    congr 1
    funext a
    match a with
    | 0 => rfl
    | 1 => exact Fin.ext (by show b.val = (s.val * 32 + b.val) % 32; omega)
    | 2 => exact Fin.ext (by show s.val = (s.val * 32 + b.val) / 32; omega)
    | 3 => rfl
  · rw [dif_neg h, dif_neg (by omega), ha]
    have hr : (⟨(s.val - 2) * 32 + b.val, by omega⟩ : Fin 128) = ⟨s.val * 32 + b.val - 64, by omega⟩ := Fin.ext (by show (s.val - 2) * 32 + b.val = s.val * 32 + b.val - 64; omega)
    exact congrArg (fun R : Fin 128 => U x0 x1 x2 R (⟨k.val, by omega⟩ : Fin 11008)) hr

/-- The gated rows. -/
theorem g_apply (r : Fin 128) (k : Fin 5504) :
    val_main_v59 (F := Ideal) x0 x1 x2 x3 x4 (ix2 r k)
      = gateAt (fun s => x3 (ix3 1 s k)) ![E x0 x1 x2 x4 (⟨r.val, by omega⟩ : Fin 192) k, E x0 x1 x2 x4 (⟨32 + r.val, by omega⟩ : Fin 192) k, E x0 x1 x2 x4 (⟨64 + r.val, by omega⟩ : Fin 192) k]
          (U x0 x1 x2 r ⟨5504 + k.val, by omega⟩) := by
  have he := e_apply x0 x1 x2 x4
  have hv := v_apply x0 x1 x2
  unfold gateAt
  unfold val_main_v59 val_main_v58 val_main_v57 val_main_v56 val_main_v55 val_main_v54 val_main_v52 val_main_v50 val_main_v49 val_main_v48 val_main_v47 val_main_v44 val_main_v41 val_main_v40 val_main_v37 val_main_v34 val_main_v31
  generalize val_main_v28 (F := Ideal) x0 x1 x2 x4 = q at he ⊢
  generalize val_main_v23 (F := Ideal) x0 x1 x2 = u at hv ⊢
  pointwise [val_main_v53, val_main_v51, val_main_v46, val_main_v45, val_main_v43, val_main_v42, val_main_v39, val_main_v38, val_main_v36, val_main_v35, val_main_v33, val_main_v32, val_main_v30, val_main_v29, val_main_v25, val_main_v24, val_main_cst_2, val_main_cst_3]
  simp only [he, hv]
  have h0 : r.val / 32 * 32 + r.val % 32 = r.val := by omega
  have h1 : (1 + r.val / 32) * 32 + r.val % 32 = 32 + r.val := by omega
  have h2 : (2 + r.val / 32) * 32 + r.val % 32 = 64 + r.val := by omega
  simp only [h0, h1, h2]
  rfl

theorem out_apply (R : Fin 128) (K : Fin 5632) :
    val_main_v63 (F := Ideal) x0 x1 x2 x3 x4 (ix2 R K)
      = if h : K.val < 5504 then gateAt (fun s => x3 (ix3 1 s ⟨K.val, h⟩)) ![E x0 x1 x2 x4 (⟨R.val, by omega⟩ : Fin 192) ⟨K.val, h⟩, E x0 x1 x2 x4 (⟨32 + R.val, by omega⟩ : Fin 192) ⟨K.val, h⟩, E x0 x1 x2 x4 (⟨64 + R.val, by omega⟩ : Fin 192) ⟨K.val, h⟩]
          (U x0 x1 x2 R ⟨5504 + K.val, by omega⟩) else 0 := by
  by_cases h : K.val < 5504
  · rw [dif_pos h, ← g_apply x0 x1 x2 x3 x4 R ⟨K.val, h⟩]
    unfold val_main_v63
    refine pad_apply_of_inside _ _ _ _ _ _ _ _ (ix2 R (⟨K.val, h⟩ : Fin 5504)) ?_
    intro a; fin_cases a <;> simp
  · rw [dif_neg h]
    unfold val_main_v63
    refine (pad_apply_of_not_inside _ _ _ _ _ _ _ _ (1 : Fin 2) ?_).trans ?_
    · rintro ⟨-, -, h2⟩; exact h (by simpa using h2)
    · pointwise [val_main_call0_v0, val_main_c]
      exact Cert.Up.sitofp_zero

/-- The last two times. -/
theorem tail_apply (r : Fin 64) (k : Fin 5504) : val_main_v62 (F := Ideal) x0 x1 x2 x4 (ix2 r k) = U x0 x1 x2 ⟨64 + r.val, by omega⟩ ⟨k.val, by omega⟩ := by
  have he := e_apply x0 x1 x2 x4
  unfold val_main_v62 val_main_v61 val_main_v60
  generalize val_main_v28 (F := Ideal) x0 x1 x2 x4 = u at he ⊢
  pointwise
  have h : (4 + r.val / 32) * 32 + r.val % 32 = 128 + r.val := by omega
  simp only [he, h]
  unfold E
  rw [dif_neg (by show ¬ 128 + r.val < 64; omega)]
  exact congrArg (fun R : Fin 128 => U x0 x1 x2 R (⟨k.val, by omega⟩ : Fin 11008)) (Fin.ext (by show 128 + r.val - 64 = 64 + r.val; omega))

theorem hist_apply (r : Fin 64) (K : Fin 5632) :
    val_main_v65 (F := Ideal) x0 x1 x2 x4 (ix2 r K)
      = U x0 x1 x2 ⟨64 + r.val, by omega⟩ ⟨if K.val < 5504 then K.val else K.val - 128, by split <;> omega⟩ := by
  have e := fun k => tail_apply x0 x1 x2 x4 r k
  unfold val_main_v65 val_main_v64
  revert e
  generalize val_main_v62 (F := Ideal) x0 x1 x2 x4 = q
  intro e
  pointwise
  by_cases h : K.val < 5504
  · simp only [dif_pos h, if_pos h]; exact e ⟨K.val, h⟩
  · simp only [dif_neg h, if_neg h]
    refine (congrArg q ?_).trans ((e ⟨5376 + (K.val - 5504), by omega⟩).trans ?_)
    · rfl
    · have hk : 5376 + (K.val - 5504) = K.val - 128 := by omega
      simp only [hk]
end Cert.UpSample
end
-- ==== Proof.UpSample.lean ====
/- The up-projection of a feed-forward layer, of the sample batch: kernel and reference compute the same two arrays. -/
module
public import proofs.«01_k».proof.Defs
public import proofs.«01_k».proof.Proof.UpSamplePoint
public import proofs.«01_k».proof.Proof.UpSampleRef
public import proofs.«01_k».proof.Proof.UpKernel
@[expose] public section
set_option maxRecDepth 16384
noncomputable section
namespace Cert.UpSample
open Idealize.ShloMosaic Idealize.ShloMosaic.TcCoe Idealize.SL.Sem Cert.Kernel16Ideal Cert.Kernel16Ideal.Gen
open Cert.Cross (rmsAt)
open Cert.Up (gainRow wcat cwr upAt gateAt gate_zero)

theorem pay1_apply (x : Vec Ideal S128x2048 .f32) (g : Vec Ideal S1x1x2048 .f32) (r : Fin 128) (j : Fin 2048) :
    k0_pay1 x g (ix2 r j) = rmsAt (fun j => x (ix2 r j)) (fun j => g (ix3 0 0 j)) j := by
  unfold rmsAt
  pointwise [k0_pay1]

theorem pay6_apply (x : Vec Ideal S128x2048 .bf16) (w : Vec Ideal S1x2048x256 .bf16) (r : Fin 128) (k : Fin 256) :
    k0_pay6 x w (ix2 r k) = ∑ j : Fin 2048, x (ix2 r j) * w (ix3 0 j k) := by
  pointwise [k0_pay6]

theorem pay4_apply (w : Vec Ideal S1x2048x128 .f32) (j : Fin 2048) (k : Fin 128) : k0_pay4 w (ix3 0 j k) = w (ix3 0 j k) := by pointwise [k0_pay4]
theorem pay5_apply (w : Vec Ideal S1x2048x128 .f32) (j : Fin 2048) (k : Fin 128) : k0_pay5 w (ix3 0 j k) = w (ix3 0 j k) := by pointwise [k0_pay5]
theorem pay2_apply (w : Vec Ideal S64x512 .f32) (r : Fin 64) (k : Fin 512) : k0_pay2 w (ix2 r k) = w (ix2 r k) := by pointwise [k0_pay2]

theorem pay10_apply (p : FVec Ideal S128x256 .f32) (r : Fin 128) (k : Fin 128) : k0_pay10 p (ix2 r k) = p (ix2 r (⟨k.val, by omega⟩ : Fin 256)) := by
  pointwise [k0_pay10]

theorem pay17_apply (p : FVec Ideal S128x256 .f32) (w0 w1 w2 : Vec Ideal S1x128 .f32) (p0 p1 p2 : Vec Ideal S128x128 .f32) (r : Fin 128) (k : Fin 128) :
    k0_pay17 p w0 p0 w1 p1 w2 p2 (ix2 r k)
      = gateAt ![w0 (ix2 0 k), w1 (ix2 0 k), w2 (ix2 0 k)] ![p0 (ix2 r k), p1 (ix2 r k), p2 (ix2 r k)] (p (ix2 r (⟨128 + k.val, by omega⟩ : Fin 256))) := by
  unfold gateAt
  pointwise [k0_pay17]

/-- A granule of the gated half. -/
theorem ga_apply (xn : Vec Ideal S128x2048 .bf16) (a v : Fin 4 → Vec Ideal S1x2048x128 .f32) (s : Fin 4) (r : Fin 128) (k : Fin 128) :
    ga xn a v s (ix2 r k) = ∑ j : Fin 2048, xn (ix2 r j) * a s (ix3 0 j k) := by
  unfold ga gp
  rw [pay10_apply, pay6_apply]
  refine Finset.sum_congr rfl fun j _ => congrArg _ ?_
  unfold wcat
  rw [dif_pos (show ((ix3 (0 : Fin 1) j (⟨k.val, by omega⟩ : Fin 256) : S1x2048x256.Idx) 2).val < 128 from k.isLt)]
  exact pay4_apply (a s) j k

/-- A granule of the value half. -/
theorem gv_apply (xn : Vec Ideal S128x2048 .bf16) (a v : Fin 4 → Vec Ideal S1x2048x128 .f32) (s : Fin 4) (r : Fin 128) (k : Fin 128) :
    gp xn a v s (ix2 r (⟨128 + k.val, by omega⟩ : Fin 256)) = ∑ j : Fin 2048, xn (ix2 r j) * v s (ix3 0 j k) := by
  unfold gp
  rw [pay6_apply]
  refine Finset.sum_congr rfl fun j _ => congrArg _ ?_
  unfold wcat
  rw [dif_neg (show ¬ ((ix3 (0 : Fin 1) j (⟨128 + k.val, by omega⟩ : Fin 256) : S1x2048x256.Idx) 2).val < 128 from by show ¬ 128 + k.val < 128; omega)]
  refine Eq.trans (congrArg _ ?_) (pay5_apply (v s) j k)
  funext b; fin_cases b
  · rfl
  · rfl
  · exact Fin.ext (by show 128 + k.val - 128 = k.val; omega)

/-- The blocks of the windows at a grid point. -/
theorem idx : ∀ t : Fin cfg0.N, win0_0.index t = ![0, 0] ∧ win0_1.index t = ![1, 0, 0]
    ∧ win0_2.index t = ![1, 0, min (t.val % 11 * 4 + 0) 42] ∧ win0_3.index t = ![1, 0, min (t.val % 11 * 4 + 1) 42]
    ∧ win0_4.index t = ![1, 0, min (t.val % 11 * 4 + 2) 42] ∧ win0_5.index t = ![1, 0, min (t.val % 11 * 4 + 3) 42]
    ∧ win0_6.index t = ![1, 0, 43 + min (t.val % 11 * 4 + 0) 42] ∧ win0_7.index t = ![1, 0, 43 + min (t.val % 11 * 4 + 1) 42]
    ∧ win0_8.index t = ![1, 0, 43 + min (t.val % 11 * 4 + 2) 42] ∧ win0_9.index t = ![1, 0, 43 + min (t.val % 11 * 4 + 3) 42]
    ∧ win0_10.index t = ![0, t.val % 11] ∧ win0_11.index t = ![0, t.val % 11] ∧ win0_12.index t = ![0, t.val % 11] ∧ win0_13.index t = ![0, t.val % 11] := by
  decide +kernel

theorem lt11 (t : Fin cfg0.N) : t.val < 11 := lt_of_lt_of_eq t.isLt N_0

variable (m : (ℓ : Loc nD τ sig) → Buf (Elt Ideal) ℓ) (c : Dev nD)

/-- The rows, read off their block. -/
theorem read_x (t : Fin cfg0.N) (r : Fin 128) (j : Fin 2048) : iblk m c 0 t (ix2 r j) = m ((c : Thread nD τ).loc main_arg0) (ix2 r j) := by
  blk_ext [iblk, V, idx t]

/-- The gains, read off their block. -/
theorem read_g (t : Fin cfg0.N) (j : Fin 2048) : gainRow (iblk m c 1 t) (ix3 0 0 j) = m ((c : Thread nD τ).loc main_arg1) (ix3 1 4 j) := by
  unfold gainRow
  rw [View.ld_apply]; blk_ext [iblk, V, idx t] <;> (rw [Rect.idx_unit_val]; simp)

/-- The column of the gated half that column `k` of granule `s` is made from: past the last granule, the last granule's. -/
def colOf (t : Fin cfg0.N) (s : Fin 4) (k : Fin 128) : Fin 5504 := ⟨min (t.val % 11 * 4 + s.val) 42 * 128 + k.val, by omega⟩

/-- The gated half's granules, read off their blocks. -/
theorem read_a (t : Fin cfg0.N) (s : Fin 4) (j : Fin 2048) (k : Fin 128) :
    av m c t s (ix3 0 j k) = m ((c : Thread nD τ).loc main_arg2) (ix3 1 j ⟨(colOf t s k).val, by omega⟩) := by
  unfold colOf
  fin_cases s
  · show iblk m c 2 t (ix3 0 j k) = _; blk_ext [iblk, V, idx t]
  · show iblk m c 3 t (ix3 0 j k) = _; blk_ext [iblk, V, idx t]
  · show iblk m c 4 t (ix3 0 j k) = _; blk_ext [iblk, V, idx t]
  · show iblk m c 5 t (ix3 0 j k) = _; blk_ext [iblk, V, idx t]

/-- The value half's granules, read off their blocks. -/
theorem read_v (t : Fin cfg0.N) (s : Fin 4) (j : Fin 2048) (k : Fin 128) :
    vv m c t s (ix3 0 j k) = m ((c : Thread nD τ).loc main_arg2) (ix3 1 j ⟨5504 + (colOf t s k).val, by omega⟩) := by
  unfold colOf
  fin_cases s
  · show iblk m c 6 t (ix3 0 j k) = _; blk_ext [iblk, V, idx t]
  · show iblk m c 7 t (ix3 0 j k) = _; blk_ext [iblk, V, idx t]
  · show iblk m c 8 t (ix3 0 j k) = _; blk_ext [iblk, V, idx t]
  · show iblk m c 9 t (ix3 0 j k) = _; blk_ext [iblk, V, idx t]

/-- The taps' weights of the second layer, padded by zeros. -/
def padW (x : Vec Ideal S2x3x5504 .f32) : Vec Ideal S3x5632 .f32 :=
  pad S3x5632 ![0, 0] ![0, 128] ![0, 0] (shapeCast S3x5504 (extractStridedSlice S1x3x5504 ![1, 0, 0] x slices_S2x3x5504_S1x3x5504_1_0_0) shapeCasts_S1x3x5504_S3x5504)
    (sitofp (F := Ideal) .f32 (constantI S_ 32 0#32)) pads_S3x5504_S3x5632_000_01280 h_S_

/-- The state of the second layer as the kernel takes it: a row for each time and sequence, padded by zeros. -/
def padP (x : Vec Ideal S2x32x2x5504 .f32) : Vec Ideal S64x5632 .f32 :=
  pad S64x5632 ![0, 0] ![0, 128] ![0, 0] (shapeCast S64x5504 (transpose S2x32x5504 [1, 0, 2]
      (shapeCast S32x2x5504 (extractStridedSlice S1x32x2x5504 ![1, 0, 0, 0] x slices_S2x32x2x5504_S1x32x2x5504_1_0_0_0) shapeCasts_S1x32x2x5504_S32x2x5504 : Vec Ideal S32x2x5504 .f32)
      transposes_S32x2x5504_S2x32x5504_1_0_2 : Vec Ideal S2x32x5504 .f32) shapeCasts_S2x32x5504_S64x5504)
    (sitofp (F := Ideal) .f32 (constantI S_ 32 0#32)) pads_S64x5504_S64x5632_000_01280 h_S_

theorem V_w : V m c main_v6 = padW (m ((c : Thread nD τ).loc main_arg3)) := by
  unfold padW
  simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results_simp <;> rfl

theorem V_p : V m c main_v7 = padP (m ((c : Thread nD τ).loc main_arg4)) := by
  unfold padP
  simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results_simp <;> rfl

theorem padW_apply (x : Vec Ideal S2x3x5504 .f32) (s : Fin 3) (K : Fin 5632) :
    padW x (ix2 s K) = if h : K.val < 5504 then x (ix3 1 s ⟨K.val, h⟩) else 0 := by
  unfold padW
  by_cases h : K.val < 5504
  · rw [dif_pos h]
    refine (pad_apply_of_inside _ _ _ _ _ _ _ _ (ix2 s (⟨K.val, h⟩ : Fin 5504)) ?_).trans ?_
    · intro a; fin_cases a <;> simp
    · pointwise
  · rw [dif_neg h]
    refine (pad_apply_of_not_inside _ _ _ _ _ _ _ _ (1 : Fin 2) ?_).trans ?_
    · rintro ⟨-, -, h2⟩; exact h (by simpa using h2)
    · pointwise
      exact Cert.Up.sitofp_zero

theorem padP_apply (x : Vec Ideal S2x32x2x5504 .f32) (r : Fin 64) (K : Fin 5632) (h : K.val < 5504) :
    padP x (ix2 r K) = x (ix4 1 (⟨r.val % 32, by omega⟩ : Fin 32) (⟨r.val / 32, by omega⟩ : Fin 2) ⟨K.val, h⟩) := by
  unfold padP
  refine (pad_apply_of_inside _ _ _ _ _ _ _ _ (ix2 r (⟨K.val, h⟩ : Fin 5504)) ?_).trans ?_
  · intro a; fin_cases a <;> simp
  · pointwise

/-- The taps' weights, read off their block. -/
theorem read_w (t : Fin cfg0.N) (s : Fin 3) (k : Fin 512) (K : Fin 5632) (hK : K.val = t.val % 11 * 512 + k.val) :
    iblk m c 10 t (ix2 s k) = padW (m ((c : Thread nD τ).loc main_arg3)) (ix2 s K) := by
  rw [← V_w]
  blk_ext [iblk, idx t]

/-- The state, read off its block. -/
theorem read_p (t : Fin cfg0.N) (r : Fin 64) (k : Fin 512) (K : Fin 5632) (hK : K.val = t.val % 11 * 512 + k.val) :
    iblk m c 11 t (ix2 r k) = padP (m ((c : Thread nD τ).loc main_arg4)) (ix2 r K) := by
  rw [← V_p]
  blk_ext [iblk, idx t]

/-- The projection's element at row `R` and column `K`, of the launched arrays. -/
abbrev UK (R : Fin 128) (K : Fin 11008) : EReal :=
  U (m ((c : Thread nD τ).loc main_arg0)) (m ((c : Thread nD τ).loc main_arg1)) (m ((c : Thread nD τ).loc main_arg2)) R K

/-- The gated half of the launched arrays, time by time. -/
abbrev EK (e : Fin 192) (k : Fin 5504) : EReal :=
  E (m ((c : Thread nD τ).loc main_arg0)) (m ((c : Thread nD τ).loc main_arg1)) (m ((c : Thread nD τ).loc main_arg2)) (m ((c : Thread nD τ).loc main_arg4)) e k

/-- The normed rows that every point carries. -/
theorem xn_apply (r : Fin 128) (j : Fin 2048) : ∀ (n : ℕ) (hn : n < cfg0.N),
    xc m c ⟨n, hn⟩ (ix2 r j) = rmsAt (fun j => m ((c : Thread nD τ).loc main_arg0) (ix2 r j)) (fun j => m ((c : Thread nD τ).loc main_arg1) (ix3 1 4 j)) j
  | 0, hn => by
    rw [xc_first m c ⟨0, hn⟩ rfl, pay1_apply]
    congr 1
    · funext j; exact read_x m c _ r j
    · funext j; exact read_g m c _ j
  | n + 1, hn => by
    have h11 := lt11 ⟨n + 1, hn⟩
    rw [xc_next m c ⟨n + 1, hn⟩ (by show ¬ (n + 1) % 11 = 0; have : n + 1 < 11 := h11; omega)]
    exact xn_apply r j n (by omega)

/-- The gated half at a point. -/
theorem a_at (t : Fin cfg0.N) (s : Fin 4) (r : Fin 128) (k : Fin 128) :
    ga (xc m c t) (av m c t) (vv m c t) s (ix2 r k) = UK m c r ⟨(colOf t s k).val, by omega⟩ := by
  rw [ga_apply]
  unfold UK U upAt
  exact Finset.sum_congr rfl fun j _ => by rw [xn_apply m c r j t.val t.isLt, read_a]

/-- The value half at a point. -/
theorem v_at (t : Fin cfg0.N) (s : Fin 4) (r : Fin 128) (k : Fin 128) :
    gp (xc m c t) (av m c t) (vv m c t) s (ix2 r (⟨128 + k.val, by omega⟩ : Fin 256)) = UK m c r ⟨5504 + (colOf t s k).val, by omega⟩ := by
  rw [gv_apply]
  unfold UK U upAt
  exact Finset.sum_congr rfl fun j _ => by rw [xn_apply m c r j t.val t.isLt, read_v]

/-- Inside the array the column is the block's own; past it, the last granule's. -/
theorem colOf_val (t : Fin cfg0.N) (k : Fin 512) :
    (colOf t ⟨k.val / 128, by omega⟩ ⟨k.val % 128, by omega⟩).val = if t.val % 11 * 512 + k.val < 5504 then t.val % 11 * 512 + k.val else t.val % 11 * 512 + k.val - 128 := by
  have ht := lt11 t
  show min (t.val % 11 * 4 + k.val / 128) 42 * 128 + k.val % 128 = _
  split <;> omega

/-- A tap inside the array: times `n`, `n + 1` and so on of the extended gated half. -/
theorem tap_at (t : Fin cfg0.N) (n : Fin 65) (r : Fin 128) (k : Fin 512) (K : Fin 5504) (hK : K.val = t.val % 11 * 512 + k.val) (e : Fin 192) (he : e.val = n.val + r.val) :
    shift n ⟨k.val / 128, by omega⟩ (hb m c t) (ga (xc m c t) (av m c t) (vv m c t) ⟨k.val / 128, by omega⟩) (ix2 r (⟨k.val % 128, by omega⟩ : Fin 128)) = EK m c e K := by
  unfold shift EK E
  by_cases h : r.val + n.val < 64
  · rw [dif_pos (show e.val < 64 by omega)]
    refine (dif_pos h).trans ?_
    refine (pay2_apply (iblk m c 11 t) ⟨r.val + n.val, h⟩ ⟨128 * (k.val / 128) + k.val % 128, by omega⟩).trans ?_
    refine (read_p m c t ⟨r.val + n.val, h⟩ ⟨128 * (k.val / 128) + k.val % 128, by omega⟩ ⟨K.val, by omega⟩ (by show K.val = t.val % 11 * 512 + (128 * (k.val / 128) + k.val % 128); omega)).trans ?_
    refine (padP_apply _ ⟨r.val + n.val, h⟩ ⟨K.val, by omega⟩ K.isLt).trans ?_
    have hr : r.val + n.val = e.val := by omega
    simp only [hr]
  · rw [dif_neg (show ¬ e.val < 64 by omega)]
    refine (dif_neg h).trans ?_
    have hc := colOf_val t k
    rw [if_pos (by omega)] at hc
    refine (a_at m c t _ ⟨r.val + n.val - 64, by omega⟩ _).trans ?_
    exact congrArg₂ (UK m c) (Fin.ext (by show r.val + n.val - 64 = e.val - 64; omega)) (Fin.ext (by rw [hK]; exact hc))

/-- A granule of the written rows, from its taps, their weights and its value. -/
theorem outG_apply (xn : Vec Ideal S128x2048 .bf16) (a v : Fin 4 → Vec Ideal S1x2048x128 .f32) (cw : Vec Ideal S3x512 .f32) (ht : Vec Ideal S64x512 .f32) (s : Fin 4)
    (r : Fin 128) (q : Fin 128) (w p : Fin 3 → EReal) (u : EReal) (hw : ∀ i, cwr cw i s (ix2 0 q) = w i)
    (h0 : shift 0 s ht (ga xn a v s) (ix2 r q) = p 0) (h1 : shift 32 s ht (ga xn a v s) (ix2 r q) = p 1) (h2 : ga xn a v s (ix2 r q) = p 2)
    (hu : gp xn a v s (ix2 r (⟨128 + q.val, by omega⟩ : Fin 256)) = u) :
    outG xn a v cw ht s (ix2 r q) = gateAt w p u := by
  unfold outG
  rw [pay17_apply, hw 0, hw 1, hw 2, h0, h1, h2, hu]
  rfl

/-- The rows that a point writes. -/
theorem rows_at (t : Fin cfg0.N) (r : Fin 128) (k : Fin 512) (K : Fin 5632) (hK : K.val = t.val % 11 * 512 + k.val) :
    (outsAt0 m c t.val t.isLt).1 (ix2 r k) = Cert.Reference16Ideal.Read.val_main_v63 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 r K) := by
  have hw : ∀ s : Fin 3, cwr (iblk m c 10 t) s ⟨k.val / 128, by omega⟩ (ix2 0 (⟨k.val % 128, by omega⟩ : Fin 128)) = padW (m ((c : Thread nD τ).loc main_arg3)) (ix2 s K) :=
    fun s => read_w m c t s ⟨128 * (k.val / 128) + k.val % 128, by omega⟩ K (by rw [hK]; show _ = t.val % 11 * 512 + (128 * (k.val / 128) + k.val % 128); omega)
  have hc := colOf_val t k
  rw [out_apply, rows_pt]
  refine Eq.trans (b := outG (xc m c t) (av m c t) (vv m c t) (iblk m c 10 t) (hb m c t) ⟨k.val / 128, by omega⟩ (ix2 r (⟨k.val % 128, by omega⟩ : Fin 128))) rfl ?_
  by_cases h : K.val < 5504
  · rw [dif_pos h]
    rw [if_pos (by omega)] at hc
    refine outG_apply _ _ _ _ _ _ _ _ _ _ _ (fun s => (hw s).trans ((padW_apply _ s K).trans (dif_pos h)))
      (tap_at m c t 0 r k ⟨K.val, h⟩ hK _ (by show r.val = 0 + r.val; omega)) (tap_at m c t 32 r k ⟨K.val, h⟩ hK _ rfl) ?_ ?_
    · refine (a_at m c t _ r _).trans (Eq.symm ?_)
      refine (dif_neg (by show ¬ 64 + r.val < 64; omega)).trans ?_
      exact congrArg₂ (UK m c) (Fin.ext (by show 64 + r.val - 64 = r.val; omega)) (Fin.ext (hK.trans hc.symm))
    · refine (v_at m c t _ r _).trans ?_
      exact congrArg (UK m c r) (Fin.ext (congrArg (5504 + ·) (hc.trans hK.symm)))
  · rw [dif_neg h]
    exact (outG_apply _ _ _ _ _ _ _ _ (fun _ => 0) ![_, _, _] _ (fun s => (hw s).trans ((padW_apply _ s K).trans (dif_neg h))) rfl rfl rfl rfl).trans (gate_zero _ _)

/-- The last rows that a point writes. -/
theorem hist_at (t : Fin cfg0.N) (r : Fin 64) (k : Fin 512) (K : Fin 5632) (hK : K.val = t.val % 11 * 512 + k.val) :
    (outsAt0 m c t.val t.isLt).2.1 (ix2 r k) = Cert.Reference16Ideal.Read.val_main_v65 (F := Ideal) (m ((c : Thread nD τ).loc main_arg0)) (m ((c : Thread nD τ).loc main_arg1))
      (m ((c : Thread nD τ).loc main_arg2)) (m ((c : Thread nD τ).loc main_arg4)) (ix2 r K) := by
  rw [hist_apply, tail_pt]
  unfold tailOf
  refine (a_at m c t _ _ _).trans (congrArg (UK m c _) (Fin.ext ?_))
  show _ = if K.val < 5504 then K.val else K.val - 128
  rw [hK]; exact colOf_val t k

/-- The gated rows after a run are the reference's. -/
theorem rows_eq_ref : (dats m 0 c).arrAt 12 cfg0.N = Cert.Reference16Ideal.Read.val_main_v63 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12]
  idx_vars y
  have hN := lt11 t
  have hi : ((View.whole main_v8_0).slice (win0_12.rect t)).emb (ix2 y0 y1) = ix2 y0 (⟨t.val % 11 * 512 + y1.val, by omega⟩ : Fin 5632) := by
    blk_ext [idx t]
  rw [hi]
  exact rows_at m c t y0 y1 _ rfl

/-- The kept last rows after a run are the reference's. -/
theorem hist_eq_ref : (dats m 0 c).arrAt 13 cfg0.N = Cert.Reference16Ideal.Read.val_main_v65 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_covers 13 _ (by decide +kernel) fun t hf y => ?_
  blk_simp
  rw [after0_13]
  idx_vars y
  have hN := lt11 t
  have hi : ((View.whole main_v8_1).slice (win0_13.rect t)).emb (ix2 y0 y1) = ix2 y0 (⟨t.val % 11 * 512 + y1.val, by omega⟩ : Fin 5632) := by
    blk_ext [idx t]
  rw [hi]
  exact hist_at m c t y0 y1 _ rfl

/-- Kernel and reference compute the same two arrays over the extended reals. -/
theorem algebraic : Cert.algebraic_Kernel16Ideal_Reference16Ideal := by
  intro m g m' g' _ hagree
  refine ⟨fun c => Cert.Reference16Ideal.Read.val_main_v63 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    fun c => Cert.Reference16Ideal.Read.val_main_v65 (F := Ideal) (m ((c : Thread nD τ).loc main_arg0)) (m ((c : Thread nD τ).loc main_arg1))
      (m ((c : Thread nD τ).loc main_arg2)) (m ((c : Thread nD τ).loc main_arg4)), ?_, ?_⟩
  · refine (θ_run _ _ _).mono (fun r h c => ⟨?_, ?_, h.2.1 c⟩) (θ_run_and (run_main (F := Ideal) m g) (frame (F := Ideal) m g))
    · exact ((h.1 c).1 12).trans (rows_eq_ref m c)
    · exact ((h.1 c).1 13).trans (hist_eq_ref m c)
  · refine (θ_run _ _ _).mono (fun r h c => ⟨(h c).1.trans ?_, (h c).2.1.trans ?_, (h c).2.2⟩) (Cert.Reference16Ideal.Value.run (F := Ideal) m' g')
    · obtain ⟨h0, h1, h2, h3, h4⟩ := hagree c
      refine (Cert.Reference16Ideal.Read.val_main_v63_eq _ _).trans ?_
      rw [h0, h1, h2, h3, h4]
    · obtain ⟨h0, h1, h2, h3, h4⟩ := hagree c
      refine (Cert.Reference16Ideal.Read.val_main_v65_eq _ _ _ _).trans ?_
      rw [h0, h1, h2, h4]

/-- The reference ends without fault, its arguments unchanged, every counter at zero. -/
theorem frame_ref : Cert.quiescent_Reference16Ideal := fun m g _ =>
  (θ_run _ _ _).mono (fun r h => ⟨fun c => (h c).2.2, sem_eq_zero_of_no_sems (by decide) r.2⟩)
    (Cert.Reference16Ideal.Value.run (F := Ideal) m g)
end Cert.UpSample
end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Cross
public import proofs.«01_k».proof.Proof.MemKeys
public import proofs.«01_k».proof.Proof.Down
public import proofs.«01_k».proof.Proof.Up
public import proofs.«01_k».proof.Proof.InEven
public import proofs.«01_k».proof.Proof.InOdd
public import proofs.«01_k».proof.Proof.ConvA
public import proofs.«01_k».proof.Proof.MixOut
public import proofs.«01_k».proof.Proof.Conformer
public import proofs.«01_k».proof.Proof.InSampleEven
public import proofs.«01_k».proof.Proof.InSampleOdd
public import proofs.«01_k».proof.Proof.ConvSample
public import proofs.«01_k».proof.Proof.ConformerSample
public import proofs.«01_k».proof.Proof.DownSample
public import proofs.«01_k».proof.Proof.UpSample
public import Idealize.ShloMosaic.Adequacy
public import Idealize.ShloMosaic.Init

@[expose] public section

noncomputable section

namespace Cert.Proof

open Idealize.ShloMosaic Idealize.SL.Sem Cert.Kernel2

/-- Every claim of the certificate. -/
theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  fun m ρ _ => Cert.Kernel2.Gen.frame m ρ, fun m ρ _ => Cert.Kernel2Ideal.Gen.frame m ρ, Cert.Cross.frame_ref,
  fun m ρ _ => Cert.Kernel3.Gen.frame m ρ, fun m ρ _ => Cert.Kernel3Ideal.Gen.frame m ρ, Cert.Kernel3Ideal.MemKeys.frame_ref,
  Cert.Down.frame_kernel, Cert.Down.frame_ideal, Cert.Down.frame_ref,
  Cert.Up.frame_kernel, Cert.Up.frame_ideal, Cert.Up.frame_ref,
  Cert.InEven.frame_kernel, Cert.InEven.frame_ideal, Cert.InEven.frame_ref,
  Cert.InOdd.frame_kernel, Cert.InOdd.frame_ideal, Cert.InOdd.frame_ref,
  fun m ρ _ => Cert.Kernel8.Gen.frame m ρ, fun m ρ _ => Cert.Kernel8Ideal.Gen.frame m ρ, Cert.ConvA.frame_ref,
  Cert.MixOut.frame_kernel, Cert.MixOut.frame_ideal, Cert.MixOut.frame_ref,
  fun m ρ _ => Cert.Kernel10.Gen.frame m ρ, fun m ρ _ => Cert.Kernel10Ideal.Gen.frame m ρ, Cert.Conformer.frame_ref,
  Cert.InSampleEven.frame_kernel, Cert.InSampleEven.frame_ideal, Cert.InSampleEven.frame_ref,
  Cert.InSampleOdd.frame_kernel, Cert.InSampleOdd.frame_ideal, Cert.InSampleOdd.frame_ref,
  fun m ρ _ => Cert.Kernel13.Gen.frame m ρ, fun m ρ _ => Cert.Kernel13Ideal.Gen.frame m ρ, Cert.ConvSample.frame_ref,
  fun m ρ _ => Cert.Kernel14.Gen.frame m ρ, fun m ρ _ => Cert.Kernel14Ideal.Gen.frame m ρ, Cert.ConformerSample.frame_ref,
  Cert.DownSample.frame_kernel, Cert.DownSample.frame_ideal, Cert.DownSample.frame_ref,
  fun m ρ _ => Cert.Kernel16.Gen.frame m ρ, fun m ρ _ => Cert.Kernel16Ideal.Gen.frame m ρ, Cert.UpSample.frame_ref,
  trivial, Cert.Cross.algebraic,
  trivial, Cert.Kernel3Ideal.MemKeys.algebraic,
  trivial, Cert.Down.algebraic,
  trivial, Cert.Up.algebraic,
  trivial, Cert.InEven.algebraic,
  trivial, Cert.InOdd.algebraic,
  trivial, Cert.ConvA.algebraic,
  trivial, Cert.MixOut.algebraic,
  trivial, Cert.Conformer.algebraic,
  trivial, Cert.InSampleEven.algebraic,
  trivial, Cert.InSampleOdd.algebraic,
  trivial, Cert.ConvSample.algebraic,
  trivial, Cert.ConformerSample.algebraic,
  trivial, Cert.DownSample.algebraic,
  trivial, Cert.UpSample.algebraic⟩

end Cert.Proof

end
